-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_FfnRef1Ideal (m : (ℓ : Loc Cert.FfnRef1Ideal.nD Cert.FfnRef1Ideal.τ Cert.FfnRef1Ideal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_FfnRef2Ideal (m : (ℓ : Loc Cert.FfnRef2Ideal.nD Cert.FfnRef2Ideal.τ Cert.FfnRef2Ideal.sig) → Buf (Elt Ideal) ℓ) : Prop :=
  True

def Pre_Ffn3 (m : (ℓ : Loc Cert.Ffn3.nD Cert.Ffn3.τ Cert.Ffn3.sig) → Buf (Elt Bits) ℓ) : Prop :=
  True

def Pre_Ffn3Ideal (m : (ℓ : Loc Cert.Ffn3Ideal.nD Cert.Ffn3Ideal.τ Cert.Ffn3Ideal.sig) → Buf (Elt Ideal) ℓ) : Prop :=
  True

def Pre_FfnRef3Ideal (m : (ℓ : Loc Cert.FfnRef3Ideal.nD Cert.FfnRef3Ideal.τ Cert.FfnRef3Ideal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_OutNa (m : (ℓ : Loc Cert.OutNa.nD Cert.OutNa.τ Cert.OutNa.sig) → Buf (Elt Bits) ℓ) : Prop :=
  True

def Pre_OutNaIdeal (m : (ℓ : Loc Cert.OutNaIdeal.nD Cert.OutNaIdeal.τ Cert.OutNaIdeal.sig) → Buf (Elt Ideal) ℓ) : Prop :=
  True

def Pre_OutNaRefIdeal (m : (ℓ : Loc Cert.OutNaRefIdeal.nD Cert.OutNaRefIdeal.τ Cert.OutNaRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_real [hPre_real : Cert.Pre_real.Facts] (m : (ℓ : Loc Cert.RouterIdeal.nD Cert.RouterIdeal.τ Cert.RouterIdeal.sig) → Buf (Elt Ideal) ℓ) : Prop :=
  ∀ c : Dev Cert.RouterIdeal.nD,
    (Cert.Pre_real.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_real [hPre_real : Cert.Pre_real.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_real.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3))
      ∧ r.2.sem = fun _ => 0)

def quiescent_FfnRef1Ideal [hFfnRef1Ideal : Cert.FfnRef1Ideal.Facts] : Prop :=
  ∀ (m : (ℓ : Loc Cert.FfnRef1Ideal.nD Cert.FfnRef1Ideal.τ Cert.FfnRef1Ideal.sig) → Buf (Elt Ideal) ℓ) (g : Dev Cert.FfnRef1Ideal.nD → PrngReg), Pre_FfnRef1Ideal m →
    θ_run (Cert.FfnRef1Ideal.defs (F := Ideal)) (onTc (τ := Cert.FfnRef1Ideal.τ) (Cert.FfnRef1Ideal.main (F := Ideal))) ⟨m, fun _ => 0, g⟩ (fun r => (∀ c : Dev Cert.FfnRef1Ideal.nD,
      r.2.mem ((c.tc : Thread Cert.FfnRef1Ideal.nD Cert.FfnRef1Ideal.τ).loc Cert.FfnRef1Ideal.main_arg0) = m ((c.tc : Thread Cert.FfnRef1Ideal.nD Cert.FfnRef1Ideal.τ).loc Cert.FfnRef1Ideal.main_arg0)
      ∧ r.2.mem ((c.tc : Thread Cert.FfnRef1Ideal.nD Cert.FfnRef1Ideal.τ).loc Cert.FfnRef1Ideal.main_arg1) = m ((c.tc : Thread Cert.FfnRef1Ideal.nD Cert.FfnRef1Ideal.τ).loc Cert.FfnRef1Ideal.main_arg1)
      ∧ r.2.mem ((c.tc : Thread Cert.FfnRef1Ideal.nD Cert.FfnRef1Ideal.τ).loc Cert.FfnRef1Ideal.main_arg2) = m ((c.tc : Thread Cert.FfnRef1Ideal.nD Cert.FfnRef1Ideal.τ).loc Cert.FfnRef1Ideal.main_arg2)
      ∧ r.2.mem ((c.tc : Thread Cert.FfnRef1Ideal.nD Cert.FfnRef1Ideal.τ).loc Cert.FfnRef1Ideal.main_arg3) = m ((c.tc : Thread Cert.FfnRef1Ideal.nD Cert.FfnRef1Ideal.τ).loc Cert.FfnRef1Ideal.main_arg3))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ r.2.sem = fun _ => 0)

def quiescent_FfnRef2Ideal [hFfnRef2Ideal : Cert.FfnRef2Ideal.Facts] : Prop :=
  ∀ (m : (ℓ : Loc Cert.FfnRef2Ideal.nD Cert.FfnRef2Ideal.τ Cert.FfnRef2Ideal.sig) → Buf (Elt Ideal) ℓ) (g : Dev Cert.FfnRef2Ideal.nD → PrngReg), Pre_FfnRef2Ideal m →
    θ_run (Cert.FfnRef2Ideal.defs (F := Ideal)) (onTc (τ := Cert.FfnRef2Ideal.τ) (Cert.FfnRef2Ideal.main (F := Ideal))) ⟨m, fun _ => 0, g⟩ (fun r => (∀ c : Dev Cert.FfnRef2Ideal.nD,
      r.2.mem ((c.tc : Thread Cert.FfnRef2Ideal.nD Cert.FfnRef2Ideal.τ).loc Cert.FfnRef2Ideal.main_arg0) = m ((c.tc : Thread Cert.FfnRef2Ideal.nD Cert.FfnRef2Ideal.τ).loc Cert.FfnRef2Ideal.main_arg0)
      ∧ r.2.mem ((c.tc : Thread Cert.FfnRef2Ideal.nD Cert.FfnRef2Ideal.τ).loc Cert.FfnRef2Ideal.main_arg1) = m ((c.tc : Thread Cert.FfnRef2Ideal.nD Cert.FfnRef2Ideal.τ).loc Cert.FfnRef2Ideal.main_arg1)
      ∧ r.2.mem ((c.tc : Thread Cert.FfnRef2Ideal.nD Cert.FfnRef2Ideal.τ).loc Cert.FfnRef2Ideal.main_arg2) = m ((c.tc : Thread Cert.FfnRef2Ideal.nD Cert.FfnRef2Ideal.τ).loc Cert.FfnRef2Ideal.main_arg2)
      ∧ r.2.mem ((c.tc : Thread Cert.FfnRef2Ideal.nD Cert.FfnRef2Ideal.τ).loc Cert.FfnRef2Ideal.main_arg3) = m ((c.tc : Thread Cert.FfnRef2Ideal.nD Cert.FfnRef2Ideal.τ).loc Cert.FfnRef2Ideal.main_arg3))
      ∧ r.2.sem = fun _ => 0)

def quiescent_Ffn3 [hFfn3 : Cert.Ffn3.Facts] : Prop :=
  ∀ (m : (ℓ : Loc Cert.Ffn3.nD Cert.Ffn3.τ Cert.Ffn3.sig) → Buf (Elt Bits) ℓ) (g : Dev Cert.Ffn3.nD → PrngReg), Pre_Ffn3 m →
    θ_run (Cert.Ffn3.defs (F := Bits)) (onTc (τ := Cert.Ffn3.τ) (Cert.Ffn3.main (F := Bits))) ⟨m, fun _ => 0, g⟩ (fun r => (∀ c : Dev Cert.Ffn3.nD,
      r.2.mem ((c.tc : Thread Cert.Ffn3.nD Cert.Ffn3.τ).loc Cert.Ffn3.main_arg0) = m ((c.tc : Thread Cert.Ffn3.nD Cert.Ffn3.τ).loc Cert.Ffn3.main_arg0)
      ∧ r.2.mem ((c.tc : Thread Cert.Ffn3.nD Cert.Ffn3.τ).loc Cert.Ffn3.main_arg1) = m ((c.tc : Thread Cert.Ffn3.nD Cert.Ffn3.τ).loc Cert.Ffn3.main_arg1)
      ∧ r.2.mem ((c.tc : Thread Cert.Ffn3.nD Cert.Ffn3.τ).loc Cert.Ffn3.main_arg2) = m ((c.tc : Thread Cert.Ffn3.nD Cert.Ffn3.τ).loc Cert.Ffn3.main_arg2)
      ∧ r.2.mem ((c.tc : Thread Cert.Ffn3.nD Cert.Ffn3.τ).loc Cert.Ffn3.main_arg3) = m ((c.tc : Thread Cert.Ffn3.nD Cert.Ffn3.τ).loc Cert.Ffn3.main_arg3))
      ∧ r.2.sem = fun _ => 0)

def quiescent_Ffn3Ideal [hFfn3Ideal : Cert.Ffn3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg), Pre_Ffn3Ideal m →
    θ_run (Cert.Ffn3Ideal.defs (F := Ideal)) (onTc (τ := Cert.Ffn3Ideal.τ) (Cert.Ffn3Ideal.main (F := Ideal))) ⟨m, fun _ => 0, g⟩ (fun r => (∀ c : Dev Cert.Ffn3Ideal.nD,
      r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
      ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
      ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
      ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3))
      ∧ r.2.sem = fun _ => 0)

def quiescent_FfnRef3Ideal [hFfnRef3Ideal : Cert.FfnRef3Ideal.Facts] : Prop :=
  ∀ (m : (ℓ : Loc Cert.FfnRef3Ideal.nD Cert.FfnRef3Ideal.τ Cert.FfnRef3Ideal.sig) → Buf (Elt Ideal) ℓ) (g : Dev Cert.FfnRef3Ideal.nD → PrngReg), Pre_FfnRef3Ideal m →
    θ_run (Cert.FfnRef3Ideal.defs (F := Ideal)) (onTc (τ := Cert.FfnRef3Ideal.τ) (Cert.FfnRef3Ideal.main (F := Ideal))) ⟨m, fun _ => 0, g⟩ (fun r => (∀ c : Dev Cert.FfnRef3Ideal.nD,
      r.2.mem ((c.tc : Thread Cert.FfnRef3Ideal.nD Cert.FfnRef3Ideal.τ).loc Cert.FfnRef3Ideal.main_arg0) = m ((c.tc : Thread Cert.FfnRef3Ideal.nD Cert.FfnRef3Ideal.τ).loc Cert.FfnRef3Ideal.main_arg0)
      ∧ r.2.mem ((c.tc : Thread Cert.FfnRef3Ideal.nD Cert.FfnRef3Ideal.τ).loc Cert.FfnRef3Ideal.main_arg1) = m ((c.tc : Thread Cert.FfnRef3Ideal.nD Cert.FfnRef3Ideal.τ).loc Cert.FfnRef3Ideal.main_arg1)
      ∧ r.2.mem ((c.tc : Thread Cert.FfnRef3Ideal.nD Cert.FfnRef3Ideal.τ).loc Cert.FfnRef3Ideal.main_arg2) = m ((c.tc : Thread Cert.FfnRef3Ideal.nD Cert.FfnRef3Ideal.τ).loc Cert.FfnRef3Ideal.main_arg2)
      ∧ r.2.mem ((c.tc : Thread Cert.FfnRef3Ideal.nD Cert.FfnRef3Ideal.τ).loc Cert.FfnRef3Ideal.main_arg3) = m ((c.tc : Thread Cert.FfnRef3Ideal.nD Cert.FfnRef3Ideal.τ).loc Cert.FfnRef3Ideal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2)
      ∧ r.2.mem ((c.tc : Thread Cert.OutAb.nD Cert.OutAb.τ).loc Cert.OutAb.main_arg3) = m ((c.tc : Thread Cert.OutAb.nD Cert.OutAb.τ).loc Cert.OutAb.main_arg3)
      ∧ r.2.mem ((c.tc : Thread Cert.OutAb.nD Cert.OutAb.τ).loc Cert.OutAb.main_arg4) = m ((c.tc : Thread Cert.OutAb.nD Cert.OutAb.τ).loc Cert.OutAb.main_arg4)
      ∧ r.2.mem ((c.tc : Thread Cert.OutAb.nD Cert.OutAb.τ).loc Cert.OutAb.main_arg5) = m ((c.tc : Thread Cert.OutAb.nD Cert.OutAb.τ).loc Cert.OutAb.main_arg5)
      ∧ r.2.mem ((c.tc : Thread Cert.OutAb.nD Cert.OutAb.τ).loc Cert.OutAb.main_arg6) = m ((c.tc : Thread Cert.OutAb.nD Cert.OutAb.τ).loc Cert.OutAb.main_arg6))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
      ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
      ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
      ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5)
      ∧ r.2.mem ((c.tc : Thread Cert.OutAbIdeal.nD Cert.OutAbIdeal.τ).loc Cert.OutAbIdeal.main_arg6) = m ((c.tc : Thread Cert.OutAbIdeal.nD Cert.OutAbIdeal.τ).loc Cert.OutAbIdeal.main_arg6))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2)
      ∧ r.2.mem ((c.tc : Thread Cert.OutAbRefIdeal.nD Cert.OutAbRefIdeal.τ).loc Cert.OutAbRefIdeal.main_arg3) = m ((c.tc : Thread Cert.OutAbRefIdeal.nD Cert.OutAbRefIdeal.τ).loc Cert.OutAbRefIdeal.main_arg3)
      ∧ r.2.mem ((c.tc : Thread Cert.OutAbRefIdeal.nD Cert.OutAbRefIdeal.τ).loc Cert.OutAbRefIdeal.main_arg4) = m ((c.tc : Thread Cert.OutAbRefIdeal.nD Cert.OutAbRefIdeal.τ).loc Cert.OutAbRefIdeal.main_arg4)
      ∧ r.2.mem ((c.tc : Thread Cert.OutAbRefIdeal.nD Cert.OutAbRefIdeal.τ).loc Cert.OutAbRefIdeal.main_arg5) = m ((c.tc : Thread Cert.OutAbRefIdeal.nD Cert.OutAbRefIdeal.τ).loc Cert.OutAbRefIdeal.main_arg5)
      ∧ r.2.mem ((c.tc : Thread Cert.OutAbRefIdeal.nD Cert.OutAbRefIdeal.τ).loc Cert.OutAbRefIdeal.main_arg6) = m ((c.tc : Thread Cert.OutAbRefIdeal.nD Cert.OutAbRefIdeal.τ).loc Cert.OutAbRefIdeal.main_arg6))
      ∧ r.2.sem = fun _ => 0)

def quiescent_OutNa [hOutNa : Cert.OutNa.Facts] : Prop :=
  ∀ (m : (ℓ : Loc Cert.OutNa.nD Cert.OutNa.τ Cert.OutNa.sig) → Buf (Elt Bits) ℓ) (g : Dev Cert.OutNa.nD → PrngReg), Pre_OutNa m →
    θ_run (Cert.OutNa.defs (F := Bits)) (onTc (τ := Cert.OutNa.τ) (Cert.OutNa.main (F := Bits))) ⟨m, fun _ => 0, g⟩ (fun r => (∀ c : Dev Cert.OutNa.nD,
      r.2.mem ((c.tc : Thread Cert.OutNa.nD Cert.OutNa.τ).loc Cert.OutNa.main_arg0) = m ((c.tc : Thread Cert.OutNa.nD Cert.OutNa.τ).loc Cert.OutNa.main_arg0)
      ∧ r.2.mem ((c.tc : Thread Cert.OutNa.nD Cert.OutNa.τ).loc Cert.OutNa.main_arg1) = m ((c.tc : Thread Cert.OutNa.nD Cert.OutNa.τ).loc Cert.OutNa.main_arg1)
      ∧ r.2.mem ((c.tc : Thread Cert.OutNa.nD Cert.OutNa.τ).loc Cert.OutNa.main_arg2) = m ((c.tc : Thread Cert.OutNa.nD Cert.OutNa.τ).loc Cert.OutNa.main_arg2)
      ∧ r.2.mem ((c.tc : Thread Cert.OutNa.nD Cert.OutNa.τ).loc Cert.OutNa.main_arg3) = m ((c.tc : Thread Cert.OutNa.nD Cert.OutNa.τ).loc Cert.OutNa.main_arg3)
      ∧ r.2.mem ((c.tc : Thread Cert.OutNa.nD Cert.OutNa.τ).loc Cert.OutNa.main_arg4) = m ((c.tc : Thread Cert.OutNa.nD Cert.OutNa.τ).loc Cert.OutNa.main_arg4)
      ∧ r.2.mem ((c.tc : Thread Cert.OutNa.nD Cert.OutNa.τ).loc Cert.OutNa.main_arg5) = m ((c.tc : Thread Cert.OutNa.nD Cert.OutNa.τ).loc Cert.OutNa.main_arg5))
      ∧ r.2.sem = fun _ => 0)

def quiescent_OutNaIdeal [hOutNaIdeal : Cert.OutNaIdeal.Facts] : Prop :=
  ∀ (m : (ℓ : Loc Cert.OutNaIdeal.nD Cert.OutNaIdeal.τ Cert.OutNaIdeal.sig) → Buf (Elt Ideal) ℓ) (g : Dev Cert.OutNaIdeal.nD → PrngReg), Pre_OutNaIdeal m →
    θ_run (Cert.OutNaIdeal.defs (F := Ideal)) (onTc (τ := Cert.OutNaIdeal.τ) (Cert.OutNaIdeal.main (F := Ideal))) ⟨m, fun _ => 0, g⟩ (fun r => (∀ c : Dev Cert.OutNaIdeal.nD,
      r.2.mem ((c.tc : Thread Cert.OutNaIdeal.nD Cert.OutNaIdeal.τ).loc Cert.OutNaIdeal.main_arg0) = m ((c.tc : Thread Cert.OutNaIdeal.nD Cert.OutNaIdeal.τ).loc Cert.OutNaIdeal.main_arg0)
      ∧ r.2.mem ((c.tc : Thread Cert.OutNaIdeal.nD Cert.OutNaIdeal.τ).loc Cert.OutNaIdeal.main_arg1) = m ((c.tc : Thread Cert.OutNaIdeal.nD Cert.OutNaIdeal.τ).loc Cert.OutNaIdeal.main_arg1)
      ∧ r.2.mem ((c.tc : Thread Cert.OutNaIdeal.nD Cert.OutNaIdeal.τ).loc Cert.OutNaIdeal.main_arg2) = m ((c.tc : Thread Cert.OutNaIdeal.nD Cert.OutNaIdeal.τ).loc Cert.OutNaIdeal.main_arg2)
      ∧ r.2.mem ((c.tc : Thread Cert.OutNaIdeal.nD Cert.OutNaIdeal.τ).loc Cert.OutNaIdeal.main_arg3) = m ((c.tc : Thread Cert.OutNaIdeal.nD Cert.OutNaIdeal.τ).loc Cert.OutNaIdeal.main_arg3)
      ∧ r.2.mem ((c.tc : Thread Cert.OutNaIdeal.nD Cert.OutNaIdeal.τ).loc Cert.OutNaIdeal.main_arg4) = m ((c.tc : Thread Cert.OutNaIdeal.nD Cert.OutNaIdeal.τ).loc Cert.OutNaIdeal.main_arg4)
      ∧ r.2.mem ((c.tc : Thread Cert.OutNaIdeal.nD Cert.OutNaIdeal.τ).loc Cert.OutNaIdeal.main_arg5) = m ((c.tc : Thread Cert.OutNaIdeal.nD Cert.OutNaIdeal.τ).loc Cert.OutNaIdeal.main_arg5))
      ∧ r.2.sem = fun _ => 0)

def quiescent_OutNaRefIdeal [hOutNaRefIdeal : Cert.OutNaRefIdeal.Facts] : Prop :=
  ∀ (m : (ℓ : Loc Cert.OutNaRefIdeal.nD Cert.OutNaRefIdeal.τ Cert.OutNaRefIdeal.sig) → Buf (Elt Ideal) ℓ) (g : Dev Cert.OutNaRefIdeal.nD → PrngReg), Pre_OutNaRefIdeal m →
    θ_run (Cert.OutNaRefIdeal.defs (F := Ideal)) (onTc (τ := Cert.OutNaRefIdeal.τ) (Cert.OutNaRefIdeal.main (F := Ideal))) ⟨m, fun _ => 0, g⟩ (fun r => (∀ c : Dev Cert.OutNaRefIdeal.nD,
      r.2.mem ((c.tc : Thread Cert.OutNaRefIdeal.nD Cert.OutNaRefIdeal.τ).loc Cert.OutNaRefIdeal.main_arg0) = m ((c.tc : Thread Cert.OutNaRefIdeal.nD Cert.OutNaRefIdeal.τ).loc Cert.OutNaRefIdeal.main_arg0)
      ∧ r.2.mem ((c.tc : Thread Cert.OutNaRefIdeal.nD Cert.OutNaRefIdeal.τ).loc Cert.OutNaRefIdeal.main_arg1) = m ((c.tc : Thread Cert.OutNaRefIdeal.nD Cert.OutNaRefIdeal.τ).loc Cert.OutNaRefIdeal.main_arg1)
      ∧ r.2.mem ((c.tc : Thread Cert.OutNaRefIdeal.nD Cert.OutNaRefIdeal.τ).loc Cert.OutNaRefIdeal.main_arg2) = m ((c.tc : Thread Cert.OutNaRefIdeal.nD Cert.OutNaRefIdeal.τ).loc Cert.OutNaRefIdeal.main_arg2)
      ∧ r.2.mem ((c.tc : Thread Cert.OutNaRefIdeal.nD Cert.OutNaRefIdeal.τ).loc Cert.OutNaRefIdeal.main_arg3) = m ((c.tc : Thread Cert.OutNaRefIdeal.nD Cert.OutNaRefIdeal.τ).loc Cert.OutNaRefIdeal.main_arg3)
      ∧ r.2.mem ((c.tc : Thread Cert.OutNaRefIdeal.nD Cert.OutNaRefIdeal.τ).loc Cert.OutNaRefIdeal.main_arg4) = m ((c.tc : Thread Cert.OutNaRefIdeal.nD Cert.OutNaRefIdeal.τ).loc Cert.OutNaRefIdeal.main_arg4)
      ∧ r.2.mem ((c.tc : Thread Cert.OutNaRefIdeal.nD Cert.OutNaRefIdeal.τ).loc Cert.OutNaRefIdeal.main_arg5) = m ((c.tc : Thread Cert.OutNaRefIdeal.nD Cert.OutNaRefIdeal.τ).loc Cert.OutNaRefIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2)
      ∧ r.2.mem ((c.tc : Thread Cert.Mods.nD Cert.Mods.τ).loc Cert.Mods.main_arg3) = m ((c.tc : Thread Cert.Mods.nD Cert.Mods.τ).loc Cert.Mods.main_arg3))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
      ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2)
      ∧ r.2.mem ((c.tc : Thread Cert.ModsRefIdeal.nD Cert.ModsRefIdeal.τ).loc Cert.ModsRefIdeal.main_arg3) = m ((c.tc : Thread Cert.ModsRefIdeal.nD Cert.ModsRefIdeal.τ).loc Cert.ModsRefIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterIdeal_pre_real [hRouterIdeal : Cert.RouterIdeal.Facts] [hPre_real : Cert.Pre_real.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_real m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_RouterRefIdeal_pre_real [hRouterRefIdeal : Cert.RouterRefIdeal.Facts] [hPre_real : Cert.Pre_real.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_real m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Ffn1_Ffn1Ideal : Prop :=
  True

def algebraic_Ffn1Ideal_FfnRef1Ideal [hFfn1Ideal : Cert.Ffn1Ideal.Facts] [hFfnRef1Ideal : Cert.FfnRef1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.FfnRef1Ideal.nD Cert.FfnRef1Ideal.τ Cert.FfnRef1Ideal.sig) → Buf (Elt Ideal) ℓ) (g' : Dev Cert.FfnRef1Ideal.nD → PrngReg), Pre_Ffn1Ideal m →
    (∀ c : Dev Cert.Ffn1Ideal.nD,
      m' ((c.tc : Thread Cert.FfnRef1Ideal.nD Cert.FfnRef1Ideal.τ).loc Cert.FfnRef1Ideal.main_arg0) = m ((c.tc : Thread Cert.Ffn1Ideal.nD Cert.Ffn1Ideal.τ).loc Cert.Ffn1Ideal.main_arg0)
      ∧ m' ((c.tc : Thread Cert.FfnRef1Ideal.nD Cert.FfnRef1Ideal.τ).loc Cert.FfnRef1Ideal.main_arg1) = m ((c.tc : Thread Cert.Ffn1Ideal.nD Cert.Ffn1Ideal.τ).loc Cert.Ffn1Ideal.main_arg1)
      ∧ m' ((c.tc : Thread Cert.FfnRef1Ideal.nD Cert.FfnRef1Ideal.τ).loc Cert.FfnRef1Ideal.main_arg2) = m ((c.tc : Thread Cert.Ffn1Ideal.nD Cert.Ffn1Ideal.τ).loc Cert.Ffn1Ideal.main_arg2)
      ∧ m' ((c.tc : Thread Cert.FfnRef1Ideal.nD Cert.FfnRef1Ideal.τ).loc Cert.FfnRef1Ideal.main_arg3) = m ((c.tc : Thread Cert.Ffn1Ideal.nD Cert.Ffn1Ideal.τ).loc Cert.Ffn1Ideal.main_arg3)) →
    ∃ (v0 : (c : Dev Cert.Ffn1Ideal.nD) → Buf (Elt Ideal) ((c.tc : Thread Cert.Ffn1Ideal.nD Cert.Ffn1Ideal.τ).loc Cert.Ffn1Ideal.main_v0)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v0) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3))
      ∧ θ_run (Cert.FfnRef1Ideal.defs (F := Ideal)) (onTc (τ := Cert.FfnRef1Ideal.τ) (Cert.FfnRef1Ideal.main (F := Ideal))) ⟨m', fun _ => 0, g'⟩ (fun r => ∀ c : Dev Cert.FfnRef1Ideal.nD,
          r.2.mem ((c.tc : Thread Cert.FfnRef1Ideal.nD Cert.FfnRef1Ideal.τ).loc Cert.FfnRef1Ideal.main_v11) = v0 c
          ∧ r.2.mem ((c.tc : Thread Cert.FfnRef1Ideal.nD Cert.FfnRef1Ideal.τ).loc Cert.FfnRef1Ideal.main_arg0) = m' ((c.tc : Thread Cert.FfnRef1Ideal.nD Cert.FfnRef1Ideal.τ).loc Cert.FfnRef1Ideal.main_arg0)
          ∧ r.2.mem ((c.tc : Thread Cert.FfnRef1Ideal.nD Cert.FfnRef1Ideal.τ).loc Cert.FfnRef1Ideal.main_arg1) = m' ((c.tc : Thread Cert.FfnRef1Ideal.nD Cert.FfnRef1Ideal.τ).loc Cert.FfnRef1Ideal.main_arg1)
          ∧ r.2.mem ((c.tc : Thread Cert.FfnRef1Ideal.nD Cert.FfnRef1Ideal.τ).loc Cert.FfnRef1Ideal.main_arg2) = m' ((c.tc : Thread Cert.FfnRef1Ideal.nD Cert.FfnRef1Ideal.τ).loc Cert.FfnRef1Ideal.main_arg2)
          ∧ r.2.mem ((c.tc : Thread Cert.FfnRef1Ideal.nD Cert.FfnRef1Ideal.τ).loc Cert.FfnRef1Ideal.main_arg3) = m' ((c.tc : Thread Cert.FfnRef1Ideal.nD Cert.FfnRef1Ideal.τ).loc Cert.FfnRef1Ideal.main_arg3))

def preserves_Ffn2_Ffn2Ideal : Prop :=
  True

def algebraic_Ffn2Ideal_FfnRef2Ideal [hFfn2Ideal : Cert.Ffn2Ideal.Facts] [hFfnRef2Ideal : Cert.FfnRef2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.FfnRef2Ideal.nD Cert.FfnRef2Ideal.τ Cert.FfnRef2Ideal.sig) → Buf (Elt Ideal) ℓ) (g' : Dev Cert.FfnRef2Ideal.nD → PrngReg), Pre_Ffn2Ideal m →
    (∀ c : Dev Cert.Ffn2Ideal.nD,
      m' ((c.tc : Thread Cert.FfnRef2Ideal.nD Cert.FfnRef2Ideal.τ).loc Cert.FfnRef2Ideal.main_arg0) = m ((c.tc : Thread Cert.Ffn2Ideal.nD Cert.Ffn2Ideal.τ).loc Cert.Ffn2Ideal.main_arg0)
      ∧ m' ((c.tc : Thread Cert.FfnRef2Ideal.nD Cert.FfnRef2Ideal.τ).loc Cert.FfnRef2Ideal.main_arg1) = m ((c.tc : Thread Cert.Ffn2Ideal.nD Cert.Ffn2Ideal.τ).loc Cert.Ffn2Ideal.main_arg1)
      ∧ m' ((c.tc : Thread Cert.FfnRef2Ideal.nD Cert.FfnRef2Ideal.τ).loc Cert.FfnRef2Ideal.main_arg2) = m ((c.tc : Thread Cert.Ffn2Ideal.nD Cert.Ffn2Ideal.τ).loc Cert.Ffn2Ideal.main_arg2)
      ∧ m' ((c.tc : Thread Cert.FfnRef2Ideal.nD Cert.FfnRef2Ideal.τ).loc Cert.FfnRef2Ideal.main_arg3) = m ((c.tc : Thread Cert.Ffn2Ideal.nD Cert.Ffn2Ideal.τ).loc Cert.Ffn2Ideal.main_arg3)) →
    ∃ (v0 : (c : Dev Cert.Ffn2Ideal.nD) → Buf (Elt Ideal) ((c.tc : Thread Cert.Ffn2Ideal.nD Cert.Ffn2Ideal.τ).loc Cert.Ffn2Ideal.main_v0)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v0) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ θ_run (Cert.FfnRef2Ideal.defs (F := Ideal)) (onTc (τ := Cert.FfnRef2Ideal.τ) (Cert.FfnRef2Ideal.main (F := Ideal))) ⟨m', fun _ => 0, g'⟩ (fun r => ∀ c : Dev Cert.FfnRef2Ideal.nD,
          r.2.mem ((c.tc : Thread Cert.FfnRef2Ideal.nD Cert.FfnRef2Ideal.τ).loc Cert.FfnRef2Ideal.main_v11) = v0 c
          ∧ r.2.mem ((c.tc : Thread Cert.FfnRef2Ideal.nD Cert.FfnRef2Ideal.τ).loc Cert.FfnRef2Ideal.main_arg0) = m' ((c.tc : Thread Cert.FfnRef2Ideal.nD Cert.FfnRef2Ideal.τ).loc Cert.FfnRef2Ideal.main_arg0)
          ∧ r.2.mem ((c.tc : Thread Cert.FfnRef2Ideal.nD Cert.FfnRef2Ideal.τ).loc Cert.FfnRef2Ideal.main_arg1) = m' ((c.tc : Thread Cert.FfnRef2Ideal.nD Cert.FfnRef2Ideal.τ).loc Cert.FfnRef2Ideal.main_arg1)
          ∧ r.2.mem ((c.tc : Thread Cert.FfnRef2Ideal.nD Cert.FfnRef2Ideal.τ).loc Cert.FfnRef2Ideal.main_arg2) = m' ((c.tc : Thread Cert.FfnRef2Ideal.nD Cert.FfnRef2Ideal.τ).loc Cert.FfnRef2Ideal.main_arg2)
          ∧ r.2.mem ((c.tc : Thread Cert.FfnRef2Ideal.nD Cert.FfnRef2Ideal.τ).loc Cert.FfnRef2Ideal.main_arg3) = m' ((c.tc : Thread Cert.FfnRef2Ideal.nD Cert.FfnRef2Ideal.τ).loc Cert.FfnRef2Ideal.main_arg3))

def preserves_Ffn3_Ffn3Ideal : Prop :=
  True

def algebraic_Ffn3Ideal_FfnRef3Ideal [hFfn3Ideal : Cert.Ffn3Ideal.Facts] [hFfnRef3Ideal : Cert.FfnRef3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg)
    (m' : (ℓ : Loc Cert.FfnRef3Ideal.nD Cert.FfnRef3Ideal.τ Cert.FfnRef3Ideal.sig) → Buf (Elt Ideal) ℓ) (g' : Dev Cert.FfnRef3Ideal.nD → PrngReg), Pre_Ffn3Ideal m →
    (∀ c : Dev Cert.Ffn3Ideal.nD,
      m' ((c.tc : Thread Cert.FfnRef3Ideal.nD Cert.FfnRef3Ideal.τ).loc Cert.FfnRef3Ideal.main_arg0) = m ((c.tc : Thread Cert.Ffn3Ideal.nD Cert.Ffn3Ideal.τ).loc Cert.Ffn3Ideal.main_arg0)
      ∧ m' ((c.tc : Thread Cert.FfnRef3Ideal.nD Cert.FfnRef3Ideal.τ).loc Cert.FfnRef3Ideal.main_arg1) = m ((c.tc : Thread Cert.Ffn3Ideal.nD Cert.Ffn3Ideal.τ).loc Cert.Ffn3Ideal.main_arg1)
      ∧ m' ((c.tc : Thread Cert.FfnRef3Ideal.nD Cert.FfnRef3Ideal.τ).loc Cert.FfnRef3Ideal.main_arg2) = m ((c.tc : Thread Cert.Ffn3Ideal.nD Cert.Ffn3Ideal.τ).loc Cert.Ffn3Ideal.main_arg2)
      ∧ m' ((c.tc : Thread Cert.FfnRef3Ideal.nD Cert.FfnRef3Ideal.τ).loc Cert.FfnRef3Ideal.main_arg3) = m ((c.tc : Thread Cert.Ffn3Ideal.nD Cert.Ffn3Ideal.τ).loc Cert.Ffn3Ideal.main_arg3)) →
    ∃ (v0 : (c : Dev Cert.Ffn3Ideal.nD) → Buf (Elt Ideal) ((c.tc : Thread Cert.Ffn3Ideal.nD Cert.Ffn3Ideal.τ).loc Cert.Ffn3Ideal.main_v0)),
      θ_run (Cert.Ffn3Ideal.defs (F := Ideal)) (onTc (τ := Cert.Ffn3Ideal.τ) (Cert.Ffn3Ideal.main (F := Ideal))) ⟨m, fun _ => 0, g⟩ (fun r => ∀ c : Dev Cert.Ffn3Ideal.nD,
          r.2.mem ((c.tc : Thread Cert.Ffn3Ideal.nD Cert.Ffn3Ideal.τ).loc Cert.Ffn3Ideal.main_v0) = v0 c
          ∧ r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
          ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
          ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
          ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3))
      ∧ θ_run (Cert.FfnRef3Ideal.defs (F := Ideal)) (onTc (τ := Cert.FfnRef3Ideal.τ) (Cert.FfnRef3Ideal.main (F := Ideal))) ⟨m', fun _ => 0, g'⟩ (fun r => ∀ c : Dev Cert.FfnRef3Ideal.nD,
          r.2.mem ((c.tc : Thread Cert.FfnRef3Ideal.nD Cert.FfnRef3Ideal.τ).loc Cert.FfnRef3Ideal.main_v11) = v0 c
          ∧ r.2.mem ((c.tc : Thread Cert.FfnRef3Ideal.nD Cert.FfnRef3Ideal.τ).loc Cert.FfnRef3Ideal.main_arg0) = m' ((c.tc : Thread Cert.FfnRef3Ideal.nD Cert.FfnRef3Ideal.τ).loc Cert.FfnRef3Ideal.main_arg0)
          ∧ r.2.mem ((c.tc : Thread Cert.FfnRef3Ideal.nD Cert.FfnRef3Ideal.τ).loc Cert.FfnRef3Ideal.main_arg1) = m' ((c.tc : Thread Cert.FfnRef3Ideal.nD Cert.FfnRef3Ideal.τ).loc Cert.FfnRef3Ideal.main_arg1)
          ∧ r.2.mem ((c.tc : Thread Cert.FfnRef3Ideal.nD Cert.FfnRef3Ideal.τ).loc Cert.FfnRef3Ideal.main_arg2) = m' ((c.tc : Thread Cert.FfnRef3Ideal.nD Cert.FfnRef3Ideal.τ).loc Cert.FfnRef3Ideal.main_arg2)
          ∧ r.2.mem ((c.tc : Thread Cert.FfnRef3Ideal.nD Cert.FfnRef3Ideal.τ).loc Cert.FfnRef3Ideal.main_arg3) = m' ((c.tc : Thread Cert.FfnRef3Ideal.nD Cert.FfnRef3Ideal.τ).loc Cert.FfnRef3Ideal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v36)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v36) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v60) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v10)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v10) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v56) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)
      ∧ m' ((c.tc : Thread Cert.OutAbRefIdeal.nD Cert.OutAbRefIdeal.τ).loc Cert.OutAbRefIdeal.main_arg3) = m ((c.tc : Thread Cert.OutAbIdeal.nD Cert.OutAbIdeal.τ).loc Cert.OutAbIdeal.main_arg3)
      ∧ m' ((c.tc : Thread Cert.OutAbRefIdeal.nD Cert.OutAbRefIdeal.τ).loc Cert.OutAbRefIdeal.main_arg4) = m ((c.tc : Thread Cert.OutAbIdeal.nD Cert.OutAbIdeal.τ).loc Cert.OutAbIdeal.main_arg4)
      ∧ m' ((c.tc : Thread Cert.OutAbRefIdeal.nD Cert.OutAbRefIdeal.τ).loc Cert.OutAbRefIdeal.main_arg5) = m ((c.tc : Thread Cert.OutAbIdeal.nD Cert.OutAbIdeal.τ).loc Cert.OutAbIdeal.main_arg5)
      ∧ m' ((c.tc : Thread Cert.OutAbRefIdeal.nD Cert.OutAbRefIdeal.τ).loc Cert.OutAbRefIdeal.main_arg6) = m ((c.tc : Thread Cert.OutAbIdeal.nD Cert.OutAbIdeal.τ).loc Cert.OutAbIdeal.main_arg6)) →
    ∃ (v0 : (c : Dev Cert.OutAbIdeal.nD) → Buf (Elt Ideal) ((c.tc : Thread Cert.OutAbIdeal.nD Cert.OutAbIdeal.τ).loc Cert.OutAbIdeal.main_v9)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v9) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
          ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
          ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
          ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5)
          ∧ r.2.mem ((c.tc : Thread Cert.OutAbIdeal.nD Cert.OutAbIdeal.τ).loc Cert.OutAbIdeal.main_arg6) = m ((c.tc : Thread Cert.OutAbIdeal.nD Cert.OutAbIdeal.τ).loc Cert.OutAbIdeal.main_arg6))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v26) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2)
          ∧ r.2.mem ((c.tc : Thread Cert.OutAbRefIdeal.nD Cert.OutAbRefIdeal.τ).loc Cert.OutAbRefIdeal.main_arg3) = m' ((c.tc : Thread Cert.OutAbRefIdeal.nD Cert.OutAbRefIdeal.τ).loc Cert.OutAbRefIdeal.main_arg3)
          ∧ r.2.mem ((c.tc : Thread Cert.OutAbRefIdeal.nD Cert.OutAbRefIdeal.τ).loc Cert.OutAbRefIdeal.main_arg4) = m' ((c.tc : Thread Cert.OutAbRefIdeal.nD Cert.OutAbRefIdeal.τ).loc Cert.OutAbRefIdeal.main_arg4)
          ∧ r.2.mem ((c.tc : Thread Cert.OutAbRefIdeal.nD Cert.OutAbRefIdeal.τ).loc Cert.OutAbRefIdeal.main_arg5) = m' ((c.tc : Thread Cert.OutAbRefIdeal.nD Cert.OutAbRefIdeal.τ).loc Cert.OutAbRefIdeal.main_arg5)
          ∧ r.2.mem ((c.tc : Thread Cert.OutAbRefIdeal.nD Cert.OutAbRefIdeal.τ).loc Cert.OutAbRefIdeal.main_arg6) = m' ((c.tc : Thread Cert.OutAbRefIdeal.nD Cert.OutAbRefIdeal.τ).loc Cert.OutAbRefIdeal.main_arg6))

def preserves_OutNa_OutNaIdeal : Prop :=
  True

def algebraic_OutNaIdeal_OutNaRefIdeal [hOutNaIdeal : Cert.OutNaIdeal.Facts] [hOutNaRefIdeal : Cert.OutNaRefIdeal.Facts] : Prop :=
  ∀ (m : (ℓ : Loc Cert.OutNaIdeal.nD Cert.OutNaIdeal.τ Cert.OutNaIdeal.sig) → Buf (Elt Ideal) ℓ) (g : Dev Cert.OutNaIdeal.nD → PrngReg)
    (m' : (ℓ : Loc Cert.OutNaRefIdeal.nD Cert.OutNaRefIdeal.τ Cert.OutNaRefIdeal.sig) → Buf (Elt Ideal) ℓ) (g' : Dev Cert.OutNaRefIdeal.nD → PrngReg), Pre_OutNaIdeal m →
    (∀ c : Dev Cert.OutNaIdeal.nD,
      m' ((c.tc : Thread Cert.OutNaRefIdeal.nD Cert.OutNaRefIdeal.τ).loc Cert.OutNaRefIdeal.main_arg0) = m ((c.tc : Thread Cert.OutNaIdeal.nD Cert.OutNaIdeal.τ).loc Cert.OutNaIdeal.main_arg0)
      ∧ m' ((c.tc : Thread Cert.OutNaRefIdeal.nD Cert.OutNaRefIdeal.τ).loc Cert.OutNaRefIdeal.main_arg1) = m ((c.tc : Thread Cert.OutNaIdeal.nD Cert.OutNaIdeal.τ).loc Cert.OutNaIdeal.main_arg1)
      ∧ m' ((c.tc : Thread Cert.OutNaRefIdeal.nD Cert.OutNaRefIdeal.τ).loc Cert.OutNaRefIdeal.main_arg2) = m ((c.tc : Thread Cert.OutNaIdeal.nD Cert.OutNaIdeal.τ).loc Cert.OutNaIdeal.main_arg2)
      ∧ m' ((c.tc : Thread Cert.OutNaRefIdeal.nD Cert.OutNaRefIdeal.τ).loc Cert.OutNaRefIdeal.main_arg3) = m ((c.tc : Thread Cert.OutNaIdeal.nD Cert.OutNaIdeal.τ).loc Cert.OutNaIdeal.main_arg3)
      ∧ m' ((c.tc : Thread Cert.OutNaRefIdeal.nD Cert.OutNaRefIdeal.τ).loc Cert.OutNaRefIdeal.main_arg4) = m ((c.tc : Thread Cert.OutNaIdeal.nD Cert.OutNaIdeal.τ).loc Cert.OutNaIdeal.main_arg4)
      ∧ m' ((c.tc : Thread Cert.OutNaRefIdeal.nD Cert.OutNaRefIdeal.τ).loc Cert.OutNaRefIdeal.main_arg5) = m ((c.tc : Thread Cert.OutNaIdeal.nD Cert.OutNaIdeal.τ).loc Cert.OutNaIdeal.main_arg5)) →
    ∃ (v0 : (c : Dev Cert.OutNaIdeal.nD) → Buf (Elt Ideal) ((c.tc : Thread Cert.OutNaIdeal.nD Cert.OutNaIdeal.τ).loc Cert.OutNaIdeal.main_v9)),
      θ_run (Cert.OutNaIdeal.defs (F := Ideal)) (onTc (τ := Cert.OutNaIdeal.τ) (Cert.OutNaIdeal.main (F := Ideal))) ⟨m, fun _ => 0, g⟩ (fun r => ∀ c : Dev Cert.OutNaIdeal.nD,
          r.2.mem ((c.tc : Thread Cert.OutNaIdeal.nD Cert.OutNaIdeal.τ).loc Cert.OutNaIdeal.main_v9) = v0 c
          ∧ r.2.mem ((c.tc : Thread Cert.OutNaIdeal.nD Cert.OutNaIdeal.τ).loc Cert.OutNaIdeal.main_arg0) = m ((c.tc : Thread Cert.OutNaIdeal.nD Cert.OutNaIdeal.τ).loc Cert.OutNaIdeal.main_arg0)
          ∧ r.2.mem ((c.tc : Thread Cert.OutNaIdeal.nD Cert.OutNaIdeal.τ).loc Cert.OutNaIdeal.main_arg1) = m ((c.tc : Thread Cert.OutNaIdeal.nD Cert.OutNaIdeal.τ).loc Cert.OutNaIdeal.main_arg1)
          ∧ r.2.mem ((c.tc : Thread Cert.OutNaIdeal.nD Cert.OutNaIdeal.τ).loc Cert.OutNaIdeal.main_arg2) = m ((c.tc : Thread Cert.OutNaIdeal.nD Cert.OutNaIdeal.τ).loc Cert.OutNaIdeal.main_arg2)
          ∧ r.2.mem ((c.tc : Thread Cert.OutNaIdeal.nD Cert.OutNaIdeal.τ).loc Cert.OutNaIdeal.main_arg3) = m ((c.tc : Thread Cert.OutNaIdeal.nD Cert.OutNaIdeal.τ).loc Cert.OutNaIdeal.main_arg3)
          ∧ r.2.mem ((c.tc : Thread Cert.OutNaIdeal.nD Cert.OutNaIdeal.τ).loc Cert.OutNaIdeal.main_arg4) = m ((c.tc : Thread Cert.OutNaIdeal.nD Cert.OutNaIdeal.τ).loc Cert.OutNaIdeal.main_arg4)
          ∧ r.2.mem ((c.tc : Thread Cert.OutNaIdeal.nD Cert.OutNaIdeal.τ).loc Cert.OutNaIdeal.main_arg5) = m ((c.tc : Thread Cert.OutNaIdeal.nD Cert.OutNaIdeal.τ).loc Cert.OutNaIdeal.main_arg5))
      ∧ θ_run (Cert.OutNaRefIdeal.defs (F := Ideal)) (onTc (τ := Cert.OutNaRefIdeal.τ) (Cert.OutNaRefIdeal.main (F := Ideal))) ⟨m', fun _ => 0, g'⟩ (fun r => ∀ c : Dev Cert.OutNaRefIdeal.nD,
          r.2.mem ((c.tc : Thread Cert.OutNaRefIdeal.nD Cert.OutNaRefIdeal.τ).loc Cert.OutNaRefIdeal.main_v25) = v0 c
          ∧ r.2.mem ((c.tc : Thread Cert.OutNaRefIdeal.nD Cert.OutNaRefIdeal.τ).loc Cert.OutNaRefIdeal.main_arg0) = m' ((c.tc : Thread Cert.OutNaRefIdeal.nD Cert.OutNaRefIdeal.τ).loc Cert.OutNaRefIdeal.main_arg0)
          ∧ r.2.mem ((c.tc : Thread Cert.OutNaRefIdeal.nD Cert.OutNaRefIdeal.τ).loc Cert.OutNaRefIdeal.main_arg1) = m' ((c.tc : Thread Cert.OutNaRefIdeal.nD Cert.OutNaRefIdeal.τ).loc Cert.OutNaRefIdeal.main_arg1)
          ∧ r.2.mem ((c.tc : Thread Cert.OutNaRefIdeal.nD Cert.OutNaRefIdeal.τ).loc Cert.OutNaRefIdeal.main_arg2) = m' ((c.tc : Thread Cert.OutNaRefIdeal.nD Cert.OutNaRefIdeal.τ).loc Cert.OutNaRefIdeal.main_arg2)
          ∧ r.2.mem ((c.tc : Thread Cert.OutNaRefIdeal.nD Cert.OutNaRefIdeal.τ).loc Cert.OutNaRefIdeal.main_arg3) = m' ((c.tc : Thread Cert.OutNaRefIdeal.nD Cert.OutNaRefIdeal.τ).loc Cert.OutNaRefIdeal.main_arg3)
          ∧ r.2.mem ((c.tc : Thread Cert.OutNaRefIdeal.nD Cert.OutNaRefIdeal.τ).loc Cert.OutNaRefIdeal.main_arg4) = m' ((c.tc : Thread Cert.OutNaRefIdeal.nD Cert.OutNaRefIdeal.τ).loc Cert.OutNaRefIdeal.main_arg4)
          ∧ r.2.mem ((c.tc : Thread Cert.OutNaRefIdeal.nD Cert.OutNaRefIdeal.τ).loc Cert.OutNaRefIdeal.main_arg5) = m' ((c.tc : Thread Cert.OutNaRefIdeal.nD Cert.OutNaRefIdeal.τ).loc Cert.OutNaRefIdeal.main_arg5))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)
      ∧ m' ((c.tc : Thread Cert.ModsRefIdeal.nD Cert.ModsRefIdeal.τ).loc Cert.ModsRefIdeal.main_arg3) = m ((c.tc : Thread Cert.ModsIdeal.nD Cert.ModsIdeal.τ).loc Cert.ModsIdeal.main_arg3)) →
    ∃ (v0 : (c : Dev Cert.ModsIdeal.nD) → Buf (Elt Ideal) ((c.tc : Thread Cert.ModsIdeal.nD Cert.ModsIdeal.τ).loc Cert.ModsIdeal.main_v4)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v4) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
          ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v71) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2)
          ∧ r.2.mem ((c.tc : Thread Cert.ModsRefIdeal.nD Cert.ModsRefIdeal.τ).loc Cert.ModsRefIdeal.main_arg3) = m' ((c.tc : Thread Cert.ModsRefIdeal.nD Cert.ModsRefIdeal.τ).loc Cert.ModsRefIdeal.main_arg3))

def preserves_Router_RouterIdeal : Prop :=
  True

def algebraic_RouterIdeal_RouterRefIdeal_pre_real [hRouterIdeal : Cert.RouterIdeal.Facts] [hRouterRefIdeal : Cert.RouterRefIdeal.Facts] [hPre_real : Cert.Pre_real.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_real m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v10_0)) (v1 : (c : Dev Cert.RouterIdeal.nD) → Buf (Elt Ideal) ((c.tc : Thread Cert.RouterIdeal.nD Cert.RouterIdeal.τ).loc Cert.RouterIdeal.main_v10_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v10_0) = v0 c
          ∧ r.2.mem ((c.tc : Thread Cert.RouterIdeal.nD Cert.RouterIdeal.τ).loc Cert.RouterIdeal.main_v10_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v66) = v0 c
          ∧ r.2.mem ((c.tc : Thread Cert.RouterRefIdeal.nD Cert.RouterRefIdeal.τ).loc Cert.RouterRefIdeal.main_v67) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfn1 : Cert.Ffn1.Facts) (hFfn1Ideal : Cert.Ffn1Ideal.Facts) (hFfnRef1Ideal : Cert.FfnRef1Ideal.Facts) (hFfn2 : Cert.Ffn2.Facts) (hFfn2Ideal : Cert.Ffn2Ideal.Facts) (hFfnRef2Ideal : Cert.FfnRef2Ideal.Facts) (hFfn3 : Cert.Ffn3.Facts) (hFfn3Ideal : Cert.Ffn3Ideal.Facts) (hFfnRef3Ideal : Cert.FfnRef3Ideal.Facts) (hProj : Cert.Proj.Facts) (hProjIdeal : Cert.ProjIdeal.Facts) (hProjRefIdeal : Cert.ProjRefIdeal.Facts) (hQkv : Cert.Qkv.Facts) (hQkvIdeal : Cert.QkvIdeal.Facts) (hQkvRefIdeal : Cert.QkvRefIdeal.Facts) (hOutAb : Cert.OutAb.Facts) (hOutAbIdeal : Cert.OutAbIdeal.Facts) (hOutAbRefIdeal : Cert.OutAbRefIdeal.Facts) (hOutNa : Cert.OutNa.Facts) (hOutNaIdeal : Cert.OutNaIdeal.Facts) (hOutNaRefIdeal : Cert.OutNaRefIdeal.Facts) (hFinal : Cert.Final.Facts) (hFinalIdeal : Cert.FinalIdeal.Facts) (hFinalRefIdeal : Cert.FinalRefIdeal.Facts) (hMods : Cert.Mods.Facts) (hModsIdeal : Cert.ModsIdeal.Facts) (hModsRefIdeal : Cert.ModsRefIdeal.Facts) (hRouter : Cert.Router.Facts) (hRouterIdeal : Cert.RouterIdeal.Facts) (hRouterRefIdeal : Cert.RouterRefIdeal.Facts) (hPre_finite : Cert.Pre_finite.Facts) (hPre_real : Cert.Pre_real.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Ffn1 (hFfn1 := hFfn1)
    ∧ quiescent_Ffn1Ideal (hFfn1Ideal := hFfn1Ideal)
    ∧ quiescent_FfnRef1Ideal (hFfnRef1Ideal := hFfnRef1Ideal)
    ∧ quiescent_Ffn2 (hFfn2 := hFfn2)
    ∧ quiescent_Ffn2Ideal (hFfn2Ideal := hFfn2Ideal)
    ∧ quiescent_FfnRef2Ideal (hFfnRef2Ideal := hFfnRef2Ideal)
    ∧ quiescent_Ffn3 (hFfn3 := hFfn3)
    ∧ quiescent_Ffn3Ideal (hFfn3Ideal := hFfn3Ideal)
    ∧ quiescent_FfnRef3Ideal (hFfnRef3Ideal := hFfnRef3Ideal)
    ∧ quiescent_Proj (hProj := hProj)
    ∧ quiescent_ProjIdeal (hProjIdeal := hProjIdeal)
    ∧ quiescent_ProjRefIdeal (hProjRefIdeal := hProjRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_OutNa (hOutNa := hOutNa)
    ∧ quiescent_OutNaIdeal (hOutNaIdeal := hOutNaIdeal)
    ∧ quiescent_OutNaRefIdeal (hOutNaRefIdeal := hOutNaRefIdeal)
    ∧ quiescent_Final (hFinal := hFinal)
    ∧ quiescent_FinalIdeal (hFinalIdeal := hFinalIdeal)
    ∧ quiescent_FinalRefIdeal (hFinalRefIdeal := hFinalRefIdeal)
    ∧ quiescent_Mods (hMods := hMods)
    ∧ quiescent_ModsIdeal (hModsIdeal := hModsIdeal)
    ∧ quiescent_ModsRefIdeal (hModsRefIdeal := hModsRefIdeal)
    ∧ quiescent_Router (hRouter := hRouter)
    ∧ quiescent_RouterIdeal (hRouterIdeal := hRouterIdeal)
    ∧ quiescent_RouterIdeal_pre_real (hRouterIdeal := hRouterIdeal) (hPre_real := hPre_real)
    ∧ quiescent_RouterRefIdeal (hRouterRefIdeal := hRouterRefIdeal)
    ∧ quiescent_RouterRefIdeal_pre_real (hRouterRefIdeal := hRouterRefIdeal) (hPre_real := hPre_real)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Ffn1_Ffn1Ideal
    ∧ algebraic_Ffn1Ideal_FfnRef1Ideal (hFfn1Ideal := hFfn1Ideal) (hFfnRef1Ideal := hFfnRef1Ideal)
    ∧ preserves_Ffn2_Ffn2Ideal
    ∧ algebraic_Ffn2Ideal_FfnRef2Ideal (hFfn2Ideal := hFfn2Ideal) (hFfnRef2Ideal := hFfnRef2Ideal)
    ∧ preserves_Ffn3_Ffn3Ideal
    ∧ algebraic_Ffn3Ideal_FfnRef3Ideal (hFfn3Ideal := hFfn3Ideal) (hFfnRef3Ideal := hFfnRef3Ideal)
    ∧ preserves_Proj_ProjIdeal
    ∧ algebraic_ProjIdeal_ProjRefIdeal (hProjIdeal := hProjIdeal) (hProjRefIdeal := hProjRefIdeal)
    ∧ preserves_Qkv_QkvIdeal
    ∧ algebraic_QkvIdeal_QkvRefIdeal (hQkvIdeal := hQkvIdeal) (hQkvRefIdeal := hQkvRefIdeal)
    ∧ preserves_OutAb_OutAbIdeal
    ∧ algebraic_OutAbIdeal_OutAbRefIdeal (hOutAbIdeal := hOutAbIdeal) (hOutAbRefIdeal := hOutAbRefIdeal)
    ∧ preserves_OutNa_OutNaIdeal
    ∧ algebraic_OutNaIdeal_OutNaRefIdeal (hOutNaIdeal := hOutNaIdeal) (hOutNaRefIdeal := hOutNaRefIdeal)
    ∧ preserves_Final_FinalIdeal
    ∧ algebraic_FinalIdeal_FinalRefIdeal (hFinalIdeal := hFinalIdeal) (hFinalRefIdeal := hFinalRefIdeal)
    ∧ preserves_Mods_ModsIdeal
    ∧ algebraic_ModsIdeal_ModsRefIdeal (hModsIdeal := hModsIdeal) (hModsRefIdeal := hModsRefIdeal)
    ∧ preserves_Router_RouterIdeal
    ∧ algebraic_RouterIdeal_RouterRefIdeal_pre_real (hRouterIdeal := hRouterIdeal) (hRouterRefIdeal := hRouterRefIdeal) (hPre_real := hPre_real)
-- ==== Pre_finite.lean ====
abbrev S8x256x2592 : Shape := ⟨3, ![8, 256, 2592]⟩
abbrev S8x2048x2592 : Shape := ⟨3, ![8, 2048, 2592]⟩
abbrev S2048x16 : Shape := ⟨2, ![2048, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩

class Facts : Prop where
  bcast_S_S8x256x2592 : S_.BroadcastsInDim S8x256x2592 (![] : Fin 0 → Fin S8x256x2592.rank)
  reducesTo_S8x256x2592_S_d0_1_2 : S8x256x2592.ReducesTo [0, 1, 2] S_
  h_S_ : 0 < S_.numel
  bcast_S_S8x2048x2592 : S_.BroadcastsInDim S8x2048x2592 (![] : Fin 0 → Fin S8x2048x2592.rank)
  reducesTo_S8x2048x2592_S_d0_1_2 : S8x2048x2592.ReducesTo [0, 1, 2] S_
  bcast_S_S2048x16 : S_.BroadcastsInDim S2048x16 (![] : Fin 0 → Fin S2048x16.rank)
  reducesTo_S2048x16_S_d0_1 : S2048x16.ReducesTo [0, 1] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S256x1024 .f32) (main_v33 : IVec S_ 1) : IVec S_ 1 :=
  let main_v34 : FVec F S256x1024 .f32 := Host.absf main_arg7
  let main_cst_12 : FVec F S_ .f32 := constant S_ .f32 0x7F800000#32
  let main_v35 : FVec F S256x1024 .f32 := broadcastInDim S256x1024 ![] bcast_S_S256x1024 main_cst_12
  let main_v36 : IVec S256x1024 1 := cmpf .olt main_v34 main_v35
  let main_c_13 : IVec S_ 1 := constantI S_ 1 1#1
  let main_v37 : IVec S_ 1 := (fun x v => Host.reduce IntOp.andi x v reducesTo_S256x1024_S_d0_1 h_S_) main_v36 main_c_13
  let main_v38 : IVec S_ 1 := andi main_v33 main_v37
  main_v38

def fn_part1 {F : FTy → Type} [FloatOps F] (main_arg4 : FVec F S384 .f32) (main_arg5 : FVec F S384x768 .f32) (main_arg6 : FVec F S256 .f32) (main_arg7 : FVec F S256x1024 .f32) (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x768 .f32 := Host.absf main_arg5
  let main_cst_8 : FVec F S_ .f32 := constant S_ .f32 0x7F800000#32
  let main_v25 : FVec F S384x768 .f32 := broadcastInDim S384x768 ![] bcast_S_S384x768 main_cst_8
  let main_v26 : IVec S384x768 1 := cmpf .olt main_v24 main_v25
  let main_c_9 : IVec S_ 1 := constantI S_ 1 1#1
  let main_v27 : IVec S_ 1 := (fun x v => Host.reduce IntOp.andi x v reducesTo_S384x768_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S8x256x2592 .f32) (main_arg1 : FVec F S8x2048x2592 .f32) (main_arg2 : FVec F S2048x16 .f32) (main_arg3 : FVec F S2048x16 .f32) (main_arg4 : FVec F S384 .f32) (main_arg5 : FVec F S384x768 .f32) (main_arg6 : FVec F S256 .f32) (main_arg7 : FVec F S256x1024 .f32) : IVec S_ 1 :=
  let main_v0 : FVec F S8x256x2592 .f32 := Host.absf main_arg0
  let main_cst : FVec F S_ .f32 := constant S_ .f32 0x7F800000#32
  let main_v1 : FVec F S8x256x2592 .f32 := broadcastInDim S8x256x2592 ![] bcast_S_S8x256x2592 main_cst
  let main_v2 : IVec S8x256x2592 1 := cmpf .olt main_v0 main_v1
  let main_c : IVec S_ 1 := constantI S_ 1 1#1
  let main_v3 : IVec S_ 1 := (fun x v => Host.reduce IntOp.andi x v reducesTo_S8x256x2592_S_d0_1_2 h_S_) main_v2 main_c
  let main_v4 : FVec F S8x2048x2592 .f32 := Host.absf main_arg1
  let main_cst_0 : FVec F S_ .f32 := constant S_ .f32 0x7F800000#32
  let main_v5 : FVec F S8x2048x2592 .f32 := broadcastInDim S8x2048x2592 ![] bcast_S_S8x2048x2592 main_cst_0
  let main_v6 : IVec S8x2048x2592 1 := cmpf .olt main_v4 main_v5
  let main_c_1 : IVec S_ 1 := constantI S_ 1 1#1
  let main_v7 : IVec S_ 1 := (fun x v => Host.reduce IntOp.andi x v reducesTo_S8x2048x2592_S_d0_1_2 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_arg4 main_arg5 main_arg6 main_arg7 main_v13 main_v16
-- ==== Pre_real.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x16 : Shape := ⟨2, ![1024, 16]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  bcast_S_S8x6144 : S_.BroadcastsInDim S8x6144 (![] : Fin 0 → Fin S8x6144.rank)
  reducesTo_S8x6144_S_d0_1 : S8x6144.ReducesTo [0, 1] S_
  bcast_S_S6144 : S_.BroadcastsInDim S6144 (![] : Fin 0 → Fin S6144.rank)
  reducesTo_S6144_S_d0 : S6144.ReducesTo [0] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024 .f32) (main_arg5 : FVec F S1024x16 .f32) (main_v13 : IVec S_ 1) (main_v16 : IVec S6144 1) : IVec S_ 1 :=
  let main_c_5 : IVec S_ 1 := constantI S_ 1 1#1
  let main_v17 : IVec S_ 1 := (fun x v => Host.reduce IntOp.andi x v reducesTo_S6144_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x16 .f32 := Host.absf main_arg5
  let main_cst_8 : FVec F S_ .f32 := constant S_ .f32 0x7F800000#32
  let main_v25 : FVec F S1024x16 .f32 := broadcastInDim S1024x16 ![] bcast_S_S1024x16 main_cst_8
  let main_v26 : IVec S1024x16 1 := cmpf .olt main_v24 main_v25
  let main_c_9 : IVec S_ 1 := constantI S_ 1 1#1
  let main_v27 : IVec S_ 1 := (fun x v => Host.reduce IntOp.andi x v reducesTo_S1024x16_S_d0_1 h_S_) main_v26 main_c_9
  let main_v28 : IVec S_ 1 := andi main_v23 main_v27
  main_v28

def fn {F : FTy → Type} [FloatOps F] (main_arg0 : FVec F S8x2048x1024 .f32) (main_arg1 : FVec F S8x256x1024 .f32) (main_arg2 : FVec F S8x6144 .f32) (main_arg3 : FVec F S6144 .f32) (main_arg4 : FVec F S1024 .f32) (main_arg5 : FVec F S1024x16 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x256x1024 .f32 := Host.absf main_arg1
  let main_cst_0 : FVec F S_ .f32 := constant S_ .f32 0x7F800000#32
  let main_v5 : FVec F S8x256x1024 .f32 := broadcastInDim S8x256x1024 ![] bcast_S_S8x256x1024 main_cst_0
  let main_v6 : IVec S8x256x1024 1 := cmpf .olt main_v4 main_v5
  let main_c_1 : IVec S_ 1 := constantI S_ 1 1#1
  let main_v7 : IVec S_ 1 := (fun x v => Host.reduce IntOp.andi x v reducesTo_S8x256x1024_S_d0_1_2 h_S_) main_v6 main_c_1
  let main_v8 : IVec S_ 1 := andi main_v3 main_v7
  let main_v9 : FVec F S8x6144 .f32 := Host.absf main_arg2
  let main_cst_2 : FVec F S_ .f32 := constant S_ .f32 0x7F800000#32
  let main_v10 : FVec F S8x6144 .f32 := broadcastInDim S8x6144 ![] bcast_S_S8x6144 main_cst_2
  let main_v11 : IVec S8x6144 1 := cmpf .olt main_v9 main_v10
  let main_c_3 : IVec S_ 1 := constantI S_ 1 1#1
  let main_v12 : IVec S_ 1 := (fun x v => Host.reduce IntOp.andi x v reducesTo_S8x6144_S_d0_1 h_S_) main_v11 main_c_3
  let main_v13 : IVec S_ 1 := andi main_v8 main_v12
  let main_v14 : FVec F S6144 .f32 := Host.absf main_arg3
  let main_cst_4 : FVec F S_ .f32 := constant S_ .f32 0x7F800000#32
  let main_v15 : FVec F S6144 .f32 := broadcastInDim S6144 ![] bcast_S_S6144 main_cst_4
  let main_v16 : IVec S6144 1 := cmpf .olt main_v14 main_v15
  fn_part1 (F := F) main_arg4 main_arg5 main_v13 main_v16
-- ==== Kernel.lean ====
abbrev S8x256x2592 : Shape := ⟨3, ![8, 256, 2592]⟩
abbrev S8x2048x2592 : Shape := ⟨3, ![8, 2048, 2592]⟩
abbrev S2048x16 : Shape := ⟨2, ![2048, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S32 : Shape := ⟨1, ![32]⟩
abbrev S8x2304x2592 : Shape := ⟨3, ![8, 2304, 2592]⟩
abbrev S8x2304x32 : Shape := ⟨3, ![8, 2304, 32]⟩
abbrev S_ : Shape := ⟨0, ![]⟩
abbrev S8x2304x64 : Shape := ⟨3, ![8, 2304, 64]⟩
abbrev S32x1 : Shape := ⟨2, ![32, 1]⟩
abbrev S8x2304x128 : Shape := ⟨3, ![8, 2304, 128]⟩
abbrev S8x2304x2560 : Shape := ⟨3, ![8, 2304, 2560]⟩
abbrev S8x2304x2816 : Shape := ⟨3, ![8, 2304, 2816]⟩
abbrev S256x16 : Shape := ⟨2, ![256, 16]⟩
abbrev S2304x16 : Shape := ⟨2, ![2304, 16]⟩
abbrev S2304x32 : Shape := ⟨2, ![2304, 32]⟩
abbrev S2304x64 : Shape := ⟨2, ![2304, 64]⟩
abbrev S2304x128 : Shape := ⟨2, ![2304, 128]⟩
abbrev S384x8x96 : Shape := ⟨3, ![384, 8, 96]⟩
abbrev S384x8x32 : Shape := ⟨3, ![384, 8, 32]⟩
abbrev S384x8x64 : Shape := ⟨3, ![384, 8, 64]⟩
abbrev S384x8x128 : Shape := ⟨3, ![384, 8, 128]⟩
abbrev S384x4x256 : Shape := ⟨3, ![384, 4, 256]⟩
abbrev S4x384x256 : Shape := ⟨3, ![4, 384, 256]⟩
abbrev S256x8x128 : Shape := ⟨3, ![256, 8, 128]⟩
abbrev S256x8x64 : Shape := ⟨3, ![256, 8, 64]⟩
abbrev S256x4x256 : Shape := ⟨3, ![256, 4, 256]⟩
abbrev S4x256x256 : Shape := ⟨3, ![4, 256, 256]⟩
abbrev S256x4x128 : Shape := ⟨3, ![256, 4, 128]⟩
abbrev S4x256x128 : Shape := ⟨3, ![4, 256, 128]⟩
abbrev S1x384 : Shape := ⟨2, ![1, 384]⟩
abbrev S1x256 : Shape := ⟨2, ![1, 256]⟩
abbrev S8x2304x512 : Shape := ⟨3, ![8, 2304, 512]⟩
abbrev S1x2304x384 : Shape := ⟨3, ![1, 2304, 384]⟩
abbrev S1x2304x256 : Shape := ⟨3, ![1, 2304, 256]⟩
abbrev S1x384x256 : Shape := ⟨3, ![1, 384, 256]⟩
abbrev S1x256x256 : Shape := ⟨3, ![1, 256, 256]⟩
abbrev S1x256x128 : Shape := ⟨3, ![1, 256, 128]⟩
abbrev S1x2304x128 : Shape := ⟨3, ![1, 2304, 128]⟩
abbrev S2x2304x128 : Shape := ⟨3, ![2, 2304, 128]⟩
abbrev S2304x384 : Shape := ⟨2, ![2304, 384]⟩
abbrev S2304 : Shape := ⟨1, ![2304]⟩
abbrev S2304x1 : Shape := ⟨2, ![2304, 1]⟩
abbrev S2304x256 : Shape := ⟨2, ![2304, 256]⟩
abbrev S384x256 : Shape := ⟨2, ![384, 256]⟩
abbrev S256x256 : Shape := ⟨2, ![256, 256]⟩
abbrev S256x128 : Shape := ⟨2, ![256, 128]⟩
abbrev S256x1 : Shape := ⟨2, ![256, 1]⟩
abbrev S512x128 : Shape := ⟨2, ![512, 128]⟩
abbrev S1x512x128 : Shape := ⟨3, ![1, 512, 128]⟩
abbrev S512x2304 : Shape := ⟨2, ![512, 2304]⟩
abbrev S512 : Shape := ⟨1, ![512]⟩
abbrev S512x1 : Shape := ⟨2, ![512, 1]⟩

abbrev nBuf : Space → Nat
  | .hbm => 98
  | .vmem => 22
  | .smem => 0
  | _ => 0

abbrev bufTy : (tb : Table) → Fin (tcTables nBuf tb) → BufTy
  | .hbm, ⟨0, _⟩ => ⟨S8x256x2592, .f32⟩
  | .hbm, ⟨1, _⟩ => ⟨S8x2048x2592, .f32⟩
  | .hbm, ⟨2, _⟩ => ⟨S2048x16, .f32⟩
  | .hbm, ⟨3, _⟩ => ⟨S2048x16, .f32⟩
  | .hbm, ⟨4, _⟩ => ⟨S384, .f32⟩
  | .hbm, ⟨5, _⟩ => ⟨S384x768, .f32⟩
  | .hbm, ⟨6, _⟩ => ⟨S256, .f32⟩
  | .hbm, ⟨7, _⟩ => ⟨S256x1024, .f32⟩
  | .hbm, ⟨8, _⟩ => ⟨S32, .i32⟩
  | .hbm, ⟨9, _⟩ => ⟨S32, .i1⟩
  | .hbm, ⟨10, _⟩ => ⟨S32, .i1⟩
  | .hbm, ⟨11, _⟩ => ⟨S32, .i32⟩
  | .hbm, ⟨12, _⟩ => ⟨S32, .i1⟩
  | .hbm, ⟨13, _⟩ => ⟨S32, .i1⟩
  | .hbm, ⟨14, _⟩ => ⟨S32, .i1⟩
  | .hbm, ⟨15, _⟩ => ⟨S32, .i1⟩
  | .hbm, ⟨16, _⟩ => ⟨S8x2304x2592, .f32⟩
  | .hbm, ⟨17, _⟩ => ⟨S8x2304x32, .f32⟩
  | .hbm, ⟨18, _⟩ => ⟨S_, .f32⟩
  | .hbm, ⟨19, _⟩ => ⟨S8x2304x64, .f32⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S32, .i32⟩
  | .hbm, ⟨24, _⟩ => ⟨S32x1, .i32⟩
  | .hbm, ⟨25, _⟩ => ⟨S8x2304x32, .f32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S32x1, .i32⟩
  | .hbm, ⟨31, _⟩ => ⟨S8x2304x32, .f32⟩
  | .hbm, ⟨32, _⟩ => ⟨S8x2304x128, .f32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S8x2304x32, .f32⟩
  | .hbm, ⟨39, _⟩ => ⟨S_, .i32⟩
  | .hbm, ⟨40, _⟩ => ⟨S32, .i32⟩
  | .hbm, ⟨41, _⟩ => ⟨S32, .i32⟩
  | .hbm, ⟨42, _⟩ => ⟨S32, .i32⟩
  | .hbm, ⟨43, _⟩ => ⟨S32x1, .i32⟩
  | .hbm, ⟨44, _⟩ => ⟨S8x2304x32, .f32⟩
  | .hbm, ⟨45, _⟩ => ⟨S8x2304x128, .f32⟩
  | .hbm, ⟨46, _⟩ => ⟨S8x2304x2560, .f32⟩
  | .hbm, ⟨47, _⟩ => ⟨S8x2304x2816, .f32⟩
  | .hbm, ⟨48, _⟩ => ⟨S_, .f32⟩
  | .hbm, ⟨49, _⟩ => ⟨S256x16, .f32⟩
  | .hbm, ⟨50, _⟩ => ⟨S2304x16, .f32⟩
  | .hbm, ⟨51, _⟩ => ⟨S_, .f32⟩
  | .hbm, ⟨52, _⟩ => ⟨S256x16, .f32⟩
  | .hbm, ⟨53, _⟩ => ⟨S2304x16, .f32⟩
  | .hbm, ⟨54, _⟩ => ⟨S2304x32, .f32⟩
  | .hbm, ⟨55, _⟩ => ⟨S2304x16, .f32⟩
  | .hbm, ⟨56, _⟩ => ⟨S2304x32, .f32⟩
  | .hbm, ⟨57, _⟩ => ⟨S_, .f32⟩
  | .hbm, ⟨58, _⟩ => ⟨S2304x64, .f32⟩
  | .hbm, ⟨59, _⟩ => ⟨S_, .f32⟩
  | .hbm, ⟨60, _⟩ => ⟨S2304x64, .f32⟩
  | .hbm, ⟨61, _⟩ => ⟨S2304x128, .f32⟩
  | .hbm, ⟨62, _⟩ => ⟨S2304x128, .f32⟩
  | .hbm, ⟨63, _⟩ => ⟨S2304x128, .f32⟩
  | .hbm, ⟨64, _⟩ => ⟨S384x8x96, .f32⟩
  | .hbm, ⟨65, _⟩ => ⟨S384x8x32, .f32⟩
  | .hbm, ⟨66, _⟩ => ⟨S384x8x64, .f32⟩
  | .hbm, ⟨67, _⟩ => ⟨S_, .i32⟩
  | .hbm, ⟨68, _⟩ => ⟨S32, .i32⟩
  | .hbm, ⟨69, _⟩ => ⟨S32, .i32⟩
  | .hbm, ⟨70, _⟩ => ⟨S32, .i32⟩
  | .hbm, ⟨71, _⟩ => ⟨S32x1, .i32⟩
  | .hbm, ⟨72, _⟩ => ⟨S384x8x32, .f32⟩
  | .hbm, ⟨73, _⟩ => ⟨S_, .i32⟩
  | .hbm, ⟨74, _⟩ => ⟨S32, .i32⟩
  | .hbm, ⟨75, _⟩ => ⟨S32, .i32⟩
  | .hbm, ⟨76, _⟩ => ⟨S32, .i32⟩
  | .hbm, ⟨77, _⟩ => ⟨S32x1, .i32⟩
  | .hbm, ⟨78, _⟩ => ⟨S384x8x32, .f32⟩
  | .hbm, ⟨79, _⟩ => ⟨S384x8x128, .f32⟩
  | .hbm, ⟨80, _⟩ => ⟨S384x4x256, .f32⟩
  | .hbm, ⟨81, _⟩ => ⟨S4x384x256, .f32⟩
  | .hbm, ⟨82, _⟩ => ⟨S256x8x128, .f32⟩
  | .hbm, ⟨83, _⟩ => ⟨S256x8x64, .f32⟩
  | .hbm, ⟨84, _⟩ => ⟨S_, .f32⟩
  | .hbm, ⟨85, _⟩ => ⟨S256x8x64, .f32⟩
  | .hbm, ⟨86, _⟩ => ⟨S256x8x128, .f32⟩
  | .hbm, ⟨87, _⟩ => ⟨S256x4x256, .f32⟩
  | .hbm, ⟨88, _⟩ => ⟨S4x256x256, .f32⟩
  | .hbm, ⟨89, _⟩ => ⟨S256x8x64, .f32⟩
  | .hbm, ⟨90, _⟩ => ⟨S256x4x128, .f32⟩
  | .hbm, ⟨91, _⟩ => ⟨S4x256x128, .f32⟩
  | .hbm, ⟨92, _⟩ => ⟨S4x384x256, .bf16⟩
  | .hbm, ⟨93, _⟩ => ⟨S4x256x256, .bf16⟩
  | .hbm, ⟨94, _⟩ => ⟨S4x256x128, .bf16⟩
  | .hbm, ⟨95, _⟩ => ⟨S1x384, .f32⟩
  | .hbm, ⟨96, _⟩ => ⟨S1x256, .f32⟩
  | .hbm, ⟨97, _⟩ => ⟨S8x2304x512, .bf16⟩
  | .local _ .vmem, ⟨0, _⟩ => ⟨S1x2304x384, .f32⟩
  | .local _ .vmem, ⟨1, _⟩ => ⟨S1x2304x384, .f32⟩
  | .local _ .vmem, ⟨2, _⟩ => ⟨S1x2304x256, .f32⟩
  | .local _ .vmem, ⟨3, _⟩ => ⟨S1x2304x256, .f32⟩
  | .local _ .vmem, ⟨4, _⟩ => ⟨S1x2304x256, .f32⟩
  | .local _ .vmem, ⟨5, _⟩ => ⟨S1x2304x256, .f32⟩
  | .local _ .vmem, ⟨6, _⟩ => ⟨S1x384, .f32⟩
  | .local _ .vmem, ⟨7, _⟩ => ⟨S1x256, .f32⟩
  | .local _ .vmem, ⟨8, _⟩ => ⟨S1x384x256, .bf16⟩
  | .local _ .vmem, ⟨9, _⟩ => ⟨S1x384x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x128, .bf16⟩
  | .local _ .vmem, ⟨13, _⟩ => ⟨S1x256x128, .bf16⟩
  | .local _ .vmem, ⟨14, _⟩ => ⟨S2304x128, .f32⟩
  | .local _ .vmem, ⟨15, _⟩ => ⟨S2304x128, .f32⟩
  | .local _ .vmem, ⟨16, _⟩ => ⟨S2304x128, .f32⟩
  | .local _ .vmem, ⟨17, _⟩ => ⟨S1x2304x128, .bf16⟩
  | .local _ .vmem, ⟨18, _⟩ => ⟨S1x2304x128, .bf16⟩
  | .local _ .vmem, ⟨19, _⟩ => ⟨S2x2304x128, .bf16⟩
  | .local _ .vmem, ⟨20, _⟩ => ⟨S2x2304x128, .bf16⟩
  | .local _ .vmem, ⟨21, _⟩ => ⟨S2304x128, .bf16⟩
  | _, _ => ⟨S8x256x2592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_c_5 : Ref sig .tc := ⟨.hbm, 14, rfl⟩
abbrev main_c_6 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_c_7 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_8 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_9 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_10 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_11 : Ref sig .tc := ⟨.hbm, 48, rfl⟩
abbrev main_v27 : Ref sig .tc := ⟨.hbm, 49, rfl⟩
abbrev main_v28 : Ref sig .tc := ⟨.hbm, 50, rfl⟩
abbrev main_cst_12 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_cst_14 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_15 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_16 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_17 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c9_i32 : BitVec 32 := 9#32
  let c0_i32_0 : BitVec 32 := 0#32
  ![arg0.toNat, c0_i32.toNat, c9_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c10_i32 : BitVec 32 := 10#32
  let c0_i32_0 : BitVec 32 := 0#32
  ![arg0.toNat, c0_i32.toNat, c10_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2304x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x384x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S2304x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2304x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2304x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2304x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x256x2592 : Shape := ⟨3, ![8, 256, 2592]⟩
abbrev S8x2048x2592 : Shape := ⟨3, ![8, 2048, 2592]⟩
abbrev S2048x16 : Shape := ⟨2, ![2048, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S8x2048x1920 : Shape := ⟨3, ![8, 2048, 1920]⟩
abbrev S8x2048x384 : Shape := ⟨3, ![8, 2048, 384]⟩
abbrev S8x2048x256 : Shape := ⟨3, ![8, 2048, 256]⟩
abbrev S8x2048x32 : Shape := ⟨3, ![8, 2048, 32]⟩
abbrev S8x256x1920 : Shape := ⟨3, ![8, 256, 1920]⟩
abbrev S8x256x384 : Shape := ⟨3, ![8, 256, 384]⟩
abbrev S8x256x256 : Shape := ⟨3, ![8, 256, 256]⟩
abbrev S8x256x32 : Shape := ⟨3, ![8, 256, 32]⟩
abbrev S_ : Shape := ⟨0, ![]⟩
abbrev S8x2048 : Shape := ⟨2, ![8, 2048]⟩
abbrev S8x2048x1 : Shape := ⟨3, ![8, 2048, 1]⟩
abbrev S1x1x384 : Shape := ⟨3, ![1, 1, 384]⟩
abbrev S8x2048x768 : Shape := ⟨3, ![8, 2048, 768]⟩
abbrev S8x2048x8x96 : Shape := ⟨4, ![8, 2048, 8, 96]⟩
abbrev S1x1x256 : Shape := ⟨3, ![1, 1, 256]⟩
abbrev S8x2048x1024 : Shape := ⟨3, ![8, 2048, 1024]⟩
abbrev S8x2048x8x128 : Shape := ⟨4, ![8, 2048, 8, 128]⟩
abbrev S8x2048x8x64 : Shape := ⟨4, ![8, 2048, 8, 64]⟩
abbrev S8x2048x8x32 : Shape := ⟨4, ![8, 2048, 8, 32]⟩
abbrev S2048x1x16 : Shape := ⟨3, ![2048, 1, 16]⟩
abbrev S8x2048x8x16x2 : Shape := ⟨5, ![8, 2048, 8, 16, 2]⟩
abbrev S8x2048x8x16x1 : Shape := ⟨5, ![8, 2048, 8, 16, 1]⟩
abbrev S8x2048x8x16 : Shape := ⟨4, ![8, 2048, 8, 16]⟩
abbrev S1x2048x1x16 : Shape := ⟨4, ![1, 2048, 1, 16]⟩
abbrev S8x2048x16x2 : Shape := ⟨4, ![8, 2048, 16, 2]⟩
abbrev S8x2048x16x1 : Shape := ⟨4, ![8, 2048, 16, 1]⟩
abbrev S8x2048x16 : Shape := ⟨3, ![8, 2048, 16]⟩
abbrev S1x2048x16 : Shape := ⟨3, ![1, 2048, 16]⟩
abbrev S8x2048x1x32 : Shape := ⟨4, ![8, 2048, 1, 32]⟩
abbrev S8x256 : Shape := ⟨2, ![8, 256]⟩
abbrev S8x256x1 : Shape := ⟨3, ![8, 256, 1]⟩
abbrev S8x256x768 : Shape := ⟨3, ![8, 256, 768]⟩
abbrev S8x256x8x96 : Shape := ⟨4, ![8, 256, 8, 96]⟩
abbrev S8x256x1024 : Shape := ⟨3, ![8, 256, 1024]⟩
abbrev S8x256x8x128 : Shape := ⟨4, ![8, 256, 8, 128]⟩
abbrev S8x256x8x64 : Shape := ⟨4, ![8, 256, 8, 64]⟩
abbrev S8x256x8x32 : Shape := ⟨4, ![8, 256, 8, 32]⟩
abbrev S8x256x1x32 : Shape := ⟨4, ![8, 256, 1, 32]⟩
abbrev S8x2304x8x96 : Shape := ⟨4, ![8, 2304, 8, 96]⟩
abbrev S8x2304x8x64 : Shape := ⟨4, ![8, 2304, 8, 64]⟩
abbrev S8x8x2048x2304 : Shape := ⟨4, ![8, 8, 2048, 2304]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x8x256x256 : Shape := ⟨4, ![8, 8, 256, 256]⟩
abbrev S8x8x256 : Shape := ⟨3, ![8, 8, 256]⟩
abbrev S8x8x256x1 : Shape := ⟨4, ![8, 8, 256, 1]⟩
abbrev S8x8x64x256 : Shape := ⟨4, ![8, 8, 64, 256]⟩
abbrev S8x256x512 : Shape := ⟨3, ![8, 256, 512]⟩
abbrev S8x2048x512 : Shape := ⟨3, ![8, 2048, 512]⟩
abbrev S8x2304x512 : Shape := ⟨3, ![8, 2304, 512]⟩

abbrev nBuf : Space → Nat
  | .hbm => 198
  | .vmem => 0
  | .smem => 0
  | _ => 0

abbrev hbmTy0_0 (i : Nat) : BufTy := match i % 128 with
  | 0 => ⟨S8x256x2592, .f32⟩
  | 1 => ⟨S8x2048x2592, .f32⟩
  | 2 => ⟨S2048x16, .f32⟩
  | 3 => ⟨S2048x16, .f32⟩
  | 4 => ⟨S384, .f32⟩
  | 5 => ⟨S384x768, .f32⟩
  | 6 => ⟨S256, .f32⟩
  | 7 => ⟨S256x1024, .f32⟩
  | 8 => ⟨S8x2048x1920, .f32⟩
  | 9 => ⟨S8x2048x384, .f32⟩
  | 10 => ⟨S8x2048x256, .f32⟩
  | 11 => ⟨S8x2048x32, .f32⟩
  | 12 => ⟨S8x256x1920, .f32⟩
  | 13 => ⟨S8x256x384, .f32⟩
  | 14 => ⟨S8x256x256, .f32⟩
  | 15 => ⟨S8x256x32, .f32⟩
  | 16 => ⟨S8x2048x384, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x384, .f32⟩
  | 28 => ⟨S8x2048x384, .f32⟩
  | 29 => ⟨S1x1x384, .f32⟩
  | 30 => ⟨S8x2048x384, .f32⟩
  | 31 => ⟨S8x2048x384, .f32⟩
  | 32 => ⟨S8x2048x768, .f32⟩
  | 33 => ⟨S8x2048x8x96, .f32⟩
  | 34 => ⟨S8x2048x256, .f32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S_, .f32⟩
  | 42 => ⟨S8x2048x1, .f32⟩
  | 43 => ⟨S8x2048x1, .f32⟩
  | 44 => ⟨S8x2048x1, .f32⟩
  | 45 => ⟨S8x2048x256, .f32⟩
  | 46 => ⟨S8x2048x256, .f32⟩
  | 47 => ⟨S1x1x256, .f32⟩
  | 48 => ⟨S8x2048x256, .f32⟩
  | 49 => ⟨S8x2048x256, .f32⟩
  | 50 => ⟨S8x2048x1024, .f32⟩
  | 51 => ⟨S8x2048x8x128, .f32⟩
  | 52 => ⟨S8x2048x8x64, .f32⟩
  | 53 => ⟨S8x2048x8x32, .f32⟩
  | 54 => ⟨S8x2048x8x64, .f32⟩
  | 55 => ⟨S8x2048x8x64, .f32⟩
  | 56 => ⟨S2048x1x16, .f32⟩
  | 57 => ⟨S2048x1x16, .f32⟩
  | 58 => ⟨S8x2048x8x16x2, .f32⟩
  | 59 => ⟨S8x2048x8x16x1, .f32⟩
  | 60 => ⟨S8x2048x8x16, .f32⟩
  | 61 => ⟨S8x2048x8x16x1, .f32⟩
  | 62 => ⟨S8x2048x8x16, .f32⟩
  | 63 => ⟨S1x2048x1x16, .f32⟩
  | 64 => ⟨S8x2048x8x16, .f32⟩
  | 65 => ⟨S8x2048x8x16, .f32⟩
  | 66 => ⟨S1x2048x1x16, .f32⟩
  | 67 => ⟨S8x2048x8x16, .f32⟩
  | 68 => ⟨S8x2048x8x16, .f32⟩
  | 69 => ⟨S8x2048x8x16, .f32⟩
  | 70 => ⟨S1x2048x1x16, .f32⟩
  | 71 => ⟨S8x2048x8x16, .f32⟩
  | 72 => ⟨S8x2048x8x16, .f32⟩
  | 73 => ⟨S1x2048x1x16, .f32⟩
  | 74 => ⟨S8x2048x8x16, .f32⟩
  | 75 => ⟨S8x2048x8x16, .f32⟩
  | 76 => ⟨S8x2048x8x16, .f32⟩
  | 77 => ⟨S8x2048x8x16x1, .f32⟩
  | 78 => ⟨S8x2048x8x16x1, .f32⟩
  | 79 => ⟨S8x2048x8x16x2, .f32⟩
  | 80 => ⟨S8x2048x8x32, .f32⟩
  | 81 => ⟨S8x2048x16x2, .f32⟩
  | 82 => ⟨S8x2048x16x1, .f32⟩
  | 83 => ⟨S8x2048x16, .f32⟩
  | 84 => ⟨S8x2048x16x1, .f32⟩
  | 85 => ⟨S8x2048x16, .f32⟩
  | 86 => ⟨S1x2048x16, .f32⟩
  | 87 => ⟨S8x2048x16, .f32⟩
  | 88 => ⟨S8x2048x16, .f32⟩
  | 89 => ⟨S1x2048x16, .f32⟩
  | 90 => ⟨S8x2048x16, .f32⟩
  | 91 => ⟨S8x2048x16, .f32⟩
  | 92 => ⟨S8x2048x16, .f32⟩
  | 93 => ⟨S1x2048x16, .f32⟩
  | 94 => ⟨S8x2048x16, .f32⟩
  | 95 => ⟨S8x2048x16, .f32⟩
  | 96 => ⟨S1x2048x16, .f32⟩
  | 97 => ⟨S8x2048x16, .f32⟩
  | 98 => ⟨S8x2048x16, .f32⟩
  | 99 => ⟨S8x2048x16, .f32⟩
  | 100 => ⟨S8x2048x16x1, .f32⟩
  | 101 => ⟨S8x2048x16x1, .f32⟩
  | 102 => ⟨S8x2048x16x2, .f32⟩
  | 103 => ⟨S8x2048x32, .f32⟩
  | 104 => ⟨S8x2048x1x32, .f32⟩
  | 105 => ⟨S8x2048x8x32, .f32⟩
  | 106 => ⟨S8x2048x8x96, .f32⟩
  | 107 => ⟨S8x2048x8x96, .f32⟩
  | 108 => ⟨S8x256x384, .f32⟩
  | 109 => ⟨S_, .f32⟩
  | 110 => ⟨S8x256, .f32⟩
  | 111 => ⟨S8x256x1, .f32⟩
  | 112 => ⟨S_, .f32⟩
  | 113 => ⟨S8x256x1, .f32⟩
  | 114 => ⟨S8x256x1, .f32⟩
  | 115 => ⟨S_, .f32⟩
  | 116 => ⟨S8x256x1, .f32⟩
  | 117 => ⟨S8x256x1, .f32⟩
  | 118 => ⟨S8x256x1, .f32⟩
  | 119 => ⟨S8x256x384, .f32⟩
  | 120 => ⟨S8x256x384, .f32⟩
  | 121 => ⟨S1x1x384, .f32⟩
  | 122 => ⟨S8x256x384, .f32⟩
  | 123 => ⟨S8x256x384, .f32⟩
  | 124 => ⟨S8x256x768, .f32⟩
  | 125 => ⟨S8x256x8x96, .f32⟩
  | 126 => ⟨S8x256x256, .f32⟩
  | 127 => ⟨S_, .f32⟩
  | _ => ⟨S8x256x2592, .f32⟩

abbrev hbmTy0_1 (i : Nat) : BufTy := match i % 128 with
  | 0 => ⟨S8x256, .f32⟩
  | 1 => ⟨S8x256x1, .f32⟩
  | 2 => ⟨S_, .f32⟩
  | 3 => ⟨S8x256x1, .f32⟩
  | 4 => ⟨S8x256x1, .f32⟩
  | 5 => ⟨S_, .f32⟩
  | 6 => ⟨S8x256x1, .f32⟩
  | 7 => ⟨S8x256x1, .f32⟩
  | 8 => ⟨S8x256x1, .f32⟩
  | 9 => ⟨S8x256x256, .f32⟩
  | 10 => ⟨S8x256x256, .f32⟩
  | 11 => ⟨S1x1x256, .f32⟩
  | 12 => ⟨S8x256x256, .f32⟩
  | 13 => ⟨S8x256x256, .f32⟩
  | 14 => ⟨S8x256x1024, .f32⟩
  | 15 => ⟨S8x256x8x128, .f32⟩
  | 16 => ⟨S8x256x8x64, .f32⟩
  | 17 => ⟨S8x256x8x32, .f32⟩
  | 18 => ⟨S8x256x8x64, .f32⟩
  | 19 => ⟨S8x256x8x64, .f32⟩
  | 20 => ⟨S8x256x1x32, .f32⟩
  | 21 => ⟨S8x256x8x32, .f32⟩
  | 22 => ⟨S8x256x8x96, .f32⟩
  | 23 => ⟨S8x256x8x96, .f32⟩
  | 24 => ⟨S8x2304x8x96, .f32⟩
  | 25 => ⟨S8x2304x8x64, .f32⟩
  | 26 => ⟨S8x8x2048x2304, .f32⟩
  | 27 => ⟨S_, .f32⟩
  | 28 => ⟨S8x8x2048x2304, .f32⟩
  | 29 => ⟨S8x8x2048x2304, .f32⟩
  | 30 => ⟨S_, .f32⟩
  | 31 => ⟨S8x8x2048, .f32⟩
  | 32 => ⟨S_, .f32⟩
  | 33 => ⟨S8x8x2048, .f32⟩
  | 34 => ⟨S8x8x2048, .f32⟩
  | 35 => ⟨S8x8x2048x1, .f32⟩
  | 36 => ⟨S8x8x2048x2304, .f32⟩
  | 37 => ⟨S8x8x2048x2304, .f32⟩
  | 38 => ⟨S8x8x2048x2304, .f32⟩
  | 39 => ⟨S_, .f32⟩
  | 40 => ⟨S8x8x2048, .f32⟩
  | 41 => ⟨S8x8x2048x1, .f32⟩
  | 42 => ⟨S8x8x2048x2304, .f32⟩
  | 43 => ⟨S8x8x2048x2304, .f32⟩
  | 44 => ⟨S8x8x64x2048, .f32⟩
  | 45 => ⟨S8x2048x8x64, .f32⟩
  | 46 => ⟨S8x8x256x256, .f32⟩
  | 47 => ⟨S_, .f32⟩
  | 48 => ⟨S8x8x256x256, .f32⟩
  | 49 => ⟨S8x8x256x256, .f32⟩
  | 50 => ⟨S_, .f32⟩
  | 51 => ⟨S8x8x256, .f32⟩
  | 52 => ⟨S_, .f32⟩
  | 53 => ⟨S8x8x256, .f32⟩
  | 54 => ⟨S8x8x256, .f32⟩
  | 55 => ⟨S8x8x256x1, .f32⟩
  | 56 => ⟨S8x8x256x256, .f32⟩
  | 57 => ⟨S8x8x256x256, .f32⟩
  | 58 => ⟨S8x8x256x256, .f32⟩
  | 59 => ⟨S_, .f32⟩
  | 60 => ⟨S8x8x256, .f32⟩
  | 61 => ⟨S8x8x256x1, .f32⟩
  | 62 => ⟨S8x8x256x256, .f32⟩
  | 63 => ⟨S8x8x256x256, .f32⟩
  | 64 => ⟨S8x8x64x256, .f32⟩
  | 65 => ⟨S8x256x8x64, .f32⟩
  | 66 => ⟨S8x256x512, .f32⟩
  | 67 => ⟨S8x2048x512, .f32⟩
  | 68 => ⟨S8x2304x512, .f32⟩
  | 69 => ⟨S8x2304x512, .bf16⟩
  | _ => ⟨S8x256x2592, .f32⟩

abbrev hbmTy (i : Nat) : BufTy := match i / 128 with
  | 0 => hbmTy0_0 i
  | 1 => hbmTy0_1 i
  | _ => ⟨S8x256x2592, .f32⟩

abbrev bufTy : (tb : Table) → Fin (tcTables nBuf tb) → BufTy
  | .hbm, ⟨i, _⟩ => hbmTy i
  | _, _ => ⟨S8x256x2592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_5 : Ref sig .tc := ⟨.hbm, 109, rfl⟩
abbrev main_v95 : Ref sig .tc := ⟨.hbm, 110, rfl⟩
abbrev main_v96 : Ref sig .tc := ⟨.hbm, 111, rfl⟩
abbrev main_cst_6 : Ref sig .tc := ⟨.hbm, 112, rfl⟩
abbrev main_v97 : Ref sig .tc := ⟨.hbm, 113, rfl⟩
abbrev main_v98 : Ref sig .tc := ⟨.hbm, 114, rfl⟩
abbrev main_cst_7 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_cst_8 : Ref sig .tc := ⟨.hbm, 127, rfl⟩
abbrev main_v110 : Ref sig .tc := ⟨.hbm, 128, rfl⟩
abbrev main_v111 : Ref sig .tc := ⟨.hbm, 129, rfl⟩
abbrev main_cst_9 : Ref sig .tc := ⟨.hbm, 130, rfl⟩
abbrev main_v112 : Ref sig .tc := ⟨.hbm, 131, rfl⟩
abbrev main_v113 : Ref sig .tc := ⟨.hbm, 132, rfl⟩
abbrev main_cst_10 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_cst_11 : Ref sig .tc := ⟨.hbm, 155, rfl⟩
abbrev main_v135 : Ref sig .tc := ⟨.hbm, 156, rfl⟩
abbrev main_v136 : Ref sig .tc := ⟨.hbm, 157, rfl⟩
abbrev main_cst_12 : Ref sig .tc := ⟨.hbm, 158, rfl⟩
abbrev main_v137 : Ref sig .tc := ⟨.hbm, 159, rfl⟩
abbrev main_cst_13 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_14 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_cst_15 : Ref sig .tc := ⟨.hbm, 175, rfl⟩
abbrev main_v151 : Ref sig .tc := ⟨.hbm, 176, rfl⟩
abbrev main_v152 : Ref sig .tc := ⟨.hbm, 177, rfl⟩
abbrev main_cst_16 : Ref sig .tc := ⟨.hbm, 178, rfl⟩
abbrev main_v153 : Ref sig .tc := ⟨.hbm, 179, rfl⟩
abbrev main_cst_17 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_cst_18 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩

abbrev nD : Nat := 1
abbrev τ : Topo := Topo.v7x

variable {F : FTy → Type} [FloatOps F]
-- ==== Ffn.lean ====
abbrev S16x2304x1024 : Shape := ⟨3, ![16, 2304, 1024]⟩
abbrev S4x16x1024x2048 : Shape := ⟨4, ![4, 16, 1024, 2048]⟩
abbrev S4x16x2048x1024 : Shape := ⟨4, ![4, 16, 2048, 1024]⟩
abbrev S1x2304x1024 : Shape := ⟨3, ![1, 2304, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S1x768x1024 : Shape := ⟨3, ![1, 768, 1024]⟩
abbrev S768x1024 : Shape := ⟨2, ![768, 1024]⟩
abbrev S768x512 : Shape := ⟨2, ![768, 512]⟩

abbrev nBuf : Space → Nat
  | .hbm => 5
  | .vmem => 10
  | .smem => 0
  | _ => 0

abbrev bufTy : (tb : Table) → Fin (tcTables nBuf tb) → BufTy
  | .hbm, ⟨0, _⟩ => ⟨S16x2304x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S16x2304x1024, .f32⟩
  | .local _ .vmem, ⟨0, _⟩ => ⟨S1x2304x1024, .bf16⟩
  | .local _ .vmem, ⟨1, _⟩ => ⟨S1x2304x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x2304x1024, .f32⟩
  | .local _ .vmem, ⟨9, _⟩ => ⟨S1x2304x1024, .f32⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 : BitVec 32 :=
  let c0_i32_12 : BitVec 32 := 0#32
  let c768_i32 : BitVec 32 := 768#32
  let v12 : BitVec 32 := Scalar.muli c0_i32_12 c768_i32
  v12
def k0_off1 (c0_i32_12 : BitVec 32) : Fin 3 → Nat :=
  let c0_13 : Index := 0#32
  let c768_i32 : BitVec 32 := 768#32
  let v12 : BitVec 32 := Scalar.muli c0_i32_12 c768_i32
  let v13 : BitVec 32 := v12
  let v14 : Index := Scalar.indexCast v13
  let c0_14 : Index := 0#32
  ![0, v14.toNat, 0]
def k0_mult2 : BitVec 32 :=
  let c1_i32 : BitVec 32 := 1#32
  let c768_i32_21 : BitVec 32 := 768#32
  let v32 : BitVec 32 := Scalar.muli c1_i32 c768_i32_21
  v32
def k0_mult3 : BitVec 32 :=
  let c2_i32 : BitVec 32 := 2#32
  let c768_i32_31 : BitVec 32 := 768#32
  let v52 : BitVec 32 := Scalar.muli c2_i32 c768_i32_31
  v52
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S16x2304x1024 : Shape := ⟨3, ![16, 2304, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x1024 : Shape := ⟨3, ![16, 2048, 1024]⟩
abbrev S16x2304x2048 : Shape := ⟨3, ![16, 2304, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x2304x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S1x16x1024x2048, .f32⟩
  | .hbm, ⟨5, _⟩ => ⟨S16x1024x2048, .f32⟩
  | .hbm, ⟨6, _⟩ => ⟨S1x16x1024x2048, .f32⟩
  | .hbm, ⟨7, _⟩ => ⟨S16x1024x2048, .f32⟩
  | .hbm, ⟨8, _⟩ => ⟨S1x16x2048x1024, .f32⟩
  | .hbm, ⟨9, _⟩ => ⟨S16x2048x1024, .f32⟩
  | .hbm, ⟨10, _⟩ => ⟨S16x2304x1024, .f32⟩
  | .hbm, ⟨11, _⟩ => ⟨S16x2304x2048, .f32⟩
  | .hbm, ⟨12, _⟩ => ⟨S16x2304x2048, .f32⟩
  | .hbm, ⟨13, _⟩ => ⟨S16x2304x2048, .f32⟩
  | .hbm, ⟨14, _⟩ => ⟨S_, .f32⟩
  | .hbm, ⟨15, _⟩ => ⟨S16x2304x2048, .f32⟩
  | .hbm, ⟨16, _⟩ => ⟨S16x2304x2048, .f32⟩
  | .hbm, ⟨17, _⟩ => ⟨S_, .f32⟩
  | .hbm, ⟨18, _⟩ => ⟨S16x2304x2048, .f32⟩
  | .hbm, ⟨19, _⟩ => ⟨S16x2304x2048, .f32⟩
  | .hbm, ⟨20, _⟩ => ⟨S16x2304x2048, .f32⟩
  | .hbm, ⟨21, _⟩ => ⟨S16x2304x2048, .f32⟩
  | .hbm, ⟨22, _⟩ => ⟨S16x2304x2048, .f32⟩
  | .hbm, ⟨23, _⟩ => ⟨S16x2304x1024, .f32⟩
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Ffn1.lean ====
abbrev S16x2304x1024 : Shape := ⟨3, ![16, 2304, 1024]⟩
abbrev S4x16x1024x2048 : Shape := ⟨4, ![4, 16, 1024, 2048]⟩
abbrev S4x16x2048x1024 : Shape := ⟨4, ![4, 16, 2048, 1024]⟩
abbrev S1x2304x1024 : Shape := ⟨3, ![1, 2304, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S1x768x1024 : Shape := ⟨3, ![1, 768, 1024]⟩
abbrev S768x1024 : Shape := ⟨2, ![768, 1024]⟩
abbrev S768x512 : Shape := ⟨2, ![768, 512]⟩

abbrev nBuf : Space → Nat
  | .hbm => 5
  | .vmem => 10
  | .smem => 0
  | _ => 0

abbrev bufTy : (tb : Table) → Fin (tcTables nBuf tb) → BufTy
  | .hbm, ⟨0, _⟩ => ⟨S16x2304x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S16x2304x1024, .f32⟩
  | .local _ .vmem, ⟨0, _⟩ => ⟨S1x2304x1024, .bf16⟩
  | .local _ .vmem, ⟨1, _⟩ => ⟨S1x2304x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x2304x1024, .f32⟩
  | .local _ .vmem, ⟨9, _⟩ => ⟨S1x2304x1024, .f32⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 : BitVec 32 :=
  let c0_i32_12 : BitVec 32 := 0#32
  let c768_i32 : BitVec 32 := 768#32
  let v12 : BitVec 32 := Scalar.muli c0_i32_12 c768_i32
  v12
def k0_off1 (c0_i32_12 : BitVec 32) : Fin 3 → Nat :=
  let c0_13 : Index := 0#32
  let c768_i32 : BitVec 32 := 768#32
  let v12 : BitVec 32 := Scalar.muli c0_i32_12 c768_i32
  let v13 : BitVec 32 := v12
  let v14 : Index := Scalar.indexCast v13
  let c0_14 : Index := 0#32
  ![0, v14.toNat, 0]
def k0_mult2 : BitVec 32 :=
  let c1_i32 : BitVec 32 := 1#32
  let c768_i32_21 : BitVec 32 := 768#32
  let v32 : BitVec 32 := Scalar.muli c1_i32 c768_i32_21
  v32
def k0_mult3 : BitVec 32 :=
  let c2_i32 : BitVec 32 := 2#32
  let c768_i32_31 : BitVec 32 := 768#32
  let v52 : BitVec 32 := Scalar.muli c2_i32 c768_i32_31
  v52
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRef1Ideal.lean ====
abbrev S16x2304x1024 : Shape := ⟨3, ![16, 2304, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x1024 : Shape := ⟨3, ![16, 2048, 1024]⟩
abbrev S16x2304x2048 : Shape := ⟨3, ![16, 2304, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x2304x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S1x16x1024x2048, .f32⟩
  | .hbm, ⟨5, _⟩ => ⟨S16x1024x2048, .f32⟩
  | .hbm, ⟨6, _⟩ => ⟨S1x16x1024x2048, .f32⟩
  | .hbm, ⟨7, _⟩ => ⟨S16x1024x2048, .f32⟩
  | .hbm, ⟨8, _⟩ => ⟨S1x16x2048x1024, .f32⟩
  | .hbm, ⟨9, _⟩ => ⟨S16x2048x1024, .f32⟩
  | .hbm, ⟨10, _⟩ => ⟨S16x2304x1024, .f32⟩
  | .hbm, ⟨11, _⟩ => ⟨S16x2304x2048, .f32⟩
  | .hbm, ⟨12, _⟩ => ⟨S16x2304x2048, .f32⟩
  | .hbm, ⟨13, _⟩ => ⟨S16x2304x2048, .f32⟩
  | .hbm, ⟨14, _⟩ => ⟨S_, .f32⟩
  | .hbm, ⟨15, _⟩ => ⟨S16x2304x2048, .f32⟩
  | .hbm, ⟨16, _⟩ => ⟨S16x2304x2048, .f32⟩
  | .hbm, ⟨17, _⟩ => ⟨S_, .f32⟩
  | .hbm, ⟨18, _⟩ => ⟨S16x2304x2048, .f32⟩
  | .hbm, ⟨19, _⟩ => ⟨S16x2304x2048, .f32⟩
  | .hbm, ⟨20, _⟩ => ⟨S16x2304x2048, .f32⟩
  | .hbm, ⟨21, _⟩ => ⟨S16x2304x2048, .f32⟩
  | .hbm, ⟨22, _⟩ => ⟨S16x2304x2048, .f32⟩
  | .hbm, ⟨23, _⟩ => ⟨S16x2304x1024, .f32⟩
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Ffn2.lean ====
abbrev S16x2304x1024 : Shape := ⟨3, ![16, 2304, 1024]⟩
abbrev S4x16x1024x2048 : Shape := ⟨4, ![4, 16, 1024, 2048]⟩
abbrev S4x16x2048x1024 : Shape := ⟨4, ![4, 16, 2048, 1024]⟩
abbrev S1x2304x1024 : Shape := ⟨3, ![1, 2304, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S1x768x1024 : Shape := ⟨3, ![1, 768, 1024]⟩
abbrev S768x1024 : Shape := ⟨2, ![768, 1024]⟩
abbrev S768x512 : Shape := ⟨2, ![768, 512]⟩

abbrev nBuf : Space → Nat
  | .hbm => 5
  | .vmem => 10
  | .smem => 0
  | _ => 0

abbrev bufTy : (tb : Table) → Fin (tcTables nBuf tb) → BufTy
  | .hbm, ⟨0, _⟩ => ⟨S16x2304x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S16x2304x1024, .f32⟩
  | .local _ .vmem, ⟨0, _⟩ => ⟨S1x2304x1024, .bf16⟩
  | .local _ .vmem, ⟨1, _⟩ => ⟨S1x2304x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x2304x1024, .f32⟩
  | .local _ .vmem, ⟨9, _⟩ => ⟨S1x2304x1024, .f32⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 : BitVec 32 :=
  let c0_i32_12 : BitVec 32 := 0#32
  let c768_i32 : BitVec 32 := 768#32
  let v12 : BitVec 32 := Scalar.muli c0_i32_12 c768_i32
  v12
def k0_off1 (c0_i32_12 : BitVec 32) : Fin 3 → Nat :=
  let c0_13 : Index := 0#32
  let c768_i32 : BitVec 32 := 768#32
  let v12 : BitVec 32 := Scalar.muli c0_i32_12 c768_i32
  let v13 : BitVec 32 := v12
  let v14 : Index := Scalar.indexCast v13
  let c0_14 : Index := 0#32
  ![0, v14.toNat, 0]
def k0_mult2 : BitVec 32 :=
  let c1_i32 : BitVec 32 := 1#32
  let c768_i32_21 : BitVec 32 := 768#32
  let v32 : BitVec 32 := Scalar.muli c1_i32 c768_i32_21
  v32
def k0_mult3 : BitVec 32 :=
  let c2_i32 : BitVec 32 := 2#32
  let c768_i32_31 : BitVec 32 := 768#32
  let v52 : BitVec 32 := Scalar.muli c2_i32 c768_i32_31
  v52
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRef2Ideal.lean ====
abbrev S16x2304x1024 : Shape := ⟨3, ![16, 2304, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x1024 : Shape := ⟨3, ![16, 2048, 1024]⟩
abbrev S16x2304x2048 : Shape := ⟨3, ![16, 2304, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x2304x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S1x16x1024x2048, .f32⟩
  | .hbm, ⟨5, _⟩ => ⟨S16x1024x2048, .f32⟩
  | .hbm, ⟨6, _⟩ => ⟨S1x16x1024x2048, .f32⟩
  | .hbm, ⟨7, _⟩ => ⟨S16x1024x2048, .f32⟩
  | .hbm, ⟨8, _⟩ => ⟨S1x16x2048x1024, .f32⟩
  | .hbm, ⟨9, _⟩ => ⟨S16x2048x1024, .f32⟩
  | .hbm, ⟨10, _⟩ => ⟨S16x2304x1024, .f32⟩
  | .hbm, ⟨11, _⟩ => ⟨S16x2304x2048, .f32⟩
  | .hbm, ⟨12, _⟩ => ⟨S16x2304x2048, .f32⟩
  | .hbm, ⟨13, _⟩ => ⟨S16x2304x2048, .f32⟩
  | .hbm, ⟨14, _⟩ => ⟨S_, .f32⟩
  | .hbm, ⟨15, _⟩ => ⟨S16x2304x2048, .f32⟩
  | .hbm, ⟨16, _⟩ => ⟨S16x2304x2048, .f32⟩
  | .hbm, ⟨17, _⟩ => ⟨S_, .f32⟩
  | .hbm, ⟨18, _⟩ => ⟨S16x2304x2048, .f32⟩
  | .hbm, ⟨19, _⟩ => ⟨S16x2304x2048, .f32⟩
  | .hbm, ⟨20, _⟩ => ⟨S16x2304x2048, .f32⟩
  | .hbm, ⟨21, _⟩ => ⟨S16x2304x2048, .f32⟩
  | .hbm, ⟨22, _⟩ => ⟨S16x2304x2048, .f32⟩
  | .hbm, ⟨23, _⟩ => ⟨S16x2304x1024, .f32⟩
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Ffn3.lean ====
abbrev S16x2048x1024 : Shape := ⟨3, ![16, 2048, 1024]⟩
abbrev S4x16x1024x2048 : Shape := ⟨4, ![4, 16, 1024, 2048]⟩
abbrev S4x16x2048x1024 : Shape := ⟨4, ![4, 16, 2048, 1024]⟩
abbrev S1x2048x1024 : Shape := ⟨3, ![1, 2048, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S1x512x1024 : Shape := ⟨3, ![1, 512, 1024]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S16x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x2048x1024, .f32⟩
  | .local _ .vmem, ⟨9, _⟩ => ⟨S1x2048x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 : BitVec 32 :=
  let c0_i32_12 : BitVec 32 := 0#32
  let c512_i32 : BitVec 32 := 512#32
  let v12 : BitVec 32 := Scalar.muli c0_i32_12 c512_i32
  v12
def k0_off1 (c0_i32_12 : BitVec 32) : Fin 3 → Nat :=
  let c0_13 : Index := 0#32
  let c512_i32 : BitVec 32 := 512#32
  let v12 : BitVec 32 := Scalar.muli c0_i32_12 c512_i32
  let v13 : BitVec 32 := v12
  let v14 : Index := Scalar.indexCast v13
  let c0_14 : Index := 0#32
  ![0, v14.toNat, 0]
def k0_mult2 : BitVec 32 :=
  let c1_i32 : BitVec 32 := 1#32
  let c512_i32_21 : BitVec 32 := 512#32
  let v32 : BitVec 32 := Scalar.muli c1_i32 c512_i32_21
  v32
def k0_mult3 : BitVec 32 :=
  let c2_i32 : BitVec 32 := 2#32
  let c512_i32_31 : BitVec 32 := 512#32
  let v52 : BitVec 32 := Scalar.muli c2_i32 c512_i32_31
  v52
def k0_mult4 : BitVec 32 :=
  let c3_i32 : BitVec 32 := 3#32
  let c512_i32_41 : BitVec 32 := 512#32
  let v72 : BitVec 32 := Scalar.muli c3_i32 c512_i32_41
  v72
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRef3Ideal.lean ====
abbrev S16x2048x1024 : Shape := ⟨3, ![16, 2048, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x2048 : Shape := ⟨3, ![16, 2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S1x16x1024x2048, .f32⟩
  | .hbm, ⟨5, _⟩ => ⟨S16x1024x2048, .f32⟩
  | .hbm, ⟨6, _⟩ => ⟨S1x16x1024x2048, .f32⟩
  | .hbm, ⟨7, _⟩ => ⟨S16x1024x2048, .f32⟩
  | .hbm, ⟨8, _⟩ => ⟨S1x16x2048x1024, .f32⟩
  | .hbm, ⟨9, _⟩ => ⟨S16x2048x1024, .f32⟩
  | .hbm, ⟨10, _⟩ => ⟨S16x2048x1024, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S16x2048x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proj.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x2592 : Shape := ⟨2, ![1024, 2592]⟩
abbrev S32 : Shape := ⟨1, ![32]⟩
abbrev S8x6x1024 : Shape := ⟨3, ![8, 6, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S8x2x2x1024 : Shape := ⟨4, ![8, 2, 2, 1024]⟩
abbrev S8x2304x1024 : Shape := ⟨3, ![8, 2304, 1024]⟩
abbrev S1024x32 : Shape := ⟨2, ![1024, 32]⟩
abbrev S_ : Shape := ⟨0, ![]⟩
abbrev S1024x64 : Shape := ⟨2, ![1024, 64]⟩
abbrev S32x1 : Shape := ⟨2, ![32, 1]⟩
abbrev S1024x128 : Shape := ⟨2, ![1024, 128]⟩
abbrev S1024x2560 : Shape := ⟨2, ![1024, 2560]⟩
abbrev S1024x2816 : Shape := ⟨2, ![1024, 2816]⟩
abbrev S1x1024 : Shape := ⟨2, ![1, 1024]⟩
abbrev S8x2304x2816 : Shape := ⟨3, ![8, 2304, 2816]⟩
abbrev S1x768x1024 : Shape := ⟨3, ![1, 768, 1024]⟩
abbrev S1x2x2x1024 : Shape := ⟨4, ![1, 2, 2, 1024]⟩
abbrev S1x768x2816 : Shape := ⟨3, ![1, 768, 2816]⟩
abbrev S768x1024 : Shape := ⟨2, ![768, 1024]⟩
abbrev S768x1 : Shape := ⟨2, ![768, 1]⟩
abbrev S1x1x1x1024 : Shape := ⟨4, ![1, 1, 1, 1024]⟩
abbrev S768 : Shape := ⟨1, ![768]⟩
abbrev S768x2816 : Shape := ⟨2, ![768, 2816]⟩

abbrev nBuf : Space → Nat
  | .hbm => 54
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x2592, .f32⟩
  | .hbm, ⟨6, _⟩ => ⟨S32, .i32⟩
  | .hbm, ⟨7, _⟩ => ⟨S32, .i1⟩
  | .hbm, ⟨8, _⟩ => ⟨S32, .i1⟩
  | .hbm, ⟨9, _⟩ => ⟨S32, .i32⟩
  | .hbm, ⟨10, _⟩ => ⟨S32, .i1⟩
  | .hbm, ⟨11, _⟩ => ⟨S32, .i1⟩
  | .hbm, ⟨12, _⟩ => ⟨S8x6x1024, .f32⟩
  | .hbm, ⟨13, _⟩ => ⟨S1x6x1024, .f32⟩
  | .hbm, ⟨14, _⟩ => ⟨S8x6x1024, .f32⟩
  | .hbm, ⟨15, _⟩ => ⟨S8x1x6x1024, .f32⟩
  | .hbm, ⟨16, _⟩ => ⟨S8x1x6x1024, .f32⟩
  | .hbm, ⟨17, _⟩ => ⟨S8x2x6x1024, .f32⟩
  | .hbm, ⟨18, _⟩ => ⟨S8x2x2x1024, .f32⟩
  | .hbm, ⟨19, _⟩ => ⟨S8x2304x1024, .f32⟩
  | .hbm, ⟨20, _⟩ => ⟨S1024x32, .f32⟩
  | .hbm, ⟨21, _⟩ => ⟨S_, .f32⟩
  | .hbm, ⟨22, _⟩ => ⟨S1024x64, .f32⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .i32⟩
  | .hbm, ⟨27, _⟩ => ⟨S32x1, .i32⟩
  | .hbm, ⟨28, _⟩ => ⟨S1024x32, .f32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S1024x32, .f32⟩
  | .hbm, ⟨35, _⟩ => ⟨S1024x128, .f32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S32x1, .i32⟩
  | .hbm, ⟨41, _⟩ => ⟨S1024x32, .f32⟩
  | .hbm, ⟨42, _⟩ => ⟨S_, .i32⟩
  | .hbm, ⟨43, _⟩ => ⟨S32, .i32⟩
  | .hbm, ⟨44, _⟩ => ⟨S32, .i32⟩
  | .hbm, ⟨45, _⟩ => ⟨S32, .i32⟩
  | .hbm, ⟨46, _⟩ => ⟨S32x1, .i32⟩
  | .hbm, ⟨47, _⟩ => ⟨S1024x32, .f32⟩
  | .hbm, ⟨48, _⟩ => ⟨S1024x128, .f32⟩
  | .hbm, ⟨49, _⟩ => ⟨S1024x2560, .f32⟩
  | .hbm, ⟨50, _⟩ => ⟨S1024x2816, .f32⟩
  | .hbm, ⟨51, _⟩ => ⟨S1024x2816, .bf16⟩
  | .hbm, ⟨52, _⟩ => ⟨S1x1024, .f32⟩
  | .hbm, ⟨53, _⟩ => ⟨S8x2304x2816, .f32⟩
  | .local _ .vmem, ⟨0, _⟩ => ⟨S1x768x1024, .f32⟩
  | .local _ .vmem, ⟨1, _⟩ => ⟨S1x768x1024, .f32⟩
  | .local _ .vmem, ⟨2, _⟩ => ⟨S1x1024, .f32⟩
  | .local _ .vmem, ⟨3, _⟩ => ⟨S1x2x2x1024, .f32⟩
  | .local _ .vmem, ⟨4, _⟩ => ⟨S1x2x2x1024, .f32⟩
  | .local _ .vmem, ⟨5, _⟩ => ⟨S1024x2816, .bf16⟩
  | .local _ .vmem, ⟨6, _⟩ => ⟨S1x768x2816, .f32⟩
  | .local _ .vmem, ⟨7, _⟩ => ⟨S1x768x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_c_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_6 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_7 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x2592 : Shape := ⟨2, ![1024, 2592]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S8x256x2592 : Shape := ⟨3, ![8, 256, 2592]⟩
abbrev S8x2048x2592 : Shape := ⟨3, ![8, 2048, 2592]⟩
abbrev S8x2304x2592 : Shape := ⟨3, ![8, 2304, 2592]⟩
abbrev S8x2304x16 : Shape := ⟨3, ![8, 2304, 16]⟩
abbrev S8x2304x64 : Shape := ⟨3, ![8, 2304, 64]⟩
abbrev S8x2304x2560 : Shape := ⟨3, ![8, 2304, 2560]⟩
abbrev S8x2304x2816 : Shape := ⟨3, ![8, 2304, 2816]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x2592, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x256x1024, .f32⟩
  | .hbm, ⟨43, _⟩ => ⟨S_, .f32⟩
  | .hbm, ⟨44, _⟩ => ⟨S8x256, .f32⟩
  | .hbm, ⟨45, _⟩ => ⟨S8x256x1, .f32⟩
  | .hbm, ⟨46, _⟩ => ⟨S_, .f32⟩
  | .hbm, ⟨47, _⟩ => ⟨S8x256x1, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S8x256x1, .f32⟩
  | .hbm, ⟨53, _⟩ => ⟨S8x256x1024, .f32⟩
  | .hbm, ⟨54, _⟩ => ⟨S8x256x1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S8x256x1024, .f32⟩
  | .hbm, ⟨63, _⟩ => ⟨S8x256x1024, .f32⟩
  | .hbm, ⟨64, _⟩ => ⟨S1x1x1024, .f32⟩
  | .hbm, ⟨65, _⟩ => ⟨S8x256x1024, .f32⟩
  | .hbm, ⟨66, _⟩ => ⟨S8x256x1024, .f32⟩
  | .hbm, ⟨67, _⟩ => ⟨S8x256x2592, .f32⟩
  | .hbm, ⟨68, _⟩ => ⟨S8x2048x2592, .f32⟩
  | .hbm, ⟨69, _⟩ => ⟨S8x2304x2592, .f32⟩
  | .hbm, ⟨70, _⟩ => ⟨S8x2304x16, .f32⟩
  | .hbm, ⟨71, _⟩ => ⟨S8x2304x16, .f32⟩
  | .hbm, ⟨72, _⟩ => ⟨S_, .f32⟩
  | .hbm, ⟨73, _⟩ => ⟨S8x2304x64, .f32⟩
  | .hbm, ⟨74, _⟩ => ⟨S8x2304x2560, .f32⟩
  | .hbm, ⟨75, _⟩ => ⟨S8x2304x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== Qkv.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x3072 : Shape := ⟨2, ![1024, 3072]⟩
abbrev S8x6x1024 : Shape := ⟨3, ![8, 6, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S8x2x2x1024 : Shape := ⟨4, ![8, 2, 2, 1024]⟩
abbrev S8x2304x1024 : Shape := ⟨3, ![8, 2304, 1024]⟩
abbrev S1x1024 : Shape := ⟨2, ![1, 1024]⟩
abbrev S8x2304x3072 : Shape := ⟨3, ![8, 2304, 3072]⟩
abbrev S1x768x1024 : Shape := ⟨3, ![1, 768, 1024]⟩
abbrev S1x2x2x1024 : Shape := ⟨4, ![1, 2, 2, 1024]⟩
abbrev S1x768x3072 : Shape := ⟨3, ![1, 768, 3072]⟩
abbrev S768x1024 : Shape := ⟨2, ![768, 1024]⟩
abbrev S768x1 : Shape := ⟨2, ![768, 1]⟩
abbrev S1x1x1x1024 : Shape := ⟨4, ![1, 1, 1, 1024]⟩
abbrev S768 : Shape := ⟨1, ![768]⟩
abbrev S768x3072 : Shape := ⟨2, ![768, 3072]⟩

abbrev nBuf : Space → Nat
  | .hbm => 17
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x3072, .f32⟩
  | .hbm, ⟨6, _⟩ => ⟨S8x6x1024, .f32⟩
  | .hbm, ⟨7, _⟩ => ⟨S1x6x1024, .f32⟩
  | .hbm, ⟨8, _⟩ => ⟨S8x6x1024, .f32⟩
  | .hbm, ⟨9, _⟩ => ⟨S8x1x6x1024, .f32⟩
  | .hbm, ⟨10, _⟩ => ⟨S8x1x6x1024, .f32⟩
  | .hbm, ⟨11, _⟩ => ⟨S8x2x6x1024, .f32⟩
  | .hbm, ⟨12, _⟩ => ⟨S8x2x2x1024, .f32⟩
  | .hbm, ⟨13, _⟩ => ⟨S8x2304x1024, .f32⟩
  | .hbm, ⟨14, _⟩ => ⟨S1024x3072, .bf16⟩
  | .hbm, ⟨15, _⟩ => ⟨S1x1024, .f32⟩
  | .hbm, ⟨16, _⟩ => ⟨S8x2304x3072, .bf16⟩
  | .local _ .vmem, ⟨0, _⟩ => ⟨S1x768x1024, .f32⟩
  | .local _ .vmem, ⟨1, _⟩ => ⟨S1x768x1024, .f32⟩
  | .local _ .vmem, ⟨2, _⟩ => ⟨S1x1024, .f32⟩
  | .local _ .vmem, ⟨3, _⟩ => ⟨S1x2x2x1024, .f32⟩
  | .local _ .vmem, ⟨4, _⟩ => ⟨S1x2x2x1024, .f32⟩
  | .local _ .vmem, ⟨5, _⟩ => ⟨S1024x3072, .bf16⟩
  | .local _ .vmem, ⟨6, _⟩ => ⟨S1x768x3072, .bf16⟩
  | .local _ .vmem, ⟨7, _⟩ => ⟨S1x768x3072, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x3072 : Shape := ⟨2, ![1024, 3072]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S8x256x3072 : Shape := ⟨3, ![8, 256, 3072]⟩
abbrev S8x2048x3072 : Shape := ⟨3, ![8, 2048, 3072]⟩
abbrev S8x2304x3072 : Shape := ⟨3, ![8, 2304, 3072]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x3072, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x256x1024, .f32⟩
  | .hbm, ⟨43, _⟩ => ⟨S_, .f32⟩
  | .hbm, ⟨44, _⟩ => ⟨S8x256, .f32⟩
  | .hbm, ⟨45, _⟩ => ⟨S8x256x1, .f32⟩
  | .hbm, ⟨46, _⟩ => ⟨S_, .f32⟩
  | .hbm, ⟨47, _⟩ => ⟨S8x256x1, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S8x256x1, .f32⟩
  | .hbm, ⟨53, _⟩ => ⟨S8x256x1024, .f32⟩
  | .hbm, ⟨54, _⟩ => ⟨S8x256x1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S8x256x1024, .f32⟩
  | .hbm, ⟨63, _⟩ => ⟨S8x256x1024, .f32⟩
  | .hbm, ⟨64, _⟩ => ⟨S1x1x1024, .f32⟩
  | .hbm, ⟨65, _⟩ => ⟨S8x256x1024, .f32⟩
  | .hbm, ⟨66, _⟩ => ⟨S8x256x1024, .f32⟩
  | .hbm, ⟨67, _⟩ => ⟨S8x256x3072, .f32⟩
  | .hbm, ⟨68, _⟩ => ⟨S8x2048x3072, .f32⟩
  | .hbm, ⟨69, _⟩ => ⟨S8x2304x3072, .f32⟩
  | .hbm, ⟨70, _⟩ => ⟨S8x2304x3072, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== OutAb.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S8x2304x512 : Shape := ⟨3, ![8, 2304, 512]⟩
abbrev S1024x1024 : Shape := ⟨2, ![1024, 1024]⟩
abbrev S8x6x1024 : Shape := ⟨3, ![8, 6, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S8x2x1x1024 : Shape := ⟨4, ![8, 2, 1, 1024]⟩
abbrev S8x2304x1024 : Shape := ⟨3, ![8, 2304, 1024]⟩
abbrev S1x768x512 : Shape := ⟨3, ![1, 768, 512]⟩
abbrev S1x768x1024 : Shape := ⟨3, ![1, 768, 1024]⟩
abbrev S1x2x1x1024 : Shape := ⟨4, ![1, 2, 1, 1024]⟩
abbrev S768x512 : Shape := ⟨2, ![768, 512]⟩
abbrev S512x1024 : Shape := ⟨2, ![512, 1024]⟩
abbrev S768x1024 : Shape := ⟨2, ![768, 1024]⟩
abbrev S768x1 : Shape := ⟨2, ![768, 1]⟩
abbrev S1x1x1x1024 : Shape := ⟨4, ![1, 1, 1, 1024]⟩
abbrev S1x1024 : Shape := ⟨2, ![1, 1024]⟩

abbrev nBuf : Space → Nat
  | .hbm => 17
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S8x2304x512, .bf16⟩
  | .hbm, ⟨5, _⟩ => ⟨S8x2304x512, .bf16⟩
  | .hbm, ⟨6, _⟩ => ⟨S1024x1024, .f32⟩
  | .hbm, ⟨7, _⟩ => ⟨S8x6x1024, .f32⟩
  | .hbm, ⟨8, _⟩ => ⟨S1x6x1024, .f32⟩
  | .hbm, ⟨9, _⟩ => ⟨S8x6x1024, .f32⟩
  | .hbm, ⟨10, _⟩ => ⟨S8x1x6x1024, .f32⟩
  | .hbm, ⟨11, _⟩ => ⟨S8x1x6x1024, .f32⟩
  | .hbm, ⟨12, _⟩ => ⟨S8x2x6x1024, .f32⟩
  | .hbm, ⟨13, _⟩ => ⟨S8x2x1x1024, .f32⟩
  | .hbm, ⟨14, _⟩ => ⟨S1024x1024, .bf16⟩
  | .hbm, ⟨15, _⟩ => ⟨S8x2304x1024, .f32⟩
  | .hbm, ⟨16, _⟩ => ⟨S8x2304x1024, .f32⟩
  | .local _ .vmem, ⟨0, _⟩ => ⟨S1x768x512, .bf16⟩
  | .local _ .vmem, ⟨1, _⟩ => ⟨S1x768x512, .bf16⟩
  | .local _ .vmem, ⟨2, _⟩ => ⟨S1x768x512, .bf16⟩
  | .local _ .vmem, ⟨3, _⟩ => ⟨S1x768x512, .bf16⟩
  | .local _ .vmem, ⟨4, _⟩ => ⟨S1024x1024, .bf16⟩
  | .local _ .vmem, ⟨5, _⟩ => ⟨S1x768x1024, .f32⟩
  | .local _ .vmem, ⟨6, _⟩ => ⟨S1x768x1024, .f32⟩
  | .local _ .vmem, ⟨7, _⟩ => ⟨S1x2x1x1024, .f32⟩
  | .local _ .vmem, ⟨8, _⟩ => ⟨S1x2x1x1024, .f32⟩
  | .local _ .vmem, ⟨9, _⟩ => ⟨S1x768x1024, .f32⟩
  | .local _ .vmem, ⟨10, _⟩ => ⟨S1x768x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutAbRefIdeal.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S8x2304x512 : Shape := ⟨3, ![8, 2304, 512]⟩
abbrev S1024x1024 : Shape := ⟨2, ![1024, 1024]⟩
abbrev S8x2304x1024 : Shape := ⟨3, ![8, 2304, 1024]⟩
abbrev S8x1x6144 : Shape := ⟨3, ![8, 1, 6144]⟩
abbrev S8x1x1024 : Shape := ⟨3, ![8, 1, 1024]⟩
abbrev S1024 : Shape := ⟨1, ![1024]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S8x2304x512, .bf16⟩
  | .hbm, ⟨5, _⟩ => ⟨S8x2304x512, .bf16⟩
  | .hbm, ⟨6, _⟩ => ⟨S1024x1024, .f32⟩
  | .hbm, ⟨7, _⟩ => ⟨S8x2304x1024, .bf16⟩
  | .hbm, ⟨8, _⟩ => ⟨S8x2304x1024, .f32⟩
  | .hbm, ⟨9, _⟩ => ⟨S8x1x6144, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S8x256x1024, .f32⟩
  | .hbm, ⟨23, _⟩ => ⟨S8x256x1024, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x256x1024, .f32⟩
  | .hbm, ⟨28, _⟩ => ⟨S8x256x1024, .f32⟩
  | .hbm, ⟨29, _⟩ => ⟨S8x256x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2304x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== OutNa.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S8x2304x1024 : Shape := ⟨3, ![8, 2304, 1024]⟩
abbrev S1024x1024 : Shape := ⟨2, ![1024, 1024]⟩
abbrev S8x6x1024 : Shape := ⟨3, ![8, 6, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S8x2x1x1024 : Shape := ⟨4, ![8, 2, 1, 1024]⟩
abbrev S1x768x1024 : Shape := ⟨3, ![1, 768, 1024]⟩
abbrev S1x2x1x1024 : Shape := ⟨4, ![1, 2, 1, 1024]⟩
abbrev S768x1024 : Shape := ⟨2, ![768, 1024]⟩
abbrev S768x1 : Shape := ⟨2, ![768, 1]⟩
abbrev S1x1x1x1024 : Shape := ⟨4, ![1, 1, 1, 1024]⟩
abbrev S1x1024 : Shape := ⟨2, ![1, 1024]⟩

abbrev nBuf : Space → Nat
  | .hbm => 16
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S8x2304x1024, .bf16⟩
  | .hbm, ⟨5, _⟩ => ⟨S1024x1024, .f32⟩
  | .hbm, ⟨6, _⟩ => ⟨S8x6x1024, .f32⟩
  | .hbm, ⟨7, _⟩ => ⟨S1x6x1024, .f32⟩
  | .hbm, ⟨8, _⟩ => ⟨S8x6x1024, .f32⟩
  | .hbm, ⟨9, _⟩ => ⟨S8x1x6x1024, .f32⟩
  | .hbm, ⟨10, _⟩ => ⟨S8x1x6x1024, .f32⟩
  | .hbm, ⟨11, _⟩ => ⟨S8x2x6x1024, .f32⟩
  | .hbm, ⟨12, _⟩ => ⟨S8x2x1x1024, .f32⟩
  | .hbm, ⟨13, _⟩ => ⟨S1024x1024, .bf16⟩
  | .hbm, ⟨14, _⟩ => ⟨S8x2304x1024, .f32⟩
  | .hbm, ⟨15, _⟩ => ⟨S8x2304x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1024x1024, .bf16⟩
  | .local _ .vmem, ⟨3, _⟩ => ⟨S1x768x1024, .f32⟩
  | .local _ .vmem, ⟨4, _⟩ => ⟨S1x768x1024, .f32⟩
  | .local _ .vmem, ⟨5, _⟩ => ⟨S1x2x1x1024, .f32⟩
  | .local _ .vmem, ⟨6, _⟩ => ⟨S1x2x1x1024, .f32⟩
  | .local _ .vmem, ⟨7, _⟩ => ⟨S1x768x1024, .f32⟩
  | .local _ .vmem, ⟨8, _⟩ => ⟨S1x768x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutNaRefIdeal.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S8x2304x1024 : Shape := ⟨3, ![8, 2304, 1024]⟩
abbrev S1024x1024 : Shape := ⟨2, ![1024, 1024]⟩
abbrev S8x1x6144 : Shape := ⟨3, ![8, 1, 6144]⟩
abbrev S8x1x1024 : Shape := ⟨3, ![8, 1, 1024]⟩
abbrev S1024 : Shape := ⟨1, ![1024]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S8x2304x1024, .bf16⟩
  | .hbm, ⟨5, _⟩ => ⟨S1024x1024, .f32⟩
  | .hbm, ⟨6, _⟩ => ⟨S8x2304x1024, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S8x256x1024, .f32⟩
  | .hbm, ⟨21, _⟩ => ⟨S8x256x1024, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2304x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Final.lean ====
abbrev S8x2048x1024 : Shape := ⟨3, ![8, 2048, 1024]⟩
abbrev S8x256x1024 : Shape := ⟨3, ![8, 256, 1024]⟩
abbrev S1024 : Shape := ⟨1, ![1024]⟩
abbrev S8x2304x1024 : Shape := ⟨3, ![8, 2304, 1024]⟩
abbrev S1x1024 : Shape := ⟨2, ![1, 1024]⟩
abbrev S4x256x1024 : Shape := ⟨3, ![4, 256, 1024]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x2304x1024, .f32⟩
  | .hbm, ⟨4, _⟩ => ⟨S1x1024, .f32⟩
  | .hbm, ⟨5, _⟩ => ⟨S8x2048x1024, .f32⟩
  | .local _ .vmem, ⟨0, _⟩ => ⟨S4x256x1024, .f32⟩
  | .local _ .vmem, ⟨1, _⟩ => ⟨S4x256x1024, .f32⟩
  | .local _ .vmem, ⟨2, _⟩ => ⟨S1x1024, .f32⟩
  | .local _ .vmem, ⟨3, _⟩ => ⟨S4x256x1024, .f32⟩
  | .local _ .vmem, ⟨4, _⟩ => ⟨S4x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalRefIdeal.lean ====
abbrev S8x2048x1024 : Shape := ⟨3, ![8, 2048, 1024]⟩
abbrev S8x256x1024 : Shape := ⟨3, ![8, 256, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1024, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Mods.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S4x1x6144, .f32⟩
  | .hbm, ⟨9, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩
abbrev S4x1x6144 : Shape := ⟨3, ![4, 1, 6144]⟩
abbrev S4x7x6144 : Shape := ⟨3, ![4, 7, 6144]⟩
abbrev S4x16x6144 : Shape := ⟨3, ![4, 16, 6144]⟩

abbrev nBuf : Space → Nat
  | .hbm => 92
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x6144, .f32⟩
  | .hbm, ⟨23, _⟩ => ⟨S1024x6144, .f32⟩
  | .hbm, ⟨24, _⟩ => ⟨S8x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S8x6144, .f32⟩
  | .hbm, ⟨29, _⟩ => ⟨S8x6144, .f32⟩
  | .hbm, ⟨30, _⟩ => ⟨S1x1024x6144, .f32⟩
  | .hbm, ⟨31, _⟩ => ⟨S1024x6144, .f32⟩
  | .hbm, ⟨32, _⟩ => ⟨S8x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S8x6144, .f32⟩
  | .hbm, ⟨37, _⟩ => ⟨S8x6144, .f32⟩
  | .hbm, ⟨38, _⟩ => ⟨S1x1024x6144, .f32⟩
  | .hbm, ⟨39, _⟩ => ⟨S1024x6144, .f32⟩
  | .hbm, ⟨40, _⟩ => ⟨S8x6144, .f32⟩
  | .hbm, ⟨41, _⟩ => ⟨S1x6144, .f32⟩
  | .hbm, ⟨42, _⟩ => ⟨S6144, .f32⟩
  | .hbm, ⟨43, _⟩ => ⟨S1x6144, .f32⟩
  | .hbm, ⟨44, _⟩ => ⟨S8x6144, .f32⟩
  | .hbm, ⟨45, _⟩ => ⟨S8x6144, .f32⟩
  | .hbm, ⟨46, _⟩ => ⟨S1x1024x6144, .f32⟩
  | .hbm, ⟨47, _⟩ => ⟨S1024x6144, .f32⟩
  | .hbm, ⟨48, _⟩ => ⟨S8x6144, .f32⟩
  | .hbm, ⟨49, _⟩ => ⟨S1x6144, .f32⟩
  | .hbm, ⟨50, _⟩ => ⟨S6144, .f32⟩
  | .hbm, ⟨51, _⟩ => ⟨S1x6144, .f32⟩
  | .hbm, ⟨52, _⟩ => ⟨S8x6144, .f32⟩
  | .hbm, ⟨53, _⟩ => ⟨S8x6144, .f32⟩
  | .hbm, ⟨54, _⟩ => ⟨S1x8x6144, .f32⟩
  | .hbm, ⟨55, _⟩ => ⟨S1x8x6144, .f32⟩
  | .hbm, ⟨56, _⟩ => ⟨S1x8x6144, .f32⟩
  | .hbm, ⟨57, _⟩ => ⟨S1x8x6144, .f32⟩
  | .hbm, ⟨58, _⟩ => ⟨S4x8x6144, .f32⟩
  | .hbm, ⟨59, _⟩ => ⟨S1x1024x6144, .f32⟩
  | .hbm, ⟨60, _⟩ => ⟨S1024x6144, .f32⟩
  | .hbm, ⟨61, _⟩ => ⟨S6144, .f32⟩
  | .hbm, ⟨62, _⟩ => ⟨S1x6144, .f32⟩
  | .hbm, ⟨63, _⟩ => ⟨S6144, .f32⟩
  | .hbm, ⟨64, _⟩ => ⟨S6144, .f32⟩
  | .hbm, ⟨65, _⟩ => ⟨S1x1024x6144, .f32⟩
  | .hbm, ⟨66, _⟩ => ⟨S1024x6144, .f32⟩
  | .hbm, ⟨67, _⟩ => ⟨S6144, .f32⟩
  | .hbm, ⟨68, _⟩ => ⟨S1x6144, .f32⟩
  | .hbm, ⟨69, _⟩ => ⟨S6144, .f32⟩
  | .hbm, ⟨70, _⟩ => ⟨S6144, .f32⟩
  | .hbm, ⟨71, _⟩ => ⟨S1x1024x6144, .f32⟩
  | .hbm, ⟨72, _⟩ => ⟨S1024x6144, .f32⟩
  | .hbm, ⟨73, _⟩ => ⟨S6144, .f32⟩
  | .hbm, ⟨74, _⟩ => ⟨S1x6144, .f32⟩
  | .hbm, ⟨75, _⟩ => ⟨S6144, .f32⟩
  | .hbm, ⟨76, _⟩ => ⟨S6144, .f32⟩
  | .hbm, ⟨77, _⟩ => ⟨S1x1024x6144, .f32⟩
  | .hbm, ⟨78, _⟩ => ⟨S1024x6144, .f32⟩
  | .hbm, ⟨79, _⟩ => ⟨S6144, .f32⟩
  | .hbm, ⟨80, _⟩ => ⟨S1x6144, .f32⟩
  | .hbm, ⟨81, _⟩ => ⟨S6144, .f32⟩
  | .hbm, ⟨82, _⟩ => ⟨S6144, .f32⟩
  | .hbm, ⟨83, _⟩ => ⟨S1x6144, .f32⟩
  | .hbm, ⟨84, _⟩ => ⟨S1x6144, .f32⟩
  | .hbm, ⟨85, _⟩ => ⟨S1x6144, .f32⟩
  | .hbm, ⟨86, _⟩ => ⟨S1x6144, .f32⟩
  | .hbm, ⟨87, _⟩ => ⟨S4x6144, .f32⟩
  | .hbm, ⟨88, _⟩ => ⟨S4x1x6144, .f32⟩
  | .hbm, ⟨89, _⟩ => ⟨S4x7x6144, .f32⟩
  | .hbm, ⟨90, _⟩ => ⟨S4x1x6144, .f32⟩
  | .hbm, ⟨91, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Router.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x16 : Shape := ⟨2, ![1024, 16]⟩
abbrev S8x6x1024 : Shape := ⟨3, ![8, 6, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S8x2x2x1024 : Shape := ⟨4, ![8, 2, 2, 1024]⟩
abbrev S8x2304x1024 : Shape := ⟨3, ![8, 2304, 1024]⟩
abbrev S1x1024 : Shape := ⟨2, ![1, 1024]⟩
abbrev S16x1024 : Shape := ⟨2, ![16, 1024]⟩
abbrev S8x16x2304 : Shape := ⟨3, ![8, 16, 2304]⟩
abbrev S1x768x1024 : Shape := ⟨3, ![1, 768, 1024]⟩
abbrev S1x2x2x1024 : Shape := ⟨4, ![1, 2, 2, 1024]⟩
abbrev S1x16x768 : Shape := ⟨3, ![1, 16, 768]⟩
abbrev S768x1024 : Shape := ⟨2, ![768, 1024]⟩
abbrev S768x1 : Shape := ⟨2, ![768, 1]⟩
abbrev S1x1x1x1024 : Shape := ⟨4, ![1, 1, 1, 1024]⟩
abbrev S768 : Shape := ⟨1, ![768]⟩
abbrev S16x768 : Shape := ⟨2, ![16, 768]⟩
abbrev S1x768 : Shape := ⟨2, ![1, 768]⟩

abbrev nBuf : Space → Nat
  | .hbm => 18
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x16, .f32⟩
  | .hbm, ⟨6, _⟩ => ⟨S8x6x1024, .f32⟩
  | .hbm, ⟨7, _⟩ => ⟨S1x6x1024, .f32⟩
  | .hbm, ⟨8, _⟩ => ⟨S8x6x1024, .f32⟩
  | .hbm, ⟨9, _⟩ => ⟨S8x1x6x1024, .f32⟩
  | .hbm, ⟨10, _⟩ => ⟨S8x1x6x1024, .f32⟩
  | .hbm, ⟨11, _⟩ => ⟨S8x2x6x1024, .f32⟩
  | .hbm, ⟨12, _⟩ => ⟨S8x2x2x1024, .f32⟩
  | .hbm, ⟨13, _⟩ => ⟨S8x2304x1024, .f32⟩
  | .hbm, ⟨14, _⟩ => ⟨S1x1024, .f32⟩
  | .hbm, ⟨15, _⟩ => ⟨S16x1024, .f32⟩
  | .hbm, ⟨16, _⟩ => ⟨S8x2304x1024, .bf16⟩
  | .hbm, ⟨17, _⟩ => ⟨S8x16x2304, .f32⟩
  | .local _ .vmem, ⟨0, _⟩ => ⟨S1x768x1024, .f32⟩
  | .local _ .vmem, ⟨1, _⟩ => ⟨S1x768x1024, .f32⟩
  | .local _ .vmem, ⟨2, _⟩ => ⟨S1x1024, .f32⟩
  | .local _ .vmem, ⟨3, _⟩ => ⟨S1x2x2x1024, .f32⟩
  | .local _ .vmem, ⟨4, _⟩ => ⟨S1x2x2x1024, .f32⟩
  | .local _ .vmem, ⟨5, _⟩ => ⟨S16x1024, .f32⟩
  | .local _ .vmem, ⟨6, _⟩ => ⟨S1x768x1024, .bf16⟩
  | .local _ .vmem, ⟨7, _⟩ => ⟨S1x768x1024, .bf16⟩
  | .local _ .vmem, ⟨8, _⟩ => ⟨S1x16x768, .f32⟩
  | .local _ .vmem, ⟨9, _⟩ => ⟨S1x16x768, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RouterRefIdeal.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x16 : Shape := ⟨2, ![1024, 16]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S8x2304x1024 : Shape := ⟨3, ![8, 2304, 1024]⟩
abbrev S8x2304x16 : Shape := ⟨3, ![8, 2304, 16]⟩
abbrev S8x2304 : Shape := ⟨2, ![8, 2304]⟩
abbrev S8x2304x1 : Shape := ⟨3, ![8, 2304, 1]⟩
abbrev S8x16x2304 : Shape := ⟨3, ![8, 16, 2304]⟩

abbrev nBuf : Space → Nat
  | .hbm => 85
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x16, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x256x1024, .f32⟩
  | .hbm, ⟨43, _⟩ => ⟨S_, .f32⟩
  | .hbm, ⟨44, _⟩ => ⟨S8x256, .f32⟩
  | .hbm, ⟨45, _⟩ => ⟨S8x256x1, .f32⟩
  | .hbm, ⟨46, _⟩ => ⟨S_, .f32⟩
  | .hbm, ⟨47, _⟩ => ⟨S8x256x1, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S8x256x1, .f32⟩
  | .hbm, ⟨53, _⟩ => ⟨S8x256x1024, .f32⟩
  | .hbm, ⟨54, _⟩ => ⟨S8x256x1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S8x256x1024, .f32⟩
  | .hbm, ⟨63, _⟩ => ⟨S8x256x1024, .f32⟩
  | .hbm, ⟨64, _⟩ => ⟨S1x1x1024, .f32⟩
  | .hbm, ⟨65, _⟩ => ⟨S8x256x1024, .f32⟩
  | .hbm, ⟨66, _⟩ => ⟨S8x256x1024, .f32⟩
  | .hbm, ⟨67, _⟩ => ⟨S8x2304x1024, .f32⟩
  | .hbm, ⟨68, _⟩ => ⟨S8x2304x16, .f32⟩
  | .hbm, ⟨69, _⟩ => ⟨S_, .f32⟩
  | .hbm, ⟨70, _⟩ => ⟨S8x2304, .f32⟩
  | .hbm, ⟨71, _⟩ => ⟨S_, .f32⟩
  | .hbm, ⟨72, _⟩ => ⟨S8x2304, .f32⟩
  | .hbm, ⟨73, _⟩ => ⟨S8x2304, .f32⟩
  | .hbm, ⟨74, _⟩ => ⟨S8x2304x1, .f32⟩
  | .hbm, ⟨75, _⟩ => ⟨S8x2304x16, .f32⟩
  | .hbm, ⟨76, _⟩ => ⟨S8x2304x16, .f32⟩
  | .hbm, ⟨77, _⟩ => ⟨S8x2304x16, .f32⟩
  | .hbm, ⟨78, _⟩ => ⟨S_, .f32⟩
  | .hbm, ⟨79, _⟩ => ⟨S8x2304, .f32⟩
  | .hbm, ⟨80, _⟩ => ⟨S8x2304x1, .f32⟩
  | .hbm, ⟨81, _⟩ => ⟨S8x2304x16, .f32⟩
  | .hbm, ⟨82, _⟩ => ⟨S8x2304x16, .f32⟩
  | .hbm, ⟨83, _⟩ => ⟨S8x2304x1024, .bf16⟩
  | .hbm, ⟨84, _⟩ => ⟨S8x16x2304, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Proof.MlaFrames.lean ====
/-
  The latent attention call: the runs that leave the arguments and the semaphores as they were.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.MlaProof

/-- The printed kernel runs and leaves its arguments and semaphores as they were. -/
theorem frame : Cert.quiescent_Kernel := fun m ρ _ => Cert.Kernel.Gen.frame m ρ

/-- So does its reading over the extended reals. -/
theorem frame_ideal : Cert.quiescent_KernelIdeal := fun m ρ _ => Cert.KernelIdeal.Gen.frame m ρ

/-- So does the reference. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MlaProof
end
-- ==== Proof.MlaTile.lean ====
/-
  The latent attention kernel's arithmetic, read at an index over the extended reals: what each step of the body
  computes from the loaded blocks.
-/
module

public import proofs.«01_k».proof.Proof.Gen.KernelIdeal.Value
public import Idealize.ShloMosaic.Lib.Pointwise
public import Idealize.ShloMosaic.Lib.Pipeline.ValueKit.Tiles
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen

/-- The greatest of a row of scores, from `-∞`. -/
def top {n : ℕ} (s : Fin n → EReal) : EReal := (Finset.univ : Finset (Fin n)).fold max (Ideal.ofBits .f32 0xFF800000#32) s

/-- The softmax-weighted mean of `v` under the scores `s`: exponentials of the scores less their greatest, divided at the
end by their sum. -/
def mean {n : ℕ} (s v : Fin n → EReal) : EReal :=
  Ideal.div (∑ k, Ideal.exp (s k - top s) * v k) (∑ k, Ideal.exp (s k - top s))

/-- Lanes below 64 belong to a pair's first head. -/
theorem select_lane (a b : EReal) (l : Fin 128) :
    Scalar.select (IntOp.cmpi .slt (BitVec.ofNat 32 l.val) 64#32) a b = if l.val < 64 then a else b := by
  have h : ∀ l : Fin 128, (IntOp.cmpi .slt (BitVec.ofNat 32 l.val) 64#32) = if l.val < 64 then 1#1 else 0#1 := by decide +kernel
  rw [h l]
  by_cases hl : l.val < 64
  · rw [if_pos hl, if_pos hl]; rfl
  · rw [if_neg hl, if_neg hl]; rfl

/-- The first tile (the 256 context rows against the 256 context keys). -/
theorem ctx_apply (q0 k0 q1 k1 : Vec Ideal S1x256x128 .bf16) (v v' : Vec Ideal S256x128 .bf16) (r : Fin 256) (l : Fin 128) :
    k0_pay16 k0_pay13 (k0_pay14 q0 k0) (k0_pay15 q1 k1) v v' (ix3 0 r l)
      = if l.val < 64 then mean (fun k : Fin 256 => ∑ c : Fin 128, q0 (ix3 0 r c) * k0 (ix3 0 k c)) (fun k => v (ix2 k l))
        else mean (fun k : Fin 256 => ∑ c : Fin 128, q1 (ix3 0 r c) * k1 (ix3 0 k c)) (fun k => v' (ix2 k l)) := by
  rw [← select_lane]
  pointwise [k0_pay16, k0_pay13, k0_pay14, k0_pay15, mean, top]

/-- A tile of 512 latent rows against all 2304 keys. -/
theorem lat_apply (q0 q1 : Vec Ideal S1x512x128 .bf16) (k0 k1 : Vec Ideal S1x2304x128 .bf16) (v v' : Vec Ideal S2304x128 .bf16)
    (r : Fin 512) (l : Fin 128) :
    k0_pay20 k0_pay17 (k0_pay18 q0 k0) (k0_pay19 q1) k1 v v' (ix3 0 r l)
      = if l.val < 64 then mean (fun k : Fin 2304 => ∑ c : Fin 128, q0 (ix3 0 r c) * k0 (ix3 0 k c)) (fun k => v (ix2 k l))
        else mean (fun k : Fin 2304 => ∑ c : Fin 128, q1 (ix3 0 r c) * k1 (ix3 0 k c)) (fun k => v' (ix2 k l)) := by
  rw [← select_lane]
  pointwise [k0_pay20, k0_pay17, k0_pay18, k0_pay19, mean, top]

/-- The printed body groups the latent tiles' steps differently; each grouping is the same computation. -/
theorem lat_eq2 (q0 q1 : Vec Ideal S1x512x128 .bf16) (k0 k1 : Vec Ideal S1x2304x128 .bf16) (v v' : Vec Ideal S2304x128 .bf16) :
    k0_pay23 k0_pay21 (k0_pay22 q0) k0 q1 k1 v v' = k0_pay20 k0_pay17 (k0_pay18 q0 k0) (k0_pay19 q1) k1 v v' := rfl

theorem lat_eq3 (q0 q1 : Vec Ideal S1x512x128 .bf16) (k0 k1 : Vec Ideal S1x2304x128 .bf16) (v v' : Vec Ideal S2304x128 .bf16) :
    k0_pay27 (k0_pay24 (iota .tc S512x128 32 [1] iota_S512x128_d1_w32) 64#32) (k0_pay25 q0 k0 v) (k0_pay26 q1 k1 v')
      = k0_pay20 k0_pay17 (k0_pay18 q0 k0) (k0_pay19 q1) k1 v v' := rfl

theorem lat_eq4 (q0 q1 : Vec Ideal S1x512x128 .bf16) (k0 k1 : Vec Ideal S1x2304x128 .bf16) (v v' : Vec Ideal S2304x128 .bf16) :
    k0_pay1 k0_pay28 v v' (k0_pay29 q0 k0) (k0_pay30 q1 k1) (k0_pay31 q0 k0) (k0_pay32 q1 k1)
      = k0_pay20 k0_pay17 (k0_pay18 q0 k0) (k0_pay19 q1) k1 v v' := rfl

/-- A row scaled to unit mean square, times weights: `N` is the row's length and `eps` the guard under the root. -/
def rms {n : ℕ} (N : EReal) (x w : Fin n → EReal) (j : Fin n) : EReal :=
  x j * Ideal.rsqrt (Ideal.div (∑ i, x i * x i) N + Ideal.ofBits .f32 0x358637BD#32) * w j

theorem pay2_apply (x : Vec Ideal S1x2304x256 .f32) (w : Vec Ideal S1x256 .f32) (r : Fin 2304) (j : Fin 256) :
    k0_pay2 x w (ix2 r j) = rms (Ideal.ofBits .f32 0x43800000#32) (fun j => x (ix3 0 r j)) (fun j => w (ix2 0 j)) j := by
  pointwise [k0_pay2, rms]

theorem pay3_apply (x : Vec Ideal S1x2304x384 .f32) (w : Vec Ideal S1x384 .f32) (wq : Vec Ideal S1x384x256 .bf16) (r : Fin 2304) (j : Fin 256) :
    k0_pay3 x w wq (ix2 r j)
      = ∑ i : Fin 384, rms (Ideal.ofBits .f32 0x43C00000#32) (fun j => x (ix3 0 r j)) (fun j => w (ix2 0 j)) i * wq (ix3 0 i j) := by
  pointwise [k0_pay3, rms]

/-- Lane `l` of head `h` in a pair's 256 columns. -/
abbrev lane (h : Fin 2) (l : Fin 128) : Fin 256 := ⟨h.val * 128 + l.val, by have := h.isLt; have := l.isLt; omega⟩

theorem lane_zero (l : Fin 128) (h) : (⟨l.val, h⟩ : Fin 256) = lane 0 l := Fin.ext (by show l.val = 0 * 128 + l.val; omega)
theorem lane_one (l : Fin 128) (h) : (⟨128 + l.val, h⟩ : Fin 256) = lane 1 l := Fin.ext (by show 128 + l.val = 1 * 128 + l.val; omega)

/-- A point's queries: the normed low-rank row through the head's weights, times the query table and the scale. -/
def Q (x : Vec Ideal S1x2304x384 .f32) (w : Vec Ideal S1x384 .f32) (wq : Vec Ideal S1x384x256 .bf16) (cq : Vec Ideal S2304x128 .f32)
    (h : Fin 2) (r : Fin 2304) (l : Fin 128) : EReal :=
  (∑ i : Fin 384, rms (Ideal.ofBits .f32 0x43C00000#32) (fun j => x (ix3 0 r j)) (fun j => w (ix2 0 j)) i * wq (ix3 0 i (lane h l)))
    * (cq (ix2 r l) * Ideal.ofBits .f32 0x3DD105EC#32)

/-- A point's keys: the normed low-rank row through the head's weights, plus the rotated shared columns. -/
def K (x : Vec Ideal S1x2304x256 .f32) (w : Vec Ideal S1x256 .f32) (wk : Vec Ideal S1x256x256 .bf16) (zr : Vec Ideal S1x2304x256 .f32)
    (ck sk : Vec Ideal S2304x128 .f32) (h : Fin 2) (r : Fin 2304) (l : Fin 128) : EReal :=
  (∑ i : Fin 256, rms (Ideal.ofBits .f32 0x43800000#32) (fun j => x (ix3 0 r j)) (fun j => w (ix2 0 j)) i * wk (ix3 0 i (lane h l)))
    + (zr (ix3 0 r (lane 0 l)) * ck (ix2 r l) + zr (ix3 0 r (lane 1 l)) * sk (ix2 r l))

/-- A point's values: the normed low-rank row through the pair's weights. -/
def W (x : Vec Ideal S1x2304x256 .f32) (w : Vec Ideal S1x256 .f32) (wv : Vec Ideal S1x256x128 .bf16) (r : Fin 2304) (l : Fin 128) : EReal :=
  ∑ i : Fin 256, rms (Ideal.ofBits .f32 0x43800000#32) (fun j => x (ix3 0 r j)) (fun j => w (ix2 0 j)) i * wv (ix3 0 i l)

theorem q0_apply (x : Vec Ideal S1x2304x384 .f32) (w : Vec Ideal S1x384 .f32) (wq : Vec Ideal S1x384x256 .bf16) (cq : Vec Ideal S2304x128 .f32)
    (a : Fin 1) (r : Fin 2304) (l : Fin 128) : k0_pay8 (k0_pay3 x w wq) cq (ix3 a r l) = Q x w wq cq 0 r l := by
  pointwise [k0_pay8, k0_pay7, pay3_apply, lane_zero, Q]

theorem q1_apply (x : Vec Ideal S1x2304x384 .f32) (w : Vec Ideal S1x384 .f32) (wq : Vec Ideal S1x384x256 .bf16) (cq : Vec Ideal S2304x128 .f32)
    (a : Fin 1) (r : Fin 2304) (l : Fin 128) : k0_pay11 (k0_pay3 x w wq) (k0_pay7 cq) (ix3 a r l) = Q x w wq cq 1 r l := by
  pointwise [k0_pay11, k0_pay7, pay3_apply, lane_one, Q]

theorem k0_apply (x : Vec Ideal S1x2304x256 .f32) (w : Vec Ideal S1x256 .f32) (wk : Vec Ideal S1x256x256 .bf16) (zr : Vec Ideal S1x2304x256 .f32)
    (ck sk : Vec Ideal S2304x128 .f32) (a : Fin 1) (r : Fin 2304) (l : Fin 128) :
    k0_pay10 (k0_pay9 (k0_pay2 x w) wk zr ck sk) (ix3 a r l) = K x w wk zr ck sk 0 r l := by
  pointwise [k0_pay10, k0_pay9, k0_pay4, k0_pay6, pay2_apply, lane_zero, lane_one, K]

theorem k1_apply (x : Vec Ideal S1x2304x256 .f32) (w : Vec Ideal S1x256 .f32) (wk : Vec Ideal S1x256x256 .bf16) (zr : Vec Ideal S1x2304x256 .f32)
    (ck sk : Vec Ideal S2304x128 .f32) (a : Fin 1) (r : Fin 2304) (l : Fin 128) :
    k0_pay12 (k0_pay4 (k0_pay2 x w) wk) (k0_pay6 zr ck sk) (ix3 a r l) = K x w wk zr ck sk 1 r l := by
  pointwise [k0_pay12, k0_pay4, k0_pay6, pay2_apply, lane_zero, lane_one, K]

theorem v_apply (x : Vec Ideal S1x2304x256 .f32) (w : Vec Ideal S1x256 .f32) (wv : Vec Ideal S1x256x128 .bf16)
    (r : Fin 2304) (l : Fin 128) : k0_pay5 (k0_pay2 x w) wv (ix2 r l) = W x w wv r l := by
  pointwise [k0_pay5, pay2_apply, W]

end Cert.KernelIdeal.Tile
end
-- ==== Proof.MlaBlock.lean ====
/-
  The latent attention kernel, one grid point: what the body leaves in the output's staging buffer, read at an index.
-/
module

public import proofs.«01_k».proof.Proof.MlaTile

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.KernelIdeal.Tile

/-- Keys `0 … 255` among all. -/
abbrev ctxKey (k : Fin 256) : Fin 2304 := ⟨k.val, by have := k.isLt; omega⟩

/-- The head of a pair that lane `l` belongs to. -/
abbrev headOf (l : Fin 128) : Fin 2 := if l.val < 64 then 0 else 1

/-- Attention of one pair of heads from its queries, keys and values: context rows see the context keys, latent rows see
all keys. -/
def attend (Q K : Fin 2 → Fin 2304 → Fin 128 → EReal) (W : Fin 2304 → Fin 128 → EReal) (r : Fin 2304) (l : Fin 128) : EReal :=
  if r.val < 256 then
    mean (fun k : Fin 256 => ∑ c : Fin 128, Q (headOf l) r c * K (headOf l) (ctxKey k) c) (fun k => W (ctxKey k) l)
  else mean (fun k : Fin 2304 => ∑ c : Fin 128, Q (headOf l) r c * K (headOf l) k c) (fun k => W k l)

variable (Q K : Fin 2 → Fin 2304 → Fin 128 → EReal) (W : Fin 2304 → Fin 128 → EReal)

/-- The context tile is the attention of its rows. -/
theorem ctx_tile (q0 k0 q1 k1 : Vec Ideal S1x256x128 .bf16) (v v' : Vec Ideal S256x128 .bf16)
    (hq0 : ∀ (r : Fin 256) c, q0 (ix3 0 r c) = Q 0 (ctxKey r) c) (hk0 : ∀ (r : Fin 256) c, k0 (ix3 0 r c) = K 0 (ctxKey r) c)
    (hq1 : ∀ (r : Fin 256) c, q1 (ix3 0 r c) = Q 1 (ctxKey r) c) (hk1 : ∀ (r : Fin 256) c, k1 (ix3 0 r c) = K 1 (ctxKey r) c)
    (hv : ∀ (r : Fin 256) c, v (ix2 r c) = W (ctxKey r) c) (hv' : ∀ (r : Fin 256) c, v' (ix2 r c) = W (ctxKey r) c)
    (r : Fin 256) (l : Fin 128) :
    k0_pay16 k0_pay13 (k0_pay14 q0 k0) (k0_pay15 q1 k1) v v' (ix3 0 r l) = attend Q K W (ctxKey r) l := by
  rw [ctx_apply]
  simp only [hq0, hk0, hq1, hk1, hv, hv']
  unfold attend headOf
  rw [if_pos r.isLt]
  by_cases h : l.val < 64
  · simp only [if_pos h]
  · simp only [if_neg h]

/-- A latent tile starting at row `o` is the attention of its rows. -/
theorem lat_tile (q0 q1 : Vec Ideal S1x512x128 .bf16) (k0 k1 : Vec Ideal S1x2304x128 .bf16) (v v' : Vec Ideal S2304x128 .bf16)
    (o : ℕ) (ho : 256 ≤ o) (hr : ∀ r : Fin 512, o + r.val < 2304)
    (hq0 : ∀ (r : Fin 512) c, q0 (ix3 0 r c) = Q 0 ⟨o + r.val, hr r⟩ c) (hk0 : ∀ (r : Fin 2304) c, k0 (ix3 0 r c) = K 0 r c)
    (hq1 : ∀ (r : Fin 512) c, q1 (ix3 0 r c) = Q 1 ⟨o + r.val, hr r⟩ c) (hk1 : ∀ (r : Fin 2304) c, k1 (ix3 0 r c) = K 1 r c)
    (hv : ∀ (r : Fin 2304) c, v (ix2 r c) = W r c) (hv' : ∀ (r : Fin 2304) c, v' (ix2 r c) = W r c)
    (r : Fin 512) (l : Fin 128) :
    k0_pay20 k0_pay17 (k0_pay18 q0 k0) (k0_pay19 q1) k1 v v' (ix3 0 r l) = attend Q K W ⟨o + r.val, hr r⟩ l := by
  rw [lat_apply]
  simp only [hq0, hk0, hq1, hk1, hv, hv']
  unfold attend headOf
  rw [if_neg (show ¬ (⟨o + r.val, hr r⟩ : Fin 2304).val < 256 by dsimp only; omega)]
  by_cases h : l.val < 64
  · simp only [if_pos h]
  · simp only [if_neg h]

/-- The context tile's piece of the buffer. -/
theorem ctx_at (q0 k0 q1 k1 : Vec Ideal S1x256x128 .bf16) (v v' : Vec Ideal S256x128 .bf16)
    (hq0 : ∀ (r : Fin 256) c, q0 (ix3 0 r c) = Q 0 (ctxKey r) c) (hk0 : ∀ (r : Fin 256) c, k0 (ix3 0 r c) = K 0 (ctxKey r) c)
    (hq1 : ∀ (r : Fin 256) c, q1 (ix3 0 r c) = Q 1 (ctxKey r) c) (hk1 : ∀ (r : Fin 256) c, k1 (ix3 0 r c) = K 1 (ctxKey r) c)
    (hv : ∀ (r : Fin 256) c, v (ix2 r c) = W (ctxKey r) c) (hv' : ∀ (r : Fin 256) c, v' (ix2 r c) = W (ctxKey r) c)
    (y : S1x2304x128.Idx) (z : S1x256x128.Idx) (h1 : (y 1 : ℕ) = z 1) (h2 : (y 2 : ℕ) = z 2) :
    k0_pay16 k0_pay13 (k0_pay14 q0 k0) (k0_pay15 q1 k1) v v' z = attend Q K W (y 1) (y 2) := by
  have h0 : @Eq (Fin 1) (z 0) 0 := Subsingleton.elim (α := Fin 1) _ _
  have hz : z = ix3 0 (z 1) (z 2) := funext fun a => match a with
    | ⟨0, _⟩ => h0
    | ⟨1, _⟩ => rfl
    | ⟨2, _⟩ => rfl
  refine (congrArg _ hz).trans ((ctx_tile Q K W q0 k0 q1 k1 v v' hq0 hk0 hq1 hk1 hv hv' (z 1) (z 2)).trans ?_)
  exact congr (congrArg (attend Q K W) (Fin.ext h1.symm)) (Fin.ext h2.symm)

/-- A latent tile's piece of the buffer. -/
theorem lat_at (q0 q1 : Vec Ideal S1x512x128 .bf16) (k0 k1 : Vec Ideal S1x2304x128 .bf16) (v v' : Vec Ideal S2304x128 .bf16)
    (o : ℕ) (ho : 256 ≤ o) (hr : ∀ r : Fin 512, o + r.val < 2304)
    (hq0 : ∀ (r : Fin 512) c, q0 (ix3 0 r c) = Q 0 ⟨o + r.val, hr r⟩ c) (hk0 : ∀ (r : Fin 2304) c, k0 (ix3 0 r c) = K 0 r c)
    (hq1 : ∀ (r : Fin 512) c, q1 (ix3 0 r c) = Q 1 ⟨o + r.val, hr r⟩ c) (hk1 : ∀ (r : Fin 2304) c, k1 (ix3 0 r c) = K 1 r c)
    (hv : ∀ (r : Fin 2304) c, v (ix2 r c) = W r c) (hv' : ∀ (r : Fin 2304) c, v' (ix2 r c) = W r c)
    (y : S1x2304x128.Idx) (z : S1x512x128.Idx) (h1 : (y 1 : ℕ) = o + z 1) (h2 : (y 2 : ℕ) = z 2) :
    k0_pay20 k0_pay17 (k0_pay18 q0 k0) (k0_pay19 q1) k1 v v' z = attend Q K W (y 1) (y 2) := by
  have h0 : @Eq (Fin 1) (z 0) 0 := Subsingleton.elim (α := Fin 1) _ _
  have hz : z = ix3 0 (z 1) (z 2) := funext fun a => match a with
    | ⟨0, _⟩ => h0
    | ⟨1, _⟩ => rfl
    | ⟨2, _⟩ => rfl
  refine (congrArg _ hz).trans ((lat_tile Q K W q0 q1 k0 k1 v v' o ho hr hq0 hk0 hq1 hk1 hv hv' (z 1) (z 2)).trans ?_)
  exact congr (congrArg (attend Q K W) (Fin.ext h1.symm)) (Fin.ext h2.symm)

/-- A load from a scratch of two heads, each head filled whole, reads the heads' contents. -/
theorem heads_apply {κ : Kind} {sp : Space} (v : View sig κ sp S2x2304x128 .bf16) (A B : Vec Ideal S1x2304x128 .bf16)
    (G : Fin 2 → Fin 2304 → Fin 128 → EReal) (hA : ∀ a r l, A (ix3 a r l) = G 1 r l) (hB : ∀ a r l, B (ix3 a r l) = G 0 r l)
    (i1 : ∀ a, (![1, 0, 0] : Fin 3 → ℕ) a + (![1, 2304, 128] : Fin 3 → ℕ) a ≤ S2x2304x128.size a)
    (i0 : ∀ a, (![0, 0, 0] : Fin 3 → ℕ) a + (![1, 2304, 128] : Fin 3 → ℕ) a ≤ S2x2304x128.size a)
    (h o n : ℕ) (inb : ∀ a, (![h, o, 0] : Fin 3 → ℕ) a + (![1, n, 128] : Fin 3 → ℕ) a ≤ S2x2304x128.size a)
    (hh : h < 2) (r : Fin n) (hr : o + r.val < 2304) (l : Fin 128) :
    v.readCov (Val := Elt Ideal) [⟨Rect.unit (s := S2x2304x128) ![1, 0, 0] ![1, 2304, 128] i1, A⟩,
        ⟨Rect.unit (s := S2x2304x128) ![0, 0, 0] ![1, 2304, 128] i0, B⟩]
      (Rect.unit (s := S2x2304x128) ![h, o, 0] ![1, n, 128] inb).toLoadRect (ix3 0 r l) = G ⟨h, hh⟩ ⟨o + r.val, hr⟩ l := by
  rw [View.readCov_eq_canon']
  refine (View.canon_append_of_pieces (Val := Elt Ideal) (e := .bf16) (S := S2x2304x128) (fun y => G (y 0) (y 1) (y 2)) [] [_, ⟨_, _⟩] ?_ _
    (View.cover_of_tiled_head (Rect.unit (s := S2x2304x128) ![1, 0, 0] ![1, 2304, 128] i1) A
      [⟨Rect.unit (s := S2x2304x128) ![0, 0, 0] ![1, 2304, 128] i0, B⟩] (by sl_kernel_rfl) _)).trans ?_
  · intro p hp
    simp only [List.mem_cons, List.not_mem_nil, or_false] at hp
    obtain rfl | rfl := hp
    · intro z
      have h0 : (z 0 : ℕ) < 1 := (z 0).isLt
      refine (congrArg A (show (z : S1x2304x128.Idx) = ix3 (z 0) (z 1) (z 2) from funext fun a => by fin_cases a <;> rfl)).trans ?_
      refine (hA _ _ _).trans ?_
      show G _ _ _ = G _ _ _
      exact congr (congr (congrArg G (Fin.ext (by show 1 = 1 + 1 * (z 0 : ℕ); omega))) (Fin.ext (by show (z 1 : ℕ) = 0 + 1 * (z 1 : ℕ); omega)))
        (Fin.ext (by show (z 2 : ℕ) = 0 + 1 * (z 2 : ℕ); omega))
    · intro z
      have h0 : (z 0 : ℕ) < 1 := (z 0).isLt
      refine (congrArg B (show (z : S1x2304x128.Idx) = ix3 (z 0) (z 1) (z 2) from funext fun a => by fin_cases a <;> rfl)).trans ?_
      refine (hB _ _ _).trans ?_
      show G _ _ _ = G _ _ _
      exact congr (congr (congrArg G (Fin.ext (by show 0 = 0 + 1 * (z 0 : ℕ); omega))) (Fin.ext (by show (z 1 : ℕ) = 0 + 1 * (z 1 : ℕ); omega)))
        (Fin.ext (by show (z 2 : ℕ) = 0 + 1 * (z 2 : ℕ); omega))
  · show G _ _ _ = G _ _ _
    exact congr (congr (congrArg G (Fin.ext (by show h + 1 * 0 = h; omega))) (Fin.ext (by show o + 1 * r.val = o + r.val; omega)))
      (Fin.ext (by show 0 + 1 * l.val = l.val; omega))

theorem all_rows (G : Fin 2 → Fin 2304 → Fin 128 → EReal) (h : Fin 2) (r : Fin 2304) (hr : 0 + r.val < 2304) (l : Fin 128) :
    G h ⟨0 + r.val, hr⟩ l = G h r l := congrArg (fun r => G h r l) (Fin.ext (Nat.zero_add _))

/-- A load from the values' scratch, filled whole, reads the values. -/
theorem values_apply {κ : Kind} {sp : Space} (v : View sig κ sp S2304x128 .bf16) (A : Vec Ideal S2304x128 .bf16)
    (G : Fin 2304 → Fin 128 → EReal) (hA : ∀ r l, A (ix2 r l) = G r l)
    (i0 : ∀ a, (![0, 0] : Fin 2 → ℕ) a + (![2304, 128] : Fin 2 → ℕ) a ≤ S2304x128.size a)
    (n : ℕ) (inb : ∀ a, (![0, 0] : Fin 2 → ℕ) a + (![n, 128] : Fin 2 → ℕ) a ≤ S2304x128.size a)
    (r : Fin n) (hr : r.val < 2304) (l : Fin 128) :
    v.readCov (Val := Elt Ideal) [⟨Rect.unit (s := S2304x128) ![0, 0] ![2304, 128] i0, A⟩]
      (Rect.unit (s := S2304x128) ![0, 0] ![n, 128] inb).toLoadRect (ix2 r l) = G ⟨r.val, hr⟩ l := by
  have hz : (![0, 0] : Fin 2 → ℕ) = fun _ => 0 := funext fun a => by fin_cases a <;> rfl
  rw [View.readCov_eq_canon', View.canon_unit_zero (S := S2304x128) hz]
  refine (congrArg A (a₂ := ix2 ⟨r.val, hr⟩ l) (funext fun a => Fin.ext ?_)).trans (hA _ _)
  match a with
  | ⟨0, _⟩ => show 0 + 1 * r.val = r.val; omega
  | ⟨1, _⟩ => show 0 + 1 * l.val = l.val; omega

/-- A latent tile, its operands loaded from the filled scratches. -/
theorem lat_stored
    {κ : Kind} {sp : Space} (vq vk : View sig κ sp S2x2304x128 .bf16) (vv : View sig κ sp S2304x128 .bf16)
    (A1 A0 B1 B0 : Vec Ideal S1x2304x128 .bf16) (C : Vec Ideal S2304x128 .bf16)
    (hA1 : ∀ a r l, A1 (ix3 a r l) = Q 1 r l) (hA0 : ∀ a r l, A0 (ix3 a r l) = Q 0 r l)
    (hB1 : ∀ a r l, B1 (ix3 a r l) = K 1 r l) (hB0 : ∀ a r l, B0 (ix3 a r l) = K 0 r l) (hC : ∀ r l, C (ix2 r l) = W r l)
    (i1 : ∀ a, (![1, 0, 0] : Fin 3 → ℕ) a + (![1, 2304, 128] : Fin 3 → ℕ) a ≤ S2x2304x128.size a)
    (i0 : ∀ a, (![0, 0, 0] : Fin 3 → ℕ) a + (![1, 2304, 128] : Fin 3 → ℕ) a ≤ S2x2304x128.size a)
    (iv : ∀ a, (![0, 0] : Fin 2 → ℕ) a + (![2304, 128] : Fin 2 → ℕ) a ≤ S2304x128.size a)
    (o : ℕ) (ho : 256 ≤ o) (hr : ∀ r : Fin 512, o + r.val < 2304)
    (j0 : ∀ a, (![0, o, 0] : Fin 3 → ℕ) a + (![1, 512, 128] : Fin 3 → ℕ) a ≤ S2x2304x128.size a)
    (j1 : ∀ a, (![1, o, 0] : Fin 3 → ℕ) a + (![1, 512, 128] : Fin 3 → ℕ) a ≤ S2x2304x128.size a)
    (y : S1x2304x128.Idx) (z : S1x512x128.Idx) (h1 : (y 1 : ℕ) = o + z 1) (h2 : (y 2 : ℕ) = z 2) :
    k0_pay20 k0_pay17 (k0_pay18 (vq.readCov (Val := Elt Ideal) [⟨Rect.unit (s := S2x2304x128) ![1, 0, 0] ![1, 2304, 128] i1, A1⟩,
        ⟨Rect.unit (s := S2x2304x128) ![0, 0, 0] ![1, 2304, 128] i0, A0⟩] (Rect.unit (s := S2x2304x128) ![0, o, 0] ![1, 512, 128] j0).toLoadRect)
      (vk.readCov (Val := Elt Ideal) [⟨Rect.unit (s := S2x2304x128) ![1, 0, 0] ![1, 2304, 128] i1, B1⟩,
        ⟨Rect.unit (s := S2x2304x128) ![0, 0, 0] ![1, 2304, 128] i0, B0⟩] (Rect.unit (s := S2x2304x128) ![0, 0, 0] ![1, 2304, 128] i0).toLoadRect))
      (k0_pay19 (vq.readCov (Val := Elt Ideal) [⟨Rect.unit (s := S2x2304x128) ![1, 0, 0] ![1, 2304, 128] i1, A1⟩,
        ⟨Rect.unit (s := S2x2304x128) ![0, 0, 0] ![1, 2304, 128] i0, A0⟩] (Rect.unit (s := S2x2304x128) ![1, o, 0] ![1, 512, 128] j1).toLoadRect))
      (vk.readCov (Val := Elt Ideal) [⟨Rect.unit (s := S2x2304x128) ![1, 0, 0] ![1, 2304, 128] i1, B1⟩,
        ⟨Rect.unit (s := S2x2304x128) ![0, 0, 0] ![1, 2304, 128] i0, B0⟩] (Rect.unit (s := S2x2304x128) ![1, 0, 0] ![1, 2304, 128] i1).toLoadRect)
      (vv.readCov (Val := Elt Ideal) [⟨Rect.unit (s := S2304x128) ![0, 0] ![2304, 128] iv, C⟩] (Rect.unit (s := S2304x128) ![0, 0] ![2304, 128] iv).toLoadRect)
      (vv.readCov (Val := Elt Ideal) [⟨Rect.unit (s := S2304x128) ![0, 0] ![2304, 128] iv, C⟩] (Rect.unit (s := S2304x128) ![0, 0] ![2304, 128] iv).toLoadRect) z
    = attend Q K W (y 1) (y 2) :=
  lat_at Q K W _ _ _ _ _ _ o ho hr
    (fun r c => heads_apply vq A1 A0 Q hA1 hA0 i1 i0 0 o 512 j0 (by decide) r (hr r) c)
    (fun r c => (heads_apply vk B1 B0 K hB1 hB0 i1 i0 0 0 2304 i0 (by decide) r (by have := r.isLt; omega) c).trans (all_rows K _ _ _ _))
    (fun r c => heads_apply vq A1 A0 Q hA1 hA0 i1 i0 1 o 512 j1 (by decide) r (hr r) c)
    (fun r c => (heads_apply vk B1 B0 K hB1 hB0 i1 i0 1 0 2304 i1 (by decide) r (by have := r.isLt; omega) c).trans (all_rows K _ _ _ _))
    (fun r c => values_apply vv C W hC iv 2304 iv r r.isLt c) (fun r c => values_apply vv C W hC iv 2304 iv r r.isLt c) y z h1 h2

/-- The context tile, its operands loaded from the filled scratches. -/
theorem ctx_stored
    {κ : Kind} {sp : Space} (vq vk : View sig κ sp S2x2304x128 .bf16) (vv : View sig κ sp S2304x128 .bf16)
    (A1 A0 B1 B0 : Vec Ideal S1x2304x128 .bf16) (C : Vec Ideal S2304x128 .bf16)
    (hA1 : ∀ a r l, A1 (ix3 a r l) = Q 1 r l) (hA0 : ∀ a r l, A0 (ix3 a r l) = Q 0 r l)
    (hB1 : ∀ a r l, B1 (ix3 a r l) = K 1 r l) (hB0 : ∀ a r l, B0 (ix3 a r l) = K 0 r l) (hC : ∀ r l, C (ix2 r l) = W r l)
    (i1 : ∀ a, (![1, 0, 0] : Fin 3 → ℕ) a + (![1, 2304, 128] : Fin 3 → ℕ) a ≤ S2x2304x128.size a)
    (i0 : ∀ a, (![0, 0, 0] : Fin 3 → ℕ) a + (![1, 2304, 128] : Fin 3 → ℕ) a ≤ S2x2304x128.size a)
    (iv : ∀ a, (![0, 0] : Fin 2 → ℕ) a + (![2304, 128] : Fin 2 → ℕ) a ≤ S2304x128.size a)
    (j0 : ∀ a, (![0, 0, 0] : Fin 3 → ℕ) a + (![1, 256, 128] : Fin 3 → ℕ) a ≤ S2x2304x128.size a)
    (j1 : ∀ a, (![1, 0, 0] : Fin 3 → ℕ) a + (![1, 256, 128] : Fin 3 → ℕ) a ≤ S2x2304x128.size a)
    (jv : ∀ a, (![0, 0] : Fin 2 → ℕ) a + (![256, 128] : Fin 2 → ℕ) a ≤ S2304x128.size a)
    (y : S1x2304x128.Idx) (z : S1x256x128.Idx) (h1 : (y 1 : ℕ) = z 1) (h2 : (y 2 : ℕ) = z 2) :
    k0_pay16 k0_pay13 (k0_pay14 (vq.readCov (Val := Elt Ideal) [⟨Rect.unit (s := S2x2304x128) ![1, 0, 0] ![1, 2304, 128] i1, A1⟩,
        ⟨Rect.unit (s := S2x2304x128) ![0, 0, 0] ![1, 2304, 128] i0, A0⟩] (Rect.unit (s := S2x2304x128) ![0, 0, 0] ![1, 256, 128] j0).toLoadRect)
      (vk.readCov (Val := Elt Ideal) [⟨Rect.unit (s := S2x2304x128) ![1, 0, 0] ![1, 2304, 128] i1, B1⟩,
        ⟨Rect.unit (s := S2x2304x128) ![0, 0, 0] ![1, 2304, 128] i0, B0⟩] (Rect.unit (s := S2x2304x128) ![0, 0, 0] ![1, 256, 128] j0).toLoadRect))
      (k0_pay15 (vq.readCov (Val := Elt Ideal) [⟨Rect.unit (s := S2x2304x128) ![1, 0, 0] ![1, 2304, 128] i1, A1⟩,
        ⟨Rect.unit (s := S2x2304x128) ![0, 0, 0] ![1, 2304, 128] i0, A0⟩] (Rect.unit (s := S2x2304x128) ![1, 0, 0] ![1, 256, 128] j1).toLoadRect)
      (vk.readCov (Val := Elt Ideal) [⟨Rect.unit (s := S2x2304x128) ![1, 0, 0] ![1, 2304, 128] i1, B1⟩,
        ⟨Rect.unit (s := S2x2304x128) ![0, 0, 0] ![1, 2304, 128] i0, B0⟩] (Rect.unit (s := S2x2304x128) ![1, 0, 0] ![1, 256, 128] j1).toLoadRect))
      (vv.readCov (Val := Elt Ideal) [⟨Rect.unit (s := S2304x128) ![0, 0] ![2304, 128] iv, C⟩] (Rect.unit (s := S2304x128) ![0, 0] ![256, 128] jv).toLoadRect)
      (vv.readCov (Val := Elt Ideal) [⟨Rect.unit (s := S2304x128) ![0, 0] ![2304, 128] iv, C⟩] (Rect.unit (s := S2304x128) ![0, 0] ![256, 128] jv).toLoadRect) z
    = attend Q K W (y 1) (y 2) :=
  have row : ∀ r : Fin 256, 0 + r.val < 2304 := fun r => by have := r.isLt; omega
  have e : ∀ (G : Fin 2 → Fin 2304 → Fin 128 → EReal) (h : Fin 2) (r : Fin 256) (c : Fin 128), G h ⟨0 + r.val, row r⟩ c = G h (ctxKey r) c :=
    fun G h r c => congrArg (fun r => G h r c) (Fin.ext (Nat.zero_add _))
  ctx_at Q K W _ _ _ _ _ _
    (fun r c => (heads_apply vq A1 A0 Q hA1 hA0 i1 i0 0 0 256 j0 (by decide) r (row r) c).trans (e Q 0 r c))
    (fun r c => (heads_apply vk B1 B0 K hB1 hB0 i1 i0 0 0 256 j0 (by decide) r (row r) c).trans (e K 0 r c))
    (fun r c => (heads_apply vq A1 A0 Q hA1 hA0 i1 i0 1 0 256 j1 (by decide) r (row r) c).trans (e Q 1 r c))
    (fun r c => (heads_apply vk B1 B0 K hB1 hB0 i1 i0 1 0 256 j1 (by decide) r (row r) c).trans (e K 1 r c))
    (fun r c => values_apply vv C W hC iv 256 jv r (ctxKey r).isLt c) (fun r c => values_apply vv C W hC iv 256 jv r (ctxKey r).isLt c) y z h1 h2

theorem zero3 : (![0, 0, 0] : Fin 3 → ℕ) = fun _ => 0 := funext fun a => by fin_cases a <;> rfl
theorem zero2 : (![0, 0] : Fin 2 → ℕ) = fun _ => 0 := funext fun a => by fin_cases a <;> rfl

/-- The first head's queries as the body stores them. -/
theorem scratch_q0 (x0 : Vec Ideal S1x2304x384 .f32) (x3 : Vec Ideal S1x384 .f32) (x5 : Vec Ideal S1x384x256 .bf16) (x8 : Vec Ideal S2304x128 .f32)
    (i0 : ∀ a, (![0, 0, 0] : Fin 3 → ℕ) a + (![1, 2304, 384] : Fin 3 → ℕ) a ≤ S1x2304x384.size a) (i3 : ∀ a, (![0, 0] : Fin 2 → ℕ) a + (![1, 384] : Fin 2 → ℕ) a ≤ S1x384.size a) (i5 : ∀ a, (![0, 0, 0] : Fin 3 → ℕ) a + (![1, 384, 256] : Fin 3 → ℕ) a ≤ S1x384x256.size a) (i8 : ∀ a, (![0, 0] : Fin 2 → ℕ) a + (![2304, 128] : Fin 2 → ℕ) a ≤ S2304x128.size a) :
    ∀ (a : Fin 1) r l, k0_pay8 (k0_pay3 (View.ld x0 (Rect.unit (s := S1x2304x384) ![0, 0, 0] ![1, 2304, 384] i0))
      (View.ld x3 (Rect.unit (s := S1x384) ![0, 0] ![1, 384] i3)) (View.ld x5 (Rect.unit (s := S1x384x256) ![0, 0, 0] ![1, 384, 256] i5)))
      (View.ld x8 (Rect.unit (s := S2304x128) ![0, 0] ![2304, 128] i8)) (ix3 a r l) = Tile.Q x0 x3 x5 x8 0 r l := by
  rw [View.ld_unit_zero (S := S1x2304x384) zero3 i0 x0, View.ld_unit_zero (S := S1x384) zero2 i3 x3, View.ld_unit_zero (S := S1x384x256) zero3 i5 x5, View.ld_unit_zero (S := S2304x128) zero2 i8 x8]
  exact q0_apply x0 x3 x5 x8

/-- The second head's queries. -/
theorem scratch_q1 (x0 : Vec Ideal S1x2304x384 .f32) (x3 : Vec Ideal S1x384 .f32) (x5 : Vec Ideal S1x384x256 .bf16) (x8 : Vec Ideal S2304x128 .f32)
    (i0 : ∀ a, (![0, 0, 0] : Fin 3 → ℕ) a + (![1, 2304, 384] : Fin 3 → ℕ) a ≤ S1x2304x384.size a) (i3 : ∀ a, (![0, 0] : Fin 2 → ℕ) a + (![1, 384] : Fin 2 → ℕ) a ≤ S1x384.size a) (i5 : ∀ a, (![0, 0, 0] : Fin 3 → ℕ) a + (![1, 384, 256] : Fin 3 → ℕ) a ≤ S1x384x256.size a) (i8 : ∀ a, (![0, 0] : Fin 2 → ℕ) a + (![2304, 128] : Fin 2 → ℕ) a ≤ S2304x128.size a) :
    ∀ (a : Fin 1) r l, k0_pay11 (k0_pay3 (View.ld x0 (Rect.unit (s := S1x2304x384) ![0, 0, 0] ![1, 2304, 384] i0))
      (View.ld x3 (Rect.unit (s := S1x384) ![0, 0] ![1, 384] i3)) (View.ld x5 (Rect.unit (s := S1x384x256) ![0, 0, 0] ![1, 384, 256] i5)))
      (k0_pay7 (View.ld x8 (Rect.unit (s := S2304x128) ![0, 0] ![2304, 128] i8))) (ix3 a r l) = Tile.Q x0 x3 x5 x8 1 r l := by
  rw [View.ld_unit_zero (S := S1x2304x384) zero3 i0 x0, View.ld_unit_zero (S := S1x384) zero2 i3 x3, View.ld_unit_zero (S := S1x384x256) zero3 i5 x5, View.ld_unit_zero (S := S2304x128) zero2 i8 x8]
  exact q1_apply x0 x3 x5 x8

/-- The first head's keys. -/
theorem scratch_k0 (x1 : Vec Ideal S1x2304x256 .f32) (x4 : Vec Ideal S1x256 .f32) (x6 : Vec Ideal S1x256x256 .bf16) (x2 : Vec Ideal S1x2304x256 .f32) (x9 : Vec Ideal S2304x128 .f32) (x10 : Vec Ideal S2304x128 .f32)
    (i1 : ∀ a, (![0, 0, 0] : Fin 3 → ℕ) a + (![1, 2304, 256] : Fin 3 → ℕ) a ≤ S1x2304x256.size a) (i4 : ∀ a, (![0, 0] : Fin 2 → ℕ) a + (![1, 256] : Fin 2 → ℕ) a ≤ S1x256.size a) (i6 : ∀ a, (![0, 0, 0] : Fin 3 → ℕ) a + (![1, 256, 256] : Fin 3 → ℕ) a ≤ S1x256x256.size a) (i2 : ∀ a, (![0, 0, 0] : Fin 3 → ℕ) a + (![1, 2304, 256] : Fin 3 → ℕ) a ≤ S1x2304x256.size a) (i9 : ∀ a, (![0, 0] : Fin 2 → ℕ) a + (![2304, 128] : Fin 2 → ℕ) a ≤ S2304x128.size a) (i10 : ∀ a, (![0, 0] : Fin 2 → ℕ) a + (![2304, 128] : Fin 2 → ℕ) a ≤ S2304x128.size a) :
    ∀ (a : Fin 1) r l, k0_pay10 (k0_pay9 (k0_pay2 (View.ld x1 (Rect.unit (s := S1x2304x256) ![0, 0, 0] ![1, 2304, 256] i1))
      (View.ld x4 (Rect.unit (s := S1x256) ![0, 0] ![1, 256] i4))) (View.ld x6 (Rect.unit (s := S1x256x256) ![0, 0, 0] ![1, 256, 256] i6))
      (View.ld x2 (Rect.unit (s := S1x2304x256) ![0, 0, 0] ![1, 2304, 256] i2)) (View.ld x9 (Rect.unit (s := S2304x128) ![0, 0] ![2304, 128] i9))
      (View.ld x10 (Rect.unit (s := S2304x128) ![0, 0] ![2304, 128] i10))) (ix3 a r l) = Tile.K x1 x4 x6 x2 x9 x10 0 r l := by
  rw [View.ld_unit_zero (S := S1x2304x256) zero3 i1 x1, View.ld_unit_zero (S := S1x256) zero2 i4 x4, View.ld_unit_zero (S := S1x256x256) zero3 i6 x6, View.ld_unit_zero (S := S1x2304x256) zero3 i2 x2, View.ld_unit_zero (S := S2304x128) zero2 i9 x9, View.ld_unit_zero (S := S2304x128) zero2 i10 x10]
  exact k0_apply x1 x4 x6 x2 x9 x10

/-- The second head's keys. -/
theorem scratch_k1 (x1 : Vec Ideal S1x2304x256 .f32) (x4 : Vec Ideal S1x256 .f32) (x6 : Vec Ideal S1x256x256 .bf16) (x2 : Vec Ideal S1x2304x256 .f32) (x9 : Vec Ideal S2304x128 .f32) (x10 : Vec Ideal S2304x128 .f32)
    (i1 : ∀ a, (![0, 0, 0] : Fin 3 → ℕ) a + (![1, 2304, 256] : Fin 3 → ℕ) a ≤ S1x2304x256.size a) (i4 : ∀ a, (![0, 0] : Fin 2 → ℕ) a + (![1, 256] : Fin 2 → ℕ) a ≤ S1x256.size a) (i6 : ∀ a, (![0, 0, 0] : Fin 3 → ℕ) a + (![1, 256, 256] : Fin 3 → ℕ) a ≤ S1x256x256.size a) (i2 : ∀ a, (![0, 0, 0] : Fin 3 → ℕ) a + (![1, 2304, 256] : Fin 3 → ℕ) a ≤ S1x2304x256.size a) (i9 : ∀ a, (![0, 0] : Fin 2 → ℕ) a + (![2304, 128] : Fin 2 → ℕ) a ≤ S2304x128.size a) (i10 : ∀ a, (![0, 0] : Fin 2 → ℕ) a + (![2304, 128] : Fin 2 → ℕ) a ≤ S2304x128.size a) :
    ∀ (a : Fin 1) r l, k0_pay12 (k0_pay4 (k0_pay2 (View.ld x1 (Rect.unit (s := S1x2304x256) ![0, 0, 0] ![1, 2304, 256] i1))
      (View.ld x4 (Rect.unit (s := S1x256) ![0, 0] ![1, 256] i4))) (View.ld x6 (Rect.unit (s := S1x256x256) ![0, 0, 0] ![1, 256, 256] i6)))
      (k0_pay6 (View.ld x2 (Rect.unit (s := S1x2304x256) ![0, 0, 0] ![1, 2304, 256] i2)) (View.ld x9 (Rect.unit (s := S2304x128) ![0, 0] ![2304, 128] i9))
      (View.ld x10 (Rect.unit (s := S2304x128) ![0, 0] ![2304, 128] i10))) (ix3 a r l) = Tile.K x1 x4 x6 x2 x9 x10 1 r l := by
  rw [View.ld_unit_zero (S := S1x2304x256) zero3 i1 x1, View.ld_unit_zero (S := S1x256) zero2 i4 x4, View.ld_unit_zero (S := S1x256x256) zero3 i6 x6, View.ld_unit_zero (S := S1x2304x256) zero3 i2 x2, View.ld_unit_zero (S := S2304x128) zero2 i9 x9, View.ld_unit_zero (S := S2304x128) zero2 i10 x10]
  exact k1_apply x1 x4 x6 x2 x9 x10

/-- The pair's values. -/
theorem scratch_v (x1 : Vec Ideal S1x2304x256 .f32) (x4 : Vec Ideal S1x256 .f32) (x7 : Vec Ideal S1x256x128 .bf16)
    (i1 : ∀ a, (![0, 0, 0] : Fin 3 → ℕ) a + (![1, 2304, 256] : Fin 3 → ℕ) a ≤ S1x2304x256.size a) (i4 : ∀ a, (![0, 0] : Fin 2 → ℕ) a + (![1, 256] : Fin 2 → ℕ) a ≤ S1x256.size a) (i7 : ∀ a, (![0, 0, 0] : Fin 3 → ℕ) a + (![1, 256, 128] : Fin 3 → ℕ) a ≤ S1x256x128.size a) :
    ∀ r l, k0_pay5 (k0_pay2 (View.ld x1 (Rect.unit (s := S1x2304x256) ![0, 0, 0] ![1, 2304, 256] i1))
      (View.ld x4 (Rect.unit (s := S1x256) ![0, 0] ![1, 256] i4))) (View.ld x7 (Rect.unit (s := S1x256x128) ![0, 0, 0] ![1, 256, 128] i7)) (ix2 r l) = Tile.W x1 x4 x7 r l := by
  rw [View.ld_unit_zero (S := S1x2304x256) zero3 i1 x1, View.ld_unit_zero (S := S1x256) zero2 i4 x4, View.ld_unit_zero (S := S1x256x128) zero3 i7 x7]
  exact v_apply x1 x4 x7

theorem out_A (c : Dev nD) (i : grid0.Coords) (arg2 : Memref sig .tc .vmem S1x2304x384 .f32) (harg2 : arg2.IsWhole) (arg3 : Memref sig .tc .vmem S1x2304x256 .f32) (harg3 : arg3.IsWhole) (arg4 : Memref sig .tc .vmem S1x2304x256 .f32) (harg4 : arg4.IsWhole) (arg5 : Memref sig .tc .vmem S1x384 .f32) (harg5 : arg5.IsWhole) (arg6 : Memref sig .tc .vmem S1x256 .f32) (harg6 : arg6.IsWhole) (arg7 : Memref sig .tc .vmem S1x384x256 .bf16) (harg7 : arg7.IsWhole) (arg8 : Memref sig .tc .vmem S1x256x256 .bf16) (harg8 : arg8.IsWhole) (arg9 : Memref sig .tc .vmem S1x256x128 .bf16) (harg9 : arg9.IsWhole) (arg10 : Memref sig .tc .vmem S2304x128 .f32) (harg10 : arg10.IsWhole) (arg11 : Memref sig .tc .vmem S2304x128 .f32) (harg11 : arg11.IsWhole) (arg12 : Memref sig .tc .vmem S2304x128 .f32) (harg12 : arg12.IsWhole) (arg13 : Memref sig .tc .vmem S1x2304x128 .bf16) (harg13 : arg13.IsWhole) (arg14 : Memref sig .tc .vmem S2x2304x128 .bf16) (harg14 : arg14.IsWhole) (arg15 : Memref sig .tc .vmem S2x2304x128 .bf16) (harg15 : arg15.IsWhole) (arg16 : Memref sig .tc .vmem S2304x128 .bf16) (harg16 : arg16.IsWhole)
    (x0 : Vec Ideal S1x2304x384 .f32) (x1 : Vec Ideal S1x2304x256 .f32) (x2 : Vec Ideal S1x2304x256 .f32) (x3 : Vec Ideal S1x384 .f32) (x4 : Vec Ideal S1x256 .f32) (x5 : Vec Ideal S1x384x256 .bf16) (x6 : Vec Ideal S1x256x256 .bf16) (x7 : Vec Ideal S1x256x128 .bf16) (x8 : Vec Ideal S2304x128 .f32) (x9 : Vec Ideal S2304x128 .f32) (x10 : Vec Ideal S2304x128 .f32) (y : S1x2304x128.Idx) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y = attend (Tile.Q x0 x3 x5 x8) (Tile.K x1 x4 x6 x2 x9 x10) (Tile.W x1 x4 x7) (y 1) (y 2) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  have hcov := cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
  revert hcov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  intro hcov
  canon_tiles z h using hcov
  · exact (congrFun (lat_eq4 _ _ _ _ _ _) z).trans (lat_stored _ _ _ _ _ _ _ _ _ _ _ (scratch_q1 x0 x3 x5 x8 _ _ _ _) (scratch_q0 x0 x3 x5 x8 _ _ _ _)
      (scratch_k1 x1 x4 x6 x2 x9 x10 _ _ _ _ _ _) (scratch_k0 x1 x4 x6 x2 x9 x10 _ _ _ _ _ _) (scratch_v x1 x4 x7 _ _ _) _ _ _
      1792 (by decide) (fun r => by have := r.isLt; omega) _ _ y z h1 h2)
  · exact (congrFun (lat_eq3 _ _ _ _ _ _) z).trans (lat_stored _ _ _ _ _ _ _ _ _ _ _ (scratch_q1 x0 x3 x5 x8 _ _ _ _) (scratch_q0 x0 x3 x5 x8 _ _ _ _)
      (scratch_k1 x1 x4 x6 x2 x9 x10 _ _ _ _ _ _) (scratch_k0 x1 x4 x6 x2 x9 x10 _ _ _ _ _ _) (scratch_v x1 x4 x7 _ _ _) _ _ _
      1280 (by decide) (fun r => by have := r.isLt; omega) _ _ y z h1 h2)
  · exact (congrFun (lat_eq2 _ _ _ _ _ _) z).trans (lat_stored _ _ _ _ _ _ _ _ _ _ _ (scratch_q1 x0 x3 x5 x8 _ _ _ _) (scratch_q0 x0 x3 x5 x8 _ _ _ _)
      (scratch_k1 x1 x4 x6 x2 x9 x10 _ _ _ _ _ _) (scratch_k0 x1 x4 x6 x2 x9 x10 _ _ _ _ _ _) (scratch_v x1 x4 x7 _ _ _) _ _ _
      768 (by decide) (fun r => by have := r.isLt; omega) _ _ y z h1 h2)
  · exact (lat_stored _ _ _ _ _ _ _ _ _ _ _ (scratch_q1 x0 x3 x5 x8 _ _ _ _) (scratch_q0 x0 x3 x5 x8 _ _ _ _)
      (scratch_k1 x1 x4 x6 x2 x9 x10 _ _ _ _ _ _) (scratch_k0 x1 x4 x6 x2 x9 x10 _ _ _ _ _ _) (scratch_v x1 x4 x7 _ _ _) _ _ _
      256 (by decide) (fun r => by have := r.isLt; omega) _ _ y z h1 h2)
  · exact ctx_stored _ _ _ _ _ _ _ _ _ _ _ (scratch_q1 x0 x3 x5 x8 _ _ _ _) (scratch_q0 x0 x3 x5 x8 _ _ _ _)
      (scratch_k1 x1 x4 x6 x2 x9 x10 _ _ _ _ _ _) (scratch_k0 x1 x4 x6 x2 x9 x10 _ _ _ _ _ _) (scratch_v x1 x4 x7 _ _ _) _ _ _
      _ _ _ y z h1 h2

end Cert.KernelIdeal.Block
end
-- ==== Proof.MlaHost.lean ====
/-
  The latent attention call's operands as the host prepares them, read at an index over the arguments.
-/
module

public import proofs.«01_k».proof.Proof.Gen.KernelIdeal.Value
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Host

open Cert.KernelIdeal Cert.KernelIdeal.Gen

/-- Gathering along the last axis of `[A, B, 32]` by 32 words. -/
abbrev lanesDims (A B : ℕ) (wf : GatherDims.WF ⟨3, ![A, B, 32]⟩ ⟨2, ![32, 1]⟩ ⟨3, ![A, B, 32]⟩ [0, 1] [2] [] [2] [] 1 ![A, B, 1]) :
    GatherDims ⟨3, ![A, B, 32]⟩ ⟨2, ![32, 1]⟩ ⟨3, ![A, B, 32]⟩ where
  offsetDims := [0, 1]
  collapsedSliceDims := [2]
  operandBatchingDims := []
  startIndicesBatchingDims := []
  startIndexMap := [2]
  indexVectorDim := 1
  sliceSizes := ![A, B, 1]
  wf := wf

/-- That gather at an index: the operand's lane is the word at the result's lane, clamped into range. -/
theorem gather_lanes {α : Type} {A B : ℕ} (wf : GatherDims.WF ⟨3, ![A, B, 32]⟩ ⟨2, ![32, 1]⟩ ⟨3, ![A, B, 32]⟩ [0, 1] [2] [] [2] [] 1 ![A, B, 1])
    (x : (⟨3, ![A, B, 32]⟩ : Shape).Idx → α) (idx : IVec ⟨2, ![32, 1]⟩ 32) (a : Fin A) (b : Fin B) (j : Fin 32) (k : Fin 32)
    (hk : (idx (ix2 j 0)).toInt.toNat = k.val) :
    Host.gather (lanesDims A B wf) x idx (ix3 a b j) = x (ix3 a b k) := by
  unfold Host.gather
  congr 1
  funext i
  refine Fin.ext ?_
  show (lanesDims A B wf).start (ix3 a b j) idx i + (lanesDims A B wf).batchCoord (ix3 a b j) i
      + (lanesDims A B wf).offCoord (ix3 a b j) i = _
  rw [GatherDims.batchCoord_eq_zero _ _ _ (fun h => by simp at h)]
  have hstart : ∀ q : Fin 3, q ≠ 2 → (lanesDims A B wf).start (ix3 a b j) idx q = 0 :=
    fun q hq => dif_neg (fun h => hq (List.mem_singleton.mp h))
  match i with
  | ⟨0, h0⟩ =>
    have h := hstart 0 (by decide)
    have h' : (lanesDims A B wf).start (ix3 a b j) idx ⟨0, h0⟩ = 0 := h
    rw [h']
    simp only [Nat.zero_add]
    rfl
  | ⟨1, h1⟩ =>
    have h := hstart 1 (by decide)
    have h' : (lanesDims A B wf).start (ix3 a b j) idx ⟨1, h1⟩ = 0 := h
    rw [h']
    simp only [Nat.zero_add]
    rfl
  | ⟨2, h2⟩ =>
    rw [GatherDims.offCoord_eq_zero _ _ _ (fun h => ((GatherDims.mem_sKept _ _).mp h).1 (List.mem_singleton.mpr rfl))]
    simp only [Nat.add_zero]
    have hsi : (lanesDims A B wf).siIdx (ix3 a b j) ⟨List.idxOf (2 : Fin 3) (lanesDims A B wf).startIndexMap,
        List.idxOf_lt_length_iff.2 (List.mem_singleton.mpr rfl)⟩ = ix2 j 0 := by
      funext b; refine Fin.ext ?_
      match b with
      | ⟨0, _⟩ => rfl
      | ⟨1, _⟩ => rfl
    refine (dif_pos (List.mem_singleton.mpr rfl)).trans ?_
    refine (congrArg (fun z => min (idx z).toInt.toNat (32 - 1)) hsi).trans ?_
    show min (idx (ix2 j 0)).toInt.toNat 31 = k.val
    rw [hk]
    have := k.isLt
    omega

/-- The even lanes, then the odd ones. -/
def EO (j : Fin 32) : Fin 32 := ⟨if j.val < 16 then 2 * j.val else 2 * (j.val - 16) + 1, by have := j.isLt; split <;> omega⟩
/-- The odd lanes, then the even ones. -/
def OE (j : Fin 32) : Fin 32 := ⟨if j.val < 16 then 2 * j.val + 1 else 2 * (j.val - 16), by have := j.isLt; split <;> omega⟩

theorem lit0_apply : ∀ j : Fin 32, (lit0 j).toInt.toNat = (EO j).val := by decide
theorem lit1_apply : ∀ j : Fin 32, (lit1 j).toInt.toNat = (OE j).val := by decide

variable (m : (ℓ : Loc nD τ sig) → Buf (Elt Ideal) ℓ) (c : Dev nD)

/-- The two streams' projections joined along the rows: 256 context rows, then 2048 latent ones. -/
def Z (a0 : Vec Ideal S8x256x2592 .f32) (a1 : Vec Ideal S8x2048x2592 .f32) (b : Fin 8) (r : Fin 2304) (k : Fin 2592) : EReal :=
  if h : r.val < 256 then a0 (ix3 b ⟨r.val, h⟩ k) else a1 (ix3 b ⟨r.val - 256, by have := r.isLt; omega⟩ k)

/-- The word the first table of lanes names. -/
theorem word0 : ∀ j : Fin 32, (broadcastInDim S32x1 ![0] bcast_S32_S32x1_0 (select (constantI S32 1 0#1)
      (addi (fun i => lit0 (S32.rowMajor i)) (broadcastInDim S32 ![] bcast_S_S32 (constantI S_ 32 32#32)))
      (fun i => lit0 (S32.rowMajor i))) (ix2 j 0)).toInt.toNat = (EO j).val := by decide +kernel
/-- The word the second table of lanes names. -/
theorem word1 : ∀ j : Fin 32, (broadcastInDim S32x1 ![0] bcast_S32_S32x1_0 (select (constantI S32 1 0#1)
      (addi (fun i => lit1 (S32.rowMajor i)) (broadcastInDim S32 ![] bcast_S_S32 (constantI S_ 32 32#32)))
      (fun i => lit1 (S32.rowMajor i))) (ix2 j 0)).toInt.toNat = (OE j).val := by decide +kernel

/-- The rotary columns of the joined projections, sliced off, at an index. -/
theorem slice_apply (a0 : Vec Ideal S8x256x2592 .f32) (a1 : Vec Ideal S8x2048x2592 .f32) (b : Fin 8) (r : Fin 2304) (j : Fin 32) :
    extractStridedSlice S8x2304x32 ![0, 0, 2560] (concatenate S8x2304x2592 1 [⟨S8x256x2592, a0⟩, ⟨S8x2048x2592, a1⟩]
      concatenates_S8x256x2592_S8x2048x2592_S8x2304x2592_d1) slices_S8x2304x2592_S8x2304x32_0_0_2560 (ix3 b r j)
      = Z a0 a1 b r ⟨2560 + j.val, by omega⟩ := by
  pointwise [Z]

/-- The rotary columns of the query weights, sliced off, at an index. -/
theorem sliceq_apply (a5 : Vec Ideal S384x768 .f32) (i : Fin 384) (n : Fin 8) (j : Fin 32) :
    extractStridedSlice S384x8x32 ![0, 0, 64] (shapeCast S384x8x96 a5 shapeCasts_S384x768_S384x8x96)
      slices_S384x8x96_S384x8x32_0_0_64 (ix3 i n j) = a5 (ix2 i ⟨n.val * 96 + (64 + j.val), by omega⟩) := by
  pointwise

theorem v26_low (b : Fin 8) (r : Fin 2304) (k : Fin 2560) : (V m c main_v26 : Vec Ideal S8x2304x2816 .f32) (ix3 b r ⟨k.val, by omega⟩)
    = Z (m (c, Proc.tc.devRef main_arg0)) (m (c, Proc.tc.devRef main_arg1)) b r ⟨k.val, by omega⟩ := by
  unfold V; after_reads_at
  after_reads_at
  unfold Z
  split <;> after_reads_at

theorem v26_zero1 (b : Fin 8) (r : Fin 2304) (j : Fin 64) :
    (V m c main_v26 : Vec Ideal S8x2304x2816 .f32) (ix3 b r ⟨2560+j.val, by omega⟩) = (0 : EReal) := by
  unfold V; after_reads_at
  after_reads_at
  after_reads_at
  rw [dif_pos (by omega)]
theorem v26_zero2 (b : Fin 8) (r : Fin 2304) (j : Fin 64) :
    (V m c main_v26 : Vec Ideal S8x2304x2816 .f32) (ix3 b r ⟨2688+j.val, by omega⟩) = (0 : EReal) := by
  unfold V; after_reads_at
  rw [dif_neg (by omega), dif_neg (by omega)]
  after_reads_at
  rw [dif_pos (by omega)]
  after_reads_at

theorem v26_eo (b : Fin 8) (r : Fin 2304) (j : Fin 32) :
    (V m c main_v26 : Vec Ideal S8x2304x2816 .f32) (ix3 b r ⟨2624+j.val, by omega⟩)
      = Z (m (c, Proc.tc.devRef main_arg0)) (m (c, Proc.tc.devRef main_arg1)) b r ⟨2560 + (EO j).val, by omega⟩ := by
  unfold V; after_reads_at
  rw [dif_neg (by omega), dif_pos (by omega)]
  after_reads_at
  rw [dif_neg (by omega), dif_pos (by omega)]
  after_reads_at
  refine (gather_lanes _ _ _ b r ⟨2624 + j.val - 2560 - 64, by omega⟩ (EO j) ?_).trans ?_
  · exact (word0 ⟨2624 + j.val - 2560 - 64, by omega⟩).trans (congrArg (fun z => (EO z).val) (Fin.ext (show 2624 + j.val - 2560 - 64 = j.val by omega)))
  · rw [slice_apply]
    after_reads_at
theorem v26_eo2 (b : Fin 8) (r : Fin 2304) (j : Fin 32) :
    (V m c main_v26 : Vec Ideal S8x2304x2816 .f32) (ix3 b r ⟨2656+j.val, by omega⟩)
      = Z (m (c, Proc.tc.devRef main_arg0)) (m (c, Proc.tc.devRef main_arg1)) b r ⟨2560 + (EO j).val, by omega⟩ := by
  unfold V; after_reads_at
  rw [dif_neg (by omega), dif_pos (by omega)]
  after_reads_at
  rw [dif_neg (by omega), dif_neg (by omega)]
  after_reads_at
  refine (gather_lanes _ _ _ b r ⟨2656 + j.val - 2560 - 64 - 32, by omega⟩ (EO j) ?_).trans ?_
  · exact (word0 ⟨2656 + j.val - 2560 - 64 - 32, by omega⟩).trans (congrArg (fun z => (EO z).val) (Fin.ext (show 2656 + j.val - 2560 - 64 - 32 = j.val by omega)))
  · rw [slice_apply]
    after_reads_at
theorem v26_oe (b : Fin 8) (r : Fin 2304) (j : Fin 32) :
    (V m c main_v26 : Vec Ideal S8x2304x2816 .f32) (ix3 b r ⟨2752+j.val, by omega⟩)
      = Z (m (c, Proc.tc.devRef main_arg0)) (m (c, Proc.tc.devRef main_arg1)) b r ⟨2560 + (OE j).val, by omega⟩ := by
  unfold V; after_reads_at
  rw [dif_neg (by omega), dif_neg (by omega)]
  after_reads_at
  rw [dif_neg (by omega), dif_pos (by omega)]
  after_reads_at
  refine (gather_lanes _ _ _ b r ⟨2752 + j.val - 2560 - 128 - 64, by omega⟩ (OE j) ?_).trans ?_
  · exact (word1 ⟨2752 + j.val - 2560 - 128 - 64, by omega⟩).trans (congrArg (fun z => (OE z).val) (Fin.ext (show 2752 + j.val - 2560 - 128 - 64 = j.val by omega)))
  · rw [slice_apply]
    after_reads_at
theorem v26_oe2 (b : Fin 8) (r : Fin 2304) (j : Fin 32) :
    (V m c main_v26 : Vec Ideal S8x2304x2816 .f32) (ix3 b r ⟨2784+j.val, by omega⟩)
      = Z (m (c, Proc.tc.devRef main_arg0)) (m (c, Proc.tc.devRef main_arg1)) b r ⟨2560 + (OE j).val, by omega⟩ := by
  unfold V; after_reads_at
  rw [dif_neg (by omega), dif_neg (by omega)]
  after_reads_at
  rw [dif_neg (by omega), dif_neg (by omega)]
  after_reads_at
  refine (gather_lanes _ _ _ b r ⟨2784 + j.val - 2560 - 128 - 64 - 32, by omega⟩ (OE j) ?_).trans ?_
  · exact (word1 ⟨2784 + j.val - 2560 - 128 - 64 - 32, by omega⟩).trans (congrArg (fun z => (OE z).val) (Fin.ext (show 2784 + j.val - 2560 - 128 - 64 - 32 = j.val by omega)))
  · rw [slice_apply]
    after_reads_at

/-- The cosines by row and pair: one over the context rows. -/
def cosT (a2 : Vec Ideal S2048x16 .f32) (r : Fin 2304) (j : Fin 16) : EReal :=
  if h : r.val < 256 then 1 else a2 (ix2 ⟨r.val - 256, by have := r.isLt; omega⟩ j)
/-- The sines by row and pair: zero over the context rows. -/
def sinT (a3 : Vec Ideal S2048x16 .f32) (r : Fin 2304) (j : Fin 16) : EReal :=
  if h : r.val < 256 then 0 else a3 (ix2 ⟨r.val - 256, by have := r.isLt; omega⟩ j)
/-- The cosines on both halves of 32 lanes. -/
def CC (a2 : Vec Ideal S2048x16 .f32) (r : Fin 2304) (q : Fin 32) : EReal :=
  if h : q.val < 16 then cosT a2 r ⟨q.val, h⟩ else cosT a2 r ⟨q.val - 16, by have := q.isLt; omega⟩
/-- The sines on both halves of 32 lanes, negated on the first. -/
def SS (a3 : Vec Ideal S2048x16 .f32) (r : Fin 2304) (q : Fin 32) : EReal :=
  if h : q.val < 16 then - sinT a3 r ⟨q.val, h⟩ else sinT a3 r ⟨q.val - 16, by have := q.isLt; omega⟩

theorem v31_apply (r : Fin 2304) (q : Fin 32) : (V m c main_v31 : Vec Ideal S2304x32 .f32) (ix2 r q)
    = CC (m (c, Proc.tc.devRef main_arg2)) r q := by
  unfold V; after_reads_at
  by_cases hq : q.val < 16 <;> by_cases hr : r.val < 256 <;> simp only [CC, cosT, hq, hr, ↓reduceDIte] <;> after_reads_at
theorem v33_apply (r : Fin 2304) (q : Fin 32) : (V m c main_v33 : Vec Ideal S2304x32 .f32) (ix2 r q)
    = SS (m (c, Proc.tc.devRef main_arg3)) r q := by
  unfold V; after_reads_at
  by_cases hq : q.val < 16 <;> by_cases hr : r.val < 256 <;> simp only [SS, sinT, hq, hr, ↓reduceDIte] <;> after_reads_at

theorem v36_0 (r : Fin 2304) (q : Fin 64) : (V m c main_v36 : Vec Ideal S2304x128 .f32) (ix2 r ⟨q.val, by omega⟩) = (1 : EReal) := by
  unfold V; after_reads_at
  after_reads_at
theorem v37_0 (r : Fin 2304) (q : Fin 64) : (V m c main_v37 : Vec Ideal S2304x128 .f32) (ix2 r ⟨q.val, by omega⟩) = (0 : EReal) := by
  unfold V; after_reads_at
  after_reads_at
theorem v38_0 (r : Fin 2304) (q : Fin 64) : (V m c main_v38 : Vec Ideal S2304x128 .f32) (ix2 r ⟨q.val, by omega⟩) = (0 : EReal) := by
  unfold V; after_reads_at
  after_reads_at
theorem v36_1 (r : Fin 2304) (q : Fin 32) : (V m c main_v36 : Vec Ideal S2304x128 .f32) (ix2 r ⟨64 + q.val, by omega⟩)
    = CC (m (c, Proc.tc.devRef main_arg2)) r q := by
  unfold V; after_reads_at
  after_reads_at
  by_cases hq : q.val < 16 <;> by_cases hr : r.val < 256 <;> simp only [CC, cosT, hq, hr, ↓reduceDIte] <;> after_reads_at
theorem v36_2 (r : Fin 2304) (q : Fin 32) : (V m c main_v36 : Vec Ideal S2304x128 .f32) (ix2 r ⟨96 + q.val, by omega⟩)
    = SS (m (c, Proc.tc.devRef main_arg3)) r q := by
  unfold V; after_reads_at
  rw [dif_neg (by omega), dif_neg (by omega)]
  simp only [show 96 + q.val - 64 - 32 = q.val by omega]
  after_reads_at
  by_cases hq : q.val < 16 <;> by_cases hr : r.val < 256 <;> simp only [SS, sinT, hq, hr, ↓reduceDIte] <;> after_reads_at
theorem v37_1 (r : Fin 2304) (q : Fin 32) : (V m c main_v37 : Vec Ideal S2304x128 .f32) (ix2 r ⟨64 + q.val, by omega⟩)
    = CC (m (c, Proc.tc.devRef main_arg2)) r q := by
  unfold V; after_reads_at
  after_reads_at
  by_cases hq : q.val < 16 <;> by_cases hr : r.val < 256 <;> simp only [CC, cosT, hq, hr, ↓reduceDIte] <;> after_reads_at
theorem v37_2 (r : Fin 2304) (q : Fin 32) : (V m c main_v37 : Vec Ideal S2304x128 .f32) (ix2 r ⟨96 + q.val, by omega⟩)
    = CC (m (c, Proc.tc.devRef main_arg2)) r q := by
  unfold V; after_reads_at
  rw [dif_neg (by omega), dif_neg (by omega)]
  simp only [show 96 + q.val - 64 - 32 = q.val by omega]
  after_reads_at
  by_cases hq : q.val < 16 <;> by_cases hr : r.val < 256 <;> simp only [CC, cosT, hq, hr, ↓reduceDIte] <;> after_reads_at
theorem v38_1 (r : Fin 2304) (q : Fin 32) : (V m c main_v38 : Vec Ideal S2304x128 .f32) (ix2 r ⟨64 + q.val, by omega⟩)
    = SS (m (c, Proc.tc.devRef main_arg3)) r q := by
  unfold V; after_reads_at
  after_reads_at
  by_cases hq : q.val < 16 <;> by_cases hr : r.val < 256 <;> simp only [SS, sinT, hq, hr, ↓reduceDIte] <;> after_reads_at
theorem v38_2 (r : Fin 2304) (q : Fin 32) : (V m c main_v38 : Vec Ideal S2304x128 .f32) (ix2 r ⟨96 + q.val, by omega⟩)
    = SS (m (c, Proc.tc.devRef main_arg3)) r q := by
  unfold V; after_reads_at
  rw [dif_neg (by omega), dif_neg (by omega)]
  simp only [show 96 + q.val - 64 - 32 = q.val by omega]
  after_reads_at
  by_cases hq : q.val < 16 <;> by_cases hr : r.val < 256 <;> simp only [SS, sinT, hq, hr, ↓reduceDIte] <;> after_reads_at

theorem wq0 (p : Fin 4) (i : Fin 384) (h : Fin 2) (j : Fin 64) : (V m c main_v64 : Vec Ideal S4x384x256 .bf16) (ix3 p i ⟨h.val * 128 + j.val, by omega⟩)
    = (m (c, Proc.tc.devRef main_arg5) : Vec Ideal S384x768 .f32) (ix2 i ⟨(p.val * 2 + h.val) * 96 + j.val, by omega⟩) := by
  unfold V; after_reads_at
  rw [dif_pos (by omega)]
  after_reads_at
  exact congrArg (fun k => (m (c, Proc.tc.devRef main_arg5) : Vec Ideal S384x768 .f32) (ix2 i k)) (Fin.ext (show (p.val * 2 + (h.val * 128 + j.val) / 128) * 96 + (h.val * 128 + j.val) % 128 = (p.val * 2 + h.val) * 96 + j.val by omega))
theorem wq1 (p : Fin 4) (i : Fin 384) (h : Fin 2) (j : Fin 32) : (V m c main_v64 : Vec Ideal S4x384x256 .bf16) (ix3 p i ⟨h.val * 128 + (64 + j.val), by omega⟩)
    = (m (c, Proc.tc.devRef main_arg5) : Vec Ideal S384x768 .f32) (ix2 i ⟨(p.val * 2 + h.val) * 96 + (64 + (EO j).val), by omega⟩) := by
  unfold V; after_reads_at
  rw [dif_neg (by omega), dif_pos (by omega)]
  after_reads_at
  refine (gather_lanes _ _ _ i ⟨p.val * 2 + (h.val * 128 + (64 + j.val)) / 128, by omega⟩ ⟨(h.val * 128 + (64 + j.val)) % 128 - 64, by omega⟩ (EO j) ?_).trans ?_
  · exact (word0 ⟨(h.val * 128 + (64 + j.val)) % 128 - 64, by omega⟩).trans (congrArg (fun z => (EO z).val) (Fin.ext (show (h.val * 128 + (64 + j.val)) % 128 - 64 = j.val by omega)))
  · pointwise
    exact congrArg (fun k => (m (c, Proc.tc.devRef main_arg5) : Vec Ideal S384x768 .f32) (ix2 i k)) (Fin.ext (by show (p.val * 2 + (h.val * 128 + (64 + j.val)) / 128) * 96 + (64 + (EO j).val) = (p.val * 2 + h.val) * 96 + (64 + (EO j).val); omega))
theorem wq2 (p : Fin 4) (i : Fin 384) (h : Fin 2) (j : Fin 32) : (V m c main_v64 : Vec Ideal S4x384x256 .bf16) (ix3 p i ⟨h.val * 128 + (96 + j.val), by omega⟩)
    = (m (c, Proc.tc.devRef main_arg5) : Vec Ideal S384x768 .f32) (ix2 i ⟨(p.val * 2 + h.val) * 96 + (64 + (OE j).val), by omega⟩) := by
  unfold V; after_reads_at
  rw [dif_neg (by omega), dif_neg (by omega)]
  after_reads_at
  refine (gather_lanes _ _ _ i ⟨p.val * 2 + (h.val * 128 + (96 + j.val)) / 128, by omega⟩ ⟨(h.val * 128 + (96 + j.val)) % 128 - 64 - 32, by omega⟩ (OE j) ?_).trans ?_
  · exact (word1 ⟨(h.val * 128 + (96 + j.val)) % 128 - 64 - 32, by omega⟩).trans (congrArg (fun z => (OE z).val) (Fin.ext (show (h.val * 128 + (96 + j.val)) % 128 - 64 - 32 = j.val by omega)))
  · pointwise
    exact congrArg (fun k => (m (c, Proc.tc.devRef main_arg5) : Vec Ideal S384x768 .f32) (ix2 i k)) (Fin.ext (by show (p.val * 2 + (h.val * 128 + (96 + j.val)) / 128) * 96 + (64 + (OE j).val) = (p.val * 2 + h.val) * 96 + (64 + (OE j).val); omega))
theorem wk0 (p : Fin 4) (i : Fin 256) (h : Fin 2) (j : Fin 64) : (V m c main_v65 : Vec Ideal S4x256x256 .bf16) (ix3 p i ⟨h.val * 128 + j.val, by omega⟩)
    = (m (c, Proc.tc.devRef main_arg7) : Vec Ideal S256x1024 .f32) (ix2 i ⟨(p.val * 2 + h.val) * 128 + j.val, by omega⟩) := by
  unfold V; after_reads_at
  rw [dif_pos (by omega)]
  after_reads_at
  exact congrArg (fun k => (m (c, Proc.tc.devRef main_arg7) : Vec Ideal S256x1024 .f32) (ix2 i k)) (Fin.ext (show (p.val * 2 + (h.val * 128 + j.val) / 128) * 128 + (h.val * 128 + j.val) % 128 = (p.val * 2 + h.val) * 128 + j.val by omega))
theorem wk1 (p : Fin 4) (i : Fin 256) (h : Fin 2) (j : Fin 64) : (V m c main_v65 : Vec Ideal S4x256x256 .bf16) (ix3 p i ⟨h.val * 128 + (64 + j.val), by omega⟩)
    = (0 : EReal) := by
  unfold V; after_reads_at
  rw [dif_neg (by omega)]
  after_reads_at
theorem wv_apply (p : Fin 4) (i : Fin 256) (l : Fin 128) : (V m c main_v66 : Vec Ideal S4x256x128 .bf16) (ix3 p i l)
    = (m (c, Proc.tc.devRef main_arg7) : Vec Ideal S256x1024 .f32) (ix2 i ⟨(p.val * 2 + l.val / 64) * 128 + (64 + l.val % 64), by omega⟩) := by
  unfold V; after_reads_at
theorem v67_apply (j : Fin 384) : (V m c main_v67 : Vec Ideal S1x384 .f32) (ix2 0 j) = (m (c, Proc.tc.devRef main_arg4) : Vec Ideal S384 .f32) (ix1 j) := by
  unfold V; after_reads_at
theorem v68_apply (j : Fin 256) : (V m c main_v68 : Vec Ideal S1x256 .f32) (ix2 0 j) = (m (c, Proc.tc.devRef main_arg6) : Vec Ideal S256 .f32) (ix1 j) := by
  unfold V; after_reads_at

end Cert.KernelIdeal.Host
end
-- ==== Proof.MlaValue.lean ====
/-
  The latent attention call, whole: its result array over the extended reals, from the arrays the call is given. Point
  `t` of the grid is batch `t / 4` and pair of heads `t % 4`; it writes that pair's 128 columns of that batch.
-/
module

public import proofs.«01_k».proof.Proof.MlaBlock
public import proofs.«01_k».proof.Proof.MlaHost
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Block

variable (m : (ℓ : Loc nD τ sig) → Buf (Elt Ideal) ℓ) (ρ : Dev nD → PrngReg)

theorem N_eq : cfg0.N = 32 := N_0

/-- Point `t` is batch `t / 4`, pair `t % 4`. -/
abbrev batch (t : Fin cfg0.N) : Fin 8 := ⟨t.val / 4, by have := t.isLt; have := N_eq; omega⟩
abbrev pair (t : Fin cfg0.N) : Fin 4 := ⟨t.val % 4, by omega⟩

/-- Where each window's block lies at a point. -/
theorem index_eq : ∀ t : Fin cfg0.N,
    (win0_0.index t 0 = t.val / 4 ∧ win0_0.index t 1 = 0 ∧ win0_0.index t 2 = 5)
    ∧ (win0_1.index t 0 = t.val / 4 ∧ win0_1.index t 1 = 0 ∧ win0_1.index t 2 = 9)
    ∧ (win0_2.index t 0 = t.val / 4 ∧ win0_2.index t 1 = 0 ∧ win0_2.index t 2 = 10)
    ∧ (win0_3.index t 0 = 0 ∧ win0_3.index t 1 = 0)
    ∧ (win0_4.index t 0 = 0 ∧ win0_4.index t 1 = 0)
    ∧ (win0_5.index t 0 = t.val % 4 ∧ win0_5.index t 1 = 0 ∧ win0_5.index t 2 = 0)
    ∧ (win0_6.index t 0 = t.val % 4 ∧ win0_6.index t 1 = 0 ∧ win0_6.index t 2 = 0)
    ∧ (win0_7.index t 0 = t.val % 4 ∧ win0_7.index t 1 = 0 ∧ win0_7.index t 2 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = t.val / 4 ∧ win0_11.index t 1 = 0 ∧ win0_11.index t 2 = t.val % 4) := by decide +kernel

/-- The low-rank query rows of a batch, as the call is given them. -/
def zq (c : Dev nD) (b : Fin 8) : Vec Ideal S1x2304x384 .f32 := fun y =>
  (V m c main_v26 : Vec Ideal S8x2304x2816 .f32) (ix3 b (y 1) ⟨1920 + (y 2).val, by have : (y 2).val < 384 := (y 2).isLt; omega⟩)
/-- The low-rank key and value rows of a batch. -/
def zkv (c : Dev nD) (b : Fin 8) : Vec Ideal S1x2304x256 .f32 := fun y =>
  (V m c main_v26 : Vec Ideal S8x2304x2816 .f32) (ix3 b (y 1) ⟨2304 + (y 2).val, by have : (y 2).val < 256 := (y 2).isLt; omega⟩)
/-- The shared rotary columns of a batch. -/
def zr (c : Dev nD) (b : Fin 8) : Vec Ideal S1x2304x256 .f32 := fun y =>
  (V m c main_v26 : Vec Ideal S8x2304x2816 .f32) (ix3 b (y 1) ⟨2560 + (y 2).val, by have : (y 2).val < 256 := (y 2).isLt; omega⟩)
/-- A pair's query weights. -/
def wq (c : Dev nD) (p : Fin 4) : Vec Ideal S1x384x256 .bf16 := fun y => (V m c main_v64 : Vec Ideal S4x384x256 .bf16) (ix3 p (y 1) (y 2))
/-- A pair's key weights. -/
def wk (c : Dev nD) (p : Fin 4) : Vec Ideal S1x256x256 .bf16 := fun y => (V m c main_v65 : Vec Ideal S4x256x256 .bf16) (ix3 p (y 1) (y 2))
/-- A pair's value weights. -/
def wv (c : Dev nD) (p : Fin 4) : Vec Ideal S1x256x128 .bf16 := fun y => (V m c main_v66 : Vec Ideal S4x256x128 .bf16) (ix3 p (y 1) (y 2))

theorem blk0 (c : Dev nD) (t : Fin cfg0.N) : (X0_0 m c t : Vec Ideal S1x2304x384 .f32) = zq m c (batch t) := by
  have hi := (index_eq t).1
  funext y
  have h0 : (y 0).val < 1 := (y 0).isLt
  unfold X0_0 Pipeline.Window.fill
  rw [dif_pos (moved0_0 t y)]
  unfold iblk
  rw [View.read_apply]
  show V m c main_v26 _ = V m c main_v26 _
  congr 1
  funext a
  apply Fin.ext
  match a with
  | ⟨0, _⟩ => show win0_0.index t 0 * 1 + 1 * (y 0).val = t.val / 4; rw [hi.1]; omega
  | ⟨1, _⟩ => show win0_0.index t 1 * 2304 + 1 * (y 1).val = (y 1).val; rw [hi.2.1]; omega
  | ⟨2, _⟩ => show win0_0.index t 2 * 384 + 1 * (y 2).val = 1920 + (y 2).val; rw [hi.2.2]; omega

theorem blk1 (c : Dev nD) (t : Fin cfg0.N) : (iblk m c 1 t : Vec Ideal S1x2304x256 .f32) = zkv m c (batch t) := by
  have hi := (index_eq t).2.1
  funext y
  have h0 : (y 0).val < 1 := (y 0).isLt
  unfold iblk
  rw [View.read_apply]
  show V m c main_v26 _ = V m c main_v26 _
  congr 1
  funext a
  apply Fin.ext
  match a with
  | ⟨0, _⟩ => show win0_1.index t 0 * 1 + 1 * (y 0).val = t.val / 4; rw [hi.1]; omega
  | ⟨1, _⟩ => show win0_1.index t 1 * 2304 + 1 * (y 1).val = (y 1).val; rw [hi.2.1]; omega
  | ⟨2, _⟩ => show win0_1.index t 2 * 256 + 1 * (y 2).val = 2304 + (y 2).val; rw [hi.2.2]; omega

theorem blk2 (c : Dev nD) (t : Fin cfg0.N) : (iblk m c 2 t : Vec Ideal S1x2304x256 .f32) = zr m c (batch t) := by
  have hi := (index_eq t).2.2.1
  funext y
  have h0 : (y 0).val < 1 := (y 0).isLt
  unfold iblk
  rw [View.read_apply]
  show V m c main_v26 _ = V m c main_v26 _
  congr 1
  funext a
  apply Fin.ext
  match a with
  | ⟨0, _⟩ => show win0_2.index t 0 * 1 + 1 * (y 0).val = t.val / 4; rw [hi.1]; omega
  | ⟨1, _⟩ => show win0_2.index t 1 * 2304 + 1 * (y 1).val = (y 1).val; rw [hi.2.1]; omega
  | ⟨2, _⟩ => show win0_2.index t 2 * 256 + 1 * (y 2).val = 2560 + (y 2).val; rw [hi.2.2]; omega

theorem blk3 (c : Dev nD) (t : Fin cfg0.N) : (iblk m c 3 t : Vec Ideal S1x384 .f32) = (V m c main_v67 : Vec Ideal S1x384 .f32) := by
  have hi := (index_eq t).2.2.2.1
  funext y
  unfold iblk
  rw [View.read_apply]
  show V m c main_v67 _ = V m c main_v67 _
  congr 1
  funext a
  apply Fin.ext
  match a with
  | ⟨0, _⟩ => show win0_3.index t 0 * 1 + 1 * (y 0).val = (y 0).val; rw [hi.1]; omega
  | ⟨1, _⟩ => show win0_3.index t 1 * 384 + 1 * (y 1).val = (y 1).val; rw [hi.2]; omega

theorem blk4 (c : Dev nD) (t : Fin cfg0.N) : (iblk m c 4 t : Vec Ideal S1x256 .f32) = (V m c main_v68 : Vec Ideal S1x256 .f32) := by
  have hi := (index_eq t).2.2.2.2.1
  funext y
  unfold iblk
  rw [View.read_apply]
  show V m c main_v68 _ = V m c main_v68 _
  congr 1
  funext a
  apply Fin.ext
  match a with
  | ⟨0, _⟩ => show win0_4.index t 0 * 1 + 1 * (y 0).val = (y 0).val; rw [hi.1]; omega
  | ⟨1, _⟩ => show win0_4.index t 1 * 256 + 1 * (y 1).val = (y 1).val; rw [hi.2]; omega

theorem blk5 (c : Dev nD) (t : Fin cfg0.N) : (iblk m c 5 t : Vec Ideal S1x384x256 .bf16) = wq m c (pair t) := by
  have hi := (index_eq t).2.2.2.2.2.1
  funext y
  have h0 : (y 0).val < 1 := (y 0).isLt
  unfold iblk
  rw [View.read_apply]
  show V m c main_v64 _ = V m c main_v64 _
  congr 1
  funext a
  apply Fin.ext
  match a with
  | ⟨0, _⟩ => show win0_5.index t 0 * 1 + 1 * (y 0).val = t.val % 4; rw [hi.1]; omega
  | ⟨1, _⟩ => show win0_5.index t 1 * 384 + 1 * (y 1).val = (y 1).val; rw [hi.2.1]; omega
  | ⟨2, _⟩ => show win0_5.index t 2 * 256 + 1 * (y 2).val = (y 2).val; rw [hi.2.2]; omega

theorem blk6 (c : Dev nD) (t : Fin cfg0.N) : (iblk m c 6 t : Vec Ideal S1x256x256 .bf16) = wk m c (pair t) := by
  have hi := (index_eq t).2.2.2.2.2.2.1
  funext y
  have h0 : (y 0).val < 1 := (y 0).isLt
  unfold iblk
  rw [View.read_apply]
  show V m c main_v65 _ = V m c main_v65 _
  congr 1
  funext a
  apply Fin.ext
  match a with
  | ⟨0, _⟩ => show win0_6.index t 0 * 1 + 1 * (y 0).val = t.val % 4; rw [hi.1]; omega
  | ⟨1, _⟩ => show win0_6.index t 1 * 256 + 1 * (y 1).val = (y 1).val; rw [hi.2.1]; omega
  | ⟨2, _⟩ => show win0_6.index t 2 * 256 + 1 * (y 2).val = (y 2).val; rw [hi.2.2]; omega

theorem blk7 (c : Dev nD) (t : Fin cfg0.N) : (iblk m c 7 t : Vec Ideal S1x256x128 .bf16) = wv m c (pair t) := by
  have hi := (index_eq t).2.2.2.2.2.2.2.1
  funext y
  have h0 : (y 0).val < 1 := (y 0).isLt
  unfold iblk
  rw [View.read_apply]
  show V m c main_v66 _ = V m c main_v66 _
  congr 1
  funext a
  apply Fin.ext
  match a with
  | ⟨0, _⟩ => show win0_7.index t 0 * 1 + 1 * (y 0).val = t.val % 4; rw [hi.1]; omega
  | ⟨1, _⟩ => show win0_7.index t 1 * 256 + 1 * (y 1).val = (y 1).val; rw [hi.2.1]; omega
  | ⟨2, _⟩ => show win0_7.index t 2 * 128 + 1 * (y 2).val = (y 2).val; rw [hi.2.2]; omega

theorem blk8 (c : Dev nD) (t : Fin cfg0.N) : (iblk m c 8 t : Vec Ideal S2304x128 .f32) = (V m c main_v36 : Vec Ideal S2304x128 .f32) := by
  have hi := (index_eq t).2.2.2.2.2.2.2.2.1
  funext y
  unfold iblk
  rw [View.read_apply]
  show V m c main_v36 _ = V m c main_v36 _
  congr 1
  funext a
  apply Fin.ext
  match a with
  | ⟨0, _⟩ => show win0_8.index t 0 * 2304 + 1 * (y 0).val = (y 0).val; rw [hi.1]; omega
  | ⟨1, _⟩ => show win0_8.index t 1 * 128 + 1 * (y 1).val = (y 1).val; rw [hi.2]; omega

theorem blk9 (c : Dev nD) (t : Fin cfg0.N) : (iblk m c 9 t : Vec Ideal S2304x128 .f32) = (V m c main_v37 : Vec Ideal S2304x128 .f32) := by
  have hi := (index_eq t).2.2.2.2.2.2.2.2.2.1
  funext y
  unfold iblk
  rw [View.read_apply]
  show V m c main_v37 _ = V m c main_v37 _
  congr 1
  funext a
  apply Fin.ext
  match a with
  | ⟨0, _⟩ => show win0_9.index t 0 * 2304 + 1 * (y 0).val = (y 0).val; rw [hi.1]; omega
  | ⟨1, _⟩ => show win0_9.index t 1 * 128 + 1 * (y 1).val = (y 1).val; rw [hi.2]; omega

theorem blk10 (c : Dev nD) (t : Fin cfg0.N) : (iblk m c 10 t : Vec Ideal S2304x128 .f32) = (V m c main_v38 : Vec Ideal S2304x128 .f32) := by
  have hi := (index_eq t).2.2.2.2.2.2.2.2.2.2.1
  funext y
  unfold iblk
  rw [View.read_apply]
  show V m c main_v38 _ = V m c main_v38 _
  congr 1
  funext a
  apply Fin.ext
  match a with
  | ⟨0, _⟩ => show win0_10.index t 0 * 2304 + 1 * (y 0).val = (y 0).val; rw [hi.1]; omega
  | ⟨1, _⟩ => show win0_10.index t 1 * 128 + 1 * (y 1).val = (y 1).val; rw [hi.2]; omega

/-- The result: the attention of a batch's pair of heads, from the arrays the call is given. -/
def result (c : Dev nD) (b : Fin 8) (p : Fin 4) (r : Fin 2304) (l : Fin 128) : EReal :=
  attend (Tile.Q (zq m c b) (V m c main_v67) (wq m c p) (V m c main_v36))
    (Tile.K (zkv m c b) (V m c main_v68) (wk m c p) (zr m c b) (V m c main_v37) (V m c main_v38))
    (Tile.W (zkv m c b) (V m c main_v68) (wv m c p)) r l

/-- What a point leaves in its output block. -/
theorem outs_eq (c : Dev nD) (t : Fin cfg0.N) (y : S1x2304x128.Idx) :
    (outsAt0 m c t : Vec Ideal S1x2304x128 .bf16) y = result m c (batch t) (pair t) (y 1) (y 2) := by
  unfold outsAt0
  refine (out_A ..).trans ?_
  unfold result
  rw [blk0, blk1, blk2, blk3, blk4, blk5, blk6, blk7, blk8, blk9, blk10]

/-- The result array's final contents. -/
abbrev final (c : Dev nD) : Buf (Elt Ideal) ((c : Thread nD τ).loc main_v69) :=
  fun i => result m c (i 0) ⟨(i 2).val / 128, by have : (i 2).val < 512 := (i 2).isLt; omega⟩ (i 1) ⟨(i 2).val % 128, by omega⟩

/-- A write-back writes the point's part of the result. -/
theorem flushed_eq (c : Dev nD) (t : Fin cfg0.N) (hf : (cfg0.win 11).flush t = true) :
    (dats m 0 c).flushed 11 t = ((cfg0.win 11).blk t).view.read (Elt Ideal) (final m c) := by
  have hi := (index_eq t).2.2.2.2.2.2.2.2.2.2.2
  rw [Value.flushed11]
  funext y
  have hy0 : (y 0).val < 1 := (y 0).isLt
  have hy2 : (y 2).val < 128 := (y 2).isLt
  rw [View.read_apply]
  refine (outs_eq m c t y).trans ?_
  show _ = result _ _ _ _ _ _
  congr 1
  · exact Fin.ext (by show t.val / 4 = win0_11.index t 0 * 1 + 1 * (y 0).val; rw [hi.1]; omega)
  · exact Fin.ext (by show t.val % 4 = (win0_11.index t 2 * 128 + 1 * (y 2).val) / 128; rw [hi.2.2]; omega)
  · exact Fin.ext (by show (y 1).val = win0_11.index t 1 * 2304 + 1 * (y 1).val; rw [hi.2.1]; omega)
  · exact Fin.ext (by show (y 2).val = (win0_11.index t 2 * 128 + 1 * (y 2).val) % 128; rw [hi.2.2]; omega)

/-- An index of the array is in point `t`'s block iff its batch and its pair are the point's. -/
theorem mem_blk (t : Fin cfg0.N) (i : S8x2304x512.Idx) :
    i ∈ ((cfg0.win 11).blk t).view.set ↔ (i 0).val = t.val / 4 ∧ (i 2).val / 128 = t.val % 4 := by
  have hi := (index_eq t).2.2.2.2.2.2.2.2.2.2.2
  show i ∈ ((View.whole main_v69).slice (win0_11.rect t)).set ↔ _
  rw [View.set_slice_whole, Rect.mem_set_unit]
  have h1 : (i 1 : ℕ) < 2304 := (i 1).isLt
  have h2 : (i 2 : ℕ) < 512 := (i 2).isLt
  constructor
  · intro h
    have h0 : win0_11.index t 0 * 1 ≤ (i 0 : ℕ) ∧ (i 0 : ℕ) < win0_11.index t 0 * 1 + 1 := h 0
    have h2 : win0_11.index t 2 * 128 ≤ (i 2 : ℕ) ∧ (i 2 : ℕ) < win0_11.index t 2 * 128 + 128 := h 2
    rw [hi.1] at h0; rw [hi.2.2] at h2; omega
  · intro h a
    match a with
    | ⟨0, _⟩ => show win0_11.index t 0 * 1 ≤ (i 0 : ℕ) ∧ (i 0 : ℕ) < win0_11.index t 0 * 1 + 1
                rw [hi.1]; omega
    | ⟨1, _⟩ => show win0_11.index t 1 * 2304 ≤ (i 1 : ℕ) ∧ (i 1 : ℕ) < win0_11.index t 1 * 2304 + 2304
                rw [hi.2.1]; omega
    | ⟨2, _⟩ => show win0_11.index t 2 * 128 ≤ (i 2 : ℕ) ∧ (i 2 : ℕ) < win0_11.index t 2 * 128 + 128
                rw [hi.2.2]; omega

/-- So the result array ends holding the result. -/
theorem final_eq (c : Dev nD) : (dats m 0 c).arrAt 11 cfg0.N = final m c :=
  (dats m 0 c).arrAt_eq_of_cover 11 (final m c) (flushed_eq m c) fun i => by
    have h0 : (i 0 : ℕ) < 8 := (i 0).isLt
    have h2 : (i 2 : ℕ) < 512 := (i 2).isLt
    have hN := N_eq
    refine ⟨⟨(i 0 : ℕ) * 4 + (i 2 : ℕ) / 128, by omega⟩, flush0_11 _, (mem_blk _ i).mpr ?_⟩
    dsimp only; omega

/-- The run: the result array at the result, the arguments unchanged. -/
theorem run : θ_run defs (onTc (τ := τ) (main (F := Ideal))) ⟨m, fun _ => 0, ρ⟩ fun r => ∀ c : Dev nD,
      r.2.mem ((c : Thread nD τ).loc main_v69) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final_eq m c), (h c).2⟩) (Value.run_blocks m ρ)

end Cert.KernelIdeal.Whole
end
-- ==== Proof.MlaRef.lean ====
/-
  What the plain lines of the latent attention compute, read at an index.
-/
module

public import proofs.«01_k».proof.Proof.MlaHost
public import proofs.«01_k».proof.Proof.MlaTile
public import proofs.«01_k».proof.Proof.Gen.ReferenceIdeal.Read

@[expose] public section

set_option maxRecDepth 16384

noncomputable section

open Idealize.ShloMosaic Idealize.ShloMosaic.TcCoe Idealize.SL.Sem

namespace Cert.MlaSpec

open Cert.KernelIdeal.Tile (rms top)

/-- The normed low-rank query row of a row `z` of projections. -/
def lowq (z : Fin 2592 → EReal) (a4 : Vec Ideal ⟨1, ![384]⟩ .f32) (i : Fin 384) : EReal :=
  rms (Ideal.ofBits .f32 0x43C00000#32) (fun j : Fin 384 => z ⟨1920 + j.val, by omega⟩) (fun j => a4 (ix1 j)) i
/-- The normed low-rank key and value row. -/
def lowk (z : Fin 2592 → EReal) (a6 : Vec Ideal ⟨1, ![256]⟩ .f32) (i : Fin 256) : EReal :=
  rms (Ideal.ofBits .f32 0x43800000#32) (fun j : Fin 256 => z ⟨2304 + j.val, by omega⟩) (fun j => a6 (ix1 j)) i
/-- Head `n`'s 96 query lanes before rotation. -/
def qf (z : Fin 2592 → EReal) (a4 : Vec Ideal ⟨1, ![384]⟩ .f32) (a5 : Vec Ideal ⟨2, ![384, 768]⟩ .f32) (n : Fin 8) (d : Fin 96) : EReal :=
  ∑ i : Fin 384, lowq z a4 i * a5 (ix2 i ⟨n.val * 96 + d.val, by omega⟩)
/-- Head `n`'s 64 key lanes and 64 value lanes. -/
def kf (z : Fin 2592 → EReal) (a6 : Vec Ideal ⟨1, ![256]⟩ .f32) (a7 : Vec Ideal ⟨2, ![256, 1024]⟩ .f32) (n : Fin 8) (d : Fin 128) : EReal :=
  ∑ i : Fin 256, lowk z a6 i * a7 (ix2 i ⟨n.val * 128 + d.val, by omega⟩)
/-- The rotation of consecutive pairs of lanes. -/
def rot (c s : Fin 16 → EReal) (f : Fin 32 → EReal) (d : Fin 32) : EReal :=
  if h : d.val % 2 < 1 then
    f ⟨d.val / 2 * 2, by omega⟩ * c ⟨d.val / 2, by omega⟩ - f ⟨d.val / 2 * 2 + 1, by omega⟩ * s ⟨d.val / 2, by omega⟩
  else f ⟨d.val / 2 * 2, by omega⟩ * s ⟨d.val / 2, by omega⟩ + f ⟨d.val / 2 * 2 + 1, by omega⟩ * c ⟨d.val / 2, by omega⟩
/-- Head `n`'s query lanes: 64 plain, 32 rotated. -/
def ql (z : Fin 2592 → EReal) (c s : Fin 16 → EReal) (a4 : Vec Ideal ⟨1, ![384]⟩ .f32) (a5 : Vec Ideal ⟨2, ![384, 768]⟩ .f32) (n : Fin 8) (d : Fin 96) : EReal :=
  if h : d.val < 64 then qf z a4 a5 n d else rot c s (fun e => qf z a4 a5 n ⟨64 + e.val, by omega⟩) ⟨d.val - 64, by omega⟩
/-- Head `n`'s key lanes: 64 of its own, 32 shared and rotated. -/
def kl (z : Fin 2592 → EReal) (c s : Fin 16 → EReal) (a6 : Vec Ideal ⟨1, ![256]⟩ .f32) (a7 : Vec Ideal ⟨2, ![256, 1024]⟩ .f32) (n : Fin 8) (d : Fin 96) : EReal :=
  if h : d.val < 64 then kf z a6 a7 n ⟨d.val, by omega⟩ else rot c s (fun e => z ⟨2560 + e.val, by omega⟩) ⟨d.val - 64, by omega⟩

/-- The mean of `v` under the softmax of `s`: each weight divided by the sum of the exponentials. -/
def rmean {n : ℕ} (s v : Fin n → EReal) : EReal :=
  ∑ k, v k * Ideal.div (Ideal.exp (s k - max (Ideal.ofBits .f32 0xFF800000#32) (top s)))
    (∑ k, Ideal.exp (s k - max (Ideal.ofBits .f32 0xFF800000#32) (top s)))

end Cert.MlaSpec

namespace Cert.ReferenceIdeal.Whole

open Cert.ReferenceIdeal Cert.ReferenceIdeal.Gen Cert.ReferenceIdeal.Read
open Cert.KernelIdeal.Tile (rms top)
open Cert.MlaSpec

variable (x0 : Vec Ideal S8x256x2592 .f32) (x1 : Vec Ideal S8x2048x2592 .f32) (x2 x3 : Vec Ideal S2048x16 .f32) (x4 : Vec Ideal S384 .f32)
  (x5 : Vec Ideal S384x768 .f32) (x6 : Vec Ideal S256 .f32) (x7 : Vec Ideal S256x1024 .f32)

theorem v20_apply (b : Fin 8) (r : Fin 2048) (i : Fin 384) : val_main_v20 (F := Ideal) x1 x4 (ix3 b r i) = lowq (fun k => x1 (ix3 b r k)) x4 i := by
  pointwise [val_main_v20, val_main_v19, val_main_v18, val_main_v17, val_main_v16, val_main_v15, val_main_v14, val_main_v13, val_main_v12, val_main_v11, val_main_v10, val_main_v9, val_main_v8, val_main_v1, val_main_cst, val_main_cst_0, val_main_cst_1, rms, lowq]
theorem v22_apply (b : Fin 8) (r : Fin 2048) (n : Fin 8) (d : Fin 96) : val_main_v22 (F := Ideal) x1 x4 x5 (ix4 b r n d)
    = qf (fun k => x1 (ix3 b r k)) x4 x5 n d := by
  pointwise [val_main_v22, val_main_v21, v20_apply, qf]
theorem v35_apply (b : Fin 8) (r : Fin 2048) (i : Fin 256) : val_main_v35 (F := Ideal) x1 x6 (ix3 b r i) = lowk (fun k => x1 (ix3 b r k)) x6 i := by
  pointwise [val_main_v35, val_main_v34, val_main_v33, val_main_v32, val_main_v31, val_main_v30, val_main_v29, val_main_v28, val_main_v27, val_main_v26, val_main_v25, val_main_v24, val_main_v23, val_main_v2, val_main_cst_2, val_main_cst_3, val_main_cst_4, rms, lowk]
theorem v37_apply (b : Fin 8) (r : Fin 2048) (n : Fin 8) (d : Fin 128) : val_main_v37 (F := Ideal) x1 x6 x7 (ix4 b r n d)
    = kf (fun k => x1 (ix3 b r k)) x6 x7 n d := by
  pointwise [val_main_v37, val_main_v36, v35_apply, kf]
theorem v66_apply (b : Fin 8) (r : Fin 2048) (n : Fin 8) (d : Fin 32) : val_main_v66 (F := Ideal) x1 x2 x3 x4 x5 (ix4 b r n d)
    = rot (fun j => x2 (ix2 r j)) (fun j => x3 (ix2 r j)) (fun e => qf (fun k => x1 (ix3 b r k)) x4 x5 n ⟨64 + e.val, by omega⟩) d := by
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v39, v22_apply, rot]
theorem v93_apply (b : Fin 8) (r : Fin 2048) (n : Fin 8) (d : Fin 96) : val_main_v93 (F := Ideal) x1 x2 x3 x4 x5 (ix4 b r n d)
    = ql (fun k => x1 (ix3 b r k)) (fun j => x2 (ix2 r j)) (fun j => x3 (ix2 r j)) x4 x5 n d := by
  pointwise [val_main_v93, val_main_v38, v66_apply, v22_apply, ql]
theorem v89_apply (b : Fin 8) (r : Fin 2048) (d : Fin 32) : val_main_v89 (F := Ideal) x1 x2 x3 (ix3 b r d)
    = rot (fun j => x2 (ix2 r j)) (fun j => x3 (ix2 r j)) (fun e => x1 (ix3 b r ⟨2560 + e.val, by omega⟩)) d := by
  pointwise [val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v3, rot]
theorem v92_apply (b : Fin 8) (r : Fin 2048) (n : Fin 8) (d : Fin 96) : val_main_v92 (F := Ideal) x1 x2 x3 x6 x7 (ix4 b r n d)
    = kl (fun k => x1 (ix3 b r k)) (fun j => x2 (ix2 r j)) (fun j => x3 (ix2 r j)) x6 x7 n d := by
  pointwise [val_main_v92, val_main_v91, val_main_v90, val_main_v40, v89_apply, v37_apply, kl]

theorem v106_apply (b : Fin 8) (r : Fin 256) (i : Fin 384) : val_main_v106 (F := Ideal) x0 x4 (ix3 b r i) = lowq (fun k => x0 (ix3 b r k)) x4 i := by
  pointwise [val_main_v106, val_main_v105, val_main_v104, val_main_v103, val_main_v102, val_main_v101, val_main_v100, val_main_v99, val_main_v98, val_main_v97, val_main_v96, val_main_v95, val_main_v94, val_main_v5, val_main_cst_5, val_main_cst_6, val_main_cst_7, rms, lowq]
theorem v108_apply (b : Fin 8) (r : Fin 256) (n : Fin 8) (d : Fin 96) : val_main_v108 (F := Ideal) x0 x4 x5 (ix4 b r n d)
    = qf (fun k => x0 (ix3 b r k)) x4 x5 n d := by
  pointwise [val_main_v108, val_main_v107, v106_apply, qf]
theorem v121_apply (b : Fin 8) (r : Fin 256) (i : Fin 256) : val_main_v121 (F := Ideal) x0 x6 (ix3 b r i) = lowk (fun k => x0 (ix3 b r k)) x6 i := by
  pointwise [val_main_v121, val_main_v120, val_main_v119, val_main_v118, val_main_v117, val_main_v116, val_main_v115, val_main_v114, val_main_v113, val_main_v112, val_main_v111, val_main_v110, val_main_v109, val_main_v6, val_main_cst_8, val_main_cst_9, val_main_cst_10, rms, lowk]
theorem v123_apply (b : Fin 8) (r : Fin 256) (n : Fin 8) (d : Fin 128) : val_main_v123 (F := Ideal) x0 x6 x7 (ix4 b r n d)
    = kf (fun k => x0 (ix3 b r k)) x6 x7 n d := by
  pointwise [val_main_v123, val_main_v122, v121_apply, kf]

/-- A rotation by nothing. -/
theorem rot_one (f : Fin 32 → EReal) (d : Fin 32) : rot (fun _ => 1) (fun _ => 0) f d = f d := by
  unfold rot
  split
  · rw [mul_one, mul_zero, sub_zero]
    exact congrArg f (Fin.ext (by show d.val / 2 * 2 = d.val; omega))
  · rw [mul_one, mul_zero, zero_add]
    exact congrArg f (Fin.ext (by show d.val / 2 * 2 + 1 = d.val; omega))

theorem v131_apply (b : Fin 8) (r : Fin 256) (n : Fin 8) (d : Fin 96) : val_main_v131 (F := Ideal) x0 x4 x5 (ix4 b r n d)
    = ql (fun k => x0 (ix3 b r k)) (fun _ => 1) (fun _ => 0) x4 x5 n d := by
  unfold ql
  simp only [rot_one]
  pointwise [val_main_v131, val_main_v124, val_main_v125, v108_apply]

theorem v130_apply (b : Fin 8) (r : Fin 256) (n : Fin 8) (d : Fin 96) : val_main_v130 (F := Ideal) x0 x6 x7 (ix4 b r n d)
    = kl (fun k => x0 (ix3 b r k)) (fun _ => 1) (fun _ => 0) x6 x7 n d := by
  unfold kl
  simp only [rot_one]
  pointwise [val_main_v130, val_main_v126, val_main_v129, val_main_v128, val_main_v7, v123_apply]

theorem max_apply (y : Vec Ideal S8x8x2048x2304 .f32) (init : Vec Ideal S_ .f32) (b n : Fin 8) (r : Fin 2048) :
    Host.reduce (FloatOps.maximumf (F := Ideal) (φ := .f32)) y init reducesTo_S8x8x2048x2304_S8x8x2048_d3 h_S_ (ix3 b n r)
      = (Finset.univ : Finset (Fin 2304)).fold max (init (Shape.Idx.first h_S_)) (fun k => y (ix4 b n r k)) := by
  show Host.reduce (max : EReal → EReal → EReal) y init reducesTo_S8x8x2048x2304_S8x8x2048_d3 h_S_ (ix3 b n r) = _
  rw [Host.reduce_eq_fold_single max y init reducesTo_S8x8x2048x2304_S8x8x2048_d3 (by decide) h_S_]
  refine congrArg (fun g => Finset.fold max _ g _) (funext fun k => ?_)
  exact congrArg y (funext fun a => Fin.ext (by match a with | ⟨0, _⟩ => rfl | ⟨1, _⟩ => rfl | ⟨2, _⟩ => rfl | ⟨3, _⟩ => rfl))
theorem maxc_apply (y : Vec Ideal S8x8x256x256 .f32) (init : Vec Ideal S_ .f32) (b n : Fin 8) (r : Fin 256) :
    Host.reduce (FloatOps.maximumf (F := Ideal) (φ := .f32)) y init reducesTo_S8x8x256x256_S8x8x256_d3 h_S_ (ix3 b n r)
      = (Finset.univ : Finset (Fin 256)).fold max (init (Shape.Idx.first h_S_)) (fun k => y (ix4 b n r k)) := by
  show Host.reduce (max : EReal → EReal → EReal) y init reducesTo_S8x8x256x256_S8x8x256_d3 h_S_ (ix3 b n r) = _
  rw [Host.reduce_eq_fold_single max y init reducesTo_S8x8x256x256_S8x8x256_d3 (by decide) h_S_]
  refine congrArg (fun g => Finset.fold max _ g _) (funext fun k => ?_)
  exact congrArg y (funext fun a => Fin.ext (by match a with | ⟨0, _⟩ => rfl | ⟨1, _⟩ => rfl | ⟨2, _⟩ => rfl | ⟨3, _⟩ => rfl))

theorem v132_apply (b : Fin 8) (r : Fin 2304) (n : Fin 8) (d : Fin 96) : val_main_v132 (F := Ideal) x0 x1 x2 x3 x6 x7 (ix4 b r n d)
    = if h : r.val < 256 then kl (fun k => x0 (ix3 b ⟨r.val, h⟩ k)) (fun _ => 1) (fun _ => 0) x6 x7 n d
      else kl (fun k => x1 (ix3 b ⟨r.val - 256, by omega⟩ k)) (fun j => x2 (ix2 ⟨r.val - 256, by omega⟩ j)) (fun j => x3 (ix2 ⟨r.val - 256, by omega⟩ j)) x6 x7 n d := by
  pointwise [val_main_v132, v130_apply, v92_apply]
theorem v133_apply (b : Fin 8) (r : Fin 2304) (n : Fin 8) (d : Fin 64) : val_main_v133 (F := Ideal) x0 x1 x6 x7 (ix4 b r n d)
    = if h : r.val < 256 then kf (fun k => x0 (ix3 b ⟨r.val, h⟩ k)) x6 x7 n ⟨64 + d.val, by omega⟩
      else kf (fun k => x1 (ix3 b ⟨r.val - 256, by omega⟩ k)) x6 x7 n ⟨64 + d.val, by omega⟩ := by
  pointwise [val_main_v133, val_main_v127, val_main_v41, v123_apply, v37_apply]
theorem v136_apply (b n : Fin 8) (r : Fin 2048) (k : Fin 2304) : val_main_v136 (F := Ideal) x0 x1 x2 x3 x4 x5 x6 x7 (ix4 b n r k)
    = (∑ d : Fin 96, val_main_v93 (F := Ideal) x1 x2 x3 x4 x5 (ix4 b r n d) * val_main_v132 (F := Ideal) x0 x1 x2 x3 x6 x7 (ix4 b k n d))
      * Ideal.ofBits .f32 0x3DD105EC#32 := by
  pointwise [val_main_v136, val_main_v135, val_main_v134, val_main_cst_11]
theorem v139_apply (b n : Fin 8) (r : Fin 2048) : val_main_v139 (F := Ideal) x0 x1 x2 x3 x4 x5 x6 x7 (ix3 b n r)
    = max (Ideal.ofBits .f32 0xFF800000#32) (top fun k : Fin 2304 => val_main_v136 (F := Ideal) x0 x1 x2 x3 x4 x5 x6 x7 (ix4 b n r k)) := by
  rw [val_main_v139_apply, val_main_v138_apply]
  unfold val_main_v137
  rw [max_apply]
  rfl
theorem v143_apply (b n : Fin 8) (r : Fin 2048) (k : Fin 2304) : val_main_v143 (F := Ideal) x0 x1 x2 x3 x4 x5 x6 x7 (ix4 b n r k)
    = Ideal.exp (val_main_v136 (F := Ideal) x0 x1 x2 x3 x4 x5 x6 x7 (ix4 b n r k)
      - max (Ideal.ofBits .f32 0xFF800000#32) (top fun k : Fin 2304 => val_main_v136 (F := Ideal) x0 x1 x2 x3 x4 x5 x6 x7 (ix4 b n r k))) := by
  pointwise [val_main_v143, val_main_v142, val_main_v141, val_main_v140, v139_apply]
theorem v149_apply (b : Fin 8) (r : Fin 2048) (n : Fin 8) (l : Fin 64) : val_main_v149 (F := Ideal) x0 x1 x2 x3 x4 x5 x6 x7 (ix4 b r n l)
    = rmean (fun k : Fin 2304 => val_main_v136 (F := Ideal) x0 x1 x2 x3 x4 x5 x6 x7 (ix4 b n r k)) (fun k => val_main_v133 (F := Ideal) x0 x1 x6 x7 (ix4 b k n l)) := by
  pointwise [val_main_v149, val_main_v148, val_main_v147, val_main_v146, val_main_v145, val_main_v144, val_main_cst_14, v143_apply, rmean]
theorem v152_apply (b n : Fin 8) (r : Fin 256) (k : Fin 256) : val_main_v152 (F := Ideal) x0 x4 x5 x6 x7 (ix4 b n r k)
    = (∑ d : Fin 96, val_main_v131 (F := Ideal) x0 x4 x5 (ix4 b r n d) * val_main_v130 (F := Ideal) x0 x6 x7 (ix4 b k n d))
      * Ideal.ofBits .f32 0x3DD105EC#32 := by
  pointwise [val_main_v152, val_main_v151, val_main_v150, val_main_cst_15]
theorem v155_apply (b n : Fin 8) (r : Fin 256) : val_main_v155 (F := Ideal) x0 x4 x5 x6 x7 (ix3 b n r)
    = max (Ideal.ofBits .f32 0xFF800000#32) (top fun k : Fin 256 => val_main_v152 (F := Ideal) x0 x4 x5 x6 x7 (ix4 b n r k)) := by
  rw [val_main_v155_apply, val_main_v154_apply]
  unfold val_main_v153
  rw [maxc_apply]
  rfl
theorem v159_apply (b n : Fin 8) (r : Fin 256) (k : Fin 256) : val_main_v159 (F := Ideal) x0 x4 x5 x6 x7 (ix4 b n r k)
    = Ideal.exp (val_main_v152 (F := Ideal) x0 x4 x5 x6 x7 (ix4 b n r k)
      - max (Ideal.ofBits .f32 0xFF800000#32) (top fun k : Fin 256 => val_main_v152 (F := Ideal) x0 x4 x5 x6 x7 (ix4 b n r k))) := by
  pointwise [val_main_v159, val_main_v158, val_main_v157, val_main_v156, v155_apply]
theorem v165_apply (b : Fin 8) (r : Fin 256) (n : Fin 8) (l : Fin 64) : val_main_v165 (F := Ideal) x0 x4 x5 x6 x7 (ix4 b r n l)
    = rmean (fun k : Fin 256 => val_main_v152 (F := Ideal) x0 x4 x5 x6 x7 (ix4 b n r k)) (fun k => kf (fun q => x0 (ix3 b k q)) x6 x7 n ⟨64 + l.val, by omega⟩) := by
  pointwise [val_main_v165, val_main_v164, val_main_v163, val_main_v162, val_main_v161, val_main_v160, val_main_v127, val_main_cst_18, v159_apply, v123_apply, rmean]
theorem v169_apply (b : Fin 8) (r : Fin 2304) (j : Fin 512) : val_main_v169 (F := Ideal) x0 x1 x2 x3 x4 x5 x6 x7 (ix3 b r j)
    = if h : r.val < 256 then val_main_v165 (F := Ideal) x0 x4 x5 x6 x7 (ix4 b ⟨r.val, h⟩ ⟨j.val / 64, by omega⟩ ⟨j.val % 64, by omega⟩)
      else val_main_v149 (F := Ideal) x0 x1 x2 x3 x4 x5 x6 x7 (ix4 b ⟨r.val - 256, by omega⟩ ⟨j.val / 64, by omega⟩ ⟨j.val % 64, by omega⟩) := by
  pointwise [val_main_v169, val_main_v168, val_main_v167, val_main_v166]

end Cert.ReferenceIdeal.Whole
end
-- ==== Proof.MlaMath.lean ====
/-
  The arithmetic by which the two softmax attentions agree when every number they meet is real: the division by the sum
  of the exponentials may be done before or after the weighted sum, and the scores of the rotated lanes may be summed in
  either order.
-/
module

public import proofs.«01_k».proof.Proof.MlaRef

@[expose] public section

set_option maxRecDepth 16384

noncomputable section

open Idealize.ShloMosaic Idealize.ShloMosaic.TcCoe Idealize.SL.Sem

namespace Cert.MlaSpec

open Cert.KernelIdeal.Tile (rms top mean)
open Cert.KernelIdeal.Host (EO OE)

/-- An extended real that is a real number. -/
def IsR (x : EReal) : Prop := ∃ r : ℝ, x = (r : EReal)

theorem isR_of (x : EReal) (h : x ≠ ⊥) (h' : x ≠ ⊤) : IsR x := ⟨x.toReal, (EReal.coe_toReal h' h).symm⟩
theorem isR_zero : IsR 0 := ⟨0, rfl⟩
theorem isR_one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
/-- A sum of reals, in the reals. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]
theorem IsR.sum {ι : Type} (s : Finset ι) {f : ι → EReal} (hf : ∀ k, IsR (f k)) : IsR (∑ k ∈ s, f k) := by
  choose g hg using hf
  exact ⟨∑ k ∈ s, g k, by rw [← coe_sum]; exact Finset.sum_congr rfl fun k _ => hg k⟩

theorem bits_bot : Ideal.ofBits .f32 0xFF800000#32 = ⊥ := by simp [Ideal.ofBits, Ideal.ieee]
theorem bits_384 : Ideal.ofBits .f32 0x43C00000#32 = ((384 : ℝ) : EReal) := by
  simp [Ideal.ofBits, Ideal.ieee]
  rw [← EReal.coe_mul]; norm_num
theorem bits_256 : Ideal.ofBits .f32 0x43800000#32 = ((256 : ℝ) : EReal) := by
  simp [Ideal.ofBits, Ideal.ieee]
  rw [← EReal.coe_mul]; norm_num
theorem bits_scale : IsR (Ideal.ofBits .f32 0x3DD105EC#32) := by
  simp [Ideal.ofBits, Ideal.ieee]
  exact ⟨_, (EReal.coe_mul _ _).symm⟩
theorem bits_eps : ∃ e : ℝ, 0 < e ∧ Ideal.ofBits .f32 0x358637BD#32 = (e : EReal) := by
  simp [Ideal.ofBits, Ideal.ieee]
  exact ⟨_, by positivity, (EReal.coe_mul _ _).symm⟩

/-- A normed row of reals is real. -/
theorem rms_isR {n : ℕ} {N : ℝ} (hN : 0 < N) {x w : Fin n → EReal} (hx : ∀ j, IsR (x j)) (hw : ∀ j, IsR (w j)) (j : Fin n) :
    IsR (rms (N : EReal) x w j) := by
  choose y hy using hx
  obtain ⟨e, he, hb⟩ := bits_eps
  have hs : ∑ i, x i * x i = ((∑ i, y i * y i : ℝ) : EReal) := by
    rw [← coe_sum]; exact Finset.sum_congr rfl fun i _ => by rw [hy, EReal.coe_mul]
  have hnn : 0 ≤ ∑ i, y i * y i := Finset.sum_nonneg fun i _ => mul_self_nonneg _
  have hp : 0 < (∑ i, y i * y i) * (1 / N) + e := by positivity
  unfold rms
  rw [hs, hb, Ideal.div_coe hN.ne', ← EReal.coe_mul, ← EReal.coe_add, Ideal.rsqrt_coe, if_neg (not_lt.mpr hp.le), if_neg hp.ne']
  exact (IsR.mul ⟨y j, hy j⟩ ⟨_, rfl⟩).mul (hw j)

/-- The greatest of reals is one of them. -/
theorem top_isR {n : ℕ} (hn : 0 < n) {s : Fin n → EReal} (hs : ∀ k, IsR (s k)) : IsR (top s) := by
  have h : top s = Finset.univ.sup s := by unfold top; rw [bits_bot]; rfl
  obtain ⟨k, -, hk⟩ := Finset.exists_mem_eq_sup Finset.univ ⟨⟨0, hn⟩, Finset.mem_univ _⟩ s
  rw [h, hk]; exact hs k

/-- The two spellings of the softmax-weighted mean agree on reals. -/
theorem mean_eq {n : ℕ} (hn : 0 < n) {s v : Fin n → EReal} (hs : ∀ k, IsR (s k)) (hv : ∀ k, IsR (v k)) : mean s v = rmean s v := by
  obtain ⟨t, ht⟩ := top_isR hn hs
  choose a ha using hs
  choose w hw using hv
  unfold mean rmean
  rw [bits_bot, ht]
  simp only [ha, hw, bot_sup_eq, ← EReal.coe_sub, Ideal.exp_coe, ← EReal.coe_mul, coe_sum]
  haveI : Nonempty (Fin n) := ⟨⟨0, hn⟩⟩
  have hl : (∑ k, Real.exp (a k - t)) ≠ 0 := (Finset.sum_pos (fun k _ => Real.exp_pos _) Finset.univ_nonempty).ne'
  simp only [Ideal.div_coe hl, ← EReal.coe_mul, coe_sum]
  refine congrArg _ ?_
  rw [Finset.sum_mul]
  exact Finset.sum_congr rfl fun k _ => by ring

theorem sum_128 (f : Fin 128 → EReal) : ∑ c, f c
    = ∑ j : Fin 64, f ⟨j.val, by omega⟩ + (∑ j : Fin 32, f ⟨64 + j.val, by omega⟩ + ∑ j : Fin 32, f ⟨96 + j.val, by omega⟩) := by
  refine (Fin.sum_univ_add (a := 64) (b := 64) f).trans (congr (congrArg _ rfl) ?_)
  refine (Fin.sum_univ_add (a := 32) (b := 32) fun j : Fin 64 => f (Fin.natAdd 64 j)).trans (congr (congrArg _ rfl) ?_)
  exact Finset.sum_congr rfl fun j _ => congrArg f (Fin.ext (by show 64 + (32 + j.val) = 96 + j.val; omega))
theorem sum_96 (f : Fin 96 → EReal) : ∑ c, f c
    = ∑ j : Fin 64, f ⟨j.val, by omega⟩ + ∑ j : Fin 32, f ⟨64 + j.val, by omega⟩ :=
  Fin.sum_univ_add (a := 64) (b := 32) f

/-- The even lanes followed by the odd ones are all 32 lanes. -/
theorem EO_bij : Function.Bijective EO := by
  constructor
  · intro a b h; revert a b; decide
  · intro b; revert b; decide

/-- Scores over 128 lanes, the rotated pairs split in two groups of 32 lanes, are the scores over 96 lanes. -/
theorem score_eq (Q K : Fin 128 → EReal) (q k : Fin 96 → EReal) {s : EReal} (hs : IsR s) (hq : ∀ d, IsR (q d)) (hk : ∀ d, IsR (k d))
    (h0 : ∀ j : Fin 64, Q ⟨j.val, by omega⟩ * K ⟨j.val, by omega⟩ = q ⟨j.val, by omega⟩ * k ⟨j.val, by omega⟩ * s)
    (h1 : ∀ j : Fin 32, Q ⟨64 + j.val, by omega⟩ * K ⟨64 + j.val, by omega⟩ + Q ⟨96 + j.val, by omega⟩ * K ⟨96 + j.val, by omega⟩
      = q ⟨64 + (EO j).val, by omega⟩ * k ⟨64 + (EO j).val, by omega⟩ * s) :
    ∑ c, Q c * K c = (∑ d, q d * k d) * s := by
  rw [sum_128, sum_96, ← Finset.sum_add_distrib, Finset.sum_congr rfl fun j _ => h0 j, Finset.sum_congr rfl fun j _ => h1 j,
    EO_bij.sum_comp fun e : Fin 32 => q ⟨64 + e.val, by omega⟩ * k ⟨64 + e.val, by omega⟩ * s]
  obtain ⟨s, rfl⟩ := hs
  choose q' hq' using hq
  choose k' hk' using hk
  simp only [hq', hk', ← EReal.coe_mul, coe_sum, ← EReal.coe_add]
  rw [add_mul, Finset.sum_mul, Finset.sum_mul]

/-- The pair of lanes that the rotation of an even or odd lane combines. -/
theorem rot_EO (c s : Fin 16 → EReal) (f : Fin 32 → EReal) (q : Fin 32) : rot c s f (EO q)
    = f (EO q) * (if h : q.val < 16 then c ⟨q.val, h⟩ else c ⟨q.val - 16, by omega⟩)
      + f (OE q) * (if h : q.val < 16 then - s ⟨q.val, h⟩ else s ⟨q.val - 16, by omega⟩) := by
  unfold rot
  by_cases h : q.val < 16
  · have e1 : (EO q).val = 2 * q.val := by unfold EO; simp [h]
    have e2 : OE q = ⟨(EO q).val / 2 * 2 + 1, by omega⟩ := Fin.ext (by show (OE q).val = (EO q).val / 2 * 2 + 1; rw [e1]; unfold OE; simp [h]; omega)
    have e3 : (⟨(EO q).val / 2 * 2, by omega⟩ : Fin 32) = EO q := Fin.ext (by show (EO q).val / 2 * 2 = _; omega)
    have e4 : (⟨(EO q).val / 2, by omega⟩ : Fin 16) = ⟨q.val, h⟩ := Fin.ext (by show (EO q).val / 2 = q.val; omega)
    rw [dif_pos (by omega), dif_pos h, dif_pos h, e3, e4, ← e2, mul_neg, sub_eq_add_neg]
  · have e1 : (EO q).val = 2 * (q.val - 16) + 1 := by unfold EO; simp [h]
    have e2 : OE q = ⟨(EO q).val / 2 * 2, by omega⟩ := Fin.ext (by show (OE q).val = (EO q).val / 2 * 2; rw [e1]; unfold OE; simp [h]; omega)
    have e3 : (⟨(EO q).val / 2 * 2 + 1, by omega⟩ : Fin 32) = EO q := Fin.ext (by show (EO q).val / 2 * 2 + 1 = _; omega)
    have e4 : (⟨(EO q).val / 2, by omega⟩ : Fin 16) = ⟨q.val - 16, by omega⟩ := Fin.ext (by show (EO q).val / 2 = q.val - 16; omega)
    rw [dif_neg (by omega), dif_neg h, dif_neg h, e3, e4, ← e2, add_comm]

variable {z : Fin 2592 → EReal} {c s : Fin 16 → EReal} {a4 : Vec Ideal ⟨1, ![384]⟩ .f32} {a5 : Vec Ideal ⟨2, ![384, 768]⟩ .f32}
  {a6 : Vec Ideal ⟨1, ![256]⟩ .f32} {a7 : Vec Ideal ⟨2, ![256, 1024]⟩ .f32}

theorem qf_isR (hz : ∀ k, IsR (z k)) (h4 : ∀ i, IsR (a4 i)) (h5 : ∀ i, IsR (a5 i)) (n : Fin 8) (d : Fin 96) : IsR (qf z a4 a5 n d) :=
  IsR.sum _ fun i => IsR.mul (by unfold lowq; rw [bits_384]; exact rms_isR (by norm_num) (fun _ => hz _) (fun _ => h4 _) i) (h5 _)
theorem kf_isR (hz : ∀ k, IsR (z k)) (h6 : ∀ i, IsR (a6 i)) (h7 : ∀ i, IsR (a7 i)) (n : Fin 8) (d : Fin 128) : IsR (kf z a6 a7 n d) :=
  IsR.sum _ fun i => IsR.mul (by unfold lowk; rw [bits_256]; exact rms_isR (by norm_num) (fun _ => hz _) (fun _ => h6 _) i) (h7 _)
theorem rot_isR {f : Fin 32 → EReal} (hc : ∀ j, IsR (c j)) (hs : ∀ j, IsR (s j)) (hf : ∀ e, IsR (f e)) (d : Fin 32) : IsR (rot c s f d) := by
  unfold rot
  split
  · exact ((hf _).mul (hc _)).sub ((hf _).mul (hs _))
  · exact ((hf _).mul (hs _)).add ((hf _).mul (hc _))
theorem ql_isR (hz : ∀ k, IsR (z k)) (hc : ∀ j, IsR (c j)) (hs : ∀ j, IsR (s j)) (h4 : ∀ i, IsR (a4 i)) (h5 : ∀ i, IsR (a5 i))
    (n : Fin 8) (d : Fin 96) : IsR (ql z c s a4 a5 n d) := by
  unfold ql
  split
  · exact qf_isR hz h4 h5 n d
  · exact rot_isR hc hs (fun _ => qf_isR hz h4 h5 n _) _
theorem kl_isR (hz : ∀ k, IsR (z k)) (hc : ∀ j, IsR (c j)) (hs : ∀ j, IsR (s j)) (h6 : ∀ i, IsR (a6 i)) (h7 : ∀ i, IsR (a7 i))
    (n : Fin 8) (d : Fin 96) : IsR (kl z c s a6 a7 n d) := by
  unfold kl
  split
  · exact kf_isR hz h6 h7 n _
  · exact rot_isR hc hs (fun _ => hz _) _

end Cert.MlaSpec
end
-- ==== Proof.MlaEq.lean ====
/-
  The latent attention call's result is the plain lines' result, when every argument's entries are real numbers.
-/
module

public import proofs.«01_k».proof.Proof.MlaValue
public import proofs.«01_k».proof.Proof.MlaMath

@[expose] public section

set_option maxRecDepth 16384

noncomputable section

open Idealize.ShloMosaic Idealize.ShloMosaic.TcCoe Idealize.SL.Sem

namespace Cert.KernelIdeal.Whole

open Cert.KernelIdeal Cert.KernelIdeal.Gen Cert.KernelIdeal.Block Cert.KernelIdeal.Host
open Cert.KernelIdeal.Tile (rms top mean lane)
open Cert.MlaSpec

variable (m : (ℓ : Loc nD τ sig) → Buf (Elt Ideal) ℓ) (c : Dev nD)

/-- The arguments. -/
abbrev A0 : Vec Ideal S8x256x2592 .f32 := m (c, Proc.tc.devRef main_arg0)
abbrev A1 : Vec Ideal S8x2048x2592 .f32 := m (c, Proc.tc.devRef main_arg1)
abbrev A2 : Vec Ideal S2048x16 .f32 := m (c, Proc.tc.devRef main_arg2)
abbrev A3 : Vec Ideal S2048x16 .f32 := m (c, Proc.tc.devRef main_arg3)
abbrev A4 : Vec Ideal S384 .f32 := m (c, Proc.tc.devRef main_arg4)
abbrev A5 : Vec Ideal S384x768 .f32 := m (c, Proc.tc.devRef main_arg5)
abbrev A6 : Vec Ideal S256 .f32 := m (c, Proc.tc.devRef main_arg6)
abbrev A7 : Vec Ideal S256x1024 .f32 := m (c, Proc.tc.devRef main_arg7)

/-- The head of a pair. -/
def hd (p : Fin 4) (h : Fin 2) : Fin 8 := ⟨p.val * 2 + h.val, by omega⟩
/-- A batch's row of projections. -/
abbrev zrow (b : Fin 8) (r : Fin 2304) : Fin 2592 → EReal := Z (A0 m c) (A1 m c) b r
/-- The plain lines' query lanes of a row. -/
abbrev qrow (b : Fin 8) (n : Fin 8) (r : Fin 2304) : Fin 96 → EReal := ql (zrow m c b r) (cosT (A2 m c) r) (sinT (A3 m c) r) (A4 m c) (A5 m c) n
/-- The plain lines' key lanes of a row. -/
abbrev krow (b : Fin 8) (n : Fin 8) (r : Fin 2304) : Fin 96 → EReal := kl (zrow m c b r) (cosT (A2 m c) r) (sinT (A3 m c) r) (A6 m c) (A7 m c) n
/-- The kernel's query lanes. -/
abbrev Qk (b : Fin 8) (p : Fin 4) (h : Fin 2) (r : Fin 2304) (l : Fin 128) : EReal := Tile.Q (zq m c b) (V m c main_v67) (wq m c p) (V m c main_v36) h r l
/-- The kernel's key lanes. -/
abbrev Kk (b : Fin 8) (p : Fin 4) (h : Fin 2) (r : Fin 2304) (l : Fin 128) : EReal :=
  Tile.K (zkv m c b) (V m c main_v68) (wk m c p) (zr m c b) (V m c main_v37) (V m c main_v38) h r l

theorem lowq_eq (b : Fin 8) (r : Fin 2304) (i : Fin 384) :
    rms (Ideal.ofBits .f32 0x43C00000#32) (fun j : Fin 384 => zq m c b (ix3 0 r j)) (fun j : Fin 384 => (V m c main_v67 : Vec Ideal S1x384 .f32) (ix2 0 j)) i
      = lowq (zrow m c b r) (A4 m c) i := by
  have e1 : (fun j : Fin 384 => zq m c b (ix3 0 r j)) = fun j : Fin 384 => zrow m c b r ⟨1920 + j.val, by omega⟩ :=
    funext fun j => v26_low m c b r ⟨1920 + j.val, by omega⟩
  have e2 : (fun j : Fin 384 => (V m c main_v67 : Vec Ideal S1x384 .f32) (ix2 0 j)) = fun j => A4 m c (ix1 j) := funext fun j => v67_apply m c j
  rw [e1, e2]; rfl
theorem lowk_eq (b : Fin 8) (r : Fin 2304) (i : Fin 256) :
    rms (Ideal.ofBits .f32 0x43800000#32) (fun j : Fin 256 => zkv m c b (ix3 0 r j)) (fun j : Fin 256 => (V m c main_v68 : Vec Ideal S1x256 .f32) (ix2 0 j)) i
      = lowk (zrow m c b r) (A6 m c) i := by
  have e1 : (fun j : Fin 256 => zkv m c b (ix3 0 r j)) = fun j : Fin 256 => zrow m c b r ⟨2304 + j.val, by omega⟩ :=
    funext fun j => v26_low m c b r ⟨2304 + j.val, by omega⟩
  have e2 : (fun j : Fin 256 => (V m c main_v68 : Vec Ideal S1x256 .f32) (ix2 0 j)) = fun j => A6 m c (ix1 j) := funext fun j => v68_apply m c j
  rw [e1, e2]; rfl

/-- A head's plain query lanes. -/
theorem Q_low (b : Fin 8) (p : Fin 4) (h : Fin 2) (r : Fin 2304) (j : Fin 64) : Qk m c b p h r ⟨j.val, by omega⟩
    = qrow m c b (hd p h) r ⟨j.val, by omega⟩ * Ideal.ofBits .f32 0x3DD105EC#32 := by
  unfold Qk Tile.Q
  rw [v36_0, one_mul]
  unfold qrow ql
  rw [dif_pos (by show j.val < 64; omega)]
  exact congrArg (· * _) (Finset.sum_congr rfl fun i _ => congr (congrArg HMul.hMul (lowq_eq m c b r i)) (wq0 m c p i h j))
/-- A head's rotated query lanes, first group. -/
theorem Q_eo (b : Fin 8) (p : Fin 4) (h : Fin 2) (r : Fin 2304) (j : Fin 32) : Qk m c b p h r ⟨64 + j.val, by omega⟩
    = qf (zrow m c b r) (A4 m c) (A5 m c) (hd p h) ⟨64 + (EO j).val, by omega⟩ * (CC (A2 m c) r j * Ideal.ofBits .f32 0x3DD105EC#32) := by
  unfold Qk Tile.Q
  rw [v36_1]
  exact congrArg (· * _) (Finset.sum_congr rfl fun i _ => congr (congrArg HMul.hMul (lowq_eq m c b r i)) (wq1 m c p i h j))
/-- A head's rotated query lanes, second group. -/
theorem Q_oe (b : Fin 8) (p : Fin 4) (h : Fin 2) (r : Fin 2304) (j : Fin 32) : Qk m c b p h r ⟨96 + j.val, by omega⟩
    = qf (zrow m c b r) (A4 m c) (A5 m c) (hd p h) ⟨64 + (OE j).val, by omega⟩ * (SS (A3 m c) r j * Ideal.ofBits .f32 0x3DD105EC#32) := by
  unfold Qk Tile.Q
  rw [v36_2]
  exact congrArg (· * _) (Finset.sum_congr rfl fun i _ => congr (congrArg HMul.hMul (lowq_eq m c b r i)) (wq2 m c p i h j))

/-- A head's plain key lanes. -/
theorem K_low (b : Fin 8) (p : Fin 4) (h : Fin 2) (r : Fin 2304) (j : Fin 64) : Kk m c b p h r ⟨j.val, by omega⟩
    = krow m c b (hd p h) r ⟨j.val, by omega⟩ := by
  unfold Kk Tile.K
  rw [v37_0, v38_0, mul_zero, mul_zero, add_zero, add_zero]
  unfold krow kl
  rw [dif_pos (by show j.val < 64; omega)]
  exact Finset.sum_congr rfl fun i _ => congr (congrArg HMul.hMul (lowk_eq m c b r i)) (wk0 m c p i h j)

/-- The keys, lane by lane. -/
theorem K_split (b : Fin 8) (p : Fin 4) (h : Fin 2) (r : Fin 2304) (l : Fin 128) : Kk m c b p h r l
    = (∑ i : Fin 256, lowk (zrow m c b r) (A6 m c) i * wk m c p (ix3 0 i (lane h l)))
      + (zr m c b (ix3 0 r (lane 0 l)) * (V m c main_v37 : Vec Ideal S2304x128 .f32) (ix2 r l)
        + zr m c b (ix3 0 r (lane 1 l)) * (V m c main_v38 : Vec Ideal S2304x128 .f32) (ix2 r l)) := by
  unfold Kk Tile.K
  rw [Finset.sum_congr rfl fun i _ => congr (congrArg HMul.hMul (lowk_eq m c b r i)) (rfl : wk m c p (ix3 0 i (lane h l)) = _)]

theorem K_zero (b : Fin 8) (p : Fin 4) (h : Fin 2) (r : Fin 2304) (l : Fin 128) (j : Fin 64) (hl : l.val = 64 + j.val) :
    (∑ i : Fin 256, lowk (zrow m c b r) (A6 m c) i * wk m c p (ix3 0 i (lane h l))) = 0 := by
  refine Finset.sum_eq_zero fun i _ => ?_
  have e : lane h l = ⟨h.val * 128 + (64 + j.val), by omega⟩ := Fin.ext (by show h.val * 128 + l.val = h.val * 128 + (64 + j.val); rw [hl])
  have e2 : wk m c p (ix3 0 i (lane h l)) = (0 : EReal) := by
    rw [e]; exact wk1 m c p i h j
  rw [e2, mul_zero]

theorem zr_at (b : Fin 8) (r : Fin 2304) (q : Fin 256) (k : Fin 2816) (hk : k.val = 2560 + q.val) :
    zr m c b (ix3 0 r q) = (V m c main_v26 : Vec Ideal S8x2304x2816 .f32) (ix3 b r k) :=
  congrArg (fun k => (V m c main_v26 : Vec Ideal S8x2304x2816 .f32) (ix3 b r k)) (Fin.ext hk.symm)

/-- The rotated shared key lanes, in both groups. -/
theorem K_rot (b : Fin 8) (r : Fin 2304) (n : Fin 8) (j : Fin 32) :
    zrow m c b r ⟨2560 + (EO j).val, by omega⟩ * CC (A2 m c) r j + zrow m c b r ⟨2560 + (OE j).val, by omega⟩ * SS (A3 m c) r j
      = krow m c b n r ⟨64 + (EO j).val, by omega⟩ := by
  unfold krow kl
  rw [dif_neg (by show ¬ 64 + (EO j).val < 64; omega)]
  refine Eq.trans ?_ ((rot_EO (cosT (A2 m c) r) (sinT (A3 m c) r) (fun e => zrow m c b r ⟨2560 + e.val, by omega⟩) j).symm.trans
    (congrArg _ (Fin.ext (by show (EO j).val = 64 + (EO j).val - 64; omega))))
  rfl
theorem K_eo (b : Fin 8) (p : Fin 4) (h : Fin 2) (r : Fin 2304) (j : Fin 32) : Kk m c b p h r ⟨64 + j.val, by omega⟩
    = krow m c b (hd p h) r ⟨64 + (EO j).val, by omega⟩ := by
  rw [← K_rot, K_split, K_zero m c b p h r _ ⟨j.val, by omega⟩ rfl, zero_add, v37_1, v38_1,
    zr_at m c b r _ ⟨2624 + j.val, by omega⟩ (by show 2624 + j.val = 2560 + (0 * 128 + (64 + j.val)); omega),
    zr_at m c b r _ ⟨2752 + j.val, by omega⟩ (by show 2752 + j.val = 2560 + (1 * 128 + (64 + j.val)); omega), v26_eo, v26_oe]
theorem K_oe (b : Fin 8) (p : Fin 4) (h : Fin 2) (r : Fin 2304) (j : Fin 32) : Kk m c b p h r ⟨96 + j.val, by omega⟩
    = krow m c b (hd p h) r ⟨64 + (EO j).val, by omega⟩ := by
  rw [← K_rot, K_split, K_zero m c b p h r _ ⟨32 + j.val, by omega⟩ (by show 96 + j.val = 64 + (32 + j.val); omega), zero_add, v37_2, v38_2,
    zr_at m c b r _ ⟨2656 + j.val, by omega⟩ (by show 2656 + j.val = 2560 + (0 * 128 + (96 + j.val)); omega),
    zr_at m c b r _ ⟨2784 + j.val, by omega⟩ (by show 2784 + j.val = 2560 + (1 * 128 + (96 + j.val)); omega), v26_eo2, v26_oe2]

/-- A pair's value lanes. -/
theorem W_eq (b : Fin 8) (p : Fin 4) (r : Fin 2304) (l : Fin 128) : Tile.W (zkv m c b) (V m c main_v68) (wv m c p) r l
    = kf (zrow m c b r) (A6 m c) (A7 m c) (hd p (headOf l)) ⟨64 + l.val % 64, by omega⟩ := by
  unfold Tile.W
  refine Finset.sum_congr rfl fun i _ => congr (congrArg HMul.hMul (lowk_eq m c b r i)) ((wv_apply m c p i l).trans (congrArg (fun k => A7 m c (ix2 i k)) (Fin.ext ?_)))
  show (p.val * 2 + l.val / 64) * 128 + (64 + l.val % 64) = (p.val * 2 + (headOf l).val) * 128 + (64 + l.val % 64)
  have : l.val / 64 = (headOf l).val := by
    unfold headOf
    by_cases hl : l.val < 64
    · simp [hl]
    · rw [if_neg hl]; show l.val / 64 = 1; omega
  rw [this]

variable (h0 : ∀ i, IsR (A0 m c i)) (h1 : ∀ i, IsR (A1 m c i)) (h2 : ∀ i, IsR (A2 m c i)) (h3 : ∀ i, IsR (A3 m c i))
  (h4 : ∀ i, IsR (A4 m c i)) (h5 : ∀ i, IsR (A5 m c i)) (h6 : ∀ i, IsR (A6 m c i)) (h7 : ∀ i, IsR (A7 m c i))
include h0 h1 h2 h3 h4 h5 h6 h7

theorem zrow_isR (b : Fin 8) (r : Fin 2304) (k : Fin 2592) : IsR (zrow m c b r k) := by
  unfold zrow Z; split
  · exact h0 _
  · exact h1 _
theorem cos_isR (r : Fin 2304) (j : Fin 16) : IsR (cosT (A2 m c) r j) := by
  unfold cosT; split
  · exact isR_one
  · exact h2 _
theorem sin_isR (r : Fin 2304) (j : Fin 16) : IsR (sinT (A3 m c) r j) := by
  unfold sinT; split
  · exact isR_zero
  · exact h3 _
theorem qrow_isR (b n : Fin 8) (r : Fin 2304) (d : Fin 96) : IsR (qrow m c b n r d) :=
  ql_isR (zrow_isR m c h0 h1 h2 h3 h4 h5 h6 h7 b r) (cos_isR m c h0 h1 h2 h3 h4 h5 h6 h7 r) (sin_isR m c h0 h1 h2 h3 h4 h5 h6 h7 r) h4 h5 n d
theorem krow_isR (b n : Fin 8) (r : Fin 2304) (d : Fin 96) : IsR (krow m c b n r d) :=
  kl_isR (zrow_isR m c h0 h1 h2 h3 h4 h5 h6 h7 b r) (cos_isR m c h0 h1 h2 h3 h4 h5 h6 h7 r) (sin_isR m c h0 h1 h2 h3 h4 h5 h6 h7 r) h6 h7 n d
theorem vrow_isR (b n : Fin 8) (r : Fin 2304) (d : Fin 128) : IsR (kf (zrow m c b r) (A6 m c) (A7 m c) n d) :=
  kf_isR (zrow_isR m c h0 h1 h2 h3 h4 h5 h6 h7 b r) h6 h7 n d

/-- The score of a query row on a key row is the plain lines' score. -/
theorem score (b : Fin 8) (p : Fin 4) (h : Fin 2) (r k : Fin 2304) : ∑ l : Fin 128, Qk m c b p h r l * Kk m c b p h k l
    = (∑ d : Fin 96, qrow m c b (hd p h) r d * krow m c b (hd p h) k d) * Ideal.ofBits .f32 0x3DD105EC#32 := by
  have hq := qrow_isR m c h0 h1 h2 h3 h4 h5 h6 h7 b (hd p h) r
  have hk := krow_isR m c h0 h1 h2 h3 h4 h5 h6 h7 b (hd p h) k
  refine score_eq _ _ _ _ bits_scale hq hk (fun j => ?_) (fun j => ?_)
  · rw [Q_low, K_low, mul_right_comm]
  · rw [Q_eo, Q_oe, K_eo, K_oe]
    have hr : qrow m c b (hd p h) r ⟨64 + (EO j).val, by omega⟩
        = qf (zrow m c b r) (A4 m c) (A5 m c) (hd p h) ⟨64 + (EO j).val, by omega⟩ * CC (A2 m c) r j
          + qf (zrow m c b r) (A4 m c) (A5 m c) (hd p h) ⟨64 + (OE j).val, by omega⟩ * SS (A3 m c) r j := by
      unfold qrow ql
      rw [dif_neg (by show ¬ 64 + (EO j).val < 64; omega)]
      refine Eq.trans (congrArg _ (Fin.ext (by show 64 + (EO j).val - 64 = (EO j).val; omega)))
        (rot_EO (cosT (A2 m c) r) (sinT (A3 m c) r) (fun e => qf (zrow m c b r) (A4 m c) (A5 m c) (hd p h) ⟨64 + e.val, by omega⟩) j)
    rw [hr]
    obtain ⟨x, hx⟩ := hk ⟨64 + (EO j).val, by omega⟩
    obtain ⟨s, hs⟩ := bits_scale
    have hz := zrow_isR m c h0 h1 h2 h3 h4 h5 h6 h7 b r
    obtain ⟨u, hu⟩ := qf_isR hz h4 h5 (hd p h) ⟨64 + (EO j).val, by omega⟩
    obtain ⟨w, hw⟩ := qf_isR hz h4 h5 (hd p h) ⟨64 + (OE j).val, by omega⟩
    obtain ⟨cc, hcc⟩ : IsR (CC (A2 m c) r j) := by
      unfold CC; split <;> exact cos_isR m c h0 h1 h2 h3 h4 h5 h6 h7 r _
    obtain ⟨ss, hss⟩ : IsR (SS (A3 m c) r j) := by
      unfold SS; split
      · obtain ⟨t, ht⟩ := sin_isR m c h0 h1 h2 h3 h4 h5 h6 h7 r ⟨j.val, by assumption⟩
        exact ⟨-t, by rw [ht, EReal.coe_neg]⟩
      · exact sin_isR m c h0 h1 h2 h3 h4 h5 h6 h7 r _
    rw [hx, hs, hu, hw, hcc, hss]
    simp only [← EReal.coe_mul, ← EReal.coe_add]
    exact congrArg _ (by ring)

/-- The call's result from the plain lines' rows. -/
theorem result_eq (b : Fin 8) (p : Fin 4) (r : Fin 2304) (l : Fin 128) : result m c b p r l
    = if r.val < 256 then
        rmean (fun k : Fin 256 => (∑ d : Fin 96, qrow m c b (hd p (headOf l)) r d * krow m c b (hd p (headOf l)) (ctxKey k) d) * Ideal.ofBits .f32 0x3DD105EC#32)
          (fun k => kf (zrow m c b (ctxKey k)) (A6 m c) (A7 m c) (hd p (headOf l)) ⟨64 + l.val % 64, by omega⟩)
      else
        rmean (fun k : Fin 2304 => (∑ d : Fin 96, qrow m c b (hd p (headOf l)) r d * krow m c b (hd p (headOf l)) k d) * Ideal.ofBits .f32 0x3DD105EC#32)
          (fun k => kf (zrow m c b k) (A6 m c) (A7 m c) (hd p (headOf l)) ⟨64 + l.val % 64, by omega⟩) := by
  have hq := qrow_isR m c h0 h1 h2 h3 h4 h5 h6 h7 b (hd p (headOf l)) r
  have hk := krow_isR m c h0 h1 h2 h3 h4 h5 h6 h7 b (hd p (headOf l))
  have hv := vrow_isR m c h0 h1 h2 h3 h4 h5 h6 h7 b (hd p (headOf l))
  have hsc := score m c h0 h1 h2 h3 h4 h5 h6 h7 b p (headOf l) r
  unfold result attend
  split
  · exact (congr (congrArg mean (funext fun k => hsc (ctxKey k))) (funext fun k => W_eq m c b p (ctxKey k) l)).trans
      (mean_eq (by norm_num) (fun k => (IsR.sum _ fun d => (hq d).mul (hk _ d)).mul bits_scale) (fun k => hv _ _))
  · exact (congr (congrArg mean (funext fun k => hsc k)) (funext fun k => W_eq m c b p k l)).trans
      (mean_eq (by norm_num) (fun k => (IsR.sum _ fun d => (hq d).mul (hk _ d)).mul bits_scale) (fun k => hv _ _))

end Cert.KernelIdeal.Whole
end
-- ==== Proof.MlaClaims.lean ====
/-
  The latent attention's claims: its programs run, and kernel and reference end with equal results over the extended
  reals, for arguments whose entries are real numbers.
-/
module

public import proofs.«01_k».proof.Proof.MlaEq
public import proofs.«01_k».proof.Proof.MlaFrames
public import proofs.«01_k».proof.Proof.Gen.Pre_finite
public import proofs.«01_k».proof.Proof.Gen.ReferenceIdeal.Run
public import Idealize.ShloMosaic.Lib.ReduceAll

@[expose] public section

set_option maxRecDepth 16384

noncomputable section

open Idealize.ShloMosaic Idealize.ShloMosaic.TcCoe Idealize.SL.Sem

namespace Cert.MlaProof

open Cert.MlaSpec
open Cert.KernelIdeal.Whole (A0 A1 A2 A3 A4 A5 A6 A7 hd zrow qrow krow)
open Cert.KernelIdeal.Host (Z cosT sinT)
open Cert.KernelIdeal.Block (ctxKey headOf)

/-- Both arguments of a true conjunction of bits are true. -/
theorem and_one (a b : BitVec 1) (h : IntOp.andi a b = 1#1) : a = 1#1 ∧ b = 1#1 := by
  revert a b; decide

/-- A value whose magnitude is below infinity is a real number. -/
theorem isR_of_lt {x : EReal} (h : FloatOps.cmpf (F := Ideal) (φ := .f32) .olt (FloatOps.absf (F := Ideal) (φ := .f32) x) (Ideal.ofBits .f32 0x7F800000#32) = 1#1) : IsR x := by
  have ht : Ideal.ofBits .f32 0x7F800000#32 = ⊤ := by simp [Ideal.ofBits, Ideal.ieee]
  rw [ht] at h
  have h' : max x (-x) < ⊤ := by
    by_contra hn
    have : Ideal.cmp .olt (max x (-x)) ⊤ = 1#1 := h
    simp [Ideal.cmp, hn] at this
  exact isR_of x (fun e => by simp [e] at h') (fun e => by simp [e] at h')

/-- The precondition says that every entry of every argument is a real number. -/
theorem finite_isR [hp : Cert.Pre_finite.Facts] {a0 : FVec Ideal Cert.Pre_finite.S8x256x2592 .f32} {a1 : FVec Ideal Cert.Pre_finite.S8x2048x2592 .f32} {a2 a3 : FVec Ideal Cert.Pre_finite.S2048x16 .f32}
    {a4 : FVec Ideal Cert.Pre_finite.S384 .f32} {a5 : FVec Ideal Cert.Pre_finite.S384x768 .f32} {a6 : FVec Ideal Cert.Pre_finite.S256 .f32} {a7 : FVec Ideal Cert.Pre_finite.S256x1024 .f32}
    (h : Cert.Pre_finite.fn (F := Ideal) a0 a1 a2 a3 a4 a5 a6 a7 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i)) ∧ (∀ i, IsR (a7 i)) := by
  have e := congrFun h (fun a => a.elim0)
  unfold Cert.Pre_finite.fn Cert.Pre_finite.fn_part1 Cert.Pre_finite.fn_part2 at e
  dsimp only at e
  haveI : Subsingleton Cert.Pre_finite.S_.Idx := ⟨fun a b => funext fun x => x.elim0⟩
  obtain ⟨e, e7⟩ := and_one _ _ e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  exact ⟨fun i => isR_of_lt (Host.reduce_andi_all _ _ _ _ _ e0 i), fun i => isR_of_lt (Host.reduce_andi_all _ _ _ _ _ e1 i),
    fun i => isR_of_lt (Host.reduce_andi_all _ _ _ _ _ e2 i), fun i => isR_of_lt (Host.reduce_andi_all _ _ _ _ _ e3 i),
    fun i => isR_of_lt (Host.reduce_andi_all _ _ _ _ _ e4 i), fun i => isR_of_lt (Host.reduce_andi_all _ _ _ _ _ e5 i),
    fun i => isR_of_lt (Host.reduce_andi_all _ _ _ _ _ e6 i), fun i => isR_of_lt (Host.reduce_andi_all _ _ _ _ _ e7 i)⟩

section
open Cert.KernelIdeal Cert.ReferenceIdeal.Read Cert.ReferenceIdeal.Whole

variable (m : (ℓ : Loc nD τ sig) → Buf (Elt Ideal) ℓ) (c : Dev nD)

theorem zrow_ctx (b : Fin 8) (r : Fin 2304) (h : r.val < 256) : zrow m c b r = fun k => A0 m c (ix3 b ⟨r.val, h⟩ k) := funext fun k => dif_pos h
theorem zrow_lat (b : Fin 8) (r : Fin 2304) (h : ¬ r.val < 256) : zrow m c b r = fun k => A1 m c (ix3 b ⟨r.val - 256, by omega⟩ k) :=
  funext fun k => dif_neg h
theorem cos_ctx (r : Fin 2304) (h : r.val < 256) : cosT (A2 m c) r = fun _ => 1 := funext fun k => dif_pos h
theorem cos_lat (r : Fin 2304) (h : ¬ r.val < 256) : cosT (A2 m c) r = fun j => A2 m c (ix2 ⟨r.val - 256, by omega⟩ j) := funext fun k => dif_neg h
theorem sin_ctx (r : Fin 2304) (h : r.val < 256) : sinT (A3 m c) r = fun _ => 0 := funext fun k => dif_pos h
theorem sin_lat (r : Fin 2304) (h : ¬ r.val < 256) : sinT (A3 m c) r = fun j => A3 m c (ix2 ⟨r.val - 256, by omega⟩ j) := funext fun k => dif_neg h

/-- The plain lines' query rows over context and latent rows together. -/
theorem q_ctx (b n : Fin 8) (r : Fin 2304) (h : r.val < 256) (d : Fin 96) :
    val_main_v131 (F := Ideal) (A0 m c) (A4 m c) (A5 m c) (ix4 b ⟨r.val, h⟩ n d) = qrow m c b n r d := by
  rw [v131_apply]; unfold qrow; rw [zrow_ctx m c b r h, cos_ctx m c r h, sin_ctx m c r h]
theorem q_lat (b n : Fin 8) (r : Fin 2304) (h : ¬ r.val < 256) (d : Fin 96) :
    val_main_v93 (F := Ideal) (A1 m c) (A2 m c) (A3 m c) (A4 m c) (A5 m c) (ix4 b ⟨r.val - 256, by omega⟩ n d) = qrow m c b n r d := by
  rw [v93_apply]; unfold qrow; rw [zrow_lat m c b r h, cos_lat m c r h, sin_lat m c r h]
theorem k_ctx (b n : Fin 8) (r : Fin 2304) (h : r.val < 256) (d : Fin 96) :
    kl (fun k => A0 m c (ix3 b ⟨r.val, h⟩ k)) (fun _ => 1) (fun _ => 0) (A6 m c) (A7 m c) n d = krow m c b n r d := by
  unfold krow; rw [zrow_ctx m c b r h, cos_ctx m c r h, sin_ctx m c r h]
theorem k_all (b n : Fin 8) (r : Fin 2304) (d : Fin 96) :
    val_main_v132 (F := Ideal) (A0 m c) (A1 m c) (A2 m c) (A3 m c) (A6 m c) (A7 m c) (ix4 b r n d) = krow m c b n r d := by
  rw [v132_apply]
  split
  · exact k_ctx m c b n r _ d
  · unfold krow; rw [zrow_lat m c b r (by assumption), cos_lat m c r (by assumption), sin_lat m c r (by assumption)]
theorem v_all (b n : Fin 8) (r : Fin 2304) (d : Fin 64) :
    val_main_v133 (F := Ideal) (A0 m c) (A1 m c) (A6 m c) (A7 m c) (ix4 b r n d) = kf (zrow m c b r) (A6 m c) (A7 m c) n ⟨64 + d.val, by omega⟩ := by
  rw [v133_apply]
  split
  · rw [zrow_ctx m c b r (by assumption)]
  · rw [zrow_lat m c b r (by assumption)]

theorem head_eq (j : Fin 512) : hd ⟨j.val / 128, by omega⟩ (headOf ⟨j.val % 128, by omega⟩) = ⟨j.val / 64, by omega⟩ := by
  refine Fin.ext ?_
  show j.val / 128 * 2 + (headOf ⟨j.val % 128, by omega⟩).val = j.val / 64
  unfold headOf
  by_cases hl : j.val % 128 < 64
  · rw [if_pos hl]; show j.val / 128 * 2 + 0 = j.val / 64; omega
  · rw [if_neg hl]; show j.val / 128 * 2 + 1 = j.val / 64; omega

/-- The plain lines' result is the call's. -/
theorem out_apply (h0 : ∀ i, IsR (A0 m c i)) (h1 : ∀ i, IsR (A1 m c i)) (h2 : ∀ i, IsR (A2 m c i)) (h3 : ∀ i, IsR (A3 m c i))
    (h4 : ∀ i, IsR (A4 m c i)) (h5 : ∀ i, IsR (A5 m c i)) (h6 : ∀ i, IsR (A6 m c i)) (h7 : ∀ i, IsR (A7 m c i))
    (b : Fin 8) (r : Fin 2304) (j : Fin 512) :
    val_main_v169 (F := Ideal) (A0 m c) (A1 m c) (A2 m c) (A3 m c) (A4 m c) (A5 m c) (A6 m c) (A7 m c) (ix3 b r j)
      = Cert.KernelIdeal.Whole.result m c b ⟨j.val / 128, by omega⟩ r ⟨j.val % 128, by omega⟩ := by
  have hl : j.val % 128 % 64 = j.val % 64 := by omega
  rw [v169_apply, Cert.KernelIdeal.Whole.result_eq m c h0 h1 h2 h3 h4 h5 h6 h7, head_eq]
  by_cases h : r.val < 256
  · rw [dif_pos h, if_pos h, v165_apply]
    refine congr (congrArg rmean (funext fun k => ?_)) (funext fun k => ?_)
    · rw [v152_apply]
      refine congrArg (· * _) (Finset.sum_congr rfl fun d _ => congr (congrArg HMul.hMul (q_ctx m c b _ r h d)) ?_)
      rw [v130_apply]
      exact k_ctx m c b _ (ctxKey k) k.isLt d
    · rw [zrow_ctx m c b (ctxKey k) k.isLt]
      exact congrArg (kf _ _ _ _) (Fin.ext (by show 64 + j.val % 64 = 64 + j.val % 128 % 64; rw [hl]))
  · rw [dif_neg h, if_neg h, v149_apply]
    refine congr (congrArg rmean (funext fun k => ?_)) (funext fun k => ?_)
    · rw [v136_apply]
      exact congrArg (· * _) (Finset.sum_congr rfl fun d _ => congr (congrArg HMul.hMul (q_lat m c b _ r h d)) (k_all m c b _ k d))
    · rw [v_all]
      exact congrArg (kf _ _ _ _) (Fin.ext (by show 64 + j.val % 64 = 64 + j.val % 128 % 64; rw [hl]))
end

/-- The kernel's reading leaves its arguments and semaphores as they were, under the precondition too. -/
theorem frame_ideal_finite [Cert.Pre_finite.Facts] : Cert.quiescent_KernelIdeal_pre_finite := fun m ρ _ => Cert.KernelIdeal.Gen.frame m ρ
/-- So does the reference. -/
theorem frame_ref_finite [Cert.Pre_finite.Facts] : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with equal results, over the extended reals, for real arguments. -/
theorem algebraic [Cert.Pre_finite.Facts] : Cert.algebraic_KernelIdeal_ReferenceIdeal_pre_finite := fun m ρ m' ρ' hpre hag =>
  ⟨fun c => Cert.KernelIdeal.Whole.final m c, Cert.KernelIdeal.Whole.run m ρ,
    (θ_run Cert.ReferenceIdeal.defs _ _).mono (fun _ h c => ⟨by
      refine ((h c).1.trans (Cert.ReferenceIdeal.Read.val_main_v169_eq ..)).trans ?_
      obtain ⟨g0, g1, g2, g3, g4, g5, g6, g7⟩ := hag c
      refine (congr (congr (congr (congr (congr (congr (congr (congrArg Cert.ReferenceIdeal.Read.val_main_v169 g0) g1) g2) g3) g4) g5) g6) g7).trans ?_
      obtain ⟨f0, f1, f2, f3, f4, f5, f6, f7⟩ := finite_isR (hpre c)
      funext i
      refine (congrArg _ (show i = ix3 (i 0) (i 1) (i 2) from funext fun a => by fin_cases a <;> rfl)).trans ?_
      exact out_apply m c f0 f1 f2 f3 f4 f5 f6 f7 (i 0) (i 1) (i 2), (h c).2⟩)
    (Cert.ReferenceIdeal.Value.run (F := Ideal) m' ρ')⟩

end Cert.MlaProof
end
-- ==== Proof.FfnLayer.lean ====
/-
  The expert feed-forward, whatever the layer and the number of rows: what it computes, what one block of 512 hidden
  columns adds to it, and how four blocks' parts are the whole. Nothing here speaks of one program.
-/
module

public import Idealize.ShloMosaic.Lib.Pointwise
public import Idealize.ShloMosaic.Lib.Pipeline.ValueKit.Tiles
public import Idealize.ShloMosaic.Lib.Pipeline.ReadBack

@[expose] public section

set_option maxRecDepth 16384

noncomputable section

open Idealize.ShloMosaic Idealize.ShloMosaic.TcCoe Idealize.SL.Sem

namespace Cert.FfnSpec

variable {R : ℕ}

/-- `silu` of the first projection times the second, for layer `L`, expert `e`, row `r` and hidden column `k`. -/
def hidden (L : Fin 4) (x : Vec Ideal ⟨3, ![16, R, 1024]⟩ .bf16) (w1 w3 : Vec Ideal ⟨4, ![4, 16, 1024, 2048]⟩ .f32)
    (e : Fin 16) (r : Fin R) (k : Fin 2048) : EReal :=
  (∑ j : Fin 1024, x (ix3 e r j) * w1 (ix4 L e j k)) * Ideal.logistic (∑ j : Fin 1024, x (ix3 e r j) * w1 (ix4 L e j k))
    * (∑ j : Fin 1024, x (ix3 e r j) * w3 (ix4 L e j k))

/-- The result: the second product over all 2048 hidden columns. -/
def result (L : Fin 4) (x : Vec Ideal ⟨3, ![16, R, 1024]⟩ .bf16) (w1 w3 : Vec Ideal ⟨4, ![4, 16, 1024, 2048]⟩ .f32)
    (w2 : Vec Ideal ⟨4, ![4, 16, 2048, 1024]⟩ .f32) (e : Fin 16) (r : Fin R) (d : Fin 1024) : EReal :=
  ∑ k : Fin 2048, hidden L x w1 w3 e r k * w2 (ix4 L e k d)

/-- Hidden column `k` of block `f`. -/
abbrev col (f : Fin 4) (k : Fin 512) : Fin 2048 := ⟨f.val * 512 + k.val, by have := f.isLt; have := k.isLt; omega⟩

/-- The part of the result that block `f` of the hidden columns gives. -/
def partOf (L : Fin 4) (x : Vec Ideal ⟨3, ![16, R, 1024]⟩ .bf16) (w1 w3 : Vec Ideal ⟨4, ![4, 16, 1024, 2048]⟩ .f32)
    (w2 : Vec Ideal ⟨4, ![4, 16, 2048, 1024]⟩ .f32) (e : Fin 16) (r : Fin R) (d : Fin 1024) (f : Fin 4) : EReal :=
  ∑ k : Fin 512, hidden L x w1 w3 e r (col f k) * w2 (ix4 L e (col f k) d)

/-- The four blocks' parts are the result. -/
theorem sum_partOf (L : Fin 4) (x : Vec Ideal ⟨3, ![16, R, 1024]⟩ .bf16) (w1 w3 : Vec Ideal ⟨4, ![4, 16, 1024, 2048]⟩ .f32)
    (w2 : Vec Ideal ⟨4, ![4, 16, 2048, 1024]⟩ .f32) (e : Fin 16) (r : Fin R) (d : Fin 1024) :
    ∑ f : Fin 4, partOf L x w1 w3 w2 e r d f = result L x w1 w3 w2 e r d :=
  (Fin.sum_univ_tiles 4 512 rfl fun k => hidden L x w1 w3 e r k * w2 (ix4 L e k d)).symm

/-- A buffer that holds a block's part at an expert's first point, and has each later block's part added to it. -/
theorem accum (O : (n : ℕ) → n < 64 → EReal) (P : Fin 16 → Fin 4 → EReal)
    (first : ∀ (n : ℕ) (h : n < 64), n % 4 = 0 → O n h = P ⟨n / 4, by omega⟩ ⟨n % 4, by omega⟩)
    (next : ∀ (n : ℕ) (h : n < 64), ¬ n % 4 = 0 → O n h = O (n - 1) (by omega) + P ⟨n / 4, by omega⟩ ⟨n % 4, by omega⟩)
    (e : Fin 16) : ∑ f : Fin 4, P e f = O (e.val * 4 + 3) (by omega) := by
  have he := e.isLt
  have at4 : ∀ (n : ℕ) (h : n < 64) (f : Fin 4), n = e.val * 4 + f.val → P ⟨n / 4, by omega⟩ ⟨n % 4, by omega⟩ = P e f := fun n h f hn => by
    congr 1
    · exact Fin.ext (by show n / 4 = e.val; omega)
    · exact Fin.ext (by show n % 4 = f.val; omega)
  have s0 : O (e.val * 4) (by omega) = P e 0 := (first (e.val * 4) (by omega) (by omega)).trans (at4 (e.val * 4) (by omega) 0 rfl)
  have s1 : O (e.val * 4 + 1) (by omega) = P e 0 + P e 1 :=
    (next (e.val * 4 + 1) (by omega) (by omega)).trans (congr (congrArg HAdd.hAdd s0) (at4 (e.val * 4 + 1) (by omega) 1 rfl))
  have s2 : O (e.val * 4 + 2) (by omega) = P e 0 + P e 1 + P e 2 :=
    (next (e.val * 4 + 2) (by omega) (by omega)).trans (congr (congrArg HAdd.hAdd s1) (at4 (e.val * 4 + 2) (by omega) 2 rfl))
  have s3 : O (e.val * 4 + 3) (by omega) = P e 0 + P e 1 + P e 2 + P e 3 :=
    (next (e.val * 4 + 3) (by omega) (by omega)).trans (congr (congrArg HAdd.hAdd s2) (at4 (e.val * 4 + 3) (by omega) 3 rfl))
  rw [s3, Fin.sum_univ_four]

/-- The same projection, one block's rows against one block of hidden columns. -/
def hid (x : Vec Ideal ⟨3, ![1, R, 1024]⟩ .bf16) (w1 w3 : Vec Ideal ⟨4, ![1, 1, 1024, 512]⟩ .f32) (r : Fin R) (k : Fin 512) : EReal :=
  (∑ j : Fin 1024, x (ix3 0 r j) * w1 (ix4 0 0 j k)) * Ideal.logistic (∑ j : Fin 1024, x (ix3 0 r j) * w1 (ix4 0 0 j k))
    * (∑ j : Fin 1024, x (ix3 0 r j) * w3 (ix4 0 0 j k))

/-- What one block of hidden columns adds to the result at row `r`, column `d`. -/
def part (x : Vec Ideal ⟨3, ![1, R, 1024]⟩ .bf16) (w1 w3 : Vec Ideal ⟨4, ![1, 1, 1024, 512]⟩ .f32)
    (w2 : Vec Ideal ⟨4, ![1, 1, 512, 1024]⟩ .f32) (r : Fin R) (d : Fin 1024) : EReal :=
  ∑ k : Fin 512, hid x w1 w3 r k * w2 (ix4 0 0 k d)

/-- A block's part, from the arrays that the blocks are read from. -/
theorem part_eq (L : Fin 4) (X : Vec Ideal ⟨3, ![16, R, 1024]⟩ .bf16) (W1 W3 : Vec Ideal ⟨4, ![4, 16, 1024, 2048]⟩ .f32)
    (W2 : Vec Ideal ⟨4, ![4, 16, 2048, 1024]⟩ .f32) (e : Fin 16) (f : Fin 4) (x : Vec Ideal ⟨3, ![1, R, 1024]⟩ .bf16)
    (w1 w3 : Vec Ideal ⟨4, ![1, 1, 1024, 512]⟩ .f32) (w2 : Vec Ideal ⟨4, ![1, 1, 512, 1024]⟩ .f32)
    (hx : ∀ r j, x (ix3 0 r j) = X (ix3 e r j)) (h1 : ∀ j k, w1 (ix4 0 0 j k) = W1 (ix4 L e j (col f k)))
    (h3 : ∀ j k, w3 (ix4 0 0 j k) = W3 (ix4 L e j (col f k))) (h2 : ∀ k d, w2 (ix4 0 0 k d) = W2 (ix4 L e (col f k) d)) (r : Fin R) (d : Fin 1024) :
    part x w1 w3 w2 r d = partOf L X W1 W3 W2 e r d f := by
  unfold part partOf hid hidden
  simp only [hx, h1, h2, h3]

/-- The constant one, as an extended real. -/
theorem one_bits : FloatOps.ofBits (F := Ideal) .f32 0x3F800000#32 = (1 : EReal) := by
  rw [Ideal.ofBits_def]; simp [Ideal.ofBits, Ideal.ieee]
  rw [← EReal.coe_mul, ← EReal.coe_one]
  norm_num

/-- Three and four coordinates name an index. -/
theorem ix3_of {a b c : ℕ} (i : Shape.Idx ⟨3, ![a, b, c]⟩) (x : Fin a) (y : Fin b) (z : Fin c) (h0 : (i 0).val = x.val)
    (h1 : (i 1).val = y.val) (h2 : (i 2).val = z.val) : i = ix3 x y z :=
  funext fun k => match k with
    | ⟨0, _⟩ => Fin.ext h0
    | ⟨1, _⟩ => Fin.ext h1
    | ⟨2, _⟩ => Fin.ext h2
theorem ix4_of {a b c d : ℕ} (i : Shape.Idx ⟨4, ![a, b, c, d]⟩) (x : Fin a) (y : Fin b) (z : Fin c) (w : Fin d) (h0 : (i 0).val = x.val)
    (h1 : (i 1).val = y.val) (h2 : (i 2).val = z.val) (h3 : (i 3).val = w.val) : i = ix4 x y z w :=
  funext fun k => match k with
    | ⟨0, _⟩ => Fin.ext h0
    | ⟨1, _⟩ => Fin.ext h1
    | ⟨2, _⟩ => Fin.ext h2
    | ⟨3, _⟩ => Fin.ext h3

section group
variable {G : ℕ}

/-- A body's step on one group of `G` rows: the old contents plus the block's part on the group's rows. -/
abbrev Step (f : Vec Ideal ⟨4, ![1, 1, 1024, 512]⟩ .f32 → Vec Ideal ⟨4, ![1, 1, 1024, 512]⟩ .f32 → Vec Ideal ⟨4, ![1, 1, 512, 1024]⟩ .f32
    → Vec Ideal ⟨3, ![1, G, 1024]⟩ .bf16 → Vec Ideal ⟨3, ![1, G, 1024]⟩ .f32 → Vec Ideal ⟨3, ![1, G, 1024]⟩ .f32) : Prop :=
  ∀ w1 w3 w2 x o (a : Fin 1) (r : Fin G) (d : Fin 1024), f w1 w3 w2 x o (ix3 a r d) = o (ix3 0 r d) + part x w1 w3 w2 r d

variable {f : Vec Ideal ⟨4, ![1, 1, 1024, 512]⟩ .f32 → Vec Ideal ⟨4, ![1, 1, 1024, 512]⟩ .f32 → Vec Ideal ⟨4, ![1, 1, 512, 1024]⟩ .f32
    → Vec Ideal ⟨3, ![1, G, 1024]⟩ .bf16 → Vec Ideal ⟨3, ![1, G, 1024]⟩ .f32 → Vec Ideal ⟨3, ![1, G, 1024]⟩ .f32}

/-- One group at row offset `o` of the block, read at the block's index `y`. -/
theorem tile_apply (hf : Step f) (o : ℕ) (inb : ∀ a, (![0, o, 0] : Fin 3 → ℕ) a + (![1, G, 1024] : Fin 3 → ℕ) a ≤ (⟨3, ![1, R, 1024]⟩ : Shape).size a)
    (i1 i3 : ∀ a, (![0, 0, 0, 0] : Fin 4 → ℕ) a + (⟨4, ![1, 1, 1024, 512]⟩ : Shape).size a ≤ (⟨4, ![1, 1, 1024, 512]⟩ : Shape).size a)
    (i2 : ∀ a, (![0, 0, 0, 0] : Fin 4 → ℕ) a + (⟨4, ![1, 1, 512, 1024]⟩ : Shape).size a ≤ (⟨4, ![1, 1, 512, 1024]⟩ : Shape).size a)
    (x : Vec Ideal ⟨3, ![1, R, 1024]⟩ .bf16) (w1 w3 : Vec Ideal ⟨4, ![1, 1, 1024, 512]⟩ .f32) (w2 : Vec Ideal ⟨4, ![1, 1, 512, 1024]⟩ .f32)
    (o' : Vec Ideal ⟨3, ![1, G, 1024]⟩ .f32) (y : Shape.Idx ⟨3, ![1, R, 1024]⟩) (z : Shape.Idx ⟨3, ![1, G, 1024]⟩)
    (h1 : (y 1 : ℕ) = o + z 1) (h2 : (y 2 : ℕ) = z 2) :
    f (View.ld w1 (Rect.unit (s := ⟨4, ![1, 1, 1024, 512]⟩) ![0, 0, 0, 0] (⟨4, ![1, 1, 1024, 512]⟩ : Shape).size i1))
      (View.ld w3 (Rect.unit (s := ⟨4, ![1, 1, 1024, 512]⟩) ![0, 0, 0, 0] (⟨4, ![1, 1, 1024, 512]⟩ : Shape).size i3))
      (View.ld w2 (Rect.unit (s := ⟨4, ![1, 1, 512, 1024]⟩) ![0, 0, 0, 0] (⟨4, ![1, 1, 512, 1024]⟩ : Shape).size i2))
      (View.ld x (Rect.unit (s := ⟨3, ![1, R, 1024]⟩) ![0, o, 0] ![1, G, 1024] inb)) o' z
    = o' z + part x w1 w3 w2 (y 1) (y 2) := by
  have hz : (![0, 0, 0, 0] : Fin 4 → ℕ) = fun _ => 0 := funext fun a => by fin_cases a <;> rfl
  rw [View.ld_unit_zero (S := ⟨4, ![1, 1, 1024, 512]⟩) hz, View.ld_unit_zero (S := ⟨4, ![1, 1, 1024, 512]⟩) hz, View.ld_unit_zero (S := ⟨4, ![1, 1, 512, 1024]⟩) hz]
  have hx : ∀ j : Fin 1024, View.ld x (Rect.unit (s := ⟨3, ![1, R, 1024]⟩) ![0, o, 0] ![1, G, 1024] inb) (ix3 0 (z 1) j) = x (ix3 0 (y 1) j) := fun j =>
    View.ld_unit_apply_of x _ _ inb (ix3 0 (z 1) j) (ix3 0 (y 1) j) fun a => match a with
      | ⟨0, _⟩ => rfl
      | ⟨1, _⟩ => h1
      | ⟨2, _⟩ => (Nat.zero_add _).symm
  have e := hf w1 w3 w2 (View.ld x (Rect.unit (s := ⟨3, ![1, R, 1024]⟩) ![0, o, 0] ![1, G, 1024] inb)) o' (z 0) (z 1) (z 2)
  have hp : part (View.ld x (Rect.unit (s := ⟨3, ![1, R, 1024]⟩) ![0, o, 0] ![1, G, 1024] inb)) w1 w3 w2 (z 1) (z 2) = part x w1 w3 w2 (y 1) (y 2) := by
    unfold part hid
    simp only [hx]
    rw [show (z 2 : Fin 1024) = y 2 from Fin.ext h2.symm]
  rw [hp] at e
  refine (congrArg _ (show z = ix3 (z 0) (z 1) (z 2) from funext fun a => by fin_cases a <;> rfl)).trans (e.trans (congrArg (· + _) (congrArg o' ?_)))
  exact funext fun a => match a with
    | ⟨0, _⟩ => (Subsingleton.elim (α := Fin 1) _ _)
    | ⟨1, _⟩ => rfl
    | ⟨2, _⟩ => rfl

/-- A group's load of the buffer, at the index of the group that is the block's `y`. -/
theorem ld_apply (o : ℕ) (inb : ∀ a, (![0, o, 0] : Fin 3 → ℕ) a + (![1, G, 1024] : Fin 3 → ℕ) a ≤ (⟨3, ![1, R, 1024]⟩ : Shape).size a)
    (xo : Vec Ideal ⟨3, ![1, R, 1024]⟩ .f32) (y : Shape.Idx ⟨3, ![1, R, 1024]⟩) (z : Shape.Idx ⟨3, ![1, G, 1024]⟩)
    (h0 : (y 0 : ℕ) = z 0) (h1 : (y 1 : ℕ) = o + z 1) (h2 : (y 2 : ℕ) = z 2) :
    View.ld xo (Rect.unit (s := ⟨3, ![1, R, 1024]⟩) ![0, o, 0] ![1, G, 1024] inb) z = xo y :=
  View.ld_unit_apply_of xo _ _ inb z y fun a => match a with
    | ⟨0, _⟩ => h0.trans (Nat.zero_add _).symm
    | ⟨1, _⟩ => h1
    | ⟨2, _⟩ => h2.trans (Nat.zero_add _).symm

/-- A load after a fill of the whole buffer reads the fill. -/
theorem readCov_filled {σ : RefSig} {κ : Kind} {sp : Space} (v : View σ κ sp ⟨3, ![1, R, 1024]⟩ .f32) (Z : Vec Ideal ⟨3, ![1, R, 1024]⟩ .f32)
    (r : Rect ⟨3, ![1, R, 1024]⟩) (inb : ∀ a, (![0, 0, 0] : Fin 3 → ℕ) a + (⟨3, ![1, R, 1024]⟩ : Shape).size a ≤ (⟨3, ![1, R, 1024]⟩ : Shape).size a) :
    v.readCov (Val := Elt Ideal) [⟨Rect.unit (s := ⟨3, ![1, R, 1024]⟩) ![0, 0, 0] (⟨3, ![1, R, 1024]⟩ : Shape).size inb, Z⟩] r.toLoadRect = View.ld Z r := by
  have hz : (![0, 0, 0] : Fin 3 → ℕ) = fun _ => 0 := funext fun a => by fin_cases a <;> rfl
  rw [View.readCov_eq_canon', View.canon_unit_zero (S := ⟨3, ![1, R, 1024]⟩) hz]

/-- One group whose buffer was zero: its piece is the block's part there. -/
theorem piece_apply (hf : Step f) (Z : Vec Ideal ⟨3, ![1, R, 1024]⟩ .f32) (hZ : ∀ y, Z y = 0) (o : ℕ)
    (inb inb' : ∀ a, (![0, o, 0] : Fin 3 → ℕ) a + (![1, G, 1024] : Fin 3 → ℕ) a ≤ (⟨3, ![1, R, 1024]⟩ : Shape).size a)
    (i1 i3 : ∀ a, (![0, 0, 0, 0] : Fin 4 → ℕ) a + (⟨4, ![1, 1, 1024, 512]⟩ : Shape).size a ≤ (⟨4, ![1, 1, 1024, 512]⟩ : Shape).size a)
    (i2 : ∀ a, (![0, 0, 0, 0] : Fin 4 → ℕ) a + (⟨4, ![1, 1, 512, 1024]⟩ : Shape).size a ≤ (⟨4, ![1, 1, 512, 1024]⟩ : Shape).size a)
    (x : Vec Ideal ⟨3, ![1, R, 1024]⟩ .bf16) (w1 w3 : Vec Ideal ⟨4, ![1, 1, 1024, 512]⟩ .f32) (w2 : Vec Ideal ⟨4, ![1, 1, 512, 1024]⟩ .f32)
    (o' : Vec Ideal ⟨3, ![1, G, 1024]⟩ .f32)
    (ho : o' = View.ld (Val := Elt Ideal) (e' := .f32) Z (Rect.unit (s := ⟨3, ![1, R, 1024]⟩) ![0, o, 0] ![1, G, 1024] inb')) (z : Shape.Idx ⟨3, ![1, G, 1024]⟩) :
    f (View.ld w1 (Rect.unit (s := ⟨4, ![1, 1, 1024, 512]⟩) ![0, 0, 0, 0] (⟨4, ![1, 1, 1024, 512]⟩ : Shape).size i1))
      (View.ld w3 (Rect.unit (s := ⟨4, ![1, 1, 1024, 512]⟩) ![0, 0, 0, 0] (⟨4, ![1, 1, 1024, 512]⟩ : Shape).size i3))
      (View.ld w2 (Rect.unit (s := ⟨4, ![1, 1, 512, 1024]⟩) ![0, 0, 0, 0] (⟨4, ![1, 1, 512, 1024]⟩ : Shape).size i2))
      (View.ld x (Rect.unit (s := ⟨3, ![1, R, 1024]⟩) ![0, o, 0] ![1, G, 1024] inb)) o' z
    = part x w1 w3 w2 ((Rect.unit (s := ⟨3, ![1, R, 1024]⟩) ![0, o, 0] ![1, G, 1024] inb).idx z 1)
        ((Rect.unit (s := ⟨3, ![1, R, 1024]⟩) ![0, o, 0] ![1, G, 1024] inb).idx z 2) := by
  refine (tile_apply hf o inb i1 i3 i2 x w1 w3 w2 o' ((Rect.unit (s := ⟨3, ![1, R, 1024]⟩) ![0, o, 0] ![1, G, 1024] inb).idx z) z ?_ ?_).trans ?_
  · show o + 1 * (z 1 : ℕ) = o + z 1
    omega
  · show 0 + 1 * (z 2 : ℕ) = z 2
    omega
  rw [ho, View.ld_apply, hZ, zero_add]

end group

end Cert.FfnSpec
end
-- ==== Proof.FfnBlock.lean ====
/-
  The expert feed-forward kernel over 2304 rows, one grid point: what the body leaves in the output's staging buffer,
  read at an index over the extended reals. A point holds one expert's rows and one block of 512 hidden columns, and adds
  to the buffer (zero before the first block) the part of the second product that those columns give.
-/
module

public import proofs.«01_k».proof.Proof.Gen.FfnIdeal.Value
public import proofs.«01_k».proof.Proof.FfnLayer

@[expose] public section

set_option maxRecDepth 16384

noncomputable section

open Idealize.ShloMosaic Idealize.ShloMosaic.TcCoe Idealize.SL.Sem

namespace Cert.FfnIdeal.Block

open Cert.FfnIdeal Cert.FfnIdeal.Gen Cert.FfnSpec

/-- The body's payload for one group of 768 rows: the old contents plus the block's part. -/
theorem step : Step (G := 768) fun w1 w3 w2 x o => k0_pay7 (k0_pay2 w1) (k0_pay3 w3) (k0_pay4 w2) x o := fun w1 w3 w2 x o a r d => by
  pointwise [k0_pay7, k0_pay2, k0_pay3, k0_pay4, part, hid]

/-- The block an expert's first point starts from is zero. -/
theorem pay5_apply (y : S1x2304x1024.Idx) : k0_pay5 (F := Ideal) y = 0 := by
  rw [show k0_pay5 (F := Ideal) y = Ideal.ofBits .f32 0x00000000#32 from rfl]
  simp [Ideal.ofBits, Ideal.ieee]

/-- A point after an expert's first one adds its block's part to what the buffer held. -/
theorem out_B (c : Dev nD) (i : grid0.Coords) (a2 : Memref sig .tc .vmem S1x2304x1024 .bf16) (h2 : a2.IsWhole)
    (a3 : Memref sig .tc .vmem S1x1x1024x512 .f32) (h3 : a3.IsWhole) (a4 : Memref sig .tc .vmem S1x1x1024x512 .f32) (h4 : a4.IsWhole)
    (a5 : Memref sig .tc .vmem S1x1x512x1024 .f32) (h5 : a5.IsWhole) (a6 : Memref sig .tc .vmem S1x2304x1024 .f32) (h6 : a6.IsWhole)
    (hc : ¬cond0_0 i) (x : Vec Ideal S1x2304x1024 .bf16) (w1 w3 : Vec Ideal S1x1x1024x512 .f32) (w2 : Vec Ideal S1x1x512x1024 .f32)
    (xo : Vec Ideal S1x2304x1024 .f32) (y : S1x2304x1024.Idx) :
    out0_B_4 c i a2 h2 a3 h3 a4 h4 a5 h5 a6 h6 hc x w1 w3 w2 xo y = xo y + part x w1 w3 w2 (y 1) (y 2) := by
  unfold out0_B_4
  rw [View.read_writes_eq_canon _ _ _ (cover0_B_4 c i a2 h2 a3 h3 a4 h4 a5 h5 a6 h6 hc x w1 w3 w2 xo)]
  have hcov := cover0_B_4 c i a2 h2 a3 h3 a4 h4 a5 h5 a6 h6 hc x w1 w3 w2 xo y
  revert hcov
  unfold kernelRun0_B
  dsimp only
  sl_unfold_words
  simp only [View.readAt_eq_ld, h2.read_unread, h3.read_unread, h4.read_unread, h5.read_unread, h6.read_unread]
  intro hcov
  canon_tiles z h using hcov
  · exact (tile_apply step 1536 _ _ _ _ x w1 w3 w2 _ y z h1 h2).trans (congrArg (· + _) (ld_apply 1536 _ xo y z h0 h1 h2))
  · exact (tile_apply step 768 _ _ _ _ x w1 w3 w2 _ y z h1 h2).trans (congrArg (· + _) (ld_apply 768 _ xo y z h0 h1 h2))
  · exact (tile_apply step 0 _ _ _ _ x w1 w3 w2 _ y z (h1.trans (Nat.zero_add _).symm) h2).trans
      (congrArg (· + _) (ld_apply 0 _ xo y z h0 (h1.trans (Nat.zero_add _).symm) h2))

/-- An expert's first point leaves its block's part, added to zero. -/
theorem out_A (c : Dev nD) (i : grid0.Coords) (a2 : Memref sig .tc .vmem S1x2304x1024 .bf16) (h2 : a2.IsWhole)
    (a3 : Memref sig .tc .vmem S1x1x1024x512 .f32) (h3 : a3.IsWhole) (a4 : Memref sig .tc .vmem S1x1x1024x512 .f32) (h4 : a4.IsWhole)
    (a5 : Memref sig .tc .vmem S1x1x512x1024 .f32) (h5 : a5.IsWhole) (a6 : Memref sig .tc .vmem S1x2304x1024 .f32) (h6 : a6.IsWhole)
    (hc : cond0_0 i) (x : Vec Ideal S1x2304x1024 .bf16) (w1 w3 : Vec Ideal S1x1x1024x512 .f32) (w2 : Vec Ideal S1x1x512x1024 .f32)
    (y : S1x2304x1024.Idx) :
    out0_A_4 c i a2 h2 a3 h3 a4 h4 a5 h5 a6 h6 hc x w1 w3 w2 y = part x w1 w3 w2 (y 1) (y 2) := by
  unfold out0_A_4
  rw [View.read_writes_eq_canon _ _ _ (cover0_A_4 c i a2 h2 a3 h3 a4 h4 a5 h5 a6 h6 hc x w1 w3 w2)]
  unfold kernelRun0_A
  dsimp only
  sl_unfold_words
  simp only [View.readAt_eq_ld, h2.read_unread, h3.read_unread, h4.read_unread, h5.read_unread]
  refine View.canon_append_of_pieces (Val := Elt Ideal) (e := .f32) (S := S1x2304x1024) (fun y => part x w1 w3 w2 (y 1) (y 2)) [_] [_, _, _] ?_ y (View.cover_of_tiled_head _ _ _ (by rfl) y)
  intro p hp
  simp only [List.mem_cons, List.not_mem_nil, or_false] at hp
  obtain rfl | rfl | rfl := hp
  · exact piece_apply step _ pay5_apply 1536 _ _ _ _ _ x w1 w3 w2 _
      ((View.readCov_skip _ _ _ _ _ rfl).trans ((View.readCov_skip _ _ _ _ _ rfl).trans (readCov_filled _ _ _ _)))
  · exact piece_apply step _ pay5_apply 768 _ _ _ _ _ x w1 w3 w2 _ ((View.readCov_skip _ _ _ _ _ rfl).trans (readCov_filled _ _ _ _))
  · exact piece_apply step _ pay5_apply 0 _ _ _ _ _ x w1 w3 w2 _ (readCov_filled _ _ _ _)

end Cert.FfnIdeal.Block
end
-- ==== Proof.FfnGrid.lean ====
/-
  The expert feed-forward over its grid of 64 points, whatever the layer and the number of rows: point `n` is expert
  `n / 4`, block `n % 4`. What a point's blocks are parts of, what the output's buffer holds after an expert's last
  point, and which indices of the result that point writes. Nothing here speaks of one program.
-/
module

public import proofs.«01_k».proof.Proof.FfnLayer

@[expose] public section

set_option maxRecDepth 16384

noncomputable section

open Idealize.ShloMosaic Idealize.ShloMosaic.TcCoe Idealize.SL.Sem

namespace Cert.FfnSpec

variable {R : ℕ}

/-- The expert and the block of hidden columns of a point. -/
abbrev expert (n : ℕ) (h : n < 64) : Fin 16 := ⟨n / 4, by omega⟩
abbrev block (n : ℕ) : Fin 4 := ⟨n % 4, by omega⟩

/-- Where the blocks of the rows, of the three weights and of the result lie at point `n`, for layer `l`. -/
abbrev Lies (l n : ℕ) (p0 : Fin 3 → ℕ) (p1 p2 p3 : Fin 4 → ℕ) (p4 : Fin 3 → ℕ) : Prop :=
  (p0 0 = n / 4 ∧ p0 1 = 0 ∧ p0 2 = 0)
  ∧ (p1 0 = l ∧ p1 1 = n / 4 ∧ p1 2 = 0 ∧ p1 3 = n % 4)
  ∧ (p2 0 = l ∧ p2 1 = n / 4 ∧ p2 2 = 0 ∧ p2 3 = n % 4)
  ∧ (p3 0 = l ∧ p3 1 = n / 4 ∧ p3 2 = n % 4 ∧ p3 3 = 0)
  ∧ (p4 0 = n / 4 ∧ p4 1 = 0 ∧ p4 2 = 0)

/-- `x` is the block number `p` of `X`. -/
abbrev Rows (x : Vec Ideal ⟨3, ![1, R, 1024]⟩ .bf16) (X : Vec Ideal ⟨3, ![16, R, 1024]⟩ .bf16) (p : Fin 3 → ℕ) : Prop :=
  ∀ y, ∃ i, x y = X i ∧ ∀ a, (i a : ℕ) = p a * ![1, R, 1024] a + 1 * (y a : ℕ)
abbrev Wide (w : Vec Ideal ⟨4, ![1, 1, 1024, 512]⟩ .f32) (W : Vec Ideal ⟨4, ![4, 16, 1024, 2048]⟩ .f32) (p : Fin 4 → ℕ) : Prop :=
  ∀ y, ∃ i, w y = W i ∧ ∀ a, (i a : ℕ) = p a * ![1, 1, 1024, 512] a + 1 * (y a : ℕ)
abbrev Tall (w : Vec Ideal ⟨4, ![1, 1, 512, 1024]⟩ .f32) (W : Vec Ideal ⟨4, ![4, 16, 2048, 1024]⟩ .f32) (p : Fin 4 → ℕ) : Prop :=
  ∀ y, ∃ i, w y = W i ∧ ∀ a, (i a : ℕ) = p a * ![1, 1, 512, 1024] a + 1 * (y a : ℕ)

/-- A block of the first weights, at an index. -/
theorem wide_at {w : Vec Ideal ⟨4, ![1, 1, 1024, 512]⟩ .f32} {W : Vec Ideal ⟨4, ![4, 16, 1024, 2048]⟩ .f32} {p : Fin 4 → ℕ} (hw : Wide w W p)
    (L : Fin 4) (n : ℕ) (h : n < 64) (hp : p 0 = L.val ∧ p 1 = n / 4 ∧ p 2 = 0 ∧ p 3 = n % 4) (j : Fin 1024) (k : Fin 512) :
    w (ix4 0 0 j k) = W (ix4 L (expert n h) j (col (block n) k)) := by
  obtain ⟨i, hi, ha⟩ := hw (ix4 0 0 j k)
  have h0 : (i 0 : ℕ) = p 0 * 1 + 1 * 0 := ha 0
  have h1 : (i 1 : ℕ) = p 1 * 1 + 1 * 0 := ha 1
  have h2 : (i 2 : ℕ) = p 2 * 1024 + 1 * j.val := ha 2
  have h3 : (i 3 : ℕ) = p 3 * 512 + 1 * k.val := ha 3
  rw [hi]
  exact congrArg W (ix4_of i _ _ _ _ (by omega) (by show (i 1 : ℕ) = n / 4; omega) (by omega) (by show (i 3 : ℕ) = n % 4 * 512 + k.val; omega))

/-- A point's part, from the arrays its blocks are read from. -/
theorem part_at (L : Fin 4) (X : Vec Ideal ⟨3, ![16, R, 1024]⟩ .bf16) (W1 W3 : Vec Ideal ⟨4, ![4, 16, 1024, 2048]⟩ .f32)
    (W2 : Vec Ideal ⟨4, ![4, 16, 2048, 1024]⟩ .f32) (n : ℕ) (h : n < 64) {p0 p4 : Fin 3 → ℕ} {p1 p2 p3 : Fin 4 → ℕ} (hp : Lies L.val n p0 p1 p2 p3 p4)
    {x : Vec Ideal ⟨3, ![1, R, 1024]⟩ .bf16} {w1 w3 : Vec Ideal ⟨4, ![1, 1, 1024, 512]⟩ .f32} {w2 : Vec Ideal ⟨4, ![1, 1, 512, 1024]⟩ .f32}
    (hx : Rows x X p0) (h1 : Wide w1 W1 p1) (h3 : Wide w3 W3 p2) (h2 : Tall w2 W2 p3) (r : Fin R) (d : Fin 1024) :
    part x w1 w3 w2 r d = partOf L X W1 W3 W2 (expert n h) r d (block n) := by
  obtain ⟨⟨a0, a1, a2⟩, b, c, ⟨d0, d1, d2, d3⟩, -⟩ := hp
  refine part_eq L X W1 W3 W2 (expert n h) (block n) x w1 w3 w2 (fun r j => ?_) (wide_at h1 L n h b) (wide_at h3 L n h c) (fun k d => ?_) r d
  · obtain ⟨i, hi, ha⟩ := hx (ix3 0 r j)
    have e0 : (i 0 : ℕ) = p0 0 * 1 + 1 * 0 := ha 0
    have e1 : (i 1 : ℕ) = p0 1 * R + 1 * r.val := ha 1
    have e2 : (i 2 : ℕ) = p0 2 * 1024 + 1 * j.val := ha 2
    rw [a1] at e1
    rw [hi]
    exact congrArg X (ix3_of i _ _ _ (by show (i 0 : ℕ) = n / 4; omega) (by omega) (by omega))
  · obtain ⟨i, hi, ha⟩ := h2 (ix4 0 0 k d)
    have e0 : (i 0 : ℕ) = p3 0 * 1 + 1 * 0 := ha 0
    have e1 : (i 1 : ℕ) = p3 1 * 1 + 1 * 0 := ha 1
    have e2 : (i 2 : ℕ) = p3 2 * 512 + 1 * k.val := ha 2
    have e3 : (i 3 : ℕ) = p3 3 * 1024 + 1 * d.val := ha 3
    rw [hi]
    exact congrArg W2 (ix4_of i _ _ _ _ (by omega) (by show (i 1 : ℕ) = n / 4; omega) (by show (i 2 : ℕ) = n % 4 * 512 + k.val; omega) (by omega))

/-- A buffer to which each of an expert's points adds its part holds, after the last one, the expert's rows of the result:
    it is the result at the index `i` that its own index `y` is written back to. -/
theorem written (L : Fin 4) (X : Vec Ideal ⟨3, ![16, R, 1024]⟩ .bf16) (W1 W3 : Vec Ideal ⟨4, ![4, 16, 1024, 2048]⟩ .f32)
    (W2 : Vec Ideal ⟨4, ![4, 16, 2048, 1024]⟩ .f32) (O : (n : ℕ) → n < 64 → Vec Ideal ⟨3, ![1, R, 1024]⟩ .f32)
    (first : ∀ (n : ℕ) (h : n < 64), n % 4 = 0 → ∀ y, O n h y = partOf L X W1 W3 W2 (expert n h) (y 1) (y 2) (block n))
    (next : ∀ (n : ℕ) (h : n < 64), ¬ n % 4 = 0 → ∀ y, O n h y = O (n - 1) (by omega) y + partOf L X W1 W3 W2 (expert n h) (y 1) (y 2) (block n))
    (n : ℕ) (h : n < 64) (h3 : n % 4 = 3) (y : Shape.Idx ⟨3, ![1, R, 1024]⟩) {p : Fin 3 → ℕ} (hp : p 0 = n / 4 ∧ p 1 = 0 ∧ p 2 = 0)
    (i : Shape.Idx ⟨3, ![16, R, 1024]⟩) (hi : ∀ a, (i a : ℕ) = p a * ![1, R, 1024] a + 1 * (y a : ℕ)) :
    O n h y = result L X W1 W3 W2 (i 0) (i 1) (i 2) := by
  obtain ⟨q0, q1, q2⟩ := hp
  have hy : (y 0 : ℕ) < 1 := (y 0).isLt
  have e0 : (i 0 : ℕ) = p 0 * 1 + 1 * (y 0 : ℕ) := hi 0
  have e1 : (i 1 : ℕ) = p 1 * R + 1 * (y 1 : ℕ) := hi 1
  have e2 : (i 2 : ℕ) = p 2 * 1024 + 1 * (y 2 : ℕ) := hi 2
  rw [q1] at e1
  have s0 : expert n h = i 0 := Fin.ext (by show n / 4 = (i 0 : ℕ); omega)
  have s1 : (y 1 : Fin R) = i 1 := Fin.ext (by omega)
  have s2 : (y 2 : Fin 1024) = i 2 := Fin.ext (by omega)
  have hn : n = (expert n h).val * 4 + 3 := by show n = n / 4 * 4 + 3; omega
  have key := (accum (fun n h => O n h y) (fun e f => partOf L X W1 W3 W2 e (y 1) (y 2) f)
    (fun n h h0 => first n h h0 y) (fun n h h0 => next n h h0 y) (expert n h)).symm.trans (sum_partOf ..)
  rw [← s0, ← s1, ← s2, ← key]
  congr 1

/-- The indices that an expert's point writes are those of the expert. -/
theorem mem_at {p : Fin 3 → ℕ} {n : ℕ} (hp : p 0 = n / 4 ∧ p 1 = 0 ∧ p 2 = 0) (i : Shape.Idx ⟨3, ![16, R, 1024]⟩) (h : (i 0 : ℕ) = n / 4) :
    ∀ a, p a * ![1, R, 1024] a ≤ (i a : ℕ) ∧ (i a : ℕ) < p a * ![1, R, 1024] a + ![1, R, 1024] a := by
  obtain ⟨q0, q1, q2⟩ := hp
  have h1 : (i 1 : ℕ) < R := (i 1).isLt
  have h2 : (i 2 : ℕ) < 1024 := (i 2).isLt
  intro a
  match a with
  | ⟨0, _⟩ => show p 0 * 1 ≤ (i 0 : ℕ) ∧ (i 0 : ℕ) < p 0 * 1 + 1
              omega
  | ⟨1, _⟩ => show p 1 * R ≤ (i 1 : ℕ) ∧ (i 1 : ℕ) < p 1 * R + R
              rw [q1]; omega
  | ⟨2, _⟩ => show p 2 * 1024 ≤ (i 2 : ℕ) ∧ (i 2 : ℕ) < p 2 * 1024 + 1024
              omega

end Cert.FfnSpec
end
-- ==== Proof.FfnClaims.lean ====
/-
  The expert feed-forward of layer index 0: its kernel's result array, the reference's, and that they are equal.
-/
module

public import proofs.«01_k».proof.Defs
public import proofs.«01_k».proof.Proof.FfnBlock
public import proofs.«01_k».proof.Proof.FfnGrid
public import proofs.«01_k».proof.Proof.Gen.Ffn
public import proofs.«01_k».proof.Proof.Gen.Ffn.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnIdeal.Whole

open Cert.FfnIdeal Cert.FfnIdeal.Gen Cert.FfnSpec Cert.FfnIdeal.Block

variable (m : (ℓ : Loc nD τ sig) → Buf (Elt Ideal) ℓ) (ρ : Dev nD → PrngReg)

/-- The four arguments as launched. -/
abbrev X (c : Dev nD) : Vec Ideal S16x2304x1024 .bf16 := m ((c : Thread nD τ).loc main_arg0)
abbrev W1 (c : Dev nD) : Vec Ideal S4x16x1024x2048 .f32 := m ((c : Thread nD τ).loc main_arg1)
abbrev W3 (c : Dev nD) : Vec Ideal S4x16x1024x2048 .f32 := m ((c : Thread nD τ).loc main_arg2)
abbrev W2 (c : Dev nD) : Vec Ideal S4x16x2048x1024 .f32 := m ((c : Thread nD τ).loc main_arg3)

theorem N_eq : cfg0.N = 64 := N_0

/-- Where each window's block lies at a point. -/
theorem index_eq : ∀ t : Fin cfg0.N,
    Lies 0 t.val (win0_0.index t) (win0_1.index t) (win0_2.index t) (win0_3.index t) (win0_4.index t) := by decide +kernel

/-- A point's part, from the arguments. -/
theorem point (c : Dev nD) (t : Fin cfg0.N) (r : Fin 2304) (d : Fin 1024) :
    part (R := 2304) (iblk m c 0 t) (iblk m c 1 t) (iblk m c 2 t) (iblk m c 3 t) r d
      = partOf 0 (X m c) (W1 m c) (W3 m c) (W2 m c) (expert t.val (t.isLt.trans_eq N_eq)) r d (block t.val) :=
  part_at 0 (X m c) (W1 m c) (W3 m c) (W2 m c) t.val (t.isLt.trans_eq N_eq) (index_eq t) (fun y => ⟨_, View.read_apply .., fun a => rfl⟩)
    (fun y => ⟨_, View.read_apply .., fun a => rfl⟩) (fun y => ⟨_, View.read_apply .., fun a => rfl⟩) (fun y => ⟨_, View.read_apply .., fun a => rfl⟩) r d

/-- The result array's final contents. -/
abbrev final (c : Dev nD) : Buf (Elt Ideal) ((c : Thread nD τ).loc main_v0) :=
  fun i => result 0 (X m c) (W1 m c) (W3 m c) (W2 m c) (i 0) (i 1) (i 2)

/-- A write-back (after an expert's last block) writes the expert's part of the result. -/
theorem flushed_eq (c : Dev nD) (t : Fin cfg0.N) (hf : (cfg0.win 4).flush t = true) :
    (dats m 0 c).flushed 4 t = ((cfg0.win 4).blk t).view.read (Elt Ideal) (final m c) := by
  rw [Value.flushed4]
  funext y
  rw [View.read_apply]
  exact written 0 (X m c) (W1 m c) (W3 m c) (W2 m c) (fun n h => outsAt0 m c n (h.trans_eq N_eq.symm))
    (fun n h h0 y => by
      rw [outsAt0_A m c ⟨n, h.trans_eq N_eq.symm⟩ h0, out_A]
      exact point m c ⟨n, h.trans_eq N_eq.symm⟩ (y 1) (y 2))
    (fun n h h0 y => by
      rw [outsAt0_B m c ⟨n, h.trans_eq N_eq.symm⟩ h0, out_B]
      exact congrArg (_ + ·) (point m c ⟨n, h.trans_eq N_eq.symm⟩ (y 1) (y 2)))
    t.val (t.isLt.trans_eq N_eq) ((flush0_4 t).mp hf) y (index_eq t).2.2.2.2 _ (fun a => rfl)

/-- An index of the array is in point `t`'s block when its expert is the point's. -/
theorem mem_blk (t : Fin cfg0.N) (i : S16x2304x1024.Idx) (h : (i 0).val = t.val / 4) : i ∈ ((cfg0.win 4).blk t).view.set := by
  show i ∈ ((View.whole main_v0).slice (win0_4.rect t)).set
  rw [View.set_slice_whole, Rect.mem_set_unit]
  exact mem_at (index_eq t).2.2.2.2 i h

/-- So the result array ends holding the result: an index is written after its expert's last block. -/
theorem final_eq (c : Dev nD) : (dats m 0 c).arrAt 4 cfg0.N = final m c :=
  (dats m 0 c).arrAt_eq_of_cover 4 (final m c) (flushed_eq m c) fun i => by
    have h0 : (i 0 : ℕ) < 16 := (i 0).isLt
    have hN := N_eq
    refine ⟨⟨(i 0 : ℕ) * 4 + 3, by omega⟩, (flush0_4 _).mpr (by dsimp only; omega), mem_blk _ i (by dsimp only; omega)⟩

end Cert.FfnIdeal.Whole

namespace Cert.FfnRefIdeal.Whole

open Cert.FfnRefIdeal Cert.FfnRefIdeal.Gen Cert.FfnRefIdeal.Read Cert.FfnSpec

/-- The reference's result, at an index. -/
theorem out_apply (x0 : Vec Ideal S16x2304x1024 .bf16) (x1 x2 : Vec Ideal S4x16x1024x2048 .f32) (x3 : Vec Ideal S4x16x2048x1024 .f32)
    (e : Fin 16) (r : Fin 2304) (d : Fin 1024) : val_main_v11 (F := Ideal) x0 x1 x2 x3 (ix3 e r d) = result 0 x0 x1 x2 x3 e r d := by
  have h1 : FloatOps.ofBits (F := Ideal) .f32 0x3F800000#32 = (1 : EReal) := one_bits
  pointwise [val_main_v11, val_main_v10, val_main_v9, val_main_v8, val_main_v7, val_main_v6, val_main_v5, val_main_v4, val_main_v3, val_main_v2,
    val_main_v1, val_main_v0, val_main_call0_v5, val_main_call0_v4, val_main_call0_v3, val_main_call0_v2, val_main_call0_v1, val_main_call0_v0,
    val_main_call0_cst, val_main_call0_cst_0, result, FfnSpec.hidden, Ideal.logistic]

end Cert.FfnRefIdeal.Whole

namespace Cert.FfnProof

/-- The printed kernel runs and leaves its arguments and semaphores as they were. -/
theorem frame : Cert.quiescent_Ffn := fun m ρ _ => Cert.Ffn.Gen.frame m ρ

/-- So does its reading over the extended reals. -/
theorem frame_ideal : Cert.quiescent_FfnIdeal := fun m ρ _ => Cert.FfnIdeal.Gen.frame m ρ

/-- So does the reference. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- Kernel and reference end with equal results, over the extended reals, for every input. -/
theorem algebraic : Cert.algebraic_FfnIdeal_FfnRefIdeal := fun m ρ m' ρ' _ hag =>
  ⟨fun c => Cert.FfnIdeal.Whole.final m c,
    (θ_run Cert.FfnIdeal.defs _ _).mono (fun _ h c => ⟨(h c).1.trans (Cert.FfnIdeal.Whole.final_eq m c), (h c).2⟩) (Cert.FfnIdeal.Value.run_blocks m ρ),
    (θ_run Cert.FfnRefIdeal.defs _ _).mono (fun _ h c => ⟨by
      refine ((h c).1.trans (Cert.FfnRefIdeal.Read.val_main_v11_eq ..)).trans ?_
      obtain ⟨h0, h1, h2, h3⟩ := hag c
      rw [h0, h1, h2, h3]
      funext i
      refine (congrArg _ (Cert.FfnSpec.ix3_of i (i 0) (i 1) (i 2) rfl rfl rfl)).trans ?_
      exact Cert.FfnRefIdeal.Whole.out_apply _ _ _ _ (i 0) (i 1) (i 2), (h c).2⟩)
    (Cert.FfnRefIdeal.Value.run (F := Ideal) m' ρ')⟩

end Cert.FfnProof
end
-- ==== Proof.Streams.lean ====
/-
  What the calls on the two token streams share: the streams joined along the rows, the modulation vectors' rows, and a
  normalized and modulated row, over the extended reals.
-/
module

public import Idealize.ShloMosaic.Lib.Pipeline.Value
public import Idealize.ShloMosaic.Lib.Pointwise
public import proofs.«01_k».proof.Proof.FfnLayer

@[expose] public section

set_option maxRecDepth 16384

noncomputable section

open Idealize.ShloMosaic Idealize.ShloMosaic.TcCoe Idealize.SL.Sem

namespace Cert.Streams

/-- The streams joined: 256 context rows, then 2048 latent ones. -/
def joined (x : Vec Ideal ⟨3, ![8, 2048, 1024]⟩ .f32) (ctx : Vec Ideal ⟨3, ![8, 256, 1024]⟩ .f32) (b : Fin 8) (r : Fin 2304) (k : Fin 1024) : EReal :=
  if h : r.val < 256 then ctx (ix3 b ⟨r.val, h⟩ k) else x (ix3 b ⟨r.val - 256, by omega⟩ k)

/-- The modulation vector number `n` of a row: the context's is one for all samples, the latents' is the sample's. -/
def modv (m : Vec Ideal ⟨2, ![8, 6144]⟩ .f32) (mc : Vec Ideal ⟨1, ![6144]⟩ .f32) (n : Fin 6) (b : Fin 8) (r : Fin 2304) (k : Fin 1024) : EReal :=
  if r.val < 256 then mc (ix1 ⟨n.val * 1024 + k.val, by omega⟩) else m (ix2 b ⟨n.val * 1024 + k.val, by omega⟩)

/-- A row scaled to unit mean square, times weights. -/
def rms (x w : Fin 1024 → EReal) (k : Fin 1024) : EReal :=
  x k * Ideal.rsqrt (Ideal.div (∑ i, x i * x i) (Ideal.ofBits .f32 0x44800000#32) + Ideal.ofBits .f32 0x358637BD#32) * w k

/-- A normalized and modulated row. -/
def modded (x w shift scale : Fin 1024 → EReal) (k : Fin 1024) : EReal :=
  rms x w k * (Ideal.ofBits .f32 0x3F800000#32 + scale k) + shift k

/-- Two coordinates name an index. -/
theorem ix2_of {a b : ℕ} (i : Shape.Idx ⟨2, ![a, b]⟩) (x : Fin a) (y : Fin b) (h0 : (i 0).val = x.val) (h1 : (i 1).val = y.val) : i = ix2 x y :=
  funext fun k => match k with
    | ⟨0, _⟩ => Fin.ext h0
    | ⟨1, _⟩ => Fin.ext h1

/-- A function of three arguments takes equal values at equal arguments. -/
theorem congr3 {α β γ δ : Type} (f : α → β → γ → δ) {a a' : α} {b b' : β} {c c' : γ} (ha : a = a') (hb : b = b') (hc : c = c') :
    f a b c = f a' b' c' := by
  rw [ha, hb, hc]

/-- The bit that says whether a tile's row is a context row chooses the row's vector. -/
theorem select_row (i : Fin 3) (r : Fin 768) (a b : EReal) :
    Scalar.select (IntOp.cmpi .slt (IntOp.addi (BitVec.ofNat 32 r.val) (Scalar.muli (BitVec.ofNat 32 i.val) 768#32)) 256#32) a b
      = if i.val * 768 + r.val < 256 then a else b := by
  have h : ∀ (i : Fin 3) (r : Fin 768), IntOp.cmpi .slt (IntOp.addi (BitVec.ofNat 32 r.val) (Scalar.muli (BitVec.ofNat 32 i.val) 768#32)) 256#32
      = if i.val * 768 + r.val < 256 then 1#1 else 0#1 := by decide +kernel
  rw [h]
  split
  · rfl
  · rfl

/-- The joined streams, row by row. -/
theorem joined_ctx (x : Vec Ideal ⟨3, ![8, 2048, 1024]⟩ .f32) (ctx : Vec Ideal ⟨3, ![8, 256, 1024]⟩ .f32) (b : Fin 8) (r : Fin 2304) (k : Fin 1024)
    (h : r.val < 256) : joined x ctx b r k = ctx (ix3 b ⟨r.val, h⟩ k) := dif_pos h

theorem joined_lat (x : Vec Ideal ⟨3, ![8, 2048, 1024]⟩ .f32) (ctx : Vec Ideal ⟨3, ![8, 256, 1024]⟩ .f32) (b : Fin 8) (r : Fin 2304) (k : Fin 1024)
    (h : ¬ r.val < 256) : joined x ctx b r k = x (ix3 b ⟨r.val - 256, by omega⟩ k) := dif_neg h

/-- A row's output, added to the row behind its gate. -/
def resid (x : Vec Ideal ⟨3, ![8, 2048, 1024]⟩ .f32) (ctx : Vec Ideal ⟨3, ![8, 256, 1024]⟩ .f32) (m : Vec Ideal ⟨2, ![8, 6144]⟩ .f32)
    (mc : Vec Ideal ⟨1, ![6144]⟩ .f32) (o : Fin 8 → Fin 2304 → Fin 1024 → EReal) (w : Vec Ideal ⟨2, ![1024, 1024]⟩ .f32) (b : Fin 8) (r : Fin 2304) (k : Fin 1024) : EReal :=
  joined x ctx b r k + modv m mc 2 b r k * ∑ j : Fin 1024, o b r j * w (ix2 j k)

/-- A latent row's number, counted among the latents and back. -/
theorem row_back (r : Fin 2304) (h : ¬ r.val < 256) (p : 256 + (r.val - 256) < 2304) : (⟨256 + (r.val - 256), p⟩ : Fin 2304) = r :=
  Fin.ext (by show 256 + (r.val - 256) = r.val; omega)

/-- A sum over 1024 lanes is the sum over its halves. -/
theorem sum_halves (f : Fin 1024 → EReal) :
    ∑ j : Fin 1024, f j = ∑ j : Fin 512, f ⟨j.val, by omega⟩ + ∑ j : Fin 512, f ⟨512 + j.val, by omega⟩ :=
  Fin.sum_univ_add (a := 512) (b := 512) f

/-- Two arrays of 512 lanes side by side. -/
def beside (a b : Vec Ideal ⟨3, ![8, 2304, 512]⟩ .bf16) (s : Fin 8) (r : Fin 2304) (j : Fin 1024) : EReal :=
  if h : j.val < 512 then a (ix3 s r ⟨j.val, h⟩) else b (ix3 s r ⟨j.val - 512, by omega⟩)

theorem sum_beside (a b : Vec Ideal ⟨3, ![8, 2304, 512]⟩ .bf16) (w : Fin 1024 → EReal) (s : Fin 8) (r : Fin 2304) :
    ∑ j : Fin 1024, beside a b s r j * w j
      = ∑ j : Fin 512, a (ix3 s r j) * w ⟨j.val, by omega⟩ + ∑ j : Fin 512, b (ix3 s r j) * w ⟨512 + j.val, by omega⟩ := by
  rw [sum_halves]
  refine congrArg₂ (· + ·) (Finset.sum_congr rfl fun j _ => ?_) (Finset.sum_congr rfl fun j _ => ?_)
  · exact congrArg (· * _) (dif_pos j.isLt)
  · refine congrArg (· * _) ((dif_neg (by show ¬ 512 + j.val < 512; omega)).trans (congrArg (fun q => b (ix3 s r q)) (Fin.ext ?_)))
    show 512 + j.val - 512 = j.val
    omega

/-- An index of an array of 2304 rows a sample is in the tile of 768 rows that its sample and row say. -/
theorem tile_mem {n : ℕ} (ix : Fin 3 → ℕ) (i : Shape.Idx ⟨3, ![8, 2304, n]⟩) (t : ℕ) (hx : ix 0 = t / 3 ∧ ix 1 = t % 3 ∧ ix 2 = 0)
    (h : (i 0).val = t / 3) (h' : (i 1).val / 768 = t % 3) :
    ∀ a : Fin 3, ix a * ![1, 768, n] a ≤ (i a : ℕ) ∧ (i a : ℕ) < ix a * ![1, 768, n] a + ![1, 768, n] a := by
  obtain ⟨i0, i1, i2⟩ := hx
  have h2 : (i 2 : ℕ) < n := (i 2).isLt
  intro a
  match a with
  | ⟨0, _⟩ => show ix 0 * 1 ≤ (i 0 : ℕ) ∧ (i 0 : ℕ) < ix 0 * 1 + 1
              omega
  | ⟨1, _⟩ => show ix 1 * 768 ≤ (i 1 : ℕ) ∧ (i 1 : ℕ) < ix 1 * 768 + 768
              omega
  | ⟨2, _⟩ => show ix 2 * n ≤ (i 2 : ℕ) ∧ (i 2 : ℕ) < ix 2 * n + n
              rw [i2]; omega

/-- An index of a tile is of its sample and row, where the tile's place in the array is the point's. -/
theorem tile_at {n : ℕ} {δ : Type} (f : Fin 8 → Fin 2304 → Fin n → δ) (ix : Fin 3 → ℕ) (t : ℕ) (hx : ix 0 = t / 3 ∧ ix 1 = t % 3 ∧ ix 2 = 0)
    (y : Shape.Idx ⟨3, ![1, 768, n]⟩) (i : Shape.Idx ⟨3, ![8, 2304, n]⟩) (s : Fin 8) (r : Fin 2304) (hs : s.val = t / 3)
    (hr : r.val = t % 3 * 768 + (y 1).val) (h0 : (i 0).val = ix 0 * 1 + 1 * (y 0).val) (h1 : (i 1).val = ix 1 * 768 + 1 * (y 1).val)
    (h2 : (i 2).val = ix 2 * n + 1 * (y 2).val) : f s r (y 2) = f (i 0) (i 1) (i 2) := by
  obtain ⟨i0, i1, i2⟩ := hx
  have hy : (y 0).val < 1 := (y 0).isLt
  refine congr3 f (Fin.ext ?_) (Fin.ext ?_) (Fin.ext ?_)
  · omega
  · omega
  · rw [h2, i2]; omega

/-- A row normalized, modulated by its first two vectors and put through the weights. -/
def projected {n : ℕ} (x : Vec Ideal ⟨3, ![8, 2048, 1024]⟩ .f32) (ctx : Vec Ideal ⟨3, ![8, 256, 1024]⟩ .f32) (m : Vec Ideal ⟨2, ![8, 6144]⟩ .f32)
    (mc : Vec Ideal ⟨1, ![6144]⟩ .f32) (nw : Vec Ideal ⟨1, ![1024]⟩ .f32) (w : Fin 1024 → Fin n → EReal) (b : Fin 8) (r : Fin 2304) (k : Fin n) : EReal :=
  ∑ j : Fin 1024, modded (joined x ctx b r) (fun j => nw (ix1 j)) (modv m mc 0 b r) (modv m mc 1 b r) j * w j k

/-- A projected context row, and a projected latent one. -/
theorem projected_ctx {n : ℕ} (x : Vec Ideal ⟨3, ![8, 2048, 1024]⟩ .f32) (ctx : Vec Ideal ⟨3, ![8, 256, 1024]⟩ .f32) (m : Vec Ideal ⟨2, ![8, 6144]⟩ .f32)
    (mc : Vec Ideal ⟨1, ![6144]⟩ .f32) (nw : Vec Ideal ⟨1, ![1024]⟩ .f32) (w : Fin 1024 → Fin n → EReal) (b : Fin 8) (r : Fin 2304) (k : Fin n) (h : r.val < 256) :
    projected x ctx m mc nw w b r k = ∑ j : Fin 1024, modded (fun j => ctx (ix3 b ⟨r.val, h⟩ j)) (fun j => nw (ix1 j))
      (fun j => mc (ix1 ⟨0 * 1024 + j.val, by omega⟩)) (fun j => mc (ix1 ⟨1 * 1024 + j.val, by omega⟩)) j * w j k := by
  unfold projected
  rw [show joined x ctx b r = fun j => ctx (ix3 b ⟨r.val, h⟩ j) from funext fun j => joined_ctx x ctx b r j h,
    show modv m mc 0 b r = fun j => mc (ix1 ⟨0 * 1024 + j.val, by omega⟩) from funext fun j => if_pos h,
    show modv m mc 1 b r = fun j => mc (ix1 ⟨1 * 1024 + j.val, by omega⟩) from funext fun j => if_pos h]

theorem projected_lat {n : ℕ} (x : Vec Ideal ⟨3, ![8, 2048, 1024]⟩ .f32) (ctx : Vec Ideal ⟨3, ![8, 256, 1024]⟩ .f32) (m : Vec Ideal ⟨2, ![8, 6144]⟩ .f32)
    (mc : Vec Ideal ⟨1, ![6144]⟩ .f32) (nw : Vec Ideal ⟨1, ![1024]⟩ .f32) (w : Fin 1024 → Fin n → EReal) (b : Fin 8) (r : Fin 2304) (k : Fin n) (h : ¬ r.val < 256) :
    projected x ctx m mc nw w b r k = ∑ j : Fin 1024, modded (fun j => x (ix3 b ⟨r.val - 256, by omega⟩ j)) (fun j => nw (ix1 j))
      (fun j => m (ix2 b ⟨0 * 1024 + j.val, by omega⟩)) (fun j => m (ix2 b ⟨1 * 1024 + j.val, by omega⟩)) j * w j k := by
  unfold projected
  rw [show joined x ctx b r = fun j => x (ix3 b ⟨r.val - 256, by omega⟩ j) from funext fun j => joined_lat x ctx b r j h,
    show modv m mc 0 b r = fun j => m (ix2 b ⟨0 * 1024 + j.val, by omega⟩) from funext fun j => if_neg h,
    show modv m mc 1 b r = fun j => m (ix2 b ⟨1 * 1024 + j.val, by omega⟩) from funext fun j => if_neg h]

/-- The even lanes of 32, then the odd ones; and the odd ones, then the even ones. -/
def eo (j : ℕ) : ℕ := if j < 16 then 2 * j else 2 * (j - 16) + 1
def oe (j : ℕ) : ℕ := if j < 16 then 2 * j + 1 else 2 * (j - 16)
def EO (j : Fin 32) : Fin 32 := ⟨eo j.val, by unfold eo; split <;> omega⟩
def OE (j : Fin 32) : Fin 32 := ⟨oe j.val, by unfold oe; split <;> omega⟩

/-- A choice is what both its branches are. -/
theorem dite_eq_of {α : Type} {p : Prop} [Decidable p] {f : p → α} {g : ¬ p → α} {c : α} (hf : ∀ h, f h = c) (hg : ∀ h, g h = c) : dite p f g = c := by
  by_cases h : p
  · rw [dif_pos h]; exact hf h
  · rw [dif_neg h]; exact hg h

/-- A rotary column of the weights. -/
def rope (j : Fin 32) : Fin 2592 := ⟨2560 + j.val, by omega⟩

/-- The column of the weights a packed column is: the first 2560 as they are, then 64 empty ones and the rotary columns' even and odd
    lanes twice over, then 64 empty ones and the odd and even lanes twice over. -/
def col (k : Fin 2816) : Option (Fin 2592) :=
  if h0 : k.val < 2560 then some ⟨k.val, by omega⟩
  else if h1 : k.val - 2560 < 128 then
    if k.val - 2560 < 64 then none
    else if h3 : k.val - 2560 - 64 < 32 then some (rope (EO ⟨k.val - 2560 - 64, h3⟩))
    else some (rope (EO ⟨k.val - 2560 - 64 - 32, by omega⟩))
  else if k.val - 2560 - 128 < 64 then none
  else if h3 : k.val - 2560 - 128 - 64 < 32 then some (rope (OE ⟨k.val - 2560 - 128 - 64, h3⟩))
  else some (rope (OE ⟨k.val - 2560 - 128 - 64 - 32, by omega⟩))

/-- A row put through packed weights is, at a packed column, what it is put through the weights at that column, or zero. -/
theorem projected_packed (x : Vec Ideal ⟨3, ![8, 2048, 1024]⟩ .f32) (ctx : Vec Ideal ⟨3, ![8, 256, 1024]⟩ .f32) (m : Vec Ideal ⟨2, ![8, 6144]⟩ .f32)
    (mc : Vec Ideal ⟨1, ![6144]⟩ .f32) (nw : Vec Ideal ⟨1, ![1024]⟩ .f32) (w : Fin 1024 → Fin 2592 → EReal) (b : Fin 8) (r : Fin 2304) (k : Fin 2816) :
    projected x ctx m mc nw (fun j k => (col k).elim 0 (w j)) b r k = (col k).elim 0 (projected x ctx m mc nw w b r) := by
  show ∑ j : Fin 1024, modded (joined x ctx b r) (fun j => nw (ix1 j)) (modv m mc 0 b r) (modv m mc 1 b r) j * (col k).elim 0 (w j) = _
  generalize col k = q
  match q with
  | none => exact Finset.sum_eq_zero fun j _ => mul_zero _
  | some q => rfl

end Cert.Streams
end
-- ==== Proof.FinalBlock.lean ====
/-
  The final norm: the kernel's result array, the reference's, and that they are equal.
-/
module

public import proofs.«01_k».proof.Defs
public import proofs.«01_k».proof.Proof.Streams
public import proofs.«01_k».proof.Proof.Gen.Final
public import proofs.«01_k».proof.Proof.Gen.Final.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FinalIdeal.Whole

open Cert.FinalIdeal Cert.FinalIdeal.Gen Cert.Streams
open Cert.FfnSpec (ix3_of)

variable (m : (ℓ : Loc nD τ sig) → Buf (Elt Ideal) ℓ) (ρ : Dev nD → PrngReg)

/-- The arguments as launched. -/
abbrev X (c : Dev nD) : Vec Ideal S8x2048x1024 .f32 := m (c, Proc.tc.devRef main_arg0)
abbrev C (c : Dev nD) : Vec Ideal S8x256x1024 .f32 := m (c, Proc.tc.devRef main_arg1)
abbrev W (c : Dev nD) : Vec Ideal S1024 .f32 := m (c, Proc.tc.devRef main_arg2)

/-- The body's payload at an index. -/
theorem pay_apply (x : Vec Ideal S4x256x1024 .f32) (w : Vec Ideal S1x1024 .f32) (b : Fin 4) (r : Fin 256) (k : Fin 1024) :
    k0_pay1 x w (ix3 b r k) = rms (fun j => x (ix3 b r j)) (fun j => w (ix2 0 j)) k := by
  pointwise [k0_pay1, rms]

theorem zeros3 : (![0, 0, 0] : Fin 3 → ℕ) = fun _ => 0 := by funext a; fin_cases a <;> rfl
theorem zeros2 : (![0, 0] : Fin 2 → ℕ) = fun _ => 0 := by funext a; fin_cases a <;> rfl

/-- What the body leaves in the output's staging buffer. -/
theorem out_apply (x : Vec Ideal S4x256x1024 .f32) (w : Vec Ideal S1x1024 .f32) (b : Fin 4) (r : Fin 256) (k : Fin 1024) :
    out0_2 x w (ix3 b r k) = rms (fun j => x (ix3 b r j)) (fun j => w (ix2 0 j)) k := by
  unfold out0_2
  rw [View.canon_unit_zero (S := S4x256x1024) zeros3, View.ld_unit_zero (S := S4x256x1024) zeros3, View.ld_unit_zero (S := S1x1024) zeros2]
  exact pay_apply x w b r k

/-- The joined streams, at a latent row. -/
theorem v0_apply (c : Dev nD) (b : Fin 8) (r : Fin 2304) (k : Fin 1024) (h : 256 ≤ r.val) :
    (V m c main_v0 : Vec Ideal S8x2304x1024 .f32) (ix3 b r k) = X m c (ix3 b ⟨r.val - 256, by omega⟩ k) := by
  unfold V; after_reads_at
  rw [dif_neg (by omega)]

theorem v1_apply (c : Dev nD) (k : Fin 1024) : (V m c main_v1 : Vec Ideal S1x1024 .f32) (ix2 0 k) = W m c (ix1 k) := by
  unfold V; after_reads_at

/-- Where each window's block lies at a point. -/
theorem index_eq : ∀ t : Fin cfg0.N,
    (win0_0.index t 0 = t.val / 8 ∧ win0_0.index t 1 = t.val % 8 + 1 ∧ win0_0.index t 2 = 0)
    ∧ (win0_1.index t 0 = 0 ∧ win0_1.index t 1 = 0)
    ∧ (win0_2.index t 0 = t.val / 8 ∧ win0_2.index t 1 = t.val % 8 ∧ win0_2.index t 2 = 0) := by decide +kernel

theorem N_eq : cfg0.N = 16 := by decide

/-- The result at an index. -/
def result (c : Dev nD) (b : Fin 8) (r : Fin 2048) (k : Fin 1024) : EReal :=
  rms (fun j => X m c (ix3 b r j)) (fun j => W m c (ix1 j)) k

/-- The result array's final contents. -/
abbrev final (c : Dev nD) : Buf (Elt Ideal) ((c : Thread nD τ).loc main_v2) := fun i => result m c (i 0) (i 1) (i 2)

/-- A point's block of rows, and its weights. -/
theorem row_at (c : Dev nD) (t : Fin cfg0.N) (ht : t.val < 16) (b : Fin 4) (r : Fin 256) (j : Fin 1024) : (iblk m c 0 t : Vec Ideal S4x256x1024 .f32) (ix3 b r j)
    = X m c (ix3 ⟨t.val / 8 * 4 + b.val, by omega⟩ ⟨t.val % 8 * 256 + r.val, by omega⟩ j) := by
  obtain ⟨i0, -, -⟩ := index_eq t
  unfold iblk
  rw [View.read_apply]
  refine (congrArg (V m c main_v0 : Vec Ideal S8x2304x1024 .f32) (ix3_of _ ⟨t.val / 8 * 4 + b.val, by omega⟩ ⟨t.val % 8 * 256 + 256 + r.val, by omega⟩ j
    (by show win0_0.index t 0 * 4 + 1 * b.val = t.val / 8 * 4 + b.val; omega)
    (by show win0_0.index t 1 * 256 + 1 * r.val = t.val % 8 * 256 + 256 + r.val; omega)
    (by show win0_0.index t 2 * 1024 + 1 * j.val = j.val; omega))).trans ?_
  refine (v0_apply m c _ _ _ (by show 256 ≤ t.val % 8 * 256 + 256 + r.val; omega)).trans ?_
  congr 2
  exact Fin.ext (by show t.val % 8 * 256 + 256 + r.val - 256 = t.val % 8 * 256 + r.val; omega)

theorem weight_at (c : Dev nD) (t : Fin cfg0.N) (j : Fin 1024) : (iblk m c 1 t : Vec Ideal S1x1024 .f32) (ix2 0 j) = W m c (ix1 j) := by
  obtain ⟨-, i1, -⟩ := index_eq t
  unfold iblk
  rw [View.read_apply]
  refine Eq.trans (congrArg (V m c main_v1 : Vec Ideal S1x1024 .f32) ?_) (v1_apply m c j)
  funext a
  apply Fin.ext
  match a with
  | ⟨0, _⟩ => show win0_1.index t 0 * 1 + 1 * 0 = 0; omega
  | ⟨1, _⟩ => show win0_1.index t 1 * 1024 + 1 * j.val = j.val; omega

/-- What a point leaves. -/
theorem point_eq (c : Dev nD) (t : Fin cfg0.N) (ht : t.val < 16) (b : Fin 4) (r : Fin 256) (k : Fin 1024) :
    (out0_2 (iblk m c 0 t) (iblk m c 1 t) : Vec Ideal S4x256x1024 .f32) (ix3 b r k)
      = result m c ⟨t.val / 8 * 4 + b.val, by omega⟩ ⟨t.val % 8 * 256 + r.val, by omega⟩ k := by
  refine (out_apply ..).trans ?_
  unfold result
  rw [funext (row_at m c t ht b r), funext (weight_at m c t)]

/-- The same, at an index of the block. -/
theorem outs_eq (c : Dev nD) (t : Fin cfg0.N) (ht : t.val < 16) (y : S4x256x1024.Idx) :
    (out0_2 (iblk m c 0 t) (iblk m c 1 t) : Vec Ideal S4x256x1024 .f32) y
      = result m c ⟨t.val / 8 * 4 + (y 0).val, by have : (y 0).val < 4 := (y 0).isLt; omega⟩
        ⟨t.val % 8 * 256 + (y 1).val, by have : (y 1).val < 256 := (y 1).isLt; omega⟩ (y 2) := by
  refine (congrArg (out0_2 (iblk m c 0 t) (iblk m c 1 t) : Vec Ideal S4x256x1024 .f32) (ix3_of y (y 0) (y 1) (y 2) rfl rfl rfl)).trans ?_
  exact point_eq m c t ht (y 0) (y 1) (y 2)

end Cert.FinalIdeal.Whole
end
-- ==== Proof.FinalClaims.lean ====
/-
  The final norm: the kernel's result array, the reference's, and that they are equal.
-/
module

public import proofs.«01_k».proof.Proof.FinalBlock
public import proofs.«01_k».proof.Proof.Streams
public import proofs.«01_k».proof.Proof.Gen.Final
public import proofs.«01_k».proof.Proof.Gen.Final.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FinalIdeal.Whole

open Cert.FinalIdeal Cert.FinalIdeal.Gen Cert.Streams
open Cert.FfnSpec (ix3_of)

variable (m : (ℓ : Loc nD τ sig) → Buf (Elt Ideal) ℓ) (ρ : Dev nD → PrngReg)

/-- A write-back writes the point's rows of the result. -/
theorem flushed_eq (c : Dev nD) (t : Fin cfg0.N) (hf : (cfg0.win 2).flush t = true) :
    (dats m 0 c).flushed 2 t = ((cfg0.win 2).blk t).view.read (Elt Ideal) (final m c) := by
  obtain ⟨i00, i01, i02⟩ := (index_eq t).2.2
  have ht : t.val < 16 := by have := t.isLt; have := N_eq; omega
  have key := outs_eq m c t ht
  rw [Value.flushed2]
  generalize out0_2 (iblk m c 0 t) (iblk m c 1 t) = o at key ⊢
  funext y
  rw [View.read_apply]
  refine (key y).trans ?_
  change _ = result m c _ _ _
  exact congr3 (result m c)
    (Fin.ext (by show t.val / 8 * 4 + (y 0).val = win0_2.index t 0 * 4 + 1 * (y 0).val; omega))
    (Fin.ext (by show t.val % 8 * 256 + (y 1).val = win0_2.index t 1 * 256 + 1 * (y 1).val; omega))
    (Fin.ext (by show (y 2).val = win0_2.index t 2 * 1024 + 1 * (y 2).val; omega))

/-- An index of the array is in point `t`'s block when its sample and row are. -/
theorem mem_blk (t : Fin cfg0.N) (i : S8x2048x1024.Idx) (h : (i 0).val / 4 = t.val / 8) (h' : (i 1).val / 256 = t.val % 8) :
    i ∈ ((cfg0.win 2).blk t).view.set := by
  obtain ⟨-, -, hi⟩ := index_eq t
  show i ∈ ((View.whole main_v2).slice (win0_2.rect t)).set
  rw [View.set_slice_whole, Rect.mem_set_unit]
  have h2 : (i 2 : ℕ) < 1024 := (i 2).isLt
  intro a
  match a with
  | ⟨0, _⟩ => show win0_2.index t 0 * 4 ≤ (i 0 : ℕ) ∧ (i 0 : ℕ) < win0_2.index t 0 * 4 + 4
              omega
  | ⟨1, _⟩ => show win0_2.index t 1 * 256 ≤ (i 1 : ℕ) ∧ (i 1 : ℕ) < win0_2.index t 1 * 256 + 256
              omega
  | ⟨2, _⟩ => show win0_2.index t 2 * 1024 ≤ (i 2 : ℕ) ∧ (i 2 : ℕ) < win0_2.index t 2 * 1024 + 1024
              omega

/-- So the result array ends holding the result. -/
theorem final_eq (c : Dev nD) : (dats m 0 c).arrAt 2 cfg0.N = final m c :=
  (dats m 0 c).arrAt_eq_of_cover 2 (final m c) (flushed_eq m c) fun i => by
    have h0 : (i 0 : ℕ) < 8 := (i 0).isLt
    have h1 : (i 1 : ℕ) < 2048 := (i 1).isLt
    have hN := N_eq
    refine ⟨⟨(i 0 : ℕ) / 4 * 8 + (i 1 : ℕ) / 256, by omega⟩, flush0_2 _, mem_blk _ i ?_ ?_⟩
    · dsimp only; omega
    · dsimp only; omega

end Cert.FinalIdeal.Whole

namespace Cert.FinalRefIdeal.Whole

open Cert.FinalRefIdeal Cert.FinalRefIdeal.Gen Cert.FinalRefIdeal.Read Cert.Streams

/-- The reference's result, at an index. -/
theorem out_apply (x0 : Vec Ideal S8x2048x1024 .f32) (x2 : Vec Ideal S1024 .f32) (b : Fin 8) (r : Fin 2048) (k : Fin 1024) :
    val_main_v12 (F := Ideal) x0 x2 (ix3 b r k) = rms (fun j => x0 (ix3 b r j)) (fun j => x2 (ix1 j)) k := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1, rms]

end Cert.FinalRefIdeal.Whole

namespace Cert.FinalProof

/-- The printed kernel runs and leaves its arguments and semaphores as they were. -/
theorem frame : Cert.quiescent_Final := fun m ρ _ => Cert.Final.Gen.frame m ρ

/-- So does its reading over the extended reals. -/
theorem frame_ideal : Cert.quiescent_FinalIdeal := fun m ρ _ => Cert.FinalIdeal.Gen.frame m ρ

/-- So does the reference. -/
theorem frame_ref : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

/-- Kernel and reference end with equal results, over the extended reals, for every input. -/
theorem algebraic : Cert.algebraic_FinalIdeal_FinalRefIdeal := fun m ρ m' ρ' _ hag =>
  ⟨fun c => Cert.FinalIdeal.Whole.final m c,
    (θ_run Cert.FinalIdeal.defs _ _).mono (fun _ h c => ⟨(h c).1.trans (Cert.FinalIdeal.Whole.final_eq m c), (h c).2⟩) (Cert.FinalIdeal.Value.run_blocks m ρ),
    (θ_run Cert.FinalRefIdeal.defs _ _).mono (fun _ h c => ⟨by
      refine ((h c).1.trans (Cert.FinalRefIdeal.Read.val_main_v12_eq ..)).trans ?_
      obtain ⟨g0, g1, g2⟩ := hag c
      refine (congr (congrArg Cert.FinalRefIdeal.Read.val_main_v12 g0) g2).trans ?_
      funext i
      refine (congrArg _ (Cert.FfnSpec.ix3_of i (i 0) (i 1) (i 2) rfl rfl rfl)).trans ?_
      exact Cert.FinalRefIdeal.Whole.out_apply _ _ (i 0) (i 1) (i 2), (h c).2⟩)
    (Cert.FinalRefIdeal.Value.run (F := Ideal) m' ρ')⟩

end Cert.FinalProof
end
-- ==== Proof.OutNaBlock.lean ====
/-
  The out-projection of the odd layers: the block.
-/
module

public import proofs.«01_k».proof.Proof.Streams
public import proofs.«01_k».proof.Proof.Gen.OutNaIdeal.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.OutNaIdeal.Whole

open Cert.OutNaIdeal Cert.OutNaIdeal.Gen Cert.Streams
open Cert.FfnSpec (ix3_of ix4_of)

variable (m : (ℓ : Loc nD τ sig) → Buf (Elt Ideal) ℓ) (ρ : Dev nD → PrngReg)

/-- The arguments as launched. -/
abbrev X (c : Dev nD) : Vec Ideal S8x2048x1024 .f32 := m (c, Proc.tc.devRef main_arg0)
abbrev C (c : Dev nD) : Vec Ideal S8x256x1024 .f32 := m (c, Proc.tc.devRef main_arg1)
abbrev M (c : Dev nD) : Vec Ideal S8x6144 .f32 := m (c, Proc.tc.devRef main_arg2)
abbrev Mc (c : Dev nD) : Vec Ideal S6144 .f32 := m (c, Proc.tc.devRef main_arg3)
abbrev O (c : Dev nD) : Vec Ideal S8x2304x1024 .bf16 := m (c, Proc.tc.devRef main_arg4)
abbrev W (c : Dev nD) : Vec Ideal S1024x1024 .f32 := m (c, Proc.tc.devRef main_arg5)

/-- The body's payload at an index. -/
theorem pay_apply (i : grid0.Coords) (o : Vec Ideal S1x768x1024 .bf16) (w : Vec Ideal S1024x1024 .bf16) (x : Vec Ideal S1x768x1024 .f32)
    (g0 g1 : Vec Ideal S1x1x1x1024 .f32) (r : Fin 768) (k : Fin 1024) :
    k0_pay1 i o w x g0 g1 (ix3 0 r k)
      = x (ix3 0 r k) + (if (i 1).val * 768 + r.val < 256 then g0 (ix4 0 0 0 k) else g1 (ix4 0 0 0 k)) * ∑ j : Fin 1024, o (ix3 0 r j) * w (ix2 j k) := by
  rw [← select_row (i 1) r]
  pointwise [k0_pay1]

theorem zeros3 : (![0, 0, 0] : Fin 3 → ℕ) = fun _ => 0 := by funext a; fin_cases a <;> rfl
theorem zeros2 : (![0, 0] : Fin 2 → ℕ) = fun _ => 0 := by funext a; fin_cases a <;> rfl

/-- What the body leaves in the output's staging buffer. -/
theorem out_apply (i : grid0.Coords) (o : Vec Ideal S1x768x1024 .bf16) (w : Vec Ideal S1024x1024 .bf16) (x : Vec Ideal S1x768x1024 .f32)
    (g : Vec Ideal S1x2x1x1024 .f32) (r : Fin 768) (k : Fin 1024) :
    out0_4 i o w x g (ix3 0 r k)
      = x (ix3 0 r k) + (if (i 1).val * 768 + r.val < 256 then g (ix4 0 0 0 k) else g (ix4 0 1 0 k)) * ∑ j : Fin 1024, o (ix3 0 r j) * w (ix2 j k) := by
  unfold out0_4
  rw [View.canon_unit_zero (S := S1x768x1024) zeros3, View.ld_unit_zero (S := S1x768x1024) zeros3, View.ld_unit_zero (S := S1x768x1024) zeros3,
    View.ld_unit_zero (S := S1024x1024) zeros2, pay_apply]
  have e0 : View.ld g r0_2 (ix4 0 0 0 k) = g (ix4 0 0 0 k) := congrArg g (ix4_of _ _ _ _ _ rfl rfl rfl (by show 0 + 1 * k.val = k.val; omega))
  have e1 : View.ld g r0_3 (ix4 0 0 0 k) = g (ix4 0 1 0 k) := congrArg g (ix4_of _ _ _ _ _ rfl rfl rfl (by show 0 + 1 * k.val = k.val; omega))
  rw [e0, e1]

/-- The joined streams. -/
theorem v8_apply (c : Dev nD) (b : Fin 8) (r : Fin 2304) (k : Fin 1024) :
    (V m c main_v8 : Vec Ideal S8x2304x1024 .f32) (ix3 b r k) = joined (X m c) (C m c) b r k := by
  unfold V; after_reads_at
  rfl

/-- The weights. -/
theorem v7_apply (c : Dev nD) (j k : Fin 1024) : (V m c main_v7 : Vec Ideal S1024x1024 .bf16) (ix2 j k) = W m c (ix2 j k) := by
  unfold V; after_reads_at

/-- The gates: the context's, and the sample's. -/
theorem v6_ctx (c : Dev nD) (b : Fin 8) (k : Fin 1024) :
    (V m c main_v6 : Vec Ideal S8x2x1x1024 .f32) (ix4 b 0 0 k) = Mc m c (ix1 ⟨2 * 1024 + k.val, by omega⟩) := by
  unfold V; after_reads_at
  after_reads_at

theorem v6_lat (c : Dev nD) (b : Fin 8) (k : Fin 1024) :
    (V m c main_v6 : Vec Ideal S8x2x1x1024 .f32) (ix4 b 1 0 k) = M m c (ix2 b ⟨2 * 1024 + k.val, by omega⟩) := by
  unfold V; after_reads_at
  after_reads_at

/-- Where each window's block lies at a point. -/
theorem index_eq : ∀ t : Fin cfg0.N, (grid0.coords t 1).val = t.val % 3
    ∧ (win0_0.index t 0 = t.val / 3 ∧ win0_0.index t 1 = t.val % 3 ∧ win0_0.index t 2 = 0)
    ∧ (win0_1.index t 0 = 0 ∧ win0_1.index t 1 = 0)
    ∧ (win0_2.index t 0 = t.val / 3 ∧ win0_2.index t 1 = t.val % 3 ∧ win0_2.index t 2 = 0)
    ∧ (win0_3.index t 0 = t.val / 3 ∧ win0_3.index t 1 = 0 ∧ win0_3.index t 2 = 0 ∧ win0_3.index t 3 = 0)
    ∧ (win0_4.index t 0 = t.val / 3 ∧ win0_4.index t 1 = t.val % 3 ∧ win0_4.index t 2 = 0) := by decide +kernel

theorem N_eq : cfg0.N = 24 := by decide

/-- A tile's sample and row. -/
abbrev smp (t : Fin cfg0.N) : Fin 8 := ⟨t.val / 3, by have := t.isLt; have := N_eq; omega⟩
abbrev row (t : Fin cfg0.N) (r : Fin 768) : Fin 2304 := ⟨t.val % 3 * 768 + r.val, by omega⟩

/-- A point's blocks. -/
theorem o_at (c : Dev nD) (t : Fin cfg0.N) (r : Fin 768) (j : Fin 1024) :
    (iblk m c 0 t : Vec Ideal S1x768x1024 .bf16) (ix3 0 r j) = O m c (ix3 (smp t) (row t r) j) := by
  obtain ⟨-, i0, -⟩ := index_eq t
  unfold iblk
  rw [View.read_apply]
  exact congrArg (O m c) (ix3_of _ _ _ _
    (by show win0_0.index t 0 * 1 + 1 * 0 = t.val / 3; omega)
    (by show win0_0.index t 1 * 768 + 1 * r.val = t.val % 3 * 768 + r.val; omega)
    (by show win0_0.index t 2 * 1024 + 1 * j.val = j.val; omega))

theorem w_at (c : Dev nD) (t : Fin cfg0.N) (j k : Fin 1024) :
    (iblk m c 1 t : Vec Ideal S1024x1024 .bf16) (ix2 j k) = W m c (ix2 j k) := by
  obtain ⟨-, -, i1, -⟩ := index_eq t
  unfold iblk
  rw [View.read_apply]
  exact (congrArg (V m c main_v7 : Vec Ideal S1024x1024 .bf16) (ix2_of _ j k
    (by show win0_1.index t 0 * 1024 + 1 * j.val = j.val; omega)
    (by show win0_1.index t 1 * 1024 + 1 * k.val = k.val; omega))).trans (v7_apply m c j k)

theorem x_at (c : Dev nD) (t : Fin cfg0.N) (r : Fin 768) (k : Fin 1024) :
    (iblk m c 2 t : Vec Ideal S1x768x1024 .f32) (ix3 0 r k) = joined (X m c) (C m c) (smp t) (row t r) k := by
  obtain ⟨-, -, -, i2, -⟩ := index_eq t
  unfold iblk
  rw [View.read_apply]
  exact (congrArg (V m c main_v8 : Vec Ideal S8x2304x1024 .f32) (ix3_of _ (smp t) (row t r) k
    (by show win0_2.index t 0 * 1 + 1 * 0 = t.val / 3; omega)
    (by show win0_2.index t 1 * 768 + 1 * r.val = t.val % 3 * 768 + r.val; omega)
    (by show win0_2.index t 2 * 1024 + 1 * k.val = k.val; omega))).trans (v8_apply m c _ _ _)

theorem g_at (c : Dev nD) (t : Fin cfg0.N) (s : Fin 2) (k : Fin 1024) :
    (iblk m c 3 t : Vec Ideal S1x2x1x1024 .f32) (ix4 0 s 0 k) = (V m c main_v6 : Vec Ideal S8x2x1x1024 .f32) (ix4 (smp t) s 0 k) := by
  obtain ⟨-, -, -, -, i3, -⟩ := index_eq t
  unfold iblk
  rw [View.read_apply]
  exact congrArg (V m c main_v6 : Vec Ideal S8x2x1x1024 .f32) (ix4_of _ (smp t) s 0 k
    (by show win0_3.index t 0 * 1 + 1 * 0 = t.val / 3; omega)
    (by show win0_3.index t 1 * 2 + 1 * s.val = s.val; omega)
    (by show win0_3.index t 2 * 1 + 1 * 0 = 0; omega)
    (by show win0_3.index t 3 * 1024 + 1 * k.val = k.val; omega))

/-- The result at an index, and the array of results. -/
def result (c : Dev nD) : Fin 8 → Fin 2304 → Fin 1024 → EReal :=
  resid (X m c) (C m c) (M m c) (Mc m c) (fun b r j => O m c (ix3 b r j)) (W m c)

/-- What a point leaves. -/
theorem point_eq (c : Dev nD) (t : Fin cfg0.N) (r : Fin 768) (k : Fin 1024) :
    (out0_4 (grid0.coords t) (iblk m c 0 t) (iblk m c 1 t) (iblk m c 2 t) (iblk m c 3 t) : Vec Ideal S1x768x1024 .f32) (ix3 0 r k)
      = result m c (smp t) (row t r) k := by
  refine (out_apply ..).trans ?_
  rw [x_at, g_at, g_at, v6_ctx, v6_lat, (index_eq t).1]
  simp only [o_at, w_at]
  rfl

end Cert.OutNaIdeal.Whole
end
-- ==== Proof.OutNaClaims.lean ====
/-
  The out-projection of the odd layers: the kernel's result array, the reference's, and that they are equal.
-/
module

public import proofs.«01_k».proof.Proof.OutNaBlock
public import proofs.«01_k».proof.Defs
public import proofs.«01_k».proof.Proof.Gen.OutNa
public import proofs.«01_k».proof.Proof.Gen.OutNa.Frame
public import proofs.«01_k».proof.Proof.Gen.OutNaRefIdeal
public import proofs.«01_k».proof.Proof.Gen.OutNaRefIdeal.Run
public import proofs.«01_k».proof.Proof.Gen.OutNaRefIdeal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutNaIdeal.Whole

open Cert.OutNaIdeal Cert.OutNaIdeal.Gen Cert.Streams
open Cert.FfnSpec (ix3_of)

variable (m : (ℓ : Loc nD τ sig) → Buf (Elt Ideal) ℓ) (ρ : Dev nD → PrngReg)

/-- The result array's final contents. -/
abbrev final (c : Dev nD) : Buf (Elt Ideal) ((c : Thread nD τ).loc main_v9) := fun i => result m c (i 0) (i 1) (i 2)

/-- A write-back writes the point's rows of the result. -/
theorem flushed_eq (c : Dev nD) (t : Fin cfg0.N) (hf : (cfg0.win 4).flush t = true) :
    (dats m 0 c).flushed 4 t = ((cfg0.win 4).blk t).view.read (Elt Ideal) (final m c) := by
  have key := point_eq m c t
  rw [Value.flushed4]
  generalize out0_4 (grid0.coords t) (iblk m c 0 t) (iblk m c 1 t) (iblk m c 2 t) (iblk m c 3 t) = o at key ⊢
  funext y
  have hy : (y 0).val < 1 := (y 0).isLt
  rw [View.read_apply]
  refine ((congrArg o (ix3_of (y : S1x768x1024.Idx) 0 (y 1) (y 2) (by show (y 0).val = 0; omega) rfl rfl)).trans (key (y 1) (y 2))).trans ?_
  exact tile_at (result m c) (win0_4.index t) t.val (index_eq t).2.2.2.2.2 (y : S1x768x1024.Idx) _ _ _ rfl rfl rfl rfl rfl

/-- An index of the array is in point `t`'s block when its sample and row are. -/
theorem mem_blk (t : Fin cfg0.N) (i : S8x2304x1024.Idx) (h : (i 0).val = t.val / 3) (h' : (i 1).val / 768 = t.val % 3) :
    i ∈ ((cfg0.win 4).blk t).view.set := by
  show i ∈ ((View.whole main_v9).slice (win0_4.rect t)).set
  rw [View.set_slice_whole, Rect.mem_set_unit]
  exact tile_mem (win0_4.index t) i t.val (index_eq t).2.2.2.2.2 h h'

/-- So the result array ends holding the result. -/
theorem final_eq (c : Dev nD) : (dats m 0 c).arrAt 4 cfg0.N = final m c :=
  (dats m 0 c).arrAt_eq_of_cover 4 (final m c) (flushed_eq m c) fun i => by
    have h0 : (i 0 : ℕ) < 8 := (i 0).isLt
    have h1 : (i 1 : ℕ) < 2304 := (i 1).isLt
    have hN := N_eq
    refine ⟨⟨(i 0 : ℕ) * 3 + (i 1 : ℕ) / 768, by omega⟩, flush0_4 _, mem_blk _ i ?_ ?_⟩
    · dsimp only; omega
    · dsimp only; omega

end Cert.OutNaIdeal.Whole

namespace Cert.OutNaRefIdeal.Whole

open Cert.OutNaRefIdeal Cert.OutNaRefIdeal.Gen Cert.OutNaRefIdeal.Read Cert.Streams

/-- The reference's result, at an index. -/
theorem out_apply (x0 : Vec Ideal S8x2048x1024 .f32) (x1 : Vec Ideal S8x256x1024 .f32) (x2 : Vec Ideal S8x6144 .f32) (x3 : Vec Ideal S6144 .f32)
    (x4 : Vec Ideal S8x2304x1024 .bf16) (x5 : Vec Ideal S1024x1024 .f32) (b : Fin 8) (r : Fin 2304) (k : Fin 1024) :
    val_main_v25 (F := Ideal) x0 x1 x2 x3 x4 x5 (ix3 b r k) = resid x0 x1 x2 x3 (fun b r j => x4 (ix3 b r j)) x5 b r k := by
  by_cases h : r.val < 256
  · unfold resid modv
    rw [joined_ctx _ _ _ _ _ h, if_pos h]
    pointwise [val_main_v25, val_main_v21, val_main_v20, val_main_v19, val_main_v18, val_main_v15, val_main_v14, val_main_v10, val_main_v0]
    exact dif_pos h
  · unfold resid modv
    rw [joined_lat _ _ _ _ _ h, if_neg h]
    pointwise [val_main_v25, val_main_v24, val_main_v23, val_main_v22, val_main_v17, val_main_v16, val_main_v4, val_main_v1, val_main_v0]
    rw [dif_neg h]
    simp only [row_back r h]

end Cert.OutNaRefIdeal.Whole

namespace Cert.OutNaProof

/-- The printed kernel runs and leaves its arguments and semaphores as they were. -/
theorem frame : Cert.quiescent_OutNa := fun m ρ _ => Cert.OutNa.Gen.frame m ρ

/-- So does its reading over the extended reals. -/
theorem frame_ideal : Cert.quiescent_OutNaIdeal := fun m ρ _ => Cert.OutNaIdeal.Gen.frame m ρ

/-- So does the reference. -/
theorem frame_ref : Cert.quiescent_OutNaRefIdeal := fun m ρ _ =>
  (θ_run Cert.OutNaRefIdeal.defs _ _).mono (fun r h => ⟨fun c => (h c).2, sem_eq_zero_of_no_sems (by decide) r.2⟩)
    (Cert.OutNaRefIdeal.Value.run (F := Ideal) m ρ)

/-- Kernel and reference end with equal results, over the extended reals, for every input. -/
theorem algebraic : Cert.algebraic_OutNaIdeal_OutNaRefIdeal := fun m ρ m' ρ' _ hag =>
  ⟨fun c => Cert.OutNaIdeal.Whole.final m c,
    (θ_run Cert.OutNaIdeal.defs _ _).mono (fun _ h c => ⟨(h c).1.trans (Cert.OutNaIdeal.Whole.final_eq m c), (h c).2⟩) (Cert.OutNaIdeal.Value.run_blocks m ρ),
    (θ_run Cert.OutNaRefIdeal.defs _ _).mono (fun _ h c => ⟨by
      refine ((h c).1.trans (Cert.OutNaRefIdeal.Read.val_main_v25_eq ..)).trans ?_
      obtain ⟨g0, g1, g2, g3, g4, g5⟩ := hag c
      rw [g0, g1, g2, g3, g4, g5]
      funext i
      refine (congrArg _ (Cert.FfnSpec.ix3_of i (i 0) (i 1) (i 2) rfl rfl rfl)).trans ?_
      exact Cert.OutNaRefIdeal.Whole.out_apply _ _ _ _ _ _ (i 0) (i 1) (i 2), (h c).2⟩)
    (Cert.OutNaRefIdeal.Value.run (F := Ideal) m' ρ')⟩

end Cert.OutNaProof
end
-- ==== Proof.OutAbBlock.lean ====
/-
  The out-projection of the even layers: the block, and what a point leaves.
-/
module

public import proofs.«01_k».proof.Proof.Streams
public import proofs.«01_k».proof.Proof.Gen.OutAbIdeal.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.OutAbIdeal.Whole

open Cert.OutAbIdeal Cert.OutAbIdeal.Gen Cert.Streams
open Cert.FfnSpec (ix3_of ix4_of)

variable (m : (ℓ : Loc nD τ sig) → Buf (Elt Ideal) ℓ) (ρ : Dev nD → PrngReg)

/-- The arguments as launched. -/
abbrev X (c : Dev nD) : Vec Ideal S8x2048x1024 .f32 := m (c, Proc.tc.devRef main_arg0)
abbrev C (c : Dev nD) : Vec Ideal S8x256x1024 .f32 := m (c, Proc.tc.devRef main_arg1)
abbrev M (c : Dev nD) : Vec Ideal S8x6144 .f32 := m (c, Proc.tc.devRef main_arg2)
abbrev Mc (c : Dev nD) : Vec Ideal S6144 .f32 := m (c, Proc.tc.devRef main_arg3)
abbrev A (c : Dev nD) : Vec Ideal S8x2304x512 .bf16 := m (c, Proc.tc.devRef main_arg4)
abbrev B (c : Dev nD) : Vec Ideal S8x2304x512 .bf16 := m (c, Proc.tc.devRef main_arg5)
abbrev W (c : Dev nD) : Vec Ideal S1024x1024 .f32 := m (c, Proc.tc.devRef main_arg6)

/-- The body's payload at an index. -/
theorem pay_apply (i : grid0.Coords) (a b : Vec Ideal S1x768x512 .bf16) (wa wb : Vec Ideal S512x1024 .bf16) (x : Vec Ideal S1x768x1024 .f32)
    (g0 g1 : Vec Ideal S1x1x1x1024 .f32) (r : Fin 768) (k : Fin 1024) :
    k0_pay1 (k0_pay2 i a wa b wb x g0 g1) (ix3 0 r k)
      = x (ix3 0 r k) + (if (i 1).val * 768 + r.val < 256 then g0 (ix4 0 0 0 k) else g1 (ix4 0 0 0 k))
        * (∑ j : Fin 512, a (ix3 0 r j) * wa (ix2 j k) + ∑ j : Fin 512, b (ix3 0 r j) * wb (ix2 j k)) := by
  rw [← select_row (i 1) r]
  pointwise [k0_pay1, k0_pay2]

theorem zeros3 : (![0, 0, 0] : Fin 3 → ℕ) = fun _ => 0 := by funext a; fin_cases a <;> rfl

/-- What the body leaves in the output's staging buffer. -/
theorem out_apply (i : grid0.Coords) (a b : Vec Ideal S1x768x512 .bf16) (w : Vec Ideal S1024x1024 .bf16) (x : Vec Ideal S1x768x1024 .f32)
    (g : Vec Ideal S1x2x1x1024 .f32) (r : Fin 768) (k : Fin 1024) :
    out0_5 i a b w x g (ix3 0 r k)
      = x (ix3 0 r k) + (if (i 1).val * 768 + r.val < 256 then g (ix4 0 0 0 k) else g (ix4 0 1 0 k))
        * (∑ j : Fin 512, a (ix3 0 r j) * w (ix2 ⟨j.val, by omega⟩ k) + ∑ j : Fin 512, b (ix3 0 r j) * w (ix2 ⟨512 + j.val, by omega⟩ k)) := by
  unfold out0_5
  rw [View.canon_unit_zero (S := S1x768x1024) zeros3, View.ld_unit_zero (S := S1x768x1024) zeros3, View.ld_unit_zero (S := S1x768x512) zeros3,
    View.ld_unit_zero (S := S1x768x512) zeros3, pay_apply]
  have e0 : View.ld g r0_4 (ix4 0 0 0 k) = g (ix4 0 0 0 k) := congrArg g (ix4_of _ _ _ _ _ rfl rfl rfl (by show 0 + 1 * k.val = k.val; omega))
  have e1 : View.ld g r0_5 (ix4 0 0 0 k) = g (ix4 0 1 0 k) := congrArg g (ix4_of _ _ _ _ _ rfl rfl rfl (by show 0 + 1 * k.val = k.val; omega))
  have w0 : ∀ j : Fin 512, View.ld w r0_1 (ix2 j k) = w (ix2 ⟨j.val, by omega⟩ k) := fun j =>
    congrArg w (ix2_of _ _ _ (by show 0 + 1 * j.val = j.val; omega) (by show 0 + 1 * k.val = k.val; omega))
  have w1 : ∀ j : Fin 512, View.ld w r0_2 (ix2 j k) = w (ix2 ⟨512 + j.val, by omega⟩ k) := fun j =>
    congrArg w (ix2_of _ _ _ (by show 512 + 1 * j.val = 512 + j.val; omega) (by show 0 + 1 * k.val = k.val; omega))
  simp only [e0, e1, w0, w1]

/-- The joined streams. -/
theorem v8_apply (c : Dev nD) (b : Fin 8) (r : Fin 2304) (k : Fin 1024) :
    (V m c main_v8 : Vec Ideal S8x2304x1024 .f32) (ix3 b r k) = joined (X m c) (C m c) b r k := by
  unfold V; after_reads_at
  rfl

/-- The weights. -/
theorem v7_apply (c : Dev nD) (j k : Fin 1024) : (V m c main_v7 : Vec Ideal S1024x1024 .bf16) (ix2 j k) = W m c (ix2 j k) := by
  unfold V; after_reads_at

/-- The gates: the context's, and the sample's. -/
theorem v6_ctx (c : Dev nD) (b : Fin 8) (k : Fin 1024) :
    (V m c main_v6 : Vec Ideal S8x2x1x1024 .f32) (ix4 b 0 0 k) = Mc m c (ix1 ⟨2 * 1024 + k.val, by omega⟩) := by
  unfold V; after_reads_at
  after_reads_at

theorem v6_lat (c : Dev nD) (b : Fin 8) (k : Fin 1024) :
    (V m c main_v6 : Vec Ideal S8x2x1x1024 .f32) (ix4 b 1 0 k) = M m c (ix2 b ⟨2 * 1024 + k.val, by omega⟩) := by
  unfold V; after_reads_at
  after_reads_at

/-- Where each window's block lies at a point. -/
theorem index_eq : ∀ t : Fin cfg0.N, (grid0.coords t 1).val = t.val % 3
    ∧ (win0_0.index t 0 = t.val / 3 ∧ win0_0.index t 1 = t.val % 3 ∧ win0_0.index t 2 = 0)
    ∧ (win0_1.index t 0 = t.val / 3 ∧ win0_1.index t 1 = t.val % 3 ∧ win0_1.index t 2 = 0)
    ∧ (win0_2.index t 0 = 0 ∧ win0_2.index t 1 = 0)
    ∧ (win0_3.index t 0 = t.val / 3 ∧ win0_3.index t 1 = t.val % 3 ∧ win0_3.index t 2 = 0)
    ∧ (win0_4.index t 0 = t.val / 3 ∧ win0_4.index t 1 = 0 ∧ win0_4.index t 2 = 0 ∧ win0_4.index t 3 = 0)
    ∧ (win0_5.index t 0 = t.val / 3 ∧ win0_5.index t 1 = t.val % 3 ∧ win0_5.index t 2 = 0) := by decide +kernel

theorem N_eq : cfg0.N = 24 := by decide

/-- A tile's sample and row. -/
abbrev smp (t : Fin cfg0.N) : Fin 8 := ⟨t.val / 3, by have := t.isLt; have := N_eq; omega⟩
abbrev row (t : Fin cfg0.N) (r : Fin 768) : Fin 2304 := ⟨t.val % 3 * 768 + r.val, by omega⟩

/-- A point's blocks. -/
theorem a_at (c : Dev nD) (t : Fin cfg0.N) (r : Fin 768) (j : Fin 512) :
    (iblk m c 0 t : Vec Ideal S1x768x512 .bf16) (ix3 0 r j) = A m c (ix3 (smp t) (row t r) j) := by
  obtain ⟨-, i0, -⟩ := index_eq t
  unfold iblk
  rw [View.read_apply]
  exact congrArg (A m c) (ix3_of _ _ _ _
    (by show win0_0.index t 0 * 1 + 1 * 0 = t.val / 3; omega)
    (by show win0_0.index t 1 * 768 + 1 * r.val = t.val % 3 * 768 + r.val; omega)
    (by show win0_0.index t 2 * 512 + 1 * j.val = j.val; omega))

theorem b_at (c : Dev nD) (t : Fin cfg0.N) (r : Fin 768) (j : Fin 512) :
    (iblk m c 1 t : Vec Ideal S1x768x512 .bf16) (ix3 0 r j) = B m c (ix3 (smp t) (row t r) j) := by
  obtain ⟨-, -, i1, -⟩ := index_eq t
  unfold iblk
  rw [View.read_apply]
  exact congrArg (B m c) (ix3_of _ _ _ _
    (by show win0_1.index t 0 * 1 + 1 * 0 = t.val / 3; omega)
    (by show win0_1.index t 1 * 768 + 1 * r.val = t.val % 3 * 768 + r.val; omega)
    (by show win0_1.index t 2 * 512 + 1 * j.val = j.val; omega))

theorem w_at (c : Dev nD) (t : Fin cfg0.N) (j k : Fin 1024) :
    (iblk m c 2 t : Vec Ideal S1024x1024 .bf16) (ix2 j k) = W m c (ix2 j k) := by
  obtain ⟨-, -, -, i2, -⟩ := index_eq t
  unfold iblk
  rw [View.read_apply]
  exact (congrArg (V m c main_v7 : Vec Ideal S1024x1024 .bf16) (ix2_of _ j k
    (by show win0_2.index t 0 * 1024 + 1 * j.val = j.val; omega)
    (by show win0_2.index t 1 * 1024 + 1 * k.val = k.val; omega))).trans (v7_apply m c j k)

theorem x_at (c : Dev nD) (t : Fin cfg0.N) (r : Fin 768) (k : Fin 1024) :
    (iblk m c 3 t : Vec Ideal S1x768x1024 .f32) (ix3 0 r k) = joined (X m c) (C m c) (smp t) (row t r) k := by
  obtain ⟨-, -, -, -, i3, -⟩ := index_eq t
  unfold iblk
  rw [View.read_apply]
  exact (congrArg (V m c main_v8 : Vec Ideal S8x2304x1024 .f32) (ix3_of _ (smp t) (row t r) k
    (by show win0_3.index t 0 * 1 + 1 * 0 = t.val / 3; omega)
    (by show win0_3.index t 1 * 768 + 1 * r.val = t.val % 3 * 768 + r.val; omega)
    (by show win0_3.index t 2 * 1024 + 1 * k.val = k.val; omega))).trans (v8_apply m c _ _ _)

theorem g_at (c : Dev nD) (t : Fin cfg0.N) (s : Fin 2) (k : Fin 1024) :
    (iblk m c 4 t : Vec Ideal S1x2x1x1024 .f32) (ix4 0 s 0 k) = (V m c main_v6 : Vec Ideal S8x2x1x1024 .f32) (ix4 (smp t) s 0 k) := by
  obtain ⟨-, -, -, -, -, i4, -⟩ := index_eq t
  unfold iblk
  rw [View.read_apply]
  exact congrArg (V m c main_v6 : Vec Ideal S8x2x1x1024 .f32) (ix4_of _ (smp t) s 0 k
    (by show win0_4.index t 0 * 1 + 1 * 0 = t.val / 3; omega)
    (by show win0_4.index t 1 * 2 + 1 * s.val = s.val; omega)
    (by show win0_4.index t 2 * 1 + 1 * 0 = 0; omega)
    (by show win0_4.index t 3 * 1024 + 1 * k.val = k.val; omega))

/-- The result at an index, and the array of results. -/
def result (c : Dev nD) : Fin 8 → Fin 2304 → Fin 1024 → EReal :=
  resid (X m c) (C m c) (M m c) (Mc m c) (beside (A m c) (B m c)) (W m c)

/-- What a point leaves. -/
theorem point_eq (c : Dev nD) (t : Fin cfg0.N) (r : Fin 768) (k : Fin 1024) :
    (out0_5 (grid0.coords t) (iblk m c 0 t) (iblk m c 1 t) (iblk m c 2 t) (iblk m c 3 t) (iblk m c 4 t) : Vec Ideal S1x768x1024 .f32) (ix3 0 r k)
      = result m c (smp t) (row t r) k := by
  refine (out_apply ..).trans ?_
  unfold result resid
  rw [sum_beside (A m c) (B m c) (fun j => W m c (ix2 j k)), x_at, g_at, g_at, v6_ctx, v6_lat, (index_eq t).1]
  simp only [a_at, b_at, w_at]
  rfl

end Cert.OutAbIdeal.Whole
end
-- ==== Proof.OutAbClaims.lean ====
/-
  The out-projection of the even layers: the kernel's result array, the reference's, and that they are equal.
-/
module

public import proofs.«01_k».proof.Proof.OutAbBlock
public import proofs.«01_k».proof.Defs
public import proofs.«01_k».proof.Proof.Gen.OutAb
public import proofs.«01_k».proof.Proof.Gen.OutAb.Frame
public import proofs.«01_k».proof.Proof.Gen.OutAbRefIdeal
public import proofs.«01_k».proof.Proof.Gen.OutAbRefIdeal.Run
public import proofs.«01_k».proof.Proof.Gen.OutAbRefIdeal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutAbIdeal.Whole

open Cert.OutAbIdeal Cert.OutAbIdeal.Gen Cert.Streams
open Cert.FfnSpec (ix3_of)

variable (m : (ℓ : Loc nD τ sig) → Buf (Elt Ideal) ℓ) (ρ : Dev nD → PrngReg)

/-- The result array's final contents. -/
abbrev final (c : Dev nD) : Buf (Elt Ideal) ((c : Thread nD τ).loc main_v9) := fun i => result m c (i 0) (i 1) (i 2)

/-- A write-back writes the point's rows of the result. -/
theorem flushed_eq (c : Dev nD) (t : Fin cfg0.N) (hf : (cfg0.win 5).flush t = true) :
    (dats m 0 c).flushed 5 t = ((cfg0.win 5).blk t).view.read (Elt Ideal) (final m c) := by
  have key := point_eq m c t
  rw [Value.flushed5]
  generalize out0_5 (grid0.coords t) (iblk m c 0 t) (iblk m c 1 t) (iblk m c 2 t) (iblk m c 3 t) (iblk m c 4 t) = o at key ⊢
  funext y
  have hy : (y 0).val < 1 := (y 0).isLt
  rw [View.read_apply]
  refine ((congrArg o (ix3_of (y : S1x768x1024.Idx) 0 (y 1) (y 2) (by show (y 0).val = 0; omega) rfl rfl)).trans (key (y 1) (y 2))).trans ?_
  exact tile_at (result m c) (win0_5.index t) t.val (index_eq t).2.2.2.2.2.2 (y : S1x768x1024.Idx) _ _ _ rfl rfl rfl rfl rfl

/-- An index of the array is in point `t`'s block when its sample and row are. -/
theorem mem_blk (t : Fin cfg0.N) (i : S8x2304x1024.Idx) (h : (i 0).val = t.val / 3) (h' : (i 1).val / 768 = t.val % 3) :
    i ∈ ((cfg0.win 5).blk t).view.set := by
  show i ∈ ((View.whole main_v9).slice (win0_5.rect t)).set
  rw [View.set_slice_whole, Rect.mem_set_unit]
  exact tile_mem (win0_5.index t) i t.val (index_eq t).2.2.2.2.2.2 h h'

/-- So the result array ends holding the result. -/
theorem final_eq (c : Dev nD) : (dats m 0 c).arrAt 5 cfg0.N = final m c :=
  (dats m 0 c).arrAt_eq_of_cover 5 (final m c) (flushed_eq m c) fun i => by
    have h0 : (i 0 : ℕ) < 8 := (i 0).isLt
    have h1 : (i 1 : ℕ) < 2304 := (i 1).isLt
    have hN := N_eq
    refine ⟨⟨(i 0 : ℕ) * 3 + (i 1 : ℕ) / 768, by omega⟩, flush0_5 _, mem_blk _ i ?_ ?_⟩
    · dsimp only; omega
    · dsimp only; omega

end Cert.OutAbIdeal.Whole

namespace Cert.OutAbRefIdeal.Whole

open Cert.OutAbRefIdeal Cert.OutAbRefIdeal.Gen Cert.OutAbRefIdeal.Read Cert.Streams

/-- The reference's two arrays side by side. -/
theorem v1_apply (a b : Vec Ideal S8x2304x512 .bf16) (s : Fin 8) (r : Fin 2304) (j : Fin 1024) :
    val_main_v1 (F := Ideal) a b (ix3 s r j) = beside a b s r j := by
  unfold beside
  pointwise [val_main_v1, val_main_v0]

/-- The reference's result, at an index. -/
theorem out_apply (x0 : Vec Ideal S8x2048x1024 .f32) (x1 : Vec Ideal S8x256x1024 .f32) (x2 : Vec Ideal S8x6144 .f32) (x3 : Vec Ideal S6144 .f32)
    (x4 x5 : Vec Ideal S8x2304x512 .bf16) (x6 : Vec Ideal S1024x1024 .f32) (b : Fin 8) (r : Fin 2304) (k : Fin 1024) :
    val_main_v26 (F := Ideal) x0 x1 x2 x3 x4 x5 x6 (ix3 b r k) = resid x0 x1 x2 x3 (beside x4 x5) x6 b r k := by
  by_cases h : r.val < 256
  · unfold resid modv
    rw [joined_ctx _ _ _ _ _ h, if_pos h]
    pointwise [val_main_v26, val_main_v22, val_main_v21, val_main_v20, val_main_v19, val_main_v16, val_main_v15, val_main_v11]
    rw [dif_pos h]
    simp only [v1_apply]
  · unfold resid modv
    rw [joined_lat _ _ _ _ _ h, if_neg h]
    pointwise [val_main_v26, val_main_v25, val_main_v24, val_main_v23, val_main_v18, val_main_v17, val_main_v5, val_main_v2]
    rw [dif_neg h]
    simp only [v1_apply, row_back r h]

end Cert.OutAbRefIdeal.Whole

namespace Cert.OutAbProof

/-- The printed kernel runs and leaves its arguments and semaphores as they were. -/
theorem frame : Cert.quiescent_OutAb := fun m ρ _ => Cert.OutAb.Gen.frame m ρ

/-- So does its reading over the extended reals. -/
theorem frame_ideal : Cert.quiescent_OutAbIdeal := fun m ρ _ => Cert.OutAbIdeal.Gen.frame m ρ

/-- So does the reference. -/
theorem frame_ref : Cert.quiescent_OutAbRefIdeal := fun m ρ _ =>
  (θ_run Cert.OutAbRefIdeal.defs _ _).mono (fun r h => ⟨fun c => (h c).2, sem_eq_zero_of_no_sems (by decide) r.2⟩)
    (Cert.OutAbRefIdeal.Value.run (F := Ideal) m ρ)

/-- Kernel and reference end with equal results, over the extended reals, for every input. -/
theorem algebraic : Cert.algebraic_OutAbIdeal_OutAbRefIdeal := fun m ρ m' ρ' _ hag =>
  ⟨fun c => Cert.OutAbIdeal.Whole.final m c,
    (θ_run Cert.OutAbIdeal.defs _ _).mono (fun _ h c => ⟨(h c).1.trans (Cert.OutAbIdeal.Whole.final_eq m c), (h c).2⟩) (Cert.OutAbIdeal.Value.run_blocks m ρ),
    (θ_run Cert.OutAbRefIdeal.defs _ _).mono (fun _ h c => ⟨by
      refine ((h c).1.trans (Cert.OutAbRefIdeal.Read.val_main_v26_eq ..)).trans ?_
      obtain ⟨g0, g1, g2, g3, g4, g5, g6⟩ := hag c
      rw [g0, g1, g2, g3, g4, g5, g6]
      funext i
      refine (congrArg _ (Cert.FfnSpec.ix3_of i (i 0) (i 1) (i 2) rfl rfl rfl)).trans ?_
      exact Cert.OutAbRefIdeal.Whole.out_apply _ _ _ _ _ _ _ (i 0) (i 1) (i 2), (h c).2⟩)
    (Cert.OutAbRefIdeal.Value.run (F := Ideal) m' ρ')⟩

end Cert.OutAbProof
end
-- ==== Proof.QkvBlock.lean ====
/-
  The projection of the odd layers: the block, and what a point leaves.
-/
module

public import proofs.«01_k».proof.Proof.Streams
public import proofs.«01_k».proof.Proof.Gen.QkvIdeal.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.QkvIdeal.Whole

open Cert.QkvIdeal Cert.QkvIdeal.Gen Cert.Streams
open Cert.FfnSpec (ix3_of ix4_of)

variable (m : (ℓ : Loc nD τ sig) → Buf (Elt Ideal) ℓ) (ρ : Dev nD → PrngReg)

/-- The arguments as launched. -/
abbrev X (c : Dev nD) : Vec Ideal S8x2048x1024 .f32 := m (c, Proc.tc.devRef main_arg0)
abbrev C (c : Dev nD) : Vec Ideal S8x256x1024 .f32 := m (c, Proc.tc.devRef main_arg1)
abbrev M (c : Dev nD) : Vec Ideal S8x6144 .f32 := m (c, Proc.tc.devRef main_arg2)
abbrev Mc (c : Dev nD) : Vec Ideal S6144 .f32 := m (c, Proc.tc.devRef main_arg3)
abbrev Nw (c : Dev nD) : Vec Ideal S1024 .f32 := m (c, Proc.tc.devRef main_arg4)
abbrev W (c : Dev nD) : Vec Ideal S1024x3072 .f32 := m (c, Proc.tc.devRef main_arg5)

/-- The body's payload at an index. -/
theorem pay_apply (i : grid0.Coords) (x : Vec Ideal S1x768x1024 .f32) (nw : Vec Ideal S1x1024 .f32) (s0 s1 c0 c1 : Vec Ideal S1x1x1x1024 .f32)
    (w : Vec Ideal S1024x3072 .bf16) (r : Fin 768) (k : Fin 3072) :
    k0_pay1 (k0_pay2 x) (k0_pay3 nw) (k0_pay4 i s0 s1) (k0_pay5 c0) (k0_pay6 c1) (k0_pay7 i) w (ix3 0 r k)
      = ∑ j : Fin 1024, modded (fun j => x (ix3 0 r j)) (fun j => nw (ix2 0 j))
          (fun j => if (i 1).val * 768 + r.val < 256 then s0 (ix4 0 0 0 j) else s1 (ix4 0 0 0 j))
          (fun j => if (i 1).val * 768 + r.val < 256 then c0 (ix4 0 0 0 j) else c1 (ix4 0 0 0 j)) j * w (ix2 j k) := by
  simp only [← select_row (i 1) r]
  pointwise [k0_pay1, k0_pay2, k0_pay3, k0_pay4, k0_pay5, k0_pay6, k0_pay7, modded, rms]

theorem zeros3 : (![0, 0, 0] : Fin 3 → ℕ) = fun _ => 0 := by funext a; fin_cases a <;> rfl
theorem zeros2 : (![0, 0] : Fin 2 → ℕ) = fun _ => 0 := by funext a; fin_cases a <;> rfl

/-- What the body leaves in the output's staging buffer. -/
theorem out_apply (i : grid0.Coords) (x : Vec Ideal S1x768x1024 .f32) (nw : Vec Ideal S1x1024 .f32) (g : Vec Ideal S1x2x2x1024 .f32)
    (w : Vec Ideal S1024x3072 .bf16) (r : Fin 768) (k : Fin 3072) :
    out0_4 i x nw g w (ix3 0 r k)
      = ∑ j : Fin 1024, modded (fun j => x (ix3 0 r j)) (fun j => nw (ix2 0 j))
          (fun j => if (i 1).val * 768 + r.val < 256 then g (ix4 0 0 0 j) else g (ix4 0 1 0 j))
          (fun j => if (i 1).val * 768 + r.val < 256 then g (ix4 0 0 1 j) else g (ix4 0 1 1 j)) j * w (ix2 j k) := by
  unfold out0_4
  rw [View.canon_unit_zero (S := S1x768x3072) zeros3, View.ld_unit_zero (S := S1x768x1024) zeros3, View.ld_unit_zero (S := S1x1024) zeros2,
    View.ld_unit_zero (S := S1024x3072) zeros2, pay_apply]
  have e0 : ∀ j : Fin 1024, View.ld g r0_2 (ix4 0 0 0 j) = g (ix4 0 0 0 j) := fun j => congrArg g (ix4_of _ _ _ _ _ rfl rfl rfl (by show 0 + 1 * j.val = j.val; omega))
  have e1 : ∀ j : Fin 1024, View.ld g r0_3 (ix4 0 0 0 j) = g (ix4 0 1 0 j) := fun j => congrArg g (ix4_of _ _ _ _ _ rfl rfl rfl (by show 0 + 1 * j.val = j.val; omega))
  have e2 : ∀ j : Fin 1024, View.ld g r0_4 (ix4 0 0 0 j) = g (ix4 0 0 1 j) := fun j => congrArg g (ix4_of _ _ _ _ _ rfl rfl rfl (by show 0 + 1 * j.val = j.val; omega))
  have e3 : ∀ j : Fin 1024, View.ld g r0_5 (ix4 0 0 0 j) = g (ix4 0 1 1 j) := fun j => congrArg g (ix4_of _ _ _ _ _ rfl rfl rfl (by show 0 + 1 * j.val = j.val; omega))
  simp only [e0, e1, e2, e3]

/-- The joined streams. -/
theorem v7_apply (c : Dev nD) (b : Fin 8) (r : Fin 2304) (k : Fin 1024) :
    (V m c main_v7 : Vec Ideal S8x2304x1024 .f32) (ix3 b r k) = joined (X m c) (C m c) b r k := by
  unfold V; after_reads_at
  rfl

/-- The weights. -/
theorem v8_apply (c : Dev nD) (j : Fin 1024) (k : Fin 3072) : (V m c main_v8 : Vec Ideal S1024x3072 .bf16) (ix2 j k) = W m c (ix2 j k) := by
  unfold V; after_reads_at

/-- The norm's weights. -/
theorem v9_apply (c : Dev nD) (j : Fin 1024) : (V m c main_v9 : Vec Ideal S1x1024 .f32) (ix2 0 j) = Nw m c (ix1 j) := by
  unfold V; after_reads_at

/-- The shifts and scales: the context's, and the sample's. -/
theorem v6_ctx0 (c : Dev nD) (b : Fin 8) (k : Fin 1024) :
    (V m c main_v6 : Vec Ideal S8x2x2x1024 .f32) (ix4 b 0 0 k) = Mc m c (ix1 ⟨0 * 1024 + k.val, by omega⟩) := by
  unfold V; after_reads_at
  after_reads_at

theorem v6_lat0 (c : Dev nD) (b : Fin 8) (k : Fin 1024) :
    (V m c main_v6 : Vec Ideal S8x2x2x1024 .f32) (ix4 b 1 0 k) = M m c (ix2 b ⟨0 * 1024 + k.val, by omega⟩) := by
  unfold V; after_reads_at
  after_reads_at

theorem v6_ctx1 (c : Dev nD) (b : Fin 8) (k : Fin 1024) :
    (V m c main_v6 : Vec Ideal S8x2x2x1024 .f32) (ix4 b 0 1 k) = Mc m c (ix1 ⟨1 * 1024 + k.val, by omega⟩) := by
  unfold V; after_reads_at
  after_reads_at

theorem v6_lat1 (c : Dev nD) (b : Fin 8) (k : Fin 1024) :
    (V m c main_v6 : Vec Ideal S8x2x2x1024 .f32) (ix4 b 1 1 k) = M m c (ix2 b ⟨1 * 1024 + k.val, by omega⟩) := by
  unfold V; after_reads_at
  after_reads_at

/-- Where each window's block lies at a point. -/
theorem index_eq : ∀ t : Fin cfg0.N, (grid0.coords t 1).val = t.val % 3
    ∧ (win0_0.index t 0 = t.val / 3 ∧ win0_0.index t 1 = t.val % 3 ∧ win0_0.index t 2 = 0)
    ∧ (win0_1.index t 0 = 0 ∧ win0_1.index t 1 = 0)
    ∧ (win0_2.index t 0 = t.val / 3 ∧ win0_2.index t 1 = 0 ∧ win0_2.index t 2 = 0 ∧ win0_2.index t 3 = 0)
    ∧ (win0_3.index t 0 = 0 ∧ win0_3.index t 1 = 0)
    ∧ (win0_4.index t 0 = t.val / 3 ∧ win0_4.index t 1 = t.val % 3 ∧ win0_4.index t 2 = 0) := by decide +kernel

theorem N_eq : cfg0.N = 24 := by decide

/-- A tile's sample and row. -/
abbrev smp (t : Fin cfg0.N) : Fin 8 := ⟨t.val / 3, by have := t.isLt; have := N_eq; omega⟩
abbrev row (t : Fin cfg0.N) (r : Fin 768) : Fin 2304 := ⟨t.val % 3 * 768 + r.val, by omega⟩

/-- A point's blocks. -/
theorem x_at (c : Dev nD) (t : Fin cfg0.N) (r : Fin 768) (k : Fin 1024) :
    (iblk m c 0 t : Vec Ideal S1x768x1024 .f32) (ix3 0 r k) = joined (X m c) (C m c) (smp t) (row t r) k := by
  obtain ⟨-, i0, -⟩ := index_eq t
  unfold iblk
  rw [View.read_apply]
  exact (congrArg (V m c main_v7 : Vec Ideal S8x2304x1024 .f32) (ix3_of _ (smp t) (row t r) k
    (by show win0_0.index t 0 * 1 + 1 * 0 = t.val / 3; omega)
    (by show win0_0.index t 1 * 768 + 1 * r.val = t.val % 3 * 768 + r.val; omega)
    (by show win0_0.index t 2 * 1024 + 1 * k.val = k.val; omega))).trans (v7_apply m c _ _ _)

theorem n_at (c : Dev nD) (t : Fin cfg0.N) (j : Fin 1024) :
    (iblk m c 1 t : Vec Ideal S1x1024 .f32) (ix2 0 j) = Nw m c (ix1 j) := by
  obtain ⟨-, -, i1, -⟩ := index_eq t
  unfold iblk
  rw [View.read_apply]
  exact (congrArg (V m c main_v9 : Vec Ideal S1x1024 .f32) (ix2_of _ 0 j
    (by show win0_1.index t 0 * 1 + 1 * 0 = 0; omega)
    (by show win0_1.index t 1 * 1024 + 1 * j.val = j.val; omega))).trans (v9_apply m c j)

theorem g_at (c : Dev nD) (t : Fin cfg0.N) (s n : Fin 2) (k : Fin 1024) :
    (iblk m c 2 t : Vec Ideal S1x2x2x1024 .f32) (ix4 0 s n k) = (V m c main_v6 : Vec Ideal S8x2x2x1024 .f32) (ix4 (smp t) s n k) := by
  obtain ⟨-, -, -, i2, -⟩ := index_eq t
  unfold iblk
  rw [View.read_apply]
  exact congrArg (V m c main_v6 : Vec Ideal S8x2x2x1024 .f32) (ix4_of _ (smp t) s n k
    (by show win0_2.index t 0 * 1 + 1 * 0 = t.val / 3; omega)
    (by show win0_2.index t 1 * 2 + 1 * s.val = s.val; omega)
    (by show win0_2.index t 2 * 2 + 1 * n.val = n.val; omega)
    (by show win0_2.index t 3 * 1024 + 1 * k.val = k.val; omega))

theorem w_at (c : Dev nD) (t : Fin cfg0.N) (j : Fin 1024) (k : Fin 3072) :
    (iblk m c 3 t : Vec Ideal S1024x3072 .bf16) (ix2 j k) = W m c (ix2 j k) := by
  obtain ⟨-, -, -, -, i3, -⟩ := index_eq t
  unfold iblk
  rw [View.read_apply]
  exact (congrArg (V m c main_v8 : Vec Ideal S1024x3072 .bf16) (ix2_of _ j k
    (by show win0_3.index t 0 * 1024 + 1 * j.val = j.val; omega)
    (by show win0_3.index t 1 * 3072 + 1 * k.val = k.val; omega))).trans (v8_apply m c j k)

/-- The result at an index. -/
def result (c : Dev nD) : Fin 8 → Fin 2304 → Fin 3072 → EReal :=
  projected (X m c) (C m c) (M m c) (Mc m c) (Nw m c) (fun j k => W m c (ix2 j k))

/-- A row's shift and scale. -/
theorem shift_at (c : Dev nD) (t : Fin cfg0.N) (r : Fin 768) (k : Fin 1024) :
    (if t.val % 3 * 768 + r.val < 256 then (iblk m c 2 t : Vec Ideal S1x2x2x1024 .f32) (ix4 0 0 0 k) else (iblk m c 2 t : Vec Ideal S1x2x2x1024 .f32) (ix4 0 1 0 k))
      = modv (M m c) (Mc m c) 0 (smp t) (row t r) k := by
  rw [g_at, g_at, v6_ctx0, v6_lat0]
  rfl

theorem scale_at (c : Dev nD) (t : Fin cfg0.N) (r : Fin 768) (k : Fin 1024) :
    (if t.val % 3 * 768 + r.val < 256 then (iblk m c 2 t : Vec Ideal S1x2x2x1024 .f32) (ix4 0 0 1 k) else (iblk m c 2 t : Vec Ideal S1x2x2x1024 .f32) (ix4 0 1 1 k))
      = modv (M m c) (Mc m c) 1 (smp t) (row t r) k := by
  rw [g_at, g_at, v6_ctx1, v6_lat1]
  rfl

/-- What a point leaves. -/
theorem point_eq (c : Dev nD) (t : Fin cfg0.N) (r : Fin 768) (k : Fin 3072) :
    (out0_4 (grid0.coords t) (iblk m c 0 t) (iblk m c 1 t) (iblk m c 2 t) (iblk m c 3 t) : Vec Ideal S1x768x3072 .bf16) (ix3 0 r k)
      = result m c (smp t) (row t r) k := by
  refine (out_apply ..).trans ?_
  rw [(index_eq t).1, funext (x_at m c t r), funext (n_at m c t), funext (shift_at m c t r), funext (scale_at m c t r)]
  simp only [w_at]
  rfl

end Cert.QkvIdeal.Whole
end
-- ==== Proof.QkvClaims.lean ====
/-
  The projection of the odd layers: the kernel's result array, the reference's, and that they are equal.
-/
module

public import proofs.«01_k».proof.Proof.QkvBlock
public import proofs.«01_k».proof.Defs
public import proofs.«01_k».proof.Proof.Gen.Qkv
public import proofs.«01_k».proof.Proof.Gen.Qkv.Frame
public import proofs.«01_k».proof.Proof.Gen.QkvRefIdeal
public import proofs.«01_k».proof.Proof.Gen.QkvRefIdeal.Run
public import proofs.«01_k».proof.Proof.Gen.QkvRefIdeal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.QkvIdeal.Whole

open Cert.QkvIdeal Cert.QkvIdeal.Gen Cert.Streams
open Cert.FfnSpec (ix3_of)

variable (m : (ℓ : Loc nD τ sig) → Buf (Elt Ideal) ℓ) (ρ : Dev nD → PrngReg)

/-- The result array's final contents. -/
abbrev final (c : Dev nD) : Buf (Elt Ideal) ((c : Thread nD τ).loc main_v10) := fun i => result m c (i 0) (i 1) (i 2)

/-- A write-back writes the point's rows of the result. -/
theorem flushed_eq (c : Dev nD) (t : Fin cfg0.N) (hf : (cfg0.win 4).flush t = true) :
    (dats m 0 c).flushed 4 t = ((cfg0.win 4).blk t).view.read (Elt Ideal) (final m c) := by
  have key := point_eq m c t
  rw [Value.flushed4]
  generalize out0_4 (grid0.coords t) (iblk m c 0 t) (iblk m c 1 t) (iblk m c 2 t) (iblk m c 3 t) = o at key ⊢
  funext y
  have hy : (y 0).val < 1 := (y 0).isLt
  rw [View.read_apply]
  refine ((congrArg o (ix3_of (y : S1x768x3072.Idx) 0 (y 1) (y 2) (by show (y 0).val = 0; omega) rfl rfl)).trans (key (y 1) (y 2))).trans ?_
  exact tile_at (result m c) (win0_4.index t) t.val (index_eq t).2.2.2.2.2 (y : S1x768x3072.Idx) _ _ _ rfl rfl rfl rfl rfl

/-- An index of the array is in point `t`'s block when its sample and row are. -/
theorem mem_blk (t : Fin cfg0.N) (i : S8x2304x3072.Idx) (h : (i 0).val = t.val / 3) (h' : (i 1).val / 768 = t.val % 3) :
    i ∈ ((cfg0.win 4).blk t).view.set := by
  show i ∈ ((View.whole main_v10).slice (win0_4.rect t)).set
  rw [View.set_slice_whole, Rect.mem_set_unit]
  exact tile_mem (win0_4.index t) i t.val (index_eq t).2.2.2.2.2 h h'

/-- So the result array ends holding the result. -/
theorem final_eq (c : Dev nD) : (dats m 0 c).arrAt 4 cfg0.N = final m c :=
  (dats m 0 c).arrAt_eq_of_cover 4 (final m c) (flushed_eq m c) fun i => by
    have h0 : (i 0 : ℕ) < 8 := (i 0).isLt
    have h1 : (i 1 : ℕ) < 2304 := (i 1).isLt
    have hN := N_eq
    refine ⟨⟨(i 0 : ℕ) * 3 + (i 1 : ℕ) / 768, by omega⟩, flush0_4 _, mem_blk _ i ?_ ?_⟩
    · dsimp only; omega
    · dsimp only; omega

end Cert.QkvIdeal.Whole

namespace Cert.QkvRefIdeal.Whole

open Cert.QkvRefIdeal Cert.QkvRefIdeal.Gen Cert.QkvRefIdeal.Read Cert.Streams

/-- The reference's modulated rows: the latents' and the context's. -/
theorem lat_apply (x0 : Vec Ideal S8x2048x1024 .f32) (x2 : Vec Ideal S8x6144 .f32) (x4 : Vec Ideal S1024 .f32) (b : Fin 8) (r : Fin 2048) (j : Fin 1024) :
    val_main_v31 (F := Ideal) x0 x2 x4 (ix3 b r j) = modded (fun j => x0 (ix3 b r j)) (fun j => x4 (ix1 j))
      (fun j => x2 (ix2 b ⟨0 * 1024 + j.val, by omega⟩)) (fun j => x2 (ix2 b ⟨1 * 1024 + j.val, by omega⟩)) j := by
  pointwise [val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v2, val_main_v1,
    val_main_v0, val_main_cst, val_main_cst_0, val_main_cst_1, val_main_cst_2, modded, rms]

theorem ctx_apply (x1 : Vec Ideal S8x256x1024 .f32) (x3 : Vec Ideal S6144 .f32) (x4 : Vec Ideal S1024 .f32) (b : Fin 8) (r : Fin 256) (j : Fin 1024) :
    val_main_v52 (F := Ideal) x1 x3 x4 (ix3 b r j) = modded (fun j => x1 (ix3 b r j)) (fun j => x4 (ix1 j))
      (fun j => x3 (ix1 ⟨0 * 1024 + j.val, by omega⟩)) (fun j => x3 (ix1 ⟨1 * 1024 + j.val, by omega⟩)) j := by
  pointwise [val_main_v52, val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34, val_main_v33, val_main_v32,
    val_main_v8, val_main_v7, val_main_cst_3, val_main_cst_4, val_main_cst_5, val_main_cst_6, modded, rms]

/-- The reference's result, at an index. -/
theorem out_apply (x0 : Vec Ideal S8x2048x1024 .f32) (x1 : Vec Ideal S8x256x1024 .f32) (x2 : Vec Ideal S8x6144 .f32) (x3 : Vec Ideal S6144 .f32)
    (x4 : Vec Ideal S1024 .f32) (x5 : Vec Ideal S1024x3072 .f32) (b : Fin 8) (r : Fin 2304) (k : Fin 3072) :
    val_main_v56 (F := Ideal) x0 x1 x2 x3 x4 x5 (ix3 b r k) = projected x0 x1 x2 x3 x4 (fun j k => x5 (ix2 j k)) b r k := by
  by_cases h : r.val < 256
  · rw [projected_ctx _ _ _ _ _ _ _ _ _ h]
    pointwise [val_main_v56, val_main_v55, val_main_v53]
    rw [dif_pos h]
    simp only [ctx_apply, Nat.zero_mul, Nat.zero_add, Nat.one_mul]
  · rw [projected_lat _ _ _ _ _ _ _ _ _ h]
    pointwise [val_main_v56, val_main_v55, val_main_v54]
    rw [dif_neg h]
    simp only [lat_apply, Nat.zero_mul, Nat.zero_add, Nat.one_mul]

end Cert.QkvRefIdeal.Whole

namespace Cert.QkvProof

/-- The printed kernel runs and leaves its arguments and semaphores as they were. -/
theorem frame : Cert.quiescent_Qkv := fun m ρ _ => Cert.Qkv.Gen.frame m ρ

/-- So does its reading over the extended reals. -/
theorem frame_ideal : Cert.quiescent_QkvIdeal := fun m ρ _ => Cert.QkvIdeal.Gen.frame m ρ

/-- So does the reference. -/
theorem frame_ref : Cert.quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

/-- Kernel and reference end with equal results, over the extended reals, for every input. -/
theorem algebraic : Cert.algebraic_QkvIdeal_QkvRefIdeal := fun m ρ m' ρ' _ hag =>
  ⟨fun c => Cert.QkvIdeal.Whole.final m c,
    (θ_run Cert.QkvIdeal.defs _ _).mono (fun _ h c => ⟨(h c).1.trans (Cert.QkvIdeal.Whole.final_eq m c), (h c).2⟩) (Cert.QkvIdeal.Value.run_blocks m ρ),
    (θ_run Cert.QkvRefIdeal.defs _ _).mono (fun _ h c => ⟨by
      refine ((h c).1.trans (Cert.QkvRefIdeal.Read.val_main_v56_eq ..)).trans ?_
      obtain ⟨g0, g1, g2, g3, g4, g5⟩ := hag c
      rw [g0, g1, g2, g3, g4, g5]
      funext i
      refine (congrArg _ (Cert.FfnSpec.ix3_of i (i 0) (i 1) (i 2) rfl rfl rfl)).trans ?_
      exact Cert.QkvRefIdeal.Whole.out_apply _ _ _ _ _ _ (i 0) (i 1) (i 2), (h c).2⟩)
    (Cert.QkvRefIdeal.Value.run (F := Ideal) m' ρ')⟩

end Cert.QkvProof
end
-- ==== Proof.ProjHost.lean ====
/-
  The packed weights of the even layers' projection: which column of the weights each packed column is.
-/
module

public import proofs.«01_k».proof.Proof.Streams
public import proofs.«01_k».proof.Proof.Gen.ProjIdeal.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjIdeal.Whole

open Cert.ProjIdeal Cert.ProjIdeal.Gen Cert.Streams
open Cert.FfnSpec (ix3_of ix4_of)

/-- The gather of lanes of the last axis of two. -/
abbrev lanesDims (A : ℕ) (wf : GatherDims.WF ⟨2, ![A, 32]⟩ ⟨2, ![32, 1]⟩ ⟨2, ![A, 32]⟩ [0] [1] [] [1] [] 1 ![A, 1]) :
    GatherDims ⟨2, ![A, 32]⟩ ⟨2, ![32, 1]⟩ ⟨2, ![A, 32]⟩ where
  offsetDims := [0]
  collapsedSliceDims := [1]
  operandBatchingDims := []
  startIndicesBatchingDims := []
  startIndexMap := [1]
  indexVectorDim := 1
  sliceSizes := ![A, 1]
  wf := wf

/-- That gather at an index: the operand's lane is the word at the result's lane. -/
theorem gather_lanes {α : Type} {A : ℕ} (wf : GatherDims.WF ⟨2, ![A, 32]⟩ ⟨2, ![32, 1]⟩ ⟨2, ![A, 32]⟩ [0] [1] [] [1] [] 1 ![A, 1])
    (x : (⟨2, ![A, 32]⟩ : Shape).Idx → α) (idx : IVec ⟨2, ![32, 1]⟩ 32) (a : Fin A) (j : Fin 32) (k : Fin 32)
    (hk : (idx (ix2 j 0)).toInt.toNat = k.val) :
    Host.gather (lanesDims A wf) x idx (ix2 a j) = x (ix2 a k) := by
  unfold Host.gather
  congr 1
  funext i
  refine Fin.ext ?_
  show (lanesDims A wf).start (ix2 a j) idx i + (lanesDims A wf).batchCoord (ix2 a j) i
      + (lanesDims A wf).offCoord (ix2 a j) i = _
  rw [GatherDims.batchCoord_eq_zero _ _ _ (fun h => by simp at h)]
  match i with
  | ⟨0, h0⟩ =>
    have h : (lanesDims A wf).start (ix2 a j) idx ⟨0, h0⟩ = 0 := dif_neg (fun h => absurd (congrArg Fin.val (List.mem_singleton.mp h)) (by show ¬ (0 : ℕ) = 1; omega))
    rw [h]
    simp only [Nat.zero_add]
    rfl
  | ⟨1, h1⟩ =>
    rw [GatherDims.offCoord_eq_zero _ _ _ (fun h => ((GatherDims.mem_sKept _ _).mp h).1 (List.mem_singleton.mpr rfl))]
    simp only [Nat.add_zero]
    have hsi : (lanesDims A wf).siIdx (ix2 a j) ⟨List.idxOf (1 : Fin 2) (lanesDims A wf).startIndexMap,
        List.idxOf_lt_length_iff.2 (List.mem_singleton.mpr rfl)⟩ = ix2 j 0 := by
      funext b; refine Fin.ext ?_
      match b with
      | ⟨0, _⟩ => rfl
      | ⟨1, _⟩ => rfl
    refine (dif_pos (List.mem_singleton.mpr rfl)).trans ?_
    refine (congrArg (fun z => min (idx z).toInt.toNat (32 - 1)) hsi).trans ?_
    show min (idx (ix2 j 0)).toInt.toNat 31 = k.val
    rw [hk]
    have := k.isLt
    omega

variable (m : (ℓ : Loc nD τ sig) → Buf (Elt Ideal) ℓ) (c : Dev nD)

abbrev W : Vec Ideal S1024x2592 .f32 := m (c, Proc.tc.devRef main_arg5)

/-- The words of the two tables of lanes. -/
theorem word0 : ∀ j : Fin 32, (broadcastInDim S32x1 ![0] bcast_S32_S32x1_0 (select (constantI S32 1 0#1)
      (addi (fun i => lit0 (S32.rowMajor i)) (broadcastInDim S32 ![] bcast_S_S32 (constantI S_ 32 32#32)))
      (fun i => lit0 (S32.rowMajor i))) (ix2 j 0)).toInt.toNat = (EO j).val := by decide +kernel
theorem word1 : ∀ j : Fin 32, (broadcastInDim S32x1 ![0] bcast_S32_S32x1_0 (select (constantI S32 1 0#1)
      (addi (fun i => lit1 (S32.rowMajor i)) (broadcastInDim S32 ![] bcast_S_S32 (constantI S_ 32 32#32)))
      (fun i => lit1 (S32.rowMajor i))) (ix2 j 0)).toInt.toNat = (OE j).val := by decide +kernel

/-- The last 32 columns of the weights, gathered by words. -/
theorem lanes_apply (w : Vec Ideal S1024x2592 .f32) (idx : IVec S32x1 32) (e : Fin 32 → Fin 32) (h : ∀ j : Fin 32, (idx (ix2 j 0)).toInt.toNat = (e j).val)
    (i : Fin 1024) (j : Fin 32) :
    Host.gather gather_S1024x32_S32x1_S1024x32_0_1_n_n_1_1_10241 (extractStridedSlice S1024x32 ![0, 2560] w slices_S1024x2592_S1024x32_0_2560) idx (ix2 i j)
      = w (ix2 i (rope (e j))) := by
  refine (gather_lanes _ _ _ i j (e j) (h j)).trans ?_
  pointwise
  rfl

/-- The packed weights at an index: the column they are, or zero. -/
theorem v34_apply (i : Fin 1024) (k : Fin 2816) : (V m c main_v34 : Vec Ideal S1024x2816 .bf16) (ix2 i k) = (col k).elim 0 (fun q => W m c (ix2 i q)) := by
  unfold V; after_reads_at
  by_cases h0 : k.val < 2560
  · rw [dif_pos h0, col, dif_pos h0]
    after_reads_at
    rfl
  rw [dif_neg h0, col, dif_neg h0]
  by_cases h1 : k.val - 2560 < 128
  · rw [dif_pos h1, dif_pos h1]
    after_reads_at
    by_cases h2 : k.val - 2560 < 64
    · rw [dif_pos h2, if_pos h2]
      after_reads_at
      rfl
    rw [dif_neg h2, if_neg h2]
    by_cases h3 : k.val - 2560 - 64 < 32
    · rw [dif_pos h3, dif_pos h3]
      after_reads_at
      exact lanes_apply _ _ EO word0 _ _
    · rw [dif_neg h3, dif_neg h3]
      after_reads_at
      exact lanes_apply _ _ EO word0 _ _
  · rw [dif_neg h1, dif_neg h1]
    after_reads_at
    by_cases h2 : k.val - 2560 - 128 < 64
    · rw [dif_pos h2, if_pos h2]
      after_reads_at
      rfl
    rw [dif_neg h2, if_neg h2]
    by_cases h3 : k.val - 2560 - 128 - 64 < 32
    · rw [dif_pos h3, dif_pos h3]
      after_reads_at
      exact lanes_apply _ _ OE word1 _ _
    · rw [dif_neg h3, dif_neg h3]
      after_reads_at
      exact lanes_apply _ _ OE word1 _ _

end Cert.ProjIdeal.Whole
end
-- ==== Proof.ProjBlock.lean ====
/-
  The projection of the even layers: the block, and what a point leaves.
-/
module

public import proofs.«01_k».proof.Proof.ProjHost
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjIdeal.Whole

open Cert.ProjIdeal Cert.ProjIdeal.Gen Cert.Streams
open Cert.FfnSpec (ix3_of ix4_of)

variable (m : (ℓ : Loc nD τ sig) → Buf (Elt Ideal) ℓ) (ρ : Dev nD → PrngReg)

/-- The arguments as launched. -/
abbrev X (c : Dev nD) : Vec Ideal S8x2048x1024 .f32 := m (c, Proc.tc.devRef main_arg0)
abbrev C (c : Dev nD) : Vec Ideal S8x256x1024 .f32 := m (c, Proc.tc.devRef main_arg1)
abbrev M (c : Dev nD) : Vec Ideal S8x6144 .f32 := m (c, Proc.tc.devRef main_arg2)
abbrev Mc (c : Dev nD) : Vec Ideal S6144 .f32 := m (c, Proc.tc.devRef main_arg3)
abbrev Nw (c : Dev nD) : Vec Ideal S1024 .f32 := m (c, Proc.tc.devRef main_arg4)

/-- The body's payload at an index. -/
theorem pay_apply (i : grid0.Coords) (x : Vec Ideal S1x768x1024 .f32) (nw : Vec Ideal S1x1024 .f32) (s0 s1 c0 c1 : Vec Ideal S1x1x1x1024 .f32)
    (w : Vec Ideal S1024x2816 .bf16) (r : Fin 768) (k : Fin 2816) :
    k0_pay1 (k0_pay2 x) (k0_pay3 nw) (k0_pay4 i s0 s1) (k0_pay5 c0) (k0_pay6 c1) (k0_pay7 i) w (ix3 0 r k)
      = ∑ j : Fin 1024, modded (fun j => x (ix3 0 r j)) (fun j => nw (ix2 0 j))
          (fun j => if (i 1).val * 768 + r.val < 256 then s0 (ix4 0 0 0 j) else s1 (ix4 0 0 0 j))
          (fun j => if (i 1).val * 768 + r.val < 256 then c0 (ix4 0 0 0 j) else c1 (ix4 0 0 0 j)) j * w (ix2 j k) := by
  simp only [← select_row (i 1) r]
  pointwise [k0_pay1, k0_pay2, k0_pay3, k0_pay4, k0_pay5, k0_pay6, k0_pay7, modded, rms]

theorem zeros3 : (![0, 0, 0] : Fin 3 → ℕ) = fun _ => 0 := by funext a; fin_cases a <;> rfl
theorem zeros2 : (![0, 0] : Fin 2 → ℕ) = fun _ => 0 := by funext a; fin_cases a <;> rfl

/-- What the body leaves in the output's staging buffer. -/
theorem out_apply (i : grid0.Coords) (x : Vec Ideal S1x768x1024 .f32) (nw : Vec Ideal S1x1024 .f32) (g : Vec Ideal S1x2x2x1024 .f32)
    (w : Vec Ideal S1024x2816 .bf16) (r : Fin 768) (k : Fin 2816) :
    out0_4 i x nw g w (ix3 0 r k)
      = ∑ j : Fin 1024, modded (fun j => x (ix3 0 r j)) (fun j => nw (ix2 0 j))
          (fun j => if (i 1).val * 768 + r.val < 256 then g (ix4 0 0 0 j) else g (ix4 0 1 0 j))
          (fun j => if (i 1).val * 768 + r.val < 256 then g (ix4 0 0 1 j) else g (ix4 0 1 1 j)) j * w (ix2 j k) := by
  unfold out0_4
  rw [View.canon_unit_zero (S := S1x768x2816) zeros3, View.ld_unit_zero (S := S1x768x1024) zeros3, View.ld_unit_zero (S := S1x1024) zeros2,
    View.ld_unit_zero (S := S1024x2816) zeros2, pay_apply]
  have e0 : ∀ j : Fin 1024, View.ld g r0_2 (ix4 0 0 0 j) = g (ix4 0 0 0 j) := fun j => congrArg g (ix4_of _ _ _ _ _ rfl rfl rfl (by show 0 + 1 * j.val = j.val; omega))
  have e1 : ∀ j : Fin 1024, View.ld g r0_3 (ix4 0 0 0 j) = g (ix4 0 1 0 j) := fun j => congrArg g (ix4_of _ _ _ _ _ rfl rfl rfl (by show 0 + 1 * j.val = j.val; omega))
  have e2 : ∀ j : Fin 1024, View.ld g r0_4 (ix4 0 0 0 j) = g (ix4 0 0 1 j) := fun j => congrArg g (ix4_of _ _ _ _ _ rfl rfl rfl (by show 0 + 1 * j.val = j.val; omega))
  have e3 : ∀ j : Fin 1024, View.ld g r0_5 (ix4 0 0 0 j) = g (ix4 0 1 1 j) := fun j => congrArg g (ix4_of _ _ _ _ _ rfl rfl rfl (by show 0 + 1 * j.val = j.val; omega))
  simp only [e0, e1, e2, e3]

/-- The joined streams. -/
theorem v7_apply (c : Dev nD) (b : Fin 8) (r : Fin 2304) (k : Fin 1024) :
    (V m c main_v7 : Vec Ideal S8x2304x1024 .f32) (ix3 b r k) = joined (X m c) (C m c) b r k := by
  unfold V; after_reads_at
  rfl

/-- The norm's weights. -/
theorem v35_apply (c : Dev nD) (j : Fin 1024) : (V m c main_v35 : Vec Ideal S1x1024 .f32) (ix2 0 j) = Nw m c (ix1 j) := by
  unfold V; after_reads_at

/-- The shifts and scales: the context's, and the sample's. -/
theorem v6_ctx0 (c : Dev nD) (b : Fin 8) (k : Fin 1024) :
    (V m c main_v6 : Vec Ideal S8x2x2x1024 .f32) (ix4 b 0 0 k) = Mc m c (ix1 ⟨0 * 1024 + k.val, by omega⟩) := by
  unfold V; after_reads_at
  after_reads_at

theorem v6_lat0 (c : Dev nD) (b : Fin 8) (k : Fin 1024) :
    (V m c main_v6 : Vec Ideal S8x2x2x1024 .f32) (ix4 b 1 0 k) = M m c (ix2 b ⟨0 * 1024 + k.val, by omega⟩) := by
  unfold V; after_reads_at
  after_reads_at

theorem v6_ctx1 (c : Dev nD) (b : Fin 8) (k : Fin 1024) :
    (V m c main_v6 : Vec Ideal S8x2x2x1024 .f32) (ix4 b 0 1 k) = Mc m c (ix1 ⟨1 * 1024 + k.val, by omega⟩) := by
  unfold V; after_reads_at
  after_reads_at

theorem v6_lat1 (c : Dev nD) (b : Fin 8) (k : Fin 1024) :
    (V m c main_v6 : Vec Ideal S8x2x2x1024 .f32) (ix4 b 1 1 k) = M m c (ix2 b ⟨1 * 1024 + k.val, by omega⟩) := by
  unfold V; after_reads_at
  after_reads_at

/-- Where each window's block lies at a point. -/
theorem index_eq : ∀ t : Fin cfg0.N, (grid0.coords t 1).val = t.val % 3
    ∧ (win0_0.index t 0 = t.val / 3 ∧ win0_0.index t 1 = t.val % 3 ∧ win0_0.index t 2 = 0)
    ∧ (win0_1.index t 0 = 0 ∧ win0_1.index t 1 = 0)
    ∧ (win0_2.index t 0 = t.val / 3 ∧ win0_2.index t 1 = 0 ∧ win0_2.index t 2 = 0 ∧ win0_2.index t 3 = 0)
    ∧ (win0_3.index t 0 = 0 ∧ win0_3.index t 1 = 0)
    ∧ (win0_4.index t 0 = t.val / 3 ∧ win0_4.index t 1 = t.val % 3 ∧ win0_4.index t 2 = 0) := by decide +kernel

theorem N_eq : cfg0.N = 24 := by decide

/-- A tile's sample and row. -/
abbrev smp (t : Fin cfg0.N) : Fin 8 := ⟨t.val / 3, by have := t.isLt; have := N_eq; omega⟩
abbrev row (t : Fin cfg0.N) (r : Fin 768) : Fin 2304 := ⟨t.val % 3 * 768 + r.val, by omega⟩

/-- A point's blocks. -/
theorem x_at (c : Dev nD) (t : Fin cfg0.N) (r : Fin 768) (k : Fin 1024) :
    (iblk m c 0 t : Vec Ideal S1x768x1024 .f32) (ix3 0 r k) = joined (X m c) (C m c) (smp t) (row t r) k := by
  obtain ⟨-, i0, -⟩ := index_eq t
  unfold iblk
  rw [View.read_apply]
  exact (congrArg (V m c main_v7 : Vec Ideal S8x2304x1024 .f32) (ix3_of _ (smp t) (row t r) k
    (by show win0_0.index t 0 * 1 + 1 * 0 = t.val / 3; omega)
    (by show win0_0.index t 1 * 768 + 1 * r.val = t.val % 3 * 768 + r.val; omega)
    (by show win0_0.index t 2 * 1024 + 1 * k.val = k.val; omega))).trans (v7_apply m c _ _ _)

theorem n_at (c : Dev nD) (t : Fin cfg0.N) (j : Fin 1024) :
    (iblk m c 1 t : Vec Ideal S1x1024 .f32) (ix2 0 j) = Nw m c (ix1 j) := by
  obtain ⟨-, -, i1, -⟩ := index_eq t
  unfold iblk
  rw [View.read_apply]
  exact (congrArg (V m c main_v35 : Vec Ideal S1x1024 .f32) (ix2_of _ 0 j
    (by show win0_1.index t 0 * 1 + 1 * 0 = 0; omega)
    (by show win0_1.index t 1 * 1024 + 1 * j.val = j.val; omega))).trans (v35_apply m c j)

theorem g_at (c : Dev nD) (t : Fin cfg0.N) (s n : Fin 2) (k : Fin 1024) :
    (iblk m c 2 t : Vec Ideal S1x2x2x1024 .f32) (ix4 0 s n k) = (V m c main_v6 : Vec Ideal S8x2x2x1024 .f32) (ix4 (smp t) s n k) := by
  obtain ⟨-, -, -, i2, -⟩ := index_eq t
  unfold iblk
  rw [View.read_apply]
  exact congrArg (V m c main_v6 : Vec Ideal S8x2x2x1024 .f32) (ix4_of _ (smp t) s n k
    (by show win0_2.index t 0 * 1 + 1 * 0 = t.val / 3; omega)
    (by show win0_2.index t 1 * 2 + 1 * s.val = s.val; omega)
    (by show win0_2.index t 2 * 2 + 1 * n.val = n.val; omega)
    (by show win0_2.index t 3 * 1024 + 1 * k.val = k.val; omega))

theorem w_at (c : Dev nD) (t : Fin cfg0.N) (j : Fin 1024) (k : Fin 2816) :
    (iblk m c 3 t : Vec Ideal S1024x2816 .bf16) (ix2 j k) = (col k).elim 0 (fun q => W m c (ix2 j q)) := by
  obtain ⟨-, -, -, -, i3, -⟩ := index_eq t
  unfold iblk
  rw [View.read_apply]
  exact (congrArg (V m c main_v34 : Vec Ideal S1024x2816 .bf16) (ix2_of _ j k
    (by show win0_3.index t 0 * 1024 + 1 * j.val = j.val; omega)
    (by show win0_3.index t 1 * 2816 + 1 * k.val = k.val; omega))).trans (v34_apply m c j k)

/-- The result at an index. -/
def result (c : Dev nD) : Fin 8 → Fin 2304 → Fin 2816 → EReal :=
  projected (X m c) (C m c) (M m c) (Mc m c) (Nw m c) (fun j k => (col k).elim 0 (fun q => W m c (ix2 j q)))

/-- A row's shift and scale. -/
theorem shift_at (c : Dev nD) (t : Fin cfg0.N) (r : Fin 768) (k : Fin 1024) :
    (if t.val % 3 * 768 + r.val < 256 then (iblk m c 2 t : Vec Ideal S1x2x2x1024 .f32) (ix4 0 0 0 k) else (iblk m c 2 t : Vec Ideal S1x2x2x1024 .f32) (ix4 0 1 0 k))
      = modv (M m c) (Mc m c) 0 (smp t) (row t r) k := by
  rw [g_at, g_at, v6_ctx0, v6_lat0]
  rfl

theorem scale_at (c : Dev nD) (t : Fin cfg0.N) (r : Fin 768) (k : Fin 1024) :
    (if t.val % 3 * 768 + r.val < 256 then (iblk m c 2 t : Vec Ideal S1x2x2x1024 .f32) (ix4 0 0 1 k) else (iblk m c 2 t : Vec Ideal S1x2x2x1024 .f32) (ix4 0 1 1 k))
      = modv (M m c) (Mc m c) 1 (smp t) (row t r) k := by
  rw [g_at, g_at, v6_ctx1, v6_lat1]
  rfl

/-- What a point leaves. -/
theorem point_eq (c : Dev nD) (t : Fin cfg0.N) (r : Fin 768) (k : Fin 2816) :
    (out0_4 (grid0.coords t) (iblk m c 0 t) (iblk m c 1 t) (iblk m c 2 t) (iblk m c 3 t) : Vec Ideal S1x768x2816 .f32) (ix3 0 r k)
      = result m c (smp t) (row t r) k := by
  refine (out_apply ..).trans ?_
  rw [(index_eq t).1, funext (x_at m c t r), funext (n_at m c t), funext (shift_at m c t r), funext (scale_at m c t r)]
  simp only [w_at]
  rfl

end Cert.ProjIdeal.Whole
end
-- ==== Proof.ProjClaims.lean ====
/-
  The projection of the even layers: the kernel's result array, the reference's, and that they are equal.
-/
module

public import proofs.«01_k».proof.Proof.ProjBlock
public import proofs.«01_k».proof.Proof.QkvClaims
public import proofs.«01_k».proof.Defs
public import proofs.«01_k».proof.Proof.Gen.Proj
public import proofs.«01_k».proof.Proof.Gen.Proj.Frame
public import proofs.«01_k».proof.Proof.Gen.ProjRefIdeal
public import proofs.«01_k».proof.Proof.Gen.ProjRefIdeal.Run
public import proofs.«01_k».proof.Proof.Gen.ProjRefIdeal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjIdeal.Whole

open Cert.ProjIdeal Cert.ProjIdeal.Gen Cert.Streams
open Cert.FfnSpec (ix3_of)

variable (m : (ℓ : Loc nD τ sig) → Buf (Elt Ideal) ℓ) (ρ : Dev nD → PrngReg)

/-- The result array's final contents. -/
abbrev final (c : Dev nD) : Buf (Elt Ideal) ((c : Thread nD τ).loc main_v36) := fun i => result m c (i 0) (i 1) (i 2)

/-- A write-back writes the point's rows of the result. -/
theorem flushed_eq (c : Dev nD) (t : Fin cfg0.N) (hf : (cfg0.win 4).flush t = true) :
    (dats m 0 c).flushed 4 t = ((cfg0.win 4).blk t).view.read (Elt Ideal) (final m c) := by
  have key := point_eq m c t
  rw [Value.flushed4]
  generalize out0_4 (grid0.coords t) (iblk m c 0 t) (iblk m c 1 t) (iblk m c 2 t) (iblk m c 3 t) = o at key ⊢
  funext y
  have hy : (y 0).val < 1 := (y 0).isLt
  rw [View.read_apply]
  refine ((congrArg o (ix3_of (y : S1x768x2816.Idx) 0 (y 1) (y 2) (by show (y 0).val = 0; omega) rfl rfl)).trans (key (y 1) (y 2))).trans ?_
  exact tile_at (result m c) (win0_4.index t) t.val (index_eq t).2.2.2.2.2 (y : S1x768x2816.Idx) _ _ _ rfl rfl rfl rfl rfl

/-- An index of the array is in point `t`'s block when its sample and row are. -/
theorem mem_blk (t : Fin cfg0.N) (i : S8x2304x2816.Idx) (h : (i 0).val = t.val / 3) (h' : (i 1).val / 768 = t.val % 3) :
    i ∈ ((cfg0.win 4).blk t).view.set := by
  show i ∈ ((View.whole main_v36).slice (win0_4.rect t)).set
  rw [View.set_slice_whole, Rect.mem_set_unit]
  exact tile_mem (win0_4.index t) i t.val (index_eq t).2.2.2.2.2 h h'

/-- So the result array ends holding the result. -/
theorem final_eq (c : Dev nD) : (dats m 0 c).arrAt 4 cfg0.N = final m c :=
  (dats m 0 c).arrAt_eq_of_cover 4 (final m c) (flushed_eq m c) fun i => by
    have h0 : (i 0 : ℕ) < 8 := (i 0).isLt
    have h1 : (i 1 : ℕ) < 2304 := (i 1).isLt
    have hN := N_eq
    refine ⟨⟨(i 0 : ℕ) * 3 + (i 1 : ℕ) / 768, by omega⟩, flush0_4 _, mem_blk _ i ?_ ?_⟩
    · dsimp only; omega
    · dsimp only; omega

end Cert.ProjIdeal.Whole

namespace Cert.ProjRefIdeal.Whole

open Cert.ProjRefIdeal Cert.ProjRefIdeal.Gen Cert.ProjRefIdeal.Read Cert.Streams

/-- The reference's modulated rows are the odd layers': the latents' and the context's. -/
theorem lat_apply (x0 : Vec Ideal S8x2048x1024 .f32) (x2 : Vec Ideal S8x6144 .f32) (x4 : Vec Ideal S1024 .f32) (b : Fin 8) (r : Fin 2048) (j : Fin 1024) :
    val_main_v31 (F := Ideal) x0 x2 x4 (ix3 b r j) = modded (fun j => x0 (ix3 b r j)) (fun j => x4 (ix1 j))
      (fun j => x2 (ix2 b ⟨0 * 1024 + j.val, by omega⟩)) (fun j => x2 (ix2 b ⟨1 * 1024 + j.val, by omega⟩)) j :=
  Cert.QkvRefIdeal.Whole.lat_apply x0 x2 x4 b r j

theorem ctx_apply (x1 : Vec Ideal S8x256x1024 .f32) (x3 : Vec Ideal S6144 .f32) (x4 : Vec Ideal S1024 .f32) (b : Fin 8) (r : Fin 256) (j : Fin 1024) :
    val_main_v52 (F := Ideal) x1 x3 x4 (ix3 b r j) = modded (fun j => x1 (ix3 b r j)) (fun j => x4 (ix1 j))
      (fun j => x3 (ix1 ⟨0 * 1024 + j.val, by omega⟩)) (fun j => x3 (ix1 ⟨1 * 1024 + j.val, by omega⟩)) j :=
  Cert.QkvRefIdeal.Whole.ctx_apply x1 x3 x4 b r j

/-- The reference's projection, at an index. -/
theorem v55_apply (x0 : Vec Ideal S8x2048x1024 .f32) (x1 : Vec Ideal S8x256x1024 .f32) (x2 : Vec Ideal S8x6144 .f32) (x3 : Vec Ideal S6144 .f32)
    (x4 : Vec Ideal S1024 .f32) (x5 : Vec Ideal S1024x2592 .f32) (b : Fin 8) (r : Fin 2304) (k : Fin 2592) :
    val_main_v55 (F := Ideal) x0 x1 x2 x3 x4 x5 (ix3 b r k) = projected x0 x1 x2 x3 x4 (fun j k => x5 (ix2 j k)) b r k := by
  by_cases h : r.val < 256
  · rw [projected_ctx _ _ _ _ _ _ _ _ _ h]
    pointwise [val_main_v55, val_main_v53]
    rw [dif_pos h]
    simp only [ctx_apply, Nat.zero_mul, Nat.zero_add, Nat.one_mul]
  · rw [projected_lat _ _ _ _ _ _ _ _ _ h]
    pointwise [val_main_v55, val_main_v54]
    rw [dif_neg h]
    simp only [lat_apply, Nat.zero_mul, Nat.zero_add, Nat.one_mul]

/-- A packed column's value is the value at its column. -/
theorem col_elim_some (z : Fin 2592 → EReal) (k : Fin 2816) (q : Fin 2592)
    (h : (k.val < 2560 ∧ q.val = k.val) ∨ (2624 ≤ k.val ∧ k.val < 2640 ∧ q.val = 2560 + 2 * (k.val - 2624))
      ∨ (2640 ≤ k.val ∧ k.val < 2656 ∧ q.val = 2561 + 2 * (k.val - 2640)) ∨ (2656 ≤ k.val ∧ k.val < 2672 ∧ q.val = 2560 + 2 * (k.val - 2656))
      ∨ (2672 ≤ k.val ∧ k.val < 2688 ∧ q.val = 2561 + 2 * (k.val - 2672)) ∨ (2752 ≤ k.val ∧ k.val < 2768 ∧ q.val = 2561 + 2 * (k.val - 2752))
      ∨ (2768 ≤ k.val ∧ k.val < 2784 ∧ q.val = 2560 + 2 * (k.val - 2768)) ∨ (2784 ≤ k.val ∧ k.val < 2800 ∧ q.val = 2561 + 2 * (k.val - 2784))
      ∨ (2800 ≤ k.val ∧ q.val = 2560 + 2 * (k.val - 2800))) : z q = (col k).elim 0 z := by
  unfold col rope EO OE
  split_ifs
  all_goals first
    | (exfalso; omega)
    | (refine congrArg z (Fin.ext ?_)
       dsimp only
       first | omega | (unfold eo; split <;> omega) | (unfold oe; split <;> omega))

theorem col_elim_none (z : Fin 2592 → EReal) (k : Fin 2816) (h : (2560 ≤ k.val ∧ k.val < 2624) ∨ (2688 ≤ k.val ∧ k.val < 2752)) :
    0 = (col k).elim 0 z := by
  unfold col
  split_ifs
  all_goals first | (exfalso; omega) | rfl

/-- The reference's result, at an index: the projection at the column, or zero. -/
theorem out_apply (x0 : Vec Ideal S8x2048x1024 .f32) (x1 : Vec Ideal S8x256x1024 .f32) (x2 : Vec Ideal S8x6144 .f32) (x3 : Vec Ideal S6144 .f32)
    (x4 : Vec Ideal S1024 .f32) (x5 : Vec Ideal S1024x2592 .f32) (b : Fin 8) (r : Fin 2304) (k : Fin 2816) :
    val_main_v60 (F := Ideal) x0 x1 x2 x3 x4 x5 (ix3 b r k)
      = projected x0 x1 x2 x3 x4 (fun j k => (col k).elim 0 (fun q => x5 (ix2 j q))) b r k := by
  refine Eq.trans ?_ (projected_packed x0 x1 x2 x3 x4 (fun j k => x5 (ix2 j k)) b r k).symm
  rw [show projected x0 x1 x2 x3 x4 (fun j k => x5 (ix2 j k)) b r = fun k => val_main_v55 (F := Ideal) x0 x1 x2 x3 x4 x5 (ix3 b r k) from
    funext fun k => (v55_apply x0 x1 x2 x3 x4 x5 b r k).symm]
  unfold val_main_v60 val_main_v59 val_main_v58 val_main_v57 val_main_v56 val_main_cst_7
  generalize val_main_v55 (F := Ideal) x0 x1 x2 x3 x4 x5 = z
  pointwise
  have some_of := col_elim_some (fun k => z (ix3 b r k)) k
  have none_of := col_elim_none (fun k => z (ix3 b r k)) k
  generalize col k = o at some_of none_of ⊢
  refine dite_eq_of (fun h => some_of _ (Or.inl ⟨h, rfl⟩)) fun h0 => ?_
  refine dite_eq_of (fun h => none_of (by omega)) fun h1 => ?_
  refine dite_eq_of (fun h => some_of _ (Or.inr (Or.inl ⟨by omega, by omega, by dsimp only; omega⟩))) fun h2 => ?_
  refine dite_eq_of (fun h => some_of _ (Or.inr (Or.inr (Or.inl ⟨by omega, by omega, by dsimp only; omega⟩)))) fun h3 => ?_
  refine dite_eq_of (fun h => some_of _ (Or.inr (Or.inr (Or.inr (Or.inl ⟨by omega, by omega, by dsimp only; omega⟩))))) fun h4 => ?_
  refine dite_eq_of (fun h => some_of _ (Or.inr (Or.inr (Or.inr (Or.inr (Or.inl ⟨by omega, by omega, by dsimp only; omega⟩)))))) fun h5 => ?_
  refine dite_eq_of (fun h => none_of (by omega)) fun h6 => ?_
  refine dite_eq_of (fun h => some_of _ (Or.inr (Or.inr (Or.inr (Or.inr (Or.inr (Or.inl ⟨by omega, by omega, by dsimp only; omega⟩))))))) fun h7 => ?_
  refine dite_eq_of (fun h => some_of _ (Or.inr (Or.inr (Or.inr (Or.inr (Or.inr (Or.inr (Or.inl ⟨by omega, by omega, by dsimp only; omega⟩)))))))) fun h8 => ?_
  refine dite_eq_of (fun h => some_of _ (Or.inr (Or.inr (Or.inr (Or.inr (Or.inr (Or.inr (Or.inr (Or.inl ⟨by omega, by omega, by dsimp only; omega⟩))))))))) fun h9 => ?_
  exact some_of _ (Or.inr (Or.inr (Or.inr (Or.inr (Or.inr (Or.inr (Or.inr (Or.inr (⟨by omega, by dsimp only; omega⟩)))))))))

end Cert.ProjRefIdeal.Whole

namespace Cert.ProjProof

/-- The printed kernel runs and leaves its arguments and semaphores as they were. -/
theorem frame : Cert.quiescent_Proj := fun m ρ _ => Cert.Proj.Gen.frame m ρ

/-- So does its reading over the extended reals. -/
theorem frame_ideal : Cert.quiescent_ProjIdeal := fun m ρ _ => Cert.ProjIdeal.Gen.frame m ρ

/-- So does the reference. -/
theorem frame_ref : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- Kernel and reference end with equal results, over the extended reals, for every input. -/
theorem algebraic : Cert.algebraic_ProjIdeal_ProjRefIdeal := fun m ρ m' ρ' _ hag =>
  ⟨fun c => Cert.ProjIdeal.Whole.final m c,
    (θ_run Cert.ProjIdeal.defs _ _).mono (fun _ h c => ⟨(h c).1.trans (Cert.ProjIdeal.Whole.final_eq m c), (h c).2⟩) (Cert.ProjIdeal.Value.run_blocks m ρ),
    (θ_run Cert.ProjRefIdeal.defs _ _).mono (fun _ h c => ⟨by
      refine ((h c).1.trans (Cert.ProjRefIdeal.Read.val_main_v60_eq ..)).trans ?_
      obtain ⟨g0, g1, g2, g3, g4, g5⟩ := hag c
      rw [g0, g1, g2, g3, g4, g5]
      funext i
      refine (congrArg _ (Cert.FfnSpec.ix3_of i (i 0) (i 1) (i 2) rfl rfl rfl)).trans ?_
      exact Cert.ProjRefIdeal.Whole.out_apply _ _ _ _ _ _ (i 0) (i 1) (i 2), (h c).2⟩)
    (Cert.ProjRefIdeal.Value.run (F := Ideal) m' ρ')⟩

end Cert.ProjProof
end
-- ==== Proof.ModsBlock.lean ====
/-
  The modulation vectors: the block, and what the arrays hold.
-/
module

public import proofs.«01_k».proof.Proof.Streams
public import proofs.«01_k».proof.Proof.Gen.ModsIdeal.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Mod

/-- The conditioning vectors' rows: eight samples', the context's, and zeros. -/
def rows (c : Vec Ideal ⟨2, ![8, 1024]⟩ .f32) (cc : Vec Ideal ⟨1, ![1024]⟩ .f32) (b : Fin 16) (j : Fin 1024) : EReal :=
  if h : b.val < 8 then c (ix2 ⟨b.val, h⟩ j) else if b.val < 9 then cc (ix1 j) else 0

/-- A row's modulation vector of a layer: its silu, times the layer's matrix, plus the layer's bias. -/
def vector (v : Fin 1024 → EReal) (w : Vec Ideal ⟨3, ![4, 1024, 6144]⟩ .f32) (a : Vec Ideal ⟨2, ![4, 6144]⟩ .f32) (l : Fin 4) (k : Fin 6144) : EReal :=
  (∑ j : Fin 1024, v j * Ideal.logistic (v j) * w (ix3 l j k)) + a (ix2 l k)

/-- A zero row's modulation vector is the bias. -/
theorem vector_zero (w : Vec Ideal ⟨3, ![4, 1024, 6144]⟩ .f32) (a : Vec Ideal ⟨2, ![4, 6144]⟩ .f32) (l : Fin 4) (k : Fin 6144) :
    vector (fun _ => 0) w a l k = a (ix2 l k) := by
  unfold vector
  simp only [zero_mul, Finset.sum_const_zero, zero_add]

end Cert.Mod

namespace Cert.ModsIdeal.Whole

open Cert.ModsIdeal Cert.ModsIdeal.Gen Cert.Streams Cert.Mod
open Cert.FfnSpec (ix3_of)

variable (m : (ℓ : Loc nD τ sig) → Buf (Elt Ideal) ℓ) (ρ : Dev nD → PrngReg)

/-- The arguments as launched. -/
abbrev A0 (c : Dev nD) : Vec Ideal S8x1024 .f32 := m (c, Proc.tc.devRef main_arg0)
abbrev A1 (c : Dev nD) : Vec Ideal S1024 .f32 := m (c, Proc.tc.devRef main_arg1)
abbrev A2 (c : Dev nD) : Vec Ideal S4x1024x6144 .f32 := m (c, Proc.tc.devRef main_arg2)
abbrev A3 (c : Dev nD) : Vec Ideal S4x6144 .f32 := m (c, Proc.tc.devRef main_arg3)

/-- The body's payload at an index. -/
theorem pay_apply (x : Vec Ideal S16x1024 .f32) (w : Vec Ideal S1x1024x1024 .f32) (a : Vec Ideal S1x1x1024 .f32) (b : Fin 16) (k : Fin 1024) :
    k0_pay1 x w a (ix3 0 b k) = (∑ j : Fin 1024, x (ix2 b j) * Ideal.logistic (x (ix2 b j)) * w (ix3 0 j k)) + a (ix3 0 0 k) := by
  pointwise [k0_pay1]

theorem zeros3 : (![0, 0, 0] : Fin 3 → ℕ) = fun _ => 0 := by funext a; fin_cases a <;> rfl
theorem zeros2 : (![0, 0] : Fin 2 → ℕ) = fun _ => 0 := by funext a; fin_cases a <;> rfl

/-- What the body leaves in the output's staging buffer. -/
theorem out_apply (x : Vec Ideal S16x1024 .f32) (w : Vec Ideal S1x1024x1024 .f32) (a : Vec Ideal S1x1x1024 .f32) (b : Fin 16) (k : Fin 1024) :
    out0_3 x w a (ix3 0 b k) = (∑ j : Fin 1024, x (ix2 b j) * Ideal.logistic (x (ix2 b j)) * w (ix3 0 j k)) + a (ix3 0 0 k) := by
  unfold out0_3
  rw [View.canon_unit_zero (S := S1x16x1024) zeros3, View.ld_unit_zero (S := S16x1024) zeros2, View.ld_unit_zero (S := S1x1024x1024) zeros3,
    View.ld_unit_zero (S := S1x1x1024) zeros3, pay_apply]

/-- The joined rows. -/
theorem v2_apply (c : Dev nD) (b : Fin 16) (j : Fin 1024) :
    (V m c main_v2 : Vec Ideal S16x1024 .f32) (ix2 b j) = rows (A0 m c) (A1 m c) b j := by
  unfold V rows; after_reads_at
  by_cases h : b.val < 8
  · rw [dif_pos h, dif_pos h]
  · rw [dif_neg h, dif_neg h]
    by_cases h' : b.val < 9
    · rw [dif_pos (by omega), if_pos h']
      after_reads_at
    · rw [dif_neg (by omega), if_neg h']
      after_reads_at

/-- The biases. -/
theorem v3_apply (c : Dev nD) (l : Fin 4) (k : Fin 6144) : (V m c main_v3 : Vec Ideal S4x1x6144 .f32) (ix3 l 0 k) = A3 m c (ix2 l k) := by
  unfold V; after_reads_at

/-- Where each window's block lies at a point. -/
theorem index_eq : ∀ t : Fin cfg0.N, (win0_0.index t 0 = 0 ∧ win0_0.index t 1 = 0)
    ∧ (win0_1.index t 0 = t.val / 6 ∧ win0_1.index t 1 = 0 ∧ win0_1.index t 2 = t.val % 6)
    ∧ (win0_2.index t 0 = t.val / 6 ∧ win0_2.index t 1 = 0 ∧ win0_2.index t 2 = t.val % 6)
    ∧ (win0_3.index t 0 = t.val / 6 ∧ win0_3.index t 1 = 0 ∧ win0_3.index t 2 = t.val % 6) := by decide +kernel

theorem N_eq : cfg0.N = 24 := by decide

/-- A tile's layer and column. -/
abbrev lay (t : Fin cfg0.N) : Fin 4 := ⟨t.val / 6, by have := t.isLt; have := N_eq; omega⟩
abbrev col (t : Fin cfg0.N) (k : Fin 1024) : Fin 6144 := ⟨t.val % 6 * 1024 + k.val, by omega⟩

/-- A point's blocks. -/
theorem x_at (c : Dev nD) (t : Fin cfg0.N) (b : Fin 16) (j : Fin 1024) :
    (iblk m c 0 t : Vec Ideal S16x1024 .f32) (ix2 b j) = rows (A0 m c) (A1 m c) b j := by
  obtain ⟨i0, -⟩ := index_eq t
  unfold iblk
  rw [View.read_apply]
  exact (congrArg (V m c main_v2 : Vec Ideal S16x1024 .f32) (ix2_of _ b j
    (by show win0_0.index t 0 * 16 + 1 * b.val = b.val; omega)
    (by show win0_0.index t 1 * 1024 + 1 * j.val = j.val; omega))).trans (v2_apply m c b j)

theorem w_at (c : Dev nD) (t : Fin cfg0.N) (j k : Fin 1024) :
    (iblk m c 1 t : Vec Ideal S1x1024x1024 .f32) (ix3 0 j k) = A2 m c (ix3 (lay t) j (col t k)) := by
  obtain ⟨-, i1, -⟩ := index_eq t
  unfold iblk
  rw [View.read_apply]
  exact congrArg (A2 m c) (ix3_of _ (lay t) j (col t k)
    (by show win0_1.index t 0 * 1 + 1 * 0 = t.val / 6; omega)
    (by show win0_1.index t 1 * 1024 + 1 * j.val = j.val; omega)
    (by show win0_1.index t 2 * 1024 + 1 * k.val = t.val % 6 * 1024 + k.val; omega))

theorem a_at (c : Dev nD) (t : Fin cfg0.N) (k : Fin 1024) :
    (iblk m c 2 t : Vec Ideal S1x1x1024 .f32) (ix3 0 0 k) = A3 m c (ix2 (lay t) (col t k)) := by
  obtain ⟨-, -, i2, -⟩ := index_eq t
  unfold iblk
  rw [View.read_apply]
  exact (congrArg (V m c main_v3 : Vec Ideal S4x1x6144 .f32) (ix3_of _ (lay t) 0 (col t k)
    (by show win0_2.index t 0 * 1 + 1 * 0 = t.val / 6; omega)
    (by show win0_2.index t 1 * 1 + 1 * 0 = 0; omega)
    (by show win0_2.index t 2 * 1024 + 1 * k.val = t.val % 6 * 1024 + k.val; omega))).trans (v3_apply m c _ _)

/-- The result at an index. -/
def result (c : Dev nD) (l : Fin 4) (b : Fin 16) (k : Fin 6144) : EReal := vector (rows (A0 m c) (A1 m c) b) (A2 m c) (A3 m c) l k

/-- What a point leaves. -/
theorem point_eq (c : Dev nD) (t : Fin cfg0.N) (b : Fin 16) (k : Fin 1024) :
    (out0_3 (iblk m c 0 t) (iblk m c 1 t) (iblk m c 2 t) : Vec Ideal S1x16x1024 .f32) (ix3 0 b k) = result m c (lay t) b (col t k) := by
  refine (out_apply ..).trans ?_
  simp only [x_at, w_at, a_at]
  rfl

end Cert.ModsIdeal.Whole
end
-- ==== Proof.ModsClaims.lean ====
/-
  The modulation vectors: the kernel's result array, the reference's, and that they are equal.
-/
module

public import proofs.«01_k».proof.Proof.ModsBlock
public import proofs.«01_k».proof.Defs
public import proofs.«01_k».proof.Proof.Gen.Mods
public import proofs.«01_k».proof.Proof.Gen.Mods.Frame
public import proofs.«01_k».proof.Proof.Gen.ModsRefIdeal
public import proofs.«01_k».proof.Proof.Gen.ModsRefIdeal.Run
public import proofs.«01_k».proof.Proof.Gen.ModsRefIdeal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ModsIdeal.Whole

open Cert.ModsIdeal Cert.ModsIdeal.Gen Cert.Streams
open Cert.FfnSpec (ix3_of)

variable (m : (ℓ : Loc nD τ sig) → Buf (Elt Ideal) ℓ) (ρ : Dev nD → PrngReg)

/-- The result array's final contents. -/
abbrev final (c : Dev nD) : Buf (Elt Ideal) ((c : Thread nD τ).loc main_v4) := fun i => result m c (i 0) (i 1) (i 2)

/-- A write-back writes the point's columns of the layer's vectors. -/
theorem flushed_eq (c : Dev nD) (t : Fin cfg0.N) (hf : (cfg0.win 3).flush t = true) :
    (dats m 0 c).flushed 3 t = ((cfg0.win 3).blk t).view.read (Elt Ideal) (final m c) := by
  have key := point_eq m c t
  rw [Value.flushed3]
  generalize out0_3 (iblk m c 0 t) (iblk m c 1 t) (iblk m c 2 t) = o at key ⊢
  funext y
  have hy : (y 0).val < 1 := (y 0).isLt
  obtain ⟨-, -, -, i3⟩ := index_eq t
  rw [View.read_apply]
  refine ((congrArg o (ix3_of (y : S1x16x1024.Idx) 0 (y 1) (y 2) (by show (y 0).val = 0; omega) rfl rfl)).trans (key (y 1) (y 2))).trans ?_
  exact congr3 (result m c)
    (Fin.ext (by show t.val / 6 = win0_3.index t 0 * 1 + 1 * (y 0).val; omega))
    (Fin.ext (by show (y 1).val = win0_3.index t 1 * 16 + 1 * (y 1).val; omega))
    (Fin.ext (by show t.val % 6 * 1024 + (y 2).val = win0_3.index t 2 * 1024 + 1 * (y 2).val; omega))

/-- An index of the array is in point `t`'s block when its layer and column are. -/
theorem mem_blk (t : Fin cfg0.N) (i : S4x16x6144.Idx) (h : (i 0).val = t.val / 6) (h' : (i 2).val / 1024 = t.val % 6) :
    i ∈ ((cfg0.win 3).blk t).view.set := by
  obtain ⟨-, -, -, i3⟩ := index_eq t
  have h1 : (i 1 : ℕ) < 16 := (i 1).isLt
  show i ∈ ((View.whole main_v4).slice (win0_3.rect t)).set
  rw [View.set_slice_whole, Rect.mem_set_unit]
  intro a
  match a with
  | ⟨0, _⟩ => exact ⟨by show win0_3.index t 0 * 1 ≤ (i 0).val; omega, by show (i 0).val < win0_3.index t 0 * 1 + 1; omega⟩
  | ⟨1, _⟩ => exact ⟨by show win0_3.index t 1 * 16 ≤ (i 1).val; omega, by show (i 1).val < win0_3.index t 1 * 16 + 16; omega⟩
  | ⟨2, _⟩ => exact ⟨by show win0_3.index t 2 * 1024 ≤ (i 2).val; omega, by show (i 2).val < win0_3.index t 2 * 1024 + 1024; omega⟩

/-- So the result array ends holding the result. -/
theorem final_eq (c : Dev nD) : (dats m 0 c).arrAt 3 cfg0.N = final m c :=
  (dats m 0 c).arrAt_eq_of_cover 3 (final m c) (flushed_eq m c) fun i => by
    have h0 : (i 0 : ℕ) < 4 := (i 0).isLt
    have h2 : (i 2 : ℕ) < 6144 := (i 2).isLt
    have hN := N_eq
    refine ⟨⟨(i 0 : ℕ) * 6 + (i 2 : ℕ) / 1024, by omega⟩, flush0_3 _, mem_blk _ i ?_ ?_⟩
    · dsimp only; omega
    · dsimp only; omega

end Cert.ModsIdeal.Whole

namespace Cert.ModsRefIdeal.Whole

open Cert.ModsRefIdeal Cert.ModsRefIdeal.Gen Cert.ModsRefIdeal.Read Cert.Streams Cert.Mod

/-- The silu of the samples' and of the context's conditioning. -/
theorem silu_lat (x0 : Vec Ideal S8x1024 .f32) (b : Fin 8) (j : Fin 1024) :
    val_main_v0 (F := Ideal) x0 (ix2 b j) = x0 (ix2 b j) * Ideal.logistic (x0 (ix2 b j)) := by
  pointwise [val_main_v0, val_main_call0_v5, val_main_call0_v4, val_main_call0_v3, val_main_call0_v2, val_main_call0_v1, val_main_call0_v0,
    val_main_call0_cst, val_main_call0_cst_0, Ideal.logistic]

theorem silu_ctx (x1 : Vec Ideal S1024 .f32) (j : Fin 1024) :
    val_main_v1 (F := Ideal) x1 (ix1 j) = x1 (ix1 j) * Ideal.logistic (x1 (ix1 j)) := by
  pointwise [val_main_v1, val_main_call1_v5, val_main_call1_v4, val_main_call1_v3, val_main_call1_v2, val_main_call1_v1, val_main_call1_v0,
    val_main_call1_cst, val_main_call1_cst_0, Ideal.logistic]

/-- The samples' vectors, layer by layer. -/
theorem lat_apply (x0 : Vec Ideal S8x1024 .f32) (x2 : Vec Ideal S4x1024x6144 .f32) (x3 : Vec Ideal S4x6144 .f32) (l : Fin 4) (b : Fin 8) (k : Fin 6144) :
    val_main_v38 (F := Ideal) x0 x2 x3 (ix3 l b k) = vector (fun j => x0 (ix2 b j)) x2 x3 l k := by
  unfold vector
  simp only [← silu_lat]
  fin_cases l
  all_goals
    pointwise [val_main_v38, val_main_v37, val_main_v36, val_main_v35, val_main_v34, val_main_v33, val_main_v32, val_main_v31, val_main_v30, val_main_v29,
      val_main_v28, val_main_v27, val_main_v26, val_main_v25, val_main_v24, val_main_v23, val_main_v22, val_main_v21, val_main_v20, val_main_v19,
      val_main_v18, val_main_v17, val_main_v16, val_main_v15, val_main_v14, val_main_v13, val_main_v12, val_main_v11, val_main_v10, val_main_v9,
      val_main_v8, val_main_v7, val_main_v6, val_main_v5, val_main_v4, val_main_v3, val_main_v2]
    simp only [silu_lat]

/-- The context's vectors, layer by layer. -/
theorem ctx_apply (x1 : Vec Ideal S1024 .f32) (x2 : Vec Ideal S4x1024x6144 .f32) (x3 : Vec Ideal S4x6144 .f32) (l : Fin 4) (k : Fin 6144) :
    val_main_v67 (F := Ideal) x1 x2 x3 (ix2 l k) = vector (fun j => x1 (ix1 j)) x2 x3 l k := by
  unfold vector
  simp only [← silu_ctx]
  fin_cases l
  all_goals
    pointwise [val_main_v67, val_main_v66, val_main_v65, val_main_v64, val_main_v63, val_main_v62, val_main_v61, val_main_v60, val_main_v59, val_main_v58,
      val_main_v57, val_main_v56, val_main_v55, val_main_v54, val_main_v53, val_main_v52, val_main_v51, val_main_v50, val_main_v49, val_main_v48,
      val_main_v47, val_main_v46, val_main_v45, val_main_v44, val_main_v43, val_main_v42, val_main_v41, val_main_v40, val_main_v39]
    simp only [silu_ctx]

/-- The reference's result, at an index. -/
theorem out_apply (x0 : Vec Ideal S8x1024 .f32) (x1 : Vec Ideal S1024 .f32) (x2 : Vec Ideal S4x1024x6144 .f32) (x3 : Vec Ideal S4x6144 .f32)
    (l : Fin 4) (b : Fin 16) (k : Fin 6144) :
    val_main_v71 (F := Ideal) x0 x1 x2 x3 (ix3 l b k) = vector (rows x0 x1 b) x2 x3 l k := by
  by_cases h : b.val < 8
  · rw [show rows x0 x1 b = fun j => x0 (ix2 ⟨b.val, h⟩ j) from funext fun j => dif_pos h]
    pointwise [val_main_v71]
    rw [dif_pos h]
    exact lat_apply ..
  · by_cases h' : b.val < 9
    · rw [show rows x0 x1 b = fun j => x1 (ix1 j) from funext fun j => (dif_neg h).trans (if_pos h')]
      pointwise [val_main_v71, val_main_v70]
      rw [dif_neg h, dif_pos (by omega)]
      exact ctx_apply ..
    · rw [show rows x0 x1 b = fun _ => 0 from funext fun j => (dif_neg h).trans (if_neg h'), vector_zero]
      pointwise [val_main_v71, val_main_v69, val_main_v68]
      rw [dif_neg h, dif_neg (by omega)]

end Cert.ModsRefIdeal.Whole

namespace Cert.ModsProof

/-- The printed kernel runs and leaves its arguments and semaphores as they were. -/
theorem frame : Cert.quiescent_Mods := fun m ρ _ => Cert.Mods.Gen.frame m ρ

/-- So does its reading over the extended reals. -/
theorem frame_ideal : Cert.quiescent_ModsIdeal := fun m ρ _ => Cert.ModsIdeal.Gen.frame m ρ

/-- So does the reference. -/
theorem frame_ref : Cert.quiescent_ModsRefIdeal := fun m ρ _ =>
  (θ_run Cert.ModsRefIdeal.defs _ _).mono (fun r h => ⟨fun c => (h c).2, sem_eq_zero_of_no_sems (by decide) r.2⟩)
    (Cert.ModsRefIdeal.Value.run (F := Ideal) m ρ)

/-- Kernel and reference end with equal results, over the extended reals, for every input. -/
theorem algebraic : Cert.algebraic_ModsIdeal_ModsRefIdeal := fun m ρ m' ρ' _ hag =>
  ⟨fun c => Cert.ModsIdeal.Whole.final m c,
    (θ_run Cert.ModsIdeal.defs _ _).mono (fun _ h c => ⟨(h c).1.trans (Cert.ModsIdeal.Whole.final_eq m c), (h c).2⟩) (Cert.ModsIdeal.Value.run_blocks m ρ),
    (θ_run Cert.ModsRefIdeal.defs _ _).mono (fun _ h c => ⟨by
      refine ((h c).1.trans (Cert.ModsRefIdeal.Read.val_main_v71_eq ..)).trans ?_
      obtain ⟨g0, g1, g2, g3⟩ := hag c
      rw [g0, g1, g2, g3]
      funext i
      refine (congrArg _ (Cert.FfnSpec.ix3_of i (i 0) (i 1) (i 2) rfl rfl rfl)).trans ?_
      exact Cert.ModsRefIdeal.Whole.out_apply _ _ _ _ (i 0) (i 1) (i 2), (h c).2⟩)
    (Cert.ModsRefIdeal.Value.run (F := Ideal) m' ρ')⟩

end Cert.ModsProof
end
-- ==== Proof.RouterBlock.lean ====
/-
  The router: the block, and what a point leaves.
-/
module

public import proofs.«01_k».proof.Proof.Streams
public import proofs.«01_k».proof.Proof.MlaMath
public import proofs.«01_k».proof.Proof.Gen.RouterIdeal.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Route

open Cert.Streams
open Cert.KernelIdeal.Tile (top)
open Cert.MlaSpec (IsR)

/-- A score as the kernel takes it: the product of the leading parts, and the two products with what they leave. -/
def split (z w : Fin 1024 → EReal) : EReal :=
  ((∑ j : Fin 1024, w j * z j) + ∑ j : Fin 1024, w j * (z j - z j)) + ∑ j : Fin 1024, (w j - w j) * z j

/-- Of real numbers nothing is left, so it is the product. -/
theorem split_eq (z w : Fin 1024 → EReal) (hz : ∀ j, IsR (z j)) (hw : ∀ j, IsR (w j)) : split z w = ∑ j : Fin 1024, z j * w j := by
  have nil : ∀ x : EReal, IsR x → x - x = 0 := fun x ⟨a, h⟩ => by rw [h, ← EReal.coe_sub, sub_self]; rfl
  unfold split
  have a : ∀ j, w j * (z j - z j) = 0 := fun j => by rw [nil _ (hz j), mul_zero]
  have b : ∀ j, (w j - w j) * z j = 0 := fun j => by rw [nil _ (hw j), zero_mul]
  simp only [a, b, Finset.sum_const_zero, add_zero]
  exact Finset.sum_congr rfl fun j _ => mul_comm _ _

/-- The affinities of sixteen scores: their exponentials, less the greatest, over the exponentials' sum. -/
def soft (s : Fin 16 → EReal) (e : Fin 16) : EReal := Ideal.div (Ideal.exp (s e - top s)) (∑ i : Fin 16, Ideal.exp (s i - top s))

/-- A row as the router normalizes and modulates it. -/
def row (x : Vec Ideal ⟨3, ![8, 2048, 1024]⟩ .f32) (ctx : Vec Ideal ⟨3, ![8, 256, 1024]⟩ .f32) (m : Vec Ideal ⟨2, ![8, 6144]⟩ .f32)
    (mc : Vec Ideal ⟨1, ![6144]⟩ .f32) (nw : Vec Ideal ⟨1, ![1024]⟩ .f32) (b : Fin 8) (r : Fin 2304) (j : Fin 1024) : EReal :=
  modded (joined x ctx b r) (fun j => nw (ix1 j)) (modv m mc 3 b r) (modv m mc 4 b r) j

end Cert.Route

namespace Cert.RouterIdeal.Whole

open Cert.RouterIdeal Cert.RouterIdeal.Gen Cert.Streams
open Cert.Route (split soft)
open Cert.KernelIdeal.Tile (top)
open Cert.FfnSpec (ix3_of ix4_of)

variable (m : (ℓ : Loc nD τ sig) → Buf (Elt Ideal) ℓ) (ρ : Dev nD → PrngReg)

/-- The arguments as launched. -/
abbrev X (c : Dev nD) : Vec Ideal S8x2048x1024 .f32 := m (c, Proc.tc.devRef main_arg0)
abbrev C (c : Dev nD) : Vec Ideal S8x256x1024 .f32 := m (c, Proc.tc.devRef main_arg1)
abbrev M (c : Dev nD) : Vec Ideal S8x6144 .f32 := m (c, Proc.tc.devRef main_arg2)
abbrev Mc (c : Dev nD) : Vec Ideal S6144 .f32 := m (c, Proc.tc.devRef main_arg3)
abbrev Nw (c : Dev nD) : Vec Ideal S1024 .f32 := m (c, Proc.tc.devRef main_arg4)
abbrev W (c : Dev nD) : Vec Ideal S1024x16 .f32 := m (c, Proc.tc.devRef main_arg5)

/-- The modulated rows, at an index. -/
theorem pay8_apply (i : grid0.Coords) (x : Vec Ideal S1x768x1024 .f32) (nw : Vec Ideal S1x1024 .f32) (s0 s1 c0 c1 : Vec Ideal S1x1x1x1024 .f32)
    (r : Fin 768) (j : Fin 1024) :
    k0_pay8 (k0_pay2 x) (k0_pay3 nw) (k0_pay4 i s0 s1) (k0_pay5 c0) (k0_pay6 c1) (k0_pay7 i) (ix2 r j)
      = modded (fun j => x (ix3 0 r j)) (fun j => nw (ix2 0 j))
          (fun j => if (i 1).val * 768 + r.val < 256 then s0 (ix4 0 0 0 j) else s1 (ix4 0 0 0 j))
          (fun j => if (i 1).val * 768 + r.val < 256 then c0 (ix4 0 0 0 j) else c1 (ix4 0 0 0 j)) j := by
  simp only [← select_row (i 1) r]
  pointwise [k0_pay8, k0_pay2, k0_pay3, k0_pay4, k0_pay5, k0_pay6, k0_pay7, modded, rms]

section
variable (v1 : FVec Ideal S768x1024 .f32) (v3 : FVec Ideal S1x1024 .f32) (v20 : FVec Ideal S768x1024 .f32) (v28 v30 : FVec Ideal S1x1024 .f32) (v32 : IVec S768x1024 1)
  (w : Vec Ideal S16x1024 .f32)

/-- What is stored of them. -/
theorem pay10_apply (r : Fin 768) (j : Fin 1024) : k0_pay10 v1 v3 v20 v28 v30 v32 (ix3 0 r j) = k0_pay8 v1 v3 v20 v28 v30 v32 (ix2 r j) := by
  pointwise [k0_pay10, k0_pay9]

/-- The exponentials of the scores less the row's greatest. -/
theorem pay11_apply (e : Fin 16) (r : Fin 768) :
    k0_pay11 v1 v3 v20 v28 v30 v32 w (ix2 e r)
      = Ideal.exp (split (fun j => k0_pay8 v1 v3 v20 v28 v30 v32 (ix2 r j)) (fun j => w (ix2 e j))
          - top fun e : Fin 16 => split (fun j => k0_pay8 v1 v3 v20 v28 v30 v32 (ix2 r j)) (fun j => w (ix2 e j))) := by
  pointwise [k0_pay11, k0_pay9, split, top]

/-- The affinities stored. -/
theorem pay1_apply (e : Fin 16) (r : Fin 768) :
    k0_pay1 (k0_pay11 v1 v3 v20 v28 v30 v32 w) (k0_pay12 v1 v3 v20 v28 v30 v32 w) (ix3 0 e r)
      = soft (fun e : Fin 16 => split (fun j => k0_pay8 v1 v3 v20 v28 v30 v32 (ix2 r j)) (fun j => w (ix2 e j))) e := by
  unfold soft
  simp only [← pay11_apply]
  pointwise [k0_pay1, k0_pay12]

end

theorem zeros3 : (![0, 0, 0] : Fin 3 → ℕ) = fun _ => 0 := by funext a; fin_cases a <;> rfl
theorem zeros2 : (![0, 0] : Fin 2 → ℕ) = fun _ => 0 := by funext a; fin_cases a <;> rfl

/-- A tile's modulated rows, of the point's blocks. -/
def rowsOf (i : grid0.Coords) (x : Vec Ideal S1x768x1024 .f32) (nw : Vec Ideal S1x1024 .f32) (g : Vec Ideal S1x2x2x1024 .f32) (r : Fin 768) (j : Fin 1024) : EReal :=
  modded (fun j => x (ix3 0 r j)) (fun j => nw (ix2 0 j))
    (fun j => if (i 1).val * 768 + r.val < 256 then g (ix4 0 0 0 j) else g (ix4 0 1 0 j))
    (fun j => if (i 1).val * 768 + r.val < 256 then g (ix4 0 0 1 j) else g (ix4 0 1 1 j)) j

theorem rowsOf_eq (i : grid0.Coords) (x : Vec Ideal S1x768x1024 .f32) (nw : Vec Ideal S1x1024 .f32) (g : Vec Ideal S1x2x2x1024 .f32) (w : Vec Ideal S16x1024 .f32)
    (r : Fin 768) (j : Fin 1024) :
    k0_pay8 (k0_pay13 i x nw g w) (k0_pay14 i x nw g w) (k0_pay15 i x nw g w) (k0_pay16 i x nw g w) (k0_pay17 i x nw g w) (k0_pay18 i x nw g w) (ix2 r j)
      = rowsOf i x nw g r j := by
  unfold k0_pay13 k0_pay14 k0_pay15 k0_pay16 k0_pay17 k0_pay18 rowsOf
  rw [View.ld_unit_zero (S := S1x768x1024) zeros3, View.ld_unit_zero (S := S1x1024) zeros2, pay8_apply]
  have e0 : ∀ j : Fin 1024, View.ld g r0_2 (ix4 0 0 0 j) = g (ix4 0 0 0 j) := fun j => congrArg g (ix4_of _ _ _ _ _ rfl rfl rfl (by show 0 + 1 * j.val = j.val; omega))
  have e1 : ∀ j : Fin 1024, View.ld g r0_3 (ix4 0 0 0 j) = g (ix4 0 1 0 j) := fun j => congrArg g (ix4_of _ _ _ _ _ rfl rfl rfl (by show 0 + 1 * j.val = j.val; omega))
  have e2 : ∀ j : Fin 1024, View.ld g r0_4 (ix4 0 0 0 j) = g (ix4 0 0 1 j) := fun j => congrArg g (ix4_of _ _ _ _ _ rfl rfl rfl (by show 0 + 1 * j.val = j.val; omega))
  have e3 : ∀ j : Fin 1024, View.ld g r0_5 (ix4 0 0 0 j) = g (ix4 0 1 1 j) := fun j => congrArg g (ix4_of _ _ _ _ _ rfl rfl rfl (by show 0 + 1 * j.val = j.val; omega))
  simp only [e0, e1, e2, e3]

/-- What the body leaves in the outputs' staging buffers. -/
theorem out4_apply (i : grid0.Coords) (x : Vec Ideal S1x768x1024 .f32) (nw : Vec Ideal S1x1024 .f32) (g : Vec Ideal S1x2x2x1024 .f32) (w : Vec Ideal S16x1024 .f32)
    (r : Fin 768) (j : Fin 1024) : out0_4 i x nw g w (ix3 0 r j) = rowsOf i x nw g r j := by
  unfold out0_4
  rw [View.canon_unit_zero (S := S1x768x1024) zeros3, pay10_apply, rowsOf_eq]

theorem out5_apply (i : grid0.Coords) (x : Vec Ideal S1x768x1024 .f32) (nw : Vec Ideal S1x1024 .f32) (g : Vec Ideal S1x2x2x1024 .f32) (w : Vec Ideal S16x1024 .f32)
    (e : Fin 16) (r : Fin 768) : out0_5 i x nw g w (ix3 0 e r) = soft (fun e => split (rowsOf i x nw g r) (fun j => w (ix2 e j))) e := by
  unfold out0_5
  rw [View.canon_unit_zero (S := S1x16x768) zeros3, View.ld_unit_zero (S := S16x1024) zeros2, pay1_apply]
  simp only [rowsOf_eq]

/-- The joined streams. -/
theorem v7_apply (c : Dev nD) (b : Fin 8) (r : Fin 2304) (k : Fin 1024) :
    (V m c main_v7 : Vec Ideal S8x2304x1024 .f32) (ix3 b r k) = joined (X m c) (C m c) b r k := by
  unfold V; after_reads_at
  rfl

/-- The weights. -/
theorem vw_apply (c : Dev nD) (j : Fin 1024) (k : Fin 16) : (V m c main_v9 : Vec Ideal S16x1024 .f32) (ix2 k j) = W m c (ix2 j k) := by
  unfold V; after_reads_at

/-- The norm's weights. -/
theorem v8_apply (c : Dev nD) (j : Fin 1024) : (V m c main_v8 : Vec Ideal S1x1024 .f32) (ix2 0 j) = Nw m c (ix1 j) := by
  unfold V; after_reads_at

/-- The shifts and scales: the context's, and the sample's. -/
theorem v6_ctx0 (c : Dev nD) (b : Fin 8) (k : Fin 1024) :
    (V m c main_v6 : Vec Ideal S8x2x2x1024 .f32) (ix4 b 0 0 k) = Mc m c (ix1 ⟨3 * 1024 + k.val, by omega⟩) := by
  unfold V; after_reads_at
  after_reads_at

theorem v6_lat0 (c : Dev nD) (b : Fin 8) (k : Fin 1024) :
    (V m c main_v6 : Vec Ideal S8x2x2x1024 .f32) (ix4 b 1 0 k) = M m c (ix2 b ⟨3 * 1024 + k.val, by omega⟩) := by
  unfold V; after_reads_at
  after_reads_at

theorem v6_ctx1 (c : Dev nD) (b : Fin 8) (k : Fin 1024) :
    (V m c main_v6 : Vec Ideal S8x2x2x1024 .f32) (ix4 b 0 1 k) = Mc m c (ix1 ⟨4 * 1024 + k.val, by omega⟩) := by
  unfold V; after_reads_at
  after_reads_at

theorem v6_lat1 (c : Dev nD) (b : Fin 8) (k : Fin 1024) :
    (V m c main_v6 : Vec Ideal S8x2x2x1024 .f32) (ix4 b 1 1 k) = M m c (ix2 b ⟨4 * 1024 + k.val, by omega⟩) := by
  unfold V; after_reads_at
  after_reads_at

/-- Where each window's block lies at a point. -/
theorem index_eq : ∀ t : Fin cfg0.N, (grid0.coords t 1).val = t.val % 3
    ∧ (win0_0.index t 0 = t.val / 3 ∧ win0_0.index t 1 = t.val % 3 ∧ win0_0.index t 2 = 0)
    ∧ (win0_1.index t 0 = 0 ∧ win0_1.index t 1 = 0)
    ∧ (win0_2.index t 0 = t.val / 3 ∧ win0_2.index t 1 = 0 ∧ win0_2.index t 2 = 0 ∧ win0_2.index t 3 = 0)
    ∧ (win0_3.index t 0 = 0 ∧ win0_3.index t 1 = 0)
    ∧ (win0_4.index t 0 = t.val / 3 ∧ win0_4.index t 1 = t.val % 3 ∧ win0_4.index t 2 = 0)
    ∧ (win0_5.index t 0 = t.val / 3 ∧ win0_5.index t 1 = 0 ∧ win0_5.index t 2 = t.val % 3) := by decide +kernel

theorem N_eq : cfg0.N = 24 := by decide

/-- A tile's sample and row. -/
abbrev smp (t : Fin cfg0.N) : Fin 8 := ⟨t.val / 3, by have := t.isLt; have := N_eq; omega⟩
abbrev row (t : Fin cfg0.N) (r : Fin 768) : Fin 2304 := ⟨t.val % 3 * 768 + r.val, by omega⟩

/-- A point's blocks. -/
theorem x_at (c : Dev nD) (t : Fin cfg0.N) (r : Fin 768) (k : Fin 1024) :
    (iblk m c 0 t : Vec Ideal S1x768x1024 .f32) (ix3 0 r k) = joined (X m c) (C m c) (smp t) (row t r) k := by
  obtain ⟨-, i0, -⟩ := index_eq t
  unfold iblk
  rw [View.read_apply]
  exact (congrArg (V m c main_v7 : Vec Ideal S8x2304x1024 .f32) (ix3_of _ (smp t) (row t r) k
    (by show win0_0.index t 0 * 1 + 1 * 0 = t.val / 3; omega)
    (by show win0_0.index t 1 * 768 + 1 * r.val = t.val % 3 * 768 + r.val; omega)
    (by show win0_0.index t 2 * 1024 + 1 * k.val = k.val; omega))).trans (v7_apply m c _ _ _)

theorem n_at (c : Dev nD) (t : Fin cfg0.N) (j : Fin 1024) :
    (iblk m c 1 t : Vec Ideal S1x1024 .f32) (ix2 0 j) = Nw m c (ix1 j) := by
  obtain ⟨-, -, i1, -⟩ := index_eq t
  unfold iblk
  rw [View.read_apply]
  exact (congrArg (V m c main_v8 : Vec Ideal S1x1024 .f32) (ix2_of _ 0 j
    (by show win0_1.index t 0 * 1 + 1 * 0 = 0; omega)
    (by show win0_1.index t 1 * 1024 + 1 * j.val = j.val; omega))).trans (v8_apply m c j)

theorem g_at (c : Dev nD) (t : Fin cfg0.N) (s n : Fin 2) (k : Fin 1024) :
    (iblk m c 2 t : Vec Ideal S1x2x2x1024 .f32) (ix4 0 s n k) = (V m c main_v6 : Vec Ideal S8x2x2x1024 .f32) (ix4 (smp t) s n k) := by
  obtain ⟨-, -, -, i2, -⟩ := index_eq t
  unfold iblk
  rw [View.read_apply]
  exact congrArg (V m c main_v6 : Vec Ideal S8x2x2x1024 .f32) (ix4_of _ (smp t) s n k
    (by show win0_2.index t 0 * 1 + 1 * 0 = t.val / 3; omega)
    (by show win0_2.index t 1 * 2 + 1 * s.val = s.val; omega)
    (by show win0_2.index t 2 * 2 + 1 * n.val = n.val; omega)
    (by show win0_2.index t 3 * 1024 + 1 * k.val = k.val; omega))

theorem w_at (c : Dev nD) (t : Fin cfg0.N) (k : Fin 16) (j : Fin 1024) :
    (iblk m c 3 t : Vec Ideal S16x1024 .f32) (ix2 k j) = W m c (ix2 j k) := by
  obtain ⟨-, -, -, -, i3, -⟩ := index_eq t
  unfold iblk
  rw [View.read_apply]
  exact (congrArg (V m c main_v9 : Vec Ideal S16x1024 .f32) (ix2_of _ k j
    (by show win0_3.index t 0 * 16 + 1 * k.val = k.val; omega)
    (by show win0_3.index t 1 * 1024 + 1 * j.val = j.val; omega))).trans (vw_apply m c j k)

/-- The results at an index: the modulated rows, and the affinities. -/
def hidden (c : Dev nD) : Fin 8 → Fin 2304 → Fin 1024 → EReal := Cert.Route.row (X m c) (C m c) (M m c) (Mc m c) (Nw m c)

def affinity (c : Dev nD) (b : Fin 8) (e : Fin 16) (r : Fin 2304) : EReal :=
  soft (fun e => split (hidden m c b r) (fun j => W m c (ix2 j e))) e

/-- A row's shift and scale. -/
theorem shift_at (c : Dev nD) (t : Fin cfg0.N) (r : Fin 768) (k : Fin 1024) :
    (if t.val % 3 * 768 + r.val < 256 then (iblk m c 2 t : Vec Ideal S1x2x2x1024 .f32) (ix4 0 0 0 k) else (iblk m c 2 t : Vec Ideal S1x2x2x1024 .f32) (ix4 0 1 0 k))
      = modv (M m c) (Mc m c) 3 (smp t) (row t r) k := by
  rw [g_at, g_at, v6_ctx0, v6_lat0]
  rfl

theorem scale_at (c : Dev nD) (t : Fin cfg0.N) (r : Fin 768) (k : Fin 1024) :
    (if t.val % 3 * 768 + r.val < 256 then (iblk m c 2 t : Vec Ideal S1x2x2x1024 .f32) (ix4 0 0 1 k) else (iblk m c 2 t : Vec Ideal S1x2x2x1024 .f32) (ix4 0 1 1 k))
      = modv (M m c) (Mc m c) 4 (smp t) (row t r) k := by
  rw [g_at, g_at, v6_ctx1, v6_lat1]
  rfl

/-- A tile's modulated rows are the joined streams'. -/
theorem rows_at (c : Dev nD) (t : Fin cfg0.N) (r : Fin 768) :
    rowsOf (grid0.coords t) (iblk m c 0 t) (iblk m c 1 t) (iblk m c 2 t) r = hidden m c (smp t) (row t r) := by
  funext k
  unfold rowsOf
  rw [(index_eq t).1, funext (x_at m c t r), funext (n_at m c t), funext (shift_at m c t r), funext (scale_at m c t r)]
  rfl

/-- What a point leaves. -/
theorem point_rows (c : Dev nD) (t : Fin cfg0.N) (r : Fin 768) (k : Fin 1024) :
    (out0_4 (grid0.coords t) (iblk m c 0 t) (iblk m c 1 t) (iblk m c 2 t) (iblk m c 3 t) : Vec Ideal S1x768x1024 .bf16) (ix3 0 r k)
      = hidden m c (smp t) (row t r) k := by
  refine (out4_apply ..).trans ?_
  rw [rows_at]

theorem point_affinity (c : Dev nD) (t : Fin cfg0.N) (e : Fin 16) (r : Fin 768) :
    (out0_5 (grid0.coords t) (iblk m c 0 t) (iblk m c 1 t) (iblk m c 2 t) (iblk m c 3 t) : Vec Ideal S1x16x768 .f32) (ix3 0 e r)
      = affinity m c (smp t) e (row t r) := by
  refine (out5_apply ..).trans ?_
  rw [rows_at]
  simp only [w_at]
  rfl

end Cert.RouterIdeal.Whole
end
-- ==== Proof.RouterClaims.lean ====
/-
  The router: the kernel's result arrays, the reference's, and that they are equal for arguments whose entries are real numbers.
-/
module

public import proofs.«01_k».proof.Proof.RouterBlock
public import proofs.«01_k».proof.Defs
public import proofs.«01_k».proof.Proof.Gen.Router
public import proofs.«01_k».proof.Proof.Gen.Router.Frame
public import proofs.«01_k».proof.Proof.Gen.RouterRefIdeal
public import proofs.«01_k».proof.Proof.Gen.RouterRefIdeal.Run
public import proofs.«01_k».proof.Proof.Gen.RouterRefIdeal.Read
public import proofs.«01_k».proof.Proof.MlaClaims
public import proofs.«01_k».proof.Proof.Gen.Pre_real
public import Idealize.ShloMosaic.Lib.Quiescent
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.RouterIdeal.Whole

open Cert.RouterIdeal Cert.RouterIdeal.Gen Cert.Streams
open Cert.FfnSpec (ix3_of)

variable (m : (ℓ : Loc nD τ sig) → Buf (Elt Ideal) ℓ) (ρ : Dev nD → PrngReg)

/-- The result array's finalRows contents. -/
abbrev finalRows (c : Dev nD) : Buf (Elt Ideal) ((c : Thread nD τ).loc main_v10_0) := fun i => hidden m c (i 0) (i 1) (i 2)

/-- A write-back writes the point's rows of the result. -/
theorem flushed_rows (c : Dev nD) (t : Fin cfg0.N) (hf : (cfg0.win 4).flush t = true) :
    (dats m 0 c).flushed 4 t = ((cfg0.win 4).blk t).view.read (Elt Ideal) (finalRows m c) := by
  have key := point_rows m c t
  rw [Value.flushed4]
  generalize out0_4 (grid0.coords t) (iblk m c 0 t) (iblk m c 1 t) (iblk m c 2 t) (iblk m c 3 t) = o at key ⊢
  funext y
  have hy : (y 0).val < 1 := (y 0).isLt
  rw [View.read_apply]
  refine ((congrArg o (ix3_of (y : S1x768x1024.Idx) 0 (y 1) (y 2) (by show (y 0).val = 0; omega) rfl rfl)).trans (key (y 1) (y 2))).trans ?_
  exact tile_at (hidden m c) (win0_4.index t) t.val (index_eq t).2.2.2.2.2.1 (y : S1x768x1024.Idx) _ _ _ rfl rfl rfl rfl rfl

/-- An index of the array is in point `t`'s block when its sample and row are. -/
theorem mem_rows (t : Fin cfg0.N) (i : S8x2304x1024.Idx) (h : (i 0).val = t.val / 3) (h' : (i 1).val / 768 = t.val % 3) :
    i ∈ ((cfg0.win 4).blk t).view.set := by
  show i ∈ ((View.whole main_v10_0).slice (win0_4.rect t)).set
  rw [View.set_slice_whole, Rect.mem_set_unit]
  exact tile_mem (win0_4.index t) i t.val (index_eq t).2.2.2.2.2.1 h h'

/-- So the result array ends holding the result. -/
theorem rows_eq (c : Dev nD) : (dats m 0 c).arrAt 4 cfg0.N = finalRows m c :=
  (dats m 0 c).arrAt_eq_of_cover 4 (finalRows m c) (flushed_rows m c) fun i => by
    have h0 : (i 0 : ℕ) < 8 := (i 0).isLt
    have h1 : (i 1 : ℕ) < 2304 := (i 1).isLt
    have hN := N_eq
    refine ⟨⟨(i 0 : ℕ) * 3 + (i 1 : ℕ) / 768, by omega⟩, flush0_4 _, mem_rows _ i ?_ ?_⟩
    · dsimp only; omega
    · dsimp only; omega

/-- The second result array's final contents: the affinities. -/
abbrev finalAff (c : Dev nD) : Buf (Elt Ideal) ((c : Thread nD τ).loc main_v10_1) := fun i => affinity m c (i 0) (i 1) (i 2)

/-- A write-back writes the affinities of the point's rows. -/
theorem flushed_aff (c : Dev nD) (t : Fin cfg0.N) (hf : (cfg0.win 5).flush t = true) :
    (dats m 0 c).flushed 5 t = ((cfg0.win 5).blk t).view.read (Elt Ideal) (finalAff m c) := by
  have key := point_affinity m c t
  rw [Value.flushed5]
  generalize out0_5 (grid0.coords t) (iblk m c 0 t) (iblk m c 1 t) (iblk m c 2 t) (iblk m c 3 t) = o at key ⊢
  funext y
  have hy : (y 0).val < 1 := (y 0).isLt
  obtain ⟨i0, i1, i2⟩ := (index_eq t).2.2.2.2.2.2
  rw [View.read_apply]
  refine ((congrArg o (ix3_of (y : S1x16x768.Idx) 0 (y 1) (y 2) (by show (y 0).val = 0; omega) rfl rfl)).trans (key (y 1) (y 2))).trans ?_
  exact congr3 (affinity m c)
    (Fin.ext (by show t.val / 3 = win0_5.index t 0 * 1 + 1 * (y 0).val; omega))
    (Fin.ext (by show (y 1).val = win0_5.index t 1 * 16 + 1 * (y 1).val; omega))
    (Fin.ext (by show t.val % 3 * 768 + (y 2).val = win0_5.index t 2 * 768 + 1 * (y 2).val; omega))

/-- An index of the array is in point `t`'s block when its sample and row are. -/
theorem mem_aff (t : Fin cfg0.N) (i : S8x16x2304.Idx) (h : (i 0).val = t.val / 3) (h' : (i 2).val / 768 = t.val % 3) :
    i ∈ ((cfg0.win 5).blk t).view.set := by
  obtain ⟨i0, i1, i2⟩ := (index_eq t).2.2.2.2.2.2
  have h1 : (i 1 : ℕ) < 16 := (i 1).isLt
  show i ∈ ((View.whole main_v10_1).slice (win0_5.rect t)).set
  rw [View.set_slice_whole, Rect.mem_set_unit]
  intro a
  match a with
  | ⟨0, _⟩ => exact ⟨by show win0_5.index t 0 * 1 ≤ (i 0).val; omega, by show (i 0).val < win0_5.index t 0 * 1 + 1; omega⟩
  | ⟨1, _⟩ => exact ⟨by show win0_5.index t 1 * 16 ≤ (i 1).val; omega, by show (i 1).val < win0_5.index t 1 * 16 + 16; omega⟩
  | ⟨2, _⟩ => exact ⟨by show win0_5.index t 2 * 768 ≤ (i 2).val; omega, by show (i 2).val < win0_5.index t 2 * 768 + 768; omega⟩

/-- So the second result array ends holding the affinities. -/
theorem aff_eq (c : Dev nD) : (dats m 0 c).arrAt 5 cfg0.N = finalAff m c :=
  (dats m 0 c).arrAt_eq_of_cover 5 (finalAff m c) (flushed_aff m c) fun i => by
    have h0 : (i 0 : ℕ) < 8 := (i 0).isLt
    have h2 : (i 2 : ℕ) < 2304 := (i 2).isLt
    have hN := N_eq
    refine ⟨⟨(i 0 : ℕ) * 3 + (i 2 : ℕ) / 768, by omega⟩, flush0_5 _, mem_aff _ i ?_ ?_⟩
    · dsimp only; omega
    · dsimp only; omega

end Cert.RouterIdeal.Whole

namespace Cert.RouterRefIdeal.Whole

open Cert.RouterRefIdeal Cert.RouterRefIdeal.Gen Cert.RouterRefIdeal.Read Cert.Streams
open Cert.Route (row split soft split_eq)
open Cert.KernelIdeal.Tile (top)
open Cert.MlaSpec (IsR rms_isR bits_bot)

/-- The reference's modulated rows: the latents' and the context's. -/
theorem lat_apply (x0 : Vec Ideal S8x2048x1024 .f32) (x2 : Vec Ideal S8x6144 .f32) (x4 : Vec Ideal S1024 .f32) (b : Fin 8) (r : Fin 2048) (j : Fin 1024) :
    val_main_v31 (F := Ideal) x0 x2 x4 (ix3 b r j) = modded (fun j => x0 (ix3 b r j)) (fun j => x4 (ix1 j))
      (fun j => x2 (ix2 b ⟨3 * 1024 + j.val, by omega⟩)) (fun j => x2 (ix2 b ⟨4 * 1024 + j.val, by omega⟩)) j := by
  pointwise [val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v5, val_main_v4,
    val_main_v0, val_main_cst, val_main_cst_0, val_main_cst_1, val_main_cst_2, modded, rms]

theorem ctx_apply (x1 : Vec Ideal S8x256x1024 .f32) (x3 : Vec Ideal S6144 .f32) (x4 : Vec Ideal S1024 .f32) (b : Fin 8) (r : Fin 256) (j : Fin 1024) :
    val_main_v52 (F := Ideal) x1 x3 x4 (ix3 b r j) = modded (fun j => x1 (ix3 b r j)) (fun j => x4 (ix1 j))
      (fun j => x3 (ix1 ⟨3 * 1024 + j.val, by omega⟩)) (fun j => x3 (ix1 ⟨4 * 1024 + j.val, by omega⟩)) j := by
  pointwise [val_main_v52, val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34, val_main_v33, val_main_v32,
    val_main_v11, val_main_v10, val_main_cst_3, val_main_cst_4, val_main_cst_5, val_main_cst_6, modded, rms]

/-- A modulated context row, and a modulated latent one. -/
theorem row_ctx (x0 : Vec Ideal S8x2048x1024 .f32) (x1 : Vec Ideal S8x256x1024 .f32) (x2 : Vec Ideal S8x6144 .f32) (x3 : Vec Ideal S6144 .f32)
    (x4 : Vec Ideal S1024 .f32) (b : Fin 8) (r : Fin 2304) (j : Fin 1024) (h : r.val < 256) :
    row x0 x1 x2 x3 x4 b r j = modded (fun j => x1 (ix3 b ⟨r.val, h⟩ j)) (fun j => x4 (ix1 j))
      (fun j => x3 (ix1 ⟨3 * 1024 + j.val, by omega⟩)) (fun j => x3 (ix1 ⟨4 * 1024 + j.val, by omega⟩)) j := by
  unfold row
  rw [show joined x0 x1 b r = fun j => x1 (ix3 b ⟨r.val, h⟩ j) from funext fun j => joined_ctx x0 x1 b r j h,
    show modv x2 x3 3 b r = fun j => x3 (ix1 ⟨3 * 1024 + j.val, by omega⟩) from funext fun j => if_pos h,
    show modv x2 x3 4 b r = fun j => x3 (ix1 ⟨4 * 1024 + j.val, by omega⟩) from funext fun j => if_pos h]

theorem row_lat (x0 : Vec Ideal S8x2048x1024 .f32) (x1 : Vec Ideal S8x256x1024 .f32) (x2 : Vec Ideal S8x6144 .f32) (x3 : Vec Ideal S6144 .f32)
    (x4 : Vec Ideal S1024 .f32) (b : Fin 8) (r : Fin 2304) (j : Fin 1024) (h : ¬ r.val < 256) :
    row x0 x1 x2 x3 x4 b r j = modded (fun j => x0 (ix3 b ⟨r.val - 256, by omega⟩ j)) (fun j => x4 (ix1 j))
      (fun j => x2 (ix2 b ⟨3 * 1024 + j.val, by omega⟩)) (fun j => x2 (ix2 b ⟨4 * 1024 + j.val, by omega⟩)) j := by
  unfold row
  rw [show joined x0 x1 b r = fun j => x0 (ix3 b ⟨r.val - 256, by omega⟩ j) from funext fun j => joined_lat x0 x1 b r j h,
    show modv x2 x3 3 b r = fun j => x2 (ix2 b ⟨3 * 1024 + j.val, by omega⟩) from funext fun j => if_neg h,
    show modv x2 x3 4 b r = fun j => x2 (ix2 b ⟨4 * 1024 + j.val, by omega⟩) from funext fun j => if_neg h]

/-- The reference's rows, at an index. -/
theorem v53_apply (x0 : Vec Ideal S8x2048x1024 .f32) (x1 : Vec Ideal S8x256x1024 .f32) (x2 : Vec Ideal S8x6144 .f32) (x3 : Vec Ideal S6144 .f32)
    (x4 : Vec Ideal S1024 .f32) (b : Fin 8) (r : Fin 2304) (j : Fin 1024) :
    val_main_v53 (F := Ideal) x0 x1 x2 x3 x4 (ix3 b r j) = row x0 x1 x2 x3 x4 b r j := by
  by_cases h : r.val < 256
  · rw [row_ctx _ _ _ _ _ _ _ _ h]
    pointwise [val_main_v53]
    rw [dif_pos h]
    exact ctx_apply ..
  · rw [row_lat _ _ _ _ _ _ _ _ h]
    pointwise [val_main_v53]
    rw [dif_neg h]
    exact lat_apply ..

section
variable (x0 : Vec Ideal S8x2048x1024 .f32) (x1 : Vec Ideal S8x256x1024 .f32) (x2 : Vec Ideal S8x6144 .f32) (x3 : Vec Ideal S6144 .f32)
    (x4 : Vec Ideal S1024 .f32) (x5 : Vec Ideal S1024x16 .f32) (b : Fin 8) (r : Fin 2304)

/-- The rows as the first result holds them. -/
theorem v66_apply (j : Fin 1024) : val_main_v66 (F := Ideal) x0 x1 x2 x3 x4 (ix3 b r j) = row x0 x1 x2 x3 x4 b r j := by
  pointwise [val_main_v66, v53_apply]

/-- A row's scores. -/
theorem v54_apply (e : Fin 16) : val_main_v54 (F := Ideal) x0 x1 x2 x3 x4 x5 (ix3 b r e) = ∑ j : Fin 1024, row x0 x1 x2 x3 x4 b r j * x5 (ix2 j e) := by
  pointwise [val_main_v54, v53_apply]

/-- The greatest of a row's scores. -/
theorem v57_apply : val_main_v57 (F := Ideal) x0 x1 x2 x3 x4 x5 (ix2 b r) = top fun e : Fin 16 => val_main_v54 (F := Ideal) x0 x1 x2 x3 x4 x5 (ix3 b r e) := by
  rw [val_main_v57_apply, val_main_v56_apply]
  unfold val_main_v55
  show max (Ideal.ofBits .f32 0xFF800000#32) (Host.reduce (max : EReal → EReal → EReal) (val_main_v54 (F := Ideal) x0 x1 x2 x3 x4 x5) (val_main_cst_7 (F := Ideal))
    reducesTo_S8x2304x16_S8x2304_d2 h_S_ (ix2 b r)) = _
  rw [bits_bot, max_eq_right bot_le, Host.reduce_eq_fold_single max _ _ reducesTo_S8x2304x16_S8x2304_d2 (by decide) h_S_]
  refine congrArg (fun g => Finset.fold max _ g _) (funext fun k => ?_)
  exact congrArg (val_main_v54 (F := Ideal) x0 x1 x2 x3 x4 x5) (funext fun a => Fin.ext (by match a with | ⟨0, _⟩ => rfl | ⟨1, _⟩ => rfl | ⟨2, _⟩ => rfl))

/-- The affinities as the second result holds them. -/
theorem v67_apply (e : Fin 16) : val_main_v67 (F := Ideal) x0 x1 x2 x3 x4 x5 (ix3 b e r)
    = soft (fun e => ∑ j : Fin 1024, row x0 x1 x2 x3 x4 b r j * x5 (ix2 j e)) e := by
  simp only [← v54_apply]
  pointwise [val_main_v67, val_main_v65, val_main_v64, val_main_v63, val_main_v62, val_main_v61, val_main_v60, val_main_v59, val_main_v58, val_main_cst_9,
    v57_apply, soft]

/-- A row of real numbers, modulated by real numbers, is one. -/
theorem row_isR (h0 : ∀ i, IsR (x0 i)) (h1 : ∀ i, IsR (x1 i)) (h2 : ∀ i, IsR (x2 i)) (h3 : ∀ i, IsR (x3 i)) (h4 : ∀ i, IsR (x4 i)) (j : Fin 1024) :
    IsR (row x0 x1 x2 x3 x4 b r j) := by
  have hj : ∀ j, IsR (joined x0 x1 b r j) := fun j => by
    unfold joined; split
    · exact h1 _
    · exact h0 _
  have hm : ∀ n j, IsR (modv x2 x3 n b r j) := fun n j => by
    unfold modv; split
    · exact h3 _
    · exact h2 _
  have hk : Ideal.ofBits .f32 0x44800000#32 = ((1024 : ℝ) : EReal) := by
    simp [Ideal.ofBits, Ideal.ieee]
    rw [← EReal.coe_mul]; norm_num
  have h1' : Ideal.ofBits .f32 0x3F800000#32 = (1 : EReal) := Cert.FfnSpec.one_bits
  unfold row modded rms
  rw [hk, h1']
  exact ((rms_isR (N := 1024) (by norm_num) hj (fun j => h4 (ix1 j)) j).mul (Cert.MlaSpec.isR_one.add (hm 4 j))).add (hm 3 j)

end

end Cert.RouterRefIdeal.Whole

namespace Cert.RouterProof

open Cert.MlaSpec (IsR)
open Cert.MlaProof (and_one isR_of_lt)

/-- The precondition says that every entry of every argument is a real number. -/
theorem real_isR [hp : Cert.Pre_real.Facts] {a0 : FVec Ideal Cert.Pre_real.S8x2048x1024 .f32} {a1 : FVec Ideal Cert.Pre_real.S8x256x1024 .f32}
    {a2 : FVec Ideal Cert.Pre_real.S8x6144 .f32} {a3 : FVec Ideal Cert.Pre_real.S6144 .f32} {a4 : FVec Ideal Cert.Pre_real.S1024 .f32} {a5 : FVec Ideal Cert.Pre_real.S1024x16 .f32}
    (h : Cert.Pre_real.fn (F := Ideal) a0 a1 a2 a3 a4 a5 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) := by
  have e := congrFun h (fun a => a.elim0)
  unfold Cert.Pre_real.fn Cert.Pre_real.fn_part1 at e
  dsimp only at e
  haveI : Subsingleton Cert.Pre_real.S_.Idx := ⟨fun a b => funext fun x => x.elim0⟩
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  exact ⟨fun i => isR_of_lt (Host.reduce_andi_all _ _ _ _ _ e0 i), fun i => isR_of_lt (Host.reduce_andi_all _ _ _ _ _ e1 i),
    fun i => isR_of_lt (Host.reduce_andi_all _ _ _ _ _ e2 i), fun i => isR_of_lt (Host.reduce_andi_all _ _ _ _ _ e3 i),
    fun i => isR_of_lt (Host.reduce_andi_all _ _ _ _ _ e4 i), fun i => isR_of_lt (Host.reduce_andi_all _ _ _ _ _ e5 i)⟩

section
open Cert.RouterIdeal Cert.RouterIdeal.Whole

variable (m : (ℓ : Loc nD τ sig) → Buf (Elt Ideal) ℓ)

/-- The kernel's affinities are the reference's, for real arguments. -/
theorem affinity_eq [Cert.Pre_real.Facts] (hpre : Cert.Pre_RouterIdeal_real m) (c : Dev nD) (b : Fin 8) (e : Fin 16) (r : Fin 2304) :
    affinity m c b e r = Cert.Route.soft (fun e => ∑ j : Fin 1024, Cert.Route.row (X m c) (C m c) (M m c) (Mc m c) (Nw m c) b r j * W m c (ix2 j e)) e := by
  obtain ⟨f0, f1, f2, f3, f4, f5⟩ := real_isR (hpre c)
  unfold affinity
  refine congrArg (Cert.Route.soft · e) (funext fun e => ?_)
  exact Cert.Route.split_eq _ _ (fun j => Cert.RouterRefIdeal.Whole.row_isR _ _ _ _ _ b r f0 f1 f2 f3 f4 j) (fun j => f5 _)

end

/-- The printed kernel runs and leaves its arguments and semaphores as they were. -/
theorem frame : Cert.quiescent_Router := fun m ρ _ => Cert.Router.Gen.frame m ρ

/-- So does its reading over the extended reals, with the precondition and without. -/
theorem frame_ideal : Cert.quiescent_RouterIdeal := fun m ρ _ => Cert.RouterIdeal.Gen.frame m ρ
theorem frame_ideal_real [Cert.Pre_real.Facts] : Cert.quiescent_RouterIdeal_pre_real := fun m ρ _ => Cert.RouterIdeal.Gen.frame m ρ

/-- So does the reference. -/
theorem frame_ref : Cert.quiescent_RouterRefIdeal := fun m ρ _ =>
  (θ_run Cert.RouterRefIdeal.defs _ _).mono (fun r h => ⟨fun c => (h c).2.2, sem_eq_zero_of_no_sems (by decide) r.2⟩)
    (Cert.RouterRefIdeal.Value.run (F := Ideal) m ρ)
theorem frame_ref_real [Cert.Pre_real.Facts] : Cert.quiescent_RouterRefIdeal_pre_real := fun m ρ _ => frame_ref m ρ trivial

/-- Kernel and reference end with equal results, over the extended reals, for real arguments. -/
theorem algebraic [Cert.Pre_real.Facts] : Cert.algebraic_RouterIdeal_RouterRefIdeal_pre_real := fun m ρ m' ρ' hpre hag =>
  ⟨fun c => Cert.RouterIdeal.Whole.finalRows m c, fun c => Cert.RouterIdeal.Whole.finalAff m c,
    (θ_run Cert.RouterIdeal.defs _ _).mono (fun _ h c => ⟨(h c).1.trans (Cert.RouterIdeal.Whole.rows_eq m c),
      (h c).2.1.trans (Cert.RouterIdeal.Whole.aff_eq m c), (h c).2.2⟩) (Cert.RouterIdeal.Value.run_blocks m ρ),
    (θ_run Cert.RouterRefIdeal.defs _ _).mono (fun _ h c => ⟨by
      refine ((h c).1.trans (Cert.RouterRefIdeal.Read.val_main_v66_eq ..)).trans ?_
      obtain ⟨g0, g1, g2, g3, g4, g5⟩ := hag c
      rw [g0, g1, g2, g3, g4]
      funext i
      refine (congrArg _ (Cert.FfnSpec.ix3_of i (i 0) (i 1) (i 2) rfl rfl rfl)).trans ?_
      exact Cert.RouterRefIdeal.Whole.v66_apply _ _ _ _ _ (i 0) (i 1) (i 2), by
      refine ((h c).2.1.trans (Cert.RouterRefIdeal.Read.val_main_v67_eq m' c)).trans ?_
      obtain ⟨g0, g1, g2, g3, g4, g5⟩ := hag c
      rw [g0, g1, g2, g3, g4, g5]
      funext i
      refine (congrArg _ (Cert.FfnSpec.ix3_of i (i 0) (i 1) (i 2) rfl rfl rfl)).trans ?_
      exact (Cert.RouterRefIdeal.Whole.v67_apply _ _ _ _ _ _ (i 0) (i 2) (i 1)).trans (affinity_eq m hpre c (i 0) (i 1) (i 2)).symm, (h c).2.2⟩)
    (Cert.RouterRefIdeal.Value.run (F := Ideal) m' ρ')⟩

end Cert.RouterProof
end
-- ==== Proof.Ffn3Block.lean ====
/-
  The expert feed-forward kernel over 2048 rows, one grid point: what the body leaves in the output's staging buffer,
  read at an index over the extended reals. A point holds one expert's rows and one block of 512 hidden columns, and adds
  to the buffer (zero before the first block) the part of the second product that those columns give.
-/
module

public import proofs.«01_k».proof.Proof.Gen.Ffn3Ideal.Value
public import proofs.«01_k».proof.Proof.FfnLayer

@[expose] public section

set_option maxRecDepth 16384

noncomputable section

open Idealize.ShloMosaic Idealize.ShloMosaic.TcCoe Idealize.SL.Sem

namespace Cert.Ffn3Ideal.Block

open Cert.Ffn3Ideal Cert.Ffn3Ideal.Gen Cert.FfnSpec

/-- The body's payload for one group of 512 rows: the old contents plus the block's part. -/
theorem step : Step (G := 512) fun w1 w3 w2 x o => k0_pay7 w1 w3 w2 x o := fun w1 w3 w2 x o a r d => by
  pointwise [k0_pay7, k0_pay3, k0_pay4, k0_pay5, part, hid]

/-- The block an expert's first point starts from is zero. -/
theorem pay6_apply (y : S1x2048x1024.Idx) : k0_pay6 (F := Ideal) y = 0 := by
  rw [show k0_pay6 (F := Ideal) y = Ideal.ofBits .f32 0x00000000#32 from rfl]
  simp [Ideal.ofBits, Ideal.ieee]

/-- A point after an expert's first one adds its block's part to what the buffer held. -/
theorem out_B (c : Dev nD) (i : grid0.Coords) (a2 : Memref sig .tc .vmem S1x2048x1024 .bf16) (h2 : a2.IsWhole)
    (a3 : Memref sig .tc .vmem S1x1x1024x512 .f32) (h3 : a3.IsWhole) (a4 : Memref sig .tc .vmem S1x1x1024x512 .f32) (h4 : a4.IsWhole)
    (a5 : Memref sig .tc .vmem S1x1x512x1024 .f32) (h5 : a5.IsWhole) (a6 : Memref sig .tc .vmem S1x2048x1024 .f32) (h6 : a6.IsWhole)
    (hc : ¬cond0_0 i) (x : Vec Ideal S1x2048x1024 .bf16) (w1 w3 : Vec Ideal S1x1x1024x512 .f32) (w2 : Vec Ideal S1x1x512x1024 .f32)
    (xo : Vec Ideal S1x2048x1024 .f32) (y : S1x2048x1024.Idx) :
    out0_B_4 c i a2 h2 a3 h3 a4 h4 a5 h5 a6 h6 hc x w1 w3 w2 xo y = xo y + part x w1 w3 w2 (y 1) (y 2) := by
  unfold out0_B_4
  rw [View.read_writes_eq_canon _ _ _ (cover0_B_4 c i a2 h2 a3 h3 a4 h4 a5 h5 a6 h6 hc x w1 w3 w2 xo)]
  have hcov := cover0_B_4 c i a2 h2 a3 h3 a4 h4 a5 h5 a6 h6 hc x w1 w3 w2 xo y
  revert hcov
  unfold kernelRun0_B
  dsimp only
  sl_unfold_words
  simp only [View.readAt_eq_ld, h2.read_unread, h3.read_unread, h4.read_unread, h5.read_unread, h6.read_unread]
  intro hcov
  canon_tiles z h using hcov
  · exact (tile_apply step 1536 _ _ _ _ x w1 w3 w2 _ y z h1 h2).trans (congrArg (· + _) (ld_apply 1536 _ xo y z h0 h1 h2))
  · exact (tile_apply step 1024 _ _ _ _ x w1 w3 w2 _ y z h1 h2).trans (congrArg (· + _) (ld_apply 1024 _ xo y z h0 h1 h2))
  · exact (tile_apply step 512 _ _ _ _ x w1 w3 w2 _ y z h1 h2).trans (congrArg (· + _) (ld_apply 512 _ xo y z h0 h1 h2))
  · exact (tile_apply step 0 _ _ _ _ x w1 w3 w2 _ y z (h1.trans (Nat.zero_add _).symm) h2).trans
      (congrArg (· + _) (ld_apply 0 _ xo y z h0 (h1.trans (Nat.zero_add _).symm) h2))

/-- An expert's first point leaves its block's part, added to zero. -/
theorem out_A (c : Dev nD) (i : grid0.Coords) (a2 : Memref sig .tc .vmem S1x2048x1024 .bf16) (h2 : a2.IsWhole)
    (a3 : Memref sig .tc .vmem S1x1x1024x512 .f32) (h3 : a3.IsWhole) (a4 : Memref sig .tc .vmem S1x1x1024x512 .f32) (h4 : a4.IsWhole)
    (a5 : Memref sig .tc .vmem S1x1x512x1024 .f32) (h5 : a5.IsWhole) (a6 : Memref sig .tc .vmem S1x2048x1024 .f32) (h6 : a6.IsWhole)
    (hc : cond0_0 i) (x : Vec Ideal S1x2048x1024 .bf16) (w1 w3 : Vec Ideal S1x1x1024x512 .f32) (w2 : Vec Ideal S1x1x512x1024 .f32)
    (y : S1x2048x1024.Idx) :
    out0_A_4 c i a2 h2 a3 h3 a4 h4 a5 h5 a6 h6 hc x w1 w3 w2 y = part x w1 w3 w2 (y 1) (y 2) := by
  unfold out0_A_4
  rw [View.read_writes_eq_canon _ _ _ (cover0_A_4 c i a2 h2 a3 h3 a4 h4 a5 h5 a6 h6 hc x w1 w3 w2)]
  unfold kernelRun0_A
  dsimp only
  sl_unfold_words
  simp only [View.readAt_eq_ld, h2.read_unread, h3.read_unread, h4.read_unread, h5.read_unread]
  refine View.canon_append_of_pieces (Val := Elt Ideal) (e := .f32) (S := S1x2048x1024) (fun y => part x w1 w3 w2 (y 1) (y 2)) [_] [_, _, _, _] ?_ y (View.cover_of_tiled_head _ _ _ (by rfl) y)
  intro p hp
  simp only [List.mem_cons, List.not_mem_nil, or_false] at hp
  obtain rfl | rfl | rfl | rfl := hp
  · exact piece_apply step _ pay6_apply 1536 _ _ _ _ _ x w1 w3 w2 _
      ((View.readCov_skip _ _ _ _ _ rfl).trans ((View.readCov_skip _ _ _ _ _ rfl).trans ((View.readCov_skip _ _ _ _ _ rfl).trans (readCov_filled _ _ _ _))))
  · exact piece_apply step _ pay6_apply 1024 _ _ _ _ _ x w1 w3 w2 _
      ((View.readCov_skip _ _ _ _ _ rfl).trans ((View.readCov_skip _ _ _ _ _ rfl).trans (readCov_filled _ _ _ _)))
  · exact piece_apply step _ pay6_apply 512 _ _ _ _ _ x w1 w3 w2 _
      ((View.readCov_skip _ _ _ _ _ rfl).trans (readCov_filled _ _ _ _))
  · exact piece_apply step _ pay6_apply 0 _ _ _ _ _ x w1 w3 w2 _
      (readCov_filled _ _ _ _)

end Cert.Ffn3Ideal.Block
end
-- ==== Proof.Ffn3Claims.lean ====
/-
  The expert feed-forward of layer index 3: its kernel's result array, the reference's, and that they are equal.
-/
module

public import proofs.«01_k».proof.Defs
public import proofs.«01_k».proof.Proof.Ffn3Block
public import proofs.«01_k».proof.Proof.FfnGrid
public import proofs.«01_k».proof.Proof.Gen.Ffn3
public import proofs.«01_k».proof.Proof.Gen.Ffn3.Frame
public import proofs.«01_k».proof.Proof.Gen.Ffn3Ideal.Value
public import proofs.«01_k».proof.Proof.Gen.FfnRef3Ideal
public import proofs.«01_k».proof.Proof.Gen.FfnRef3Ideal.Run
public import proofs.«01_k».proof.Proof.Gen.FfnRef3Ideal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Ffn3Ideal.Whole

open Cert.Ffn3Ideal Cert.Ffn3Ideal.Gen Cert.FfnSpec Cert.Ffn3Ideal.Block

variable (m : (ℓ : Loc nD τ sig) → Buf (Elt Ideal) ℓ) (ρ : Dev nD → PrngReg)

/-- The four arguments as launched. -/
abbrev X (c : Dev nD) : Vec Ideal S16x2048x1024 .bf16 := m ((c : Thread nD τ).loc main_arg0)
abbrev W1 (c : Dev nD) : Vec Ideal S4x16x1024x2048 .f32 := m ((c : Thread nD τ).loc main_arg1)
abbrev W3 (c : Dev nD) : Vec Ideal S4x16x1024x2048 .f32 := m ((c : Thread nD τ).loc main_arg2)
abbrev W2 (c : Dev nD) : Vec Ideal S4x16x2048x1024 .f32 := m ((c : Thread nD τ).loc main_arg3)

theorem N_eq : cfg0.N = 64 := N_0

/-- Where each window's block lies at a point. -/
theorem index_eq : ∀ t : Fin cfg0.N,
    Lies 3 t.val (win0_0.index t) (win0_1.index t) (win0_2.index t) (win0_3.index t) (win0_4.index t) := by decide +kernel

/-- A point's part, from the arguments. -/
theorem point (c : Dev nD) (t : Fin cfg0.N) (r : Fin 2048) (d : Fin 1024) :
    part (R := 2048) (iblk m c 0 t) (iblk m c 1 t) (iblk m c 2 t) (iblk m c 3 t) r d
      = partOf 3 (X m c) (W1 m c) (W3 m c) (W2 m c) (expert t.val (t.isLt.trans_eq N_eq)) r d (block t.val) :=
  part_at 3 (X m c) (W1 m c) (W3 m c) (W2 m c) t.val (t.isLt.trans_eq N_eq) (index_eq t) (fun y => ⟨_, View.read_apply .., fun a => rfl⟩)
    (fun y => ⟨_, View.read_apply .., fun a => rfl⟩) (fun y => ⟨_, View.read_apply .., fun a => rfl⟩) (fun y => ⟨_, View.read_apply .., fun a => rfl⟩) r d

/-- The result array's final contents. -/
abbrev final (c : Dev nD) : Buf (Elt Ideal) ((c : Thread nD τ).loc main_v0) :=
  fun i => result 3 (X m c) (W1 m c) (W3 m c) (W2 m c) (i 0) (i 1) (i 2)

/-- A write-back (after an expert's last block) writes the expert's part of the result. -/
theorem flushed_eq (c : Dev nD) (t : Fin cfg0.N) (hf : (cfg0.win 4).flush t = true) :
    (dats m 0 c).flushed 4 t = ((cfg0.win 4).blk t).view.read (Elt Ideal) (final m c) := by
  rw [Value.flushed4]
  funext y
  rw [View.read_apply]
  exact written 3 (X m c) (W1 m c) (W3 m c) (W2 m c) (fun n h => outsAt0 m c n (h.trans_eq N_eq.symm))
    (fun n h h0 y => by
      rw [outsAt0_A m c ⟨n, h.trans_eq N_eq.symm⟩ h0, out_A]
      exact point m c ⟨n, h.trans_eq N_eq.symm⟩ (y 1) (y 2))
    (fun n h h0 y => by
      rw [outsAt0_B m c ⟨n, h.trans_eq N_eq.symm⟩ h0, out_B]
      exact congrArg (_ + ·) (point m c ⟨n, h.trans_eq N_eq.symm⟩ (y 1) (y 2)))
    t.val (t.isLt.trans_eq N_eq) ((flush0_4 t).mp hf) y (index_eq t).2.2.2.2 _ (fun a => rfl)

/-- An index of the array is in point `t`'s block when its expert is the point's. -/
theorem mem_blk (t : Fin cfg0.N) (i : S16x2048x1024.Idx) (h : (i 0).val = t.val / 4) : i ∈ ((cfg0.win 4).blk t).view.set := by
  show i ∈ ((View.whole main_v0).slice (win0_4.rect t)).set
  rw [View.set_slice_whole, Rect.mem_set_unit]
  exact mem_at (index_eq t).2.2.2.2 i h

/-- So the result array ends holding the result: an index is written after its expert's last block. -/
theorem final_eq (c : Dev nD) : (dats m 0 c).arrAt 4 cfg0.N = final m c :=
  (dats m 0 c).arrAt_eq_of_cover 4 (final m c) (flushed_eq m c) fun i => by
    have h0 : (i 0 : ℕ) < 16 := (i 0).isLt
    have hN := N_eq
    refine ⟨⟨(i 0 : ℕ) * 4 + 3, by omega⟩, (flush0_4 _).mpr (by dsimp only; omega), mem_blk _ i (by dsimp only; omega)⟩

end Cert.Ffn3Ideal.Whole

namespace Cert.FfnRef3Ideal.Whole

open Cert.FfnRef3Ideal Cert.FfnRef3Ideal.Gen Cert.FfnRef3Ideal.Read Cert.FfnSpec

/-- The reference's result, at an index. -/
theorem out_apply (x0 : Vec Ideal S16x2048x1024 .bf16) (x1 x2 : Vec Ideal S4x16x1024x2048 .f32) (x3 : Vec Ideal S4x16x2048x1024 .f32)
    (e : Fin 16) (r : Fin 2048) (d : Fin 1024) : val_main_v11 (F := Ideal) x0 x1 x2 x3 (ix3 e r d) = result 3 x0 x1 x2 x3 e r d := by
  have h1 : FloatOps.ofBits (F := Ideal) .f32 0x3F800000#32 = (1 : EReal) := one_bits
  pointwise [val_main_v11, val_main_v10, val_main_v9, val_main_v8, val_main_v7, val_main_v6, val_main_v5, val_main_v4, val_main_v3, val_main_v2,
    val_main_v1, val_main_v0, val_main_call0_v5, val_main_call0_v4, val_main_call0_v3, val_main_call0_v2, val_main_call0_v1, val_main_call0_v0,
    val_main_call0_cst, val_main_call0_cst_0, result, FfnSpec.hidden, Ideal.logistic]

end Cert.FfnRef3Ideal.Whole

namespace Cert.Ffn3Proof

/-- The printed kernel runs and leaves its arguments and semaphores as they were. -/
theorem frame : Cert.quiescent_Ffn3 := fun m ρ _ => Cert.Ffn3.Gen.frame m ρ

/-- So does its reading over the extended reals. -/
theorem frame_ideal : Cert.quiescent_Ffn3Ideal := fun m ρ _ => Cert.Ffn3Ideal.Gen.frame m ρ

/-- So does the reference. -/
theorem frame_ref : Cert.quiescent_FfnRef3Ideal := fun m ρ _ =>
  (θ_run Cert.FfnRef3Ideal.defs _ _).mono (fun r h => ⟨fun c => (h c).2, sem_eq_zero_of_no_sems (by decide) r.2⟩)
    (Cert.FfnRef3Ideal.Value.run (F := Ideal) m ρ)

/-- Kernel and reference end with equal results, over the extended reals, for every input. -/
theorem algebraic : Cert.algebraic_Ffn3Ideal_FfnRef3Ideal := fun m ρ m' ρ' _ hag =>
  ⟨fun c => Cert.Ffn3Ideal.Whole.final m c,
    (θ_run Cert.Ffn3Ideal.defs _ _).mono (fun _ h c => ⟨(h c).1.trans (Cert.Ffn3Ideal.Whole.final_eq m c), (h c).2⟩) (Cert.Ffn3Ideal.Value.run_blocks m ρ),
    (θ_run Cert.FfnRef3Ideal.defs _ _).mono (fun _ h c => ⟨by
      refine ((h c).1.trans (Cert.FfnRef3Ideal.Read.val_main_v11_eq ..)).trans ?_
      obtain ⟨h0, h1, h2, h3⟩ := hag c
      rw [h0, h1, h2, h3]
      funext i
      refine (congrArg _ (Cert.FfnSpec.ix3_of i (i 0) (i 1) (i 2) rfl rfl rfl)).trans ?_
      exact Cert.FfnRef3Ideal.Whole.out_apply _ _ _ _ (i 0) (i 1) (i 2), (h c).2⟩)
    (Cert.FfnRef3Ideal.Value.run (F := Ideal) m' ρ')⟩

end Cert.Ffn3Proof
end
-- ==== Proof.Ffn2Claims.lean ====
/-
  The expert feed-forward of layer index 2: its kernel's result array, the reference's, and that they are equal.
-/
module

public import proofs.«01_k».proof.Defs
public import proofs.«01_k».proof.Proof.FfnBlock
public import proofs.«01_k».proof.Proof.FfnGrid
public import proofs.«01_k».proof.Proof.Gen.Ffn2
public import proofs.«01_k».proof.Proof.Gen.Ffn2.Frame
public import proofs.«01_k».proof.Proof.Gen.Ffn2Ideal.Value
public import proofs.«01_k».proof.Proof.Gen.FfnRef2Ideal
public import proofs.«01_k».proof.Proof.Gen.FfnRef2Ideal.Run
public import proofs.«01_k».proof.Proof.Gen.FfnRef2Ideal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Ffn2Ideal.Whole

open Cert.Ffn2Ideal Cert.Ffn2Ideal.Gen Cert.FfnSpec Cert.FfnIdeal.Block

variable (m : (ℓ : Loc nD τ sig) → Buf (Elt Ideal) ℓ) (ρ : Dev nD → PrngReg)

/-- The body is layer index 0's body: the same computation of the same blocks. -/
theorem bodyA_eq : @Cert.Ffn2Ideal.Gen.out0_A_4 = @Cert.FfnIdeal.Gen.out0_A_4 := by
  unfold Cert.Ffn2Ideal.Gen.out0_A_4 Cert.FfnIdeal.Gen.out0_A_4
  rfl

theorem bodyB_eq : @Cert.Ffn2Ideal.Gen.out0_B_4 = @Cert.FfnIdeal.Gen.out0_B_4 := by
  unfold Cert.Ffn2Ideal.Gen.out0_B_4 Cert.FfnIdeal.Gen.out0_B_4
  rfl

/-- The four arguments as launched. -/
abbrev X (c : Dev nD) : Vec Ideal S16x2304x1024 .bf16 := m ((c : Thread nD τ).loc main_arg0)
abbrev W1 (c : Dev nD) : Vec Ideal S4x16x1024x2048 .f32 := m ((c : Thread nD τ).loc main_arg1)
abbrev W3 (c : Dev nD) : Vec Ideal S4x16x1024x2048 .f32 := m ((c : Thread nD τ).loc main_arg2)
abbrev W2 (c : Dev nD) : Vec Ideal S4x16x2048x1024 .f32 := m ((c : Thread nD τ).loc main_arg3)

theorem N_eq : cfg0.N = 64 := N_0

/-- Where each window's block lies at a point. -/
theorem index_eq : ∀ t : Fin cfg0.N,
    Lies 2 t.val (win0_0.index t) (win0_1.index t) (win0_2.index t) (win0_3.index t) (win0_4.index t) := by decide +kernel

/-- A point's part, from the arguments. -/
theorem point (c : Dev nD) (t : Fin cfg0.N) (r : Fin 2304) (d : Fin 1024) :
    part (R := 2304) (iblk m c 0 t) (iblk m c 1 t) (iblk m c 2 t) (iblk m c 3 t) r d
      = partOf 2 (X m c) (W1 m c) (W3 m c) (W2 m c) (expert t.val (t.isLt.trans_eq N_eq)) r d (block t.val) :=
  part_at 2 (X m c) (W1 m c) (W3 m c) (W2 m c) t.val (t.isLt.trans_eq N_eq) (index_eq t) (fun y => ⟨_, View.read_apply .., fun a => rfl⟩)
    (fun y => ⟨_, View.read_apply .., fun a => rfl⟩) (fun y => ⟨_, View.read_apply .., fun a => rfl⟩) (fun y => ⟨_, View.read_apply .., fun a => rfl⟩) r d

/-- The result array's final contents. -/
abbrev final (c : Dev nD) : Buf (Elt Ideal) ((c : Thread nD τ).loc main_v0) :=
  fun i => result 2 (X m c) (W1 m c) (W3 m c) (W2 m c) (i 0) (i 1) (i 2)

/-- A write-back (after an expert's last block) writes the expert's part of the result. -/
theorem flushed_eq (c : Dev nD) (t : Fin cfg0.N) (hf : (cfg0.win 4).flush t = true) :
    (dats m 0 c).flushed 4 t = ((cfg0.win 4).blk t).view.read (Elt Ideal) (final m c) := by
  rw [Value.flushed4]
  funext y
  rw [View.read_apply]
  exact written 2 (X m c) (W1 m c) (W3 m c) (W2 m c) (fun n h => outsAt0 m c n (h.trans_eq N_eq.symm))
    (fun n h h0 y => by
      rw [outsAt0_A m c ⟨n, h.trans_eq N_eq.symm⟩ h0, bodyA_eq, out_A]
      exact point m c ⟨n, h.trans_eq N_eq.symm⟩ (y 1) (y 2))
    (fun n h h0 y => by
      rw [outsAt0_B m c ⟨n, h.trans_eq N_eq.symm⟩ h0, bodyB_eq, out_B]
      exact congrArg (_ + ·) (point m c ⟨n, h.trans_eq N_eq.symm⟩ (y 1) (y 2)))
    t.val (t.isLt.trans_eq N_eq) ((flush0_4 t).mp hf) y (index_eq t).2.2.2.2 _ (fun a => rfl)

/-- An index of the array is in point `t`'s block when its expert is the point's. -/
theorem mem_blk (t : Fin cfg0.N) (i : S16x2304x1024.Idx) (h : (i 0).val = t.val / 4) : i ∈ ((cfg0.win 4).blk t).view.set := by
  show i ∈ ((View.whole main_v0).slice (win0_4.rect t)).set
  rw [View.set_slice_whole, Rect.mem_set_unit]
  exact mem_at (index_eq t).2.2.2.2 i h

/-- So the result array ends holding the result: an index is written after its expert's last block. -/
theorem final_eq (c : Dev nD) : (dats m 0 c).arrAt 4 cfg0.N = final m c :=
  (dats m 0 c).arrAt_eq_of_cover 4 (final m c) (flushed_eq m c) fun i => by
    have h0 : (i 0 : ℕ) < 16 := (i 0).isLt
    have hN := N_eq
    refine ⟨⟨(i 0 : ℕ) * 4 + 3, by omega⟩, (flush0_4 _).mpr (by dsimp only; omega), mem_blk _ i (by dsimp only; omega)⟩

end Cert.Ffn2Ideal.Whole

namespace Cert.FfnRef2Ideal.Whole

open Cert.FfnRef2Ideal Cert.FfnRef2Ideal.Gen Cert.FfnRef2Ideal.Read Cert.FfnSpec

/-- The reference's result, at an index. -/
theorem out_apply (x0 : Vec Ideal S16x2304x1024 .bf16) (x1 x2 : Vec Ideal S4x16x1024x2048 .f32) (x3 : Vec Ideal S4x16x2048x1024 .f32)
    (e : Fin 16) (r : Fin 2304) (d : Fin 1024) : val_main_v11 (F := Ideal) x0 x1 x2 x3 (ix3 e r d) = result 2 x0 x1 x2 x3 e r d := by
  have h1 : FloatOps.ofBits (F := Ideal) .f32 0x3F800000#32 = (1 : EReal) := one_bits
  pointwise [val_main_v11, val_main_v10, val_main_v9, val_main_v8, val_main_v7, val_main_v6, val_main_v5, val_main_v4, val_main_v3, val_main_v2,
    val_main_v1, val_main_v0, val_main_call0_v5, val_main_call0_v4, val_main_call0_v3, val_main_call0_v2, val_main_call0_v1, val_main_call0_v0,
    val_main_call0_cst, val_main_call0_cst_0, result, FfnSpec.hidden, Ideal.logistic]

end Cert.FfnRef2Ideal.Whole

namespace Cert.Ffn2Proof

/-- The printed kernel runs and leaves its arguments and semaphores as they were. -/
theorem frame : Cert.quiescent_Ffn2 := fun m ρ _ => Cert.Ffn2.Gen.frame m ρ

/-- So does its reading over the extended reals. -/
theorem frame_ideal : Cert.quiescent_Ffn2Ideal := fun m ρ _ => Cert.Ffn2Ideal.Gen.frame m ρ

/-- So does the reference. -/
theorem frame_ref : Cert.quiescent_FfnRef2Ideal := fun m ρ _ =>
  (θ_run Cert.FfnRef2Ideal.defs _ _).mono (fun r h => ⟨fun c => (h c).2, sem_eq_zero_of_no_sems (by decide) r.2⟩)
    (Cert.FfnRef2Ideal.Value.run (F := Ideal) m ρ)

/-- Kernel and reference end with equal results, over the extended reals, for every input. -/
theorem algebraic : Cert.algebraic_Ffn2Ideal_FfnRef2Ideal := fun m ρ m' ρ' _ hag =>
  ⟨fun c => Cert.Ffn2Ideal.Whole.final m c,
    (θ_run Cert.Ffn2Ideal.defs _ _).mono (fun _ h c => ⟨(h c).1.trans (Cert.Ffn2Ideal.Whole.final_eq m c), (h c).2⟩) (Cert.Ffn2Ideal.Value.run_blocks m ρ),
    (θ_run Cert.FfnRef2Ideal.defs _ _).mono (fun _ h c => ⟨by
      refine ((h c).1.trans (Cert.FfnRef2Ideal.Read.val_main_v11_eq ..)).trans ?_
      obtain ⟨h0, h1, h2, h3⟩ := hag c
      rw [h0, h1, h2, h3]
      funext i
      refine (congrArg _ (Cert.FfnSpec.ix3_of i (i 0) (i 1) (i 2) rfl rfl rfl)).trans ?_
      exact Cert.FfnRef2Ideal.Whole.out_apply _ _ _ _ (i 0) (i 1) (i 2), (h c).2⟩)
    (Cert.FfnRef2Ideal.Value.run (F := Ideal) m' ρ')⟩

end Cert.Ffn2Proof
end
-- ==== Proof.Ffn1Claims.lean ====
/-
  The expert feed-forward of layer index 1: its kernel's result array, the reference's, and that they are equal.
-/
module

public import proofs.«01_k».proof.Defs
public import proofs.«01_k».proof.Proof.FfnBlock
public import proofs.«01_k».proof.Proof.FfnGrid
public import proofs.«01_k».proof.Proof.Gen.Ffn1
public import proofs.«01_k».proof.Proof.Gen.Ffn1.Frame
public import proofs.«01_k».proof.Proof.Gen.Ffn1Ideal.Value
public import proofs.«01_k».proof.Proof.Gen.FfnRef1Ideal
public import proofs.«01_k».proof.Proof.Gen.FfnRef1Ideal.Run
public import proofs.«01_k».proof.Proof.Gen.FfnRef1Ideal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Ffn1Ideal.Whole

open Cert.Ffn1Ideal Cert.Ffn1Ideal.Gen Cert.FfnSpec Cert.FfnIdeal.Block

variable (m : (ℓ : Loc nD τ sig) → Buf (Elt Ideal) ℓ) (ρ : Dev nD → PrngReg)

/-- The body is layer index 0's body: the same computation of the same blocks. -/
theorem bodyA_eq : @Cert.Ffn1Ideal.Gen.out0_A_4 = @Cert.FfnIdeal.Gen.out0_A_4 := by
  unfold Cert.Ffn1Ideal.Gen.out0_A_4 Cert.FfnIdeal.Gen.out0_A_4
  rfl

theorem bodyB_eq : @Cert.Ffn1Ideal.Gen.out0_B_4 = @Cert.FfnIdeal.Gen.out0_B_4 := by
  unfold Cert.Ffn1Ideal.Gen.out0_B_4 Cert.FfnIdeal.Gen.out0_B_4
  rfl

/-- The four arguments as launched. -/
abbrev X (c : Dev nD) : Vec Ideal S16x2304x1024 .bf16 := m ((c : Thread nD τ).loc main_arg0)
abbrev W1 (c : Dev nD) : Vec Ideal S4x16x1024x2048 .f32 := m ((c : Thread nD τ).loc main_arg1)
abbrev W3 (c : Dev nD) : Vec Ideal S4x16x1024x2048 .f32 := m ((c : Thread nD τ).loc main_arg2)
abbrev W2 (c : Dev nD) : Vec Ideal S4x16x2048x1024 .f32 := m ((c : Thread nD τ).loc main_arg3)

theorem N_eq : cfg0.N = 64 := N_0

/-- Where each window's block lies at a point. -/
theorem index_eq : ∀ t : Fin cfg0.N,
    Lies 1 t.val (win0_0.index t) (win0_1.index t) (win0_2.index t) (win0_3.index t) (win0_4.index t) := by decide +kernel

/-- A point's part, from the arguments. -/
theorem point (c : Dev nD) (t : Fin cfg0.N) (r : Fin 2304) (d : Fin 1024) :
    part (R := 2304) (iblk m c 0 t) (iblk m c 1 t) (iblk m c 2 t) (iblk m c 3 t) r d
      = partOf 1 (X m c) (W1 m c) (W3 m c) (W2 m c) (expert t.val (t.isLt.trans_eq N_eq)) r d (block t.val) :=
  part_at 1 (X m c) (W1 m c) (W3 m c) (W2 m c) t.val (t.isLt.trans_eq N_eq) (index_eq t) (fun y => ⟨_, View.read_apply .., fun a => rfl⟩)
    (fun y => ⟨_, View.read_apply .., fun a => rfl⟩) (fun y => ⟨_, View.read_apply .., fun a => rfl⟩) (fun y => ⟨_, View.read_apply .., fun a => rfl⟩) r d

/-- The result array's final contents. -/
abbrev final (c : Dev nD) : Buf (Elt Ideal) ((c : Thread nD τ).loc main_v0) :=
  fun i => result 1 (X m c) (W1 m c) (W3 m c) (W2 m c) (i 0) (i 1) (i 2)

/-- A write-back (after an expert's last block) writes the expert's part of the result. -/
theorem flushed_eq (c : Dev nD) (t : Fin cfg0.N) (hf : (cfg0.win 4).flush t = true) :
    (dats m 0 c).flushed 4 t = ((cfg0.win 4).blk t).view.read (Elt Ideal) (final m c) := by
  rw [Value.flushed4]
  funext y
  rw [View.read_apply]
  exact written 1 (X m c) (W1 m c) (W3 m c) (W2 m c) (fun n h => outsAt0 m c n (h.trans_eq N_eq.symm))
    (fun n h h0 y => by
      rw [outsAt0_A m c ⟨n, h.trans_eq N_eq.symm⟩ h0, bodyA_eq, out_A]
      exact point m c ⟨n, h.trans_eq N_eq.symm⟩ (y 1) (y 2))
    (fun n h h0 y => by
      rw [outsAt0_B m c ⟨n, h.trans_eq N_eq.symm⟩ h0, bodyB_eq, out_B]
      exact congrArg (_ + ·) (point m c ⟨n, h.trans_eq N_eq.symm⟩ (y 1) (y 2)))
    t.val (t.isLt.trans_eq N_eq) ((flush0_4 t).mp hf) y (index_eq t).2.2.2.2 _ (fun a => rfl)

/-- An index of the array is in point `t`'s block when its expert is the point's. -/
theorem mem_blk (t : Fin cfg0.N) (i : S16x2304x1024.Idx) (h : (i 0).val = t.val / 4) : i ∈ ((cfg0.win 4).blk t).view.set := by
  show i ∈ ((View.whole main_v0).slice (win0_4.rect t)).set
  rw [View.set_slice_whole, Rect.mem_set_unit]
  exact mem_at (index_eq t).2.2.2.2 i h

/-- So the result array ends holding the result: an index is written after its expert's last block. -/
theorem final_eq (c : Dev nD) : (dats m 0 c).arrAt 4 cfg0.N = final m c :=
  (dats m 0 c).arrAt_eq_of_cover 4 (final m c) (flushed_eq m c) fun i => by
    have h0 : (i 0 : ℕ) < 16 := (i 0).isLt
    have hN := N_eq
    refine ⟨⟨(i 0 : ℕ) * 4 + 3, by omega⟩, (flush0_4 _).mpr (by dsimp only; omega), mem_blk _ i (by dsimp only; omega)⟩

end Cert.Ffn1Ideal.Whole

namespace Cert.FfnRef1Ideal.Whole

open Cert.FfnRef1Ideal Cert.FfnRef1Ideal.Gen Cert.FfnRef1Ideal.Read Cert.FfnSpec

/-- The reference's result, at an index. -/
theorem out_apply (x0 : Vec Ideal S16x2304x1024 .bf16) (x1 x2 : Vec Ideal S4x16x1024x2048 .f32) (x3 : Vec Ideal S4x16x2048x1024 .f32)
    (e : Fin 16) (r : Fin 2304) (d : Fin 1024) : val_main_v11 (F := Ideal) x0 x1 x2 x3 (ix3 e r d) = result 1 x0 x1 x2 x3 e r d := by
  have h1 : FloatOps.ofBits (F := Ideal) .f32 0x3F800000#32 = (1 : EReal) := one_bits
  pointwise [val_main_v11, val_main_v10, val_main_v9, val_main_v8, val_main_v7, val_main_v6, val_main_v5, val_main_v4, val_main_v3, val_main_v2,
    val_main_v1, val_main_v0, val_main_call0_v5, val_main_call0_v4, val_main_call0_v3, val_main_call0_v2, val_main_call0_v1, val_main_call0_v0,
    val_main_call0_cst, val_main_call0_cst_0, result, FfnSpec.hidden, Ideal.logistic]

end Cert.FfnRef1Ideal.Whole

namespace Cert.Ffn1Proof

/-- The printed kernel runs and leaves its arguments and semaphores as they were. -/
theorem frame : Cert.quiescent_Ffn1 := fun m ρ _ => Cert.Ffn1.Gen.frame m ρ

/-- So does its reading over the extended reals. -/
theorem frame_ideal : Cert.quiescent_Ffn1Ideal := fun m ρ _ => Cert.Ffn1Ideal.Gen.frame m ρ

/-- So does the reference. -/
theorem frame_ref : Cert.quiescent_FfnRef1Ideal := fun m ρ _ =>
  (θ_run Cert.FfnRef1Ideal.defs _ _).mono (fun r h => ⟨fun c => (h c).2, sem_eq_zero_of_no_sems (by decide) r.2⟩)
    (Cert.FfnRef1Ideal.Value.run (F := Ideal) m ρ)

/-- Kernel and reference end with equal results, over the extended reals, for every input. -/
theorem algebraic : Cert.algebraic_Ffn1Ideal_FfnRef1Ideal := fun m ρ m' ρ' _ hag =>
  ⟨fun c => Cert.Ffn1Ideal.Whole.final m c,
    (θ_run Cert.Ffn1Ideal.defs _ _).mono (fun _ h c => ⟨(h c).1.trans (Cert.Ffn1Ideal.Whole.final_eq m c), (h c).2⟩) (Cert.Ffn1Ideal.Value.run_blocks m ρ),
    (θ_run Cert.FfnRef1Ideal.defs _ _).mono (fun _ h c => ⟨by
      refine ((h c).1.trans (Cert.FfnRef1Ideal.Read.val_main_v11_eq ..)).trans ?_
      obtain ⟨h0, h1, h2, h3⟩ := hag c
      rw [h0, h1, h2, h3]
      funext i
      refine (congrArg _ (Cert.FfnSpec.ix3_of i (i 0) (i 1) (i 2) rfl rfl rfl)).trans ?_
      exact Cert.FfnRef1Ideal.Whole.out_apply _ _ _ _ (i 0) (i 1) (i 2), (h c).2⟩)
    (Cert.FfnRef1Ideal.Value.run (F := Ideal) m' ρ')⟩

end Cert.Ffn1Proof
end
-- ==== Proof.lean ====
/-
  The certificate's claim, put together from the calls' claims.
-/
module

public import proofs.«01_k».proof.Defs
public import proofs.«01_k».proof.Proof.MlaFrames
public import proofs.«01_k».proof.Proof.MlaTile
public import proofs.«01_k».proof.Proof.MlaClaims
public import proofs.«01_k».proof.Proof.FfnClaims
public import proofs.«01_k».proof.Proof.FinalClaims
public import proofs.«01_k».proof.Proof.OutNaClaims
public import proofs.«01_k».proof.Proof.OutAbClaims
public import proofs.«01_k».proof.Proof.QkvClaims
public import proofs.«01_k».proof.Proof.ProjClaims
public import proofs.«01_k».proof.Proof.ModsClaims
public import proofs.«01_k».proof.Proof.RouterClaims
public import proofs.«01_k».proof.Proof.Ffn3Claims
public import proofs.«01_k».proof.Proof.Ffn2Claims
public import proofs.«01_k».proof.Proof.Ffn1Claims

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Ffn1.Gen.facts, Cert.Ffn1Ideal.Gen.facts, Cert.FfnRef1Ideal.Gen.facts,
  Cert.Ffn2.Gen.facts, Cert.Ffn2Ideal.Gen.facts, Cert.FfnRef2Ideal.Gen.facts,
  Cert.Ffn3.Gen.facts, Cert.Ffn3Ideal.Gen.facts, Cert.FfnRef3Ideal.Gen.facts,
  Cert.Proj.Gen.facts, Cert.ProjIdeal.Gen.facts, Cert.ProjRefIdeal.Gen.facts,
  Cert.Qkv.Gen.facts, Cert.QkvIdeal.Gen.facts, Cert.QkvRefIdeal.Gen.facts,
  Cert.OutAb.Gen.facts, Cert.OutAbIdeal.Gen.facts, Cert.OutAbRefIdeal.Gen.facts,
  Cert.OutNa.Gen.facts, Cert.OutNaIdeal.Gen.facts, Cert.OutNaRefIdeal.Gen.facts,
  Cert.Final.Gen.facts, Cert.FinalIdeal.Gen.facts, Cert.FinalRefIdeal.Gen.facts,
  Cert.Mods.Gen.facts, Cert.ModsIdeal.Gen.facts, Cert.ModsRefIdeal.Gen.facts,
  Cert.Router.Gen.facts, Cert.RouterIdeal.Gen.facts, Cert.RouterRefIdeal.Gen.facts,
  Cert.Pre_finite.Gen.facts, Cert.Pre_real.Gen.facts,
  Cert.MlaProof.frame, Cert.MlaProof.frame_ideal, Cert.MlaProof.frame_ideal_finite, Cert.MlaProof.frame_ref, Cert.MlaProof.frame_ref_finite,
  Cert.FfnProof.frame, Cert.FfnProof.frame_ideal, Cert.FfnProof.frame_ref,
  Cert.Ffn1Proof.frame, Cert.Ffn1Proof.frame_ideal, Cert.Ffn1Proof.frame_ref,
  Cert.Ffn2Proof.frame, Cert.Ffn2Proof.frame_ideal, Cert.Ffn2Proof.frame_ref,
  Cert.Ffn3Proof.frame, Cert.Ffn3Proof.frame_ideal, Cert.Ffn3Proof.frame_ref,
  Cert.ProjProof.frame, Cert.ProjProof.frame_ideal, Cert.ProjProof.frame_ref,
  Cert.QkvProof.frame, Cert.QkvProof.frame_ideal, Cert.QkvProof.frame_ref,
  Cert.OutAbProof.frame, Cert.OutAbProof.frame_ideal, Cert.OutAbProof.frame_ref,
  Cert.OutNaProof.frame, Cert.OutNaProof.frame_ideal, Cert.OutNaProof.frame_ref,
  Cert.FinalProof.frame, Cert.FinalProof.frame_ideal, Cert.FinalProof.frame_ref,
  Cert.ModsProof.frame, Cert.ModsProof.frame_ideal, Cert.ModsProof.frame_ref,
  Cert.RouterProof.frame, Cert.RouterProof.frame_ideal, Cert.RouterProof.frame_ideal_real, Cert.RouterProof.frame_ref, Cert.RouterProof.frame_ref_real,
  trivial, Cert.MlaProof.algebraic, trivial, Cert.FfnProof.algebraic, trivial, Cert.Ffn1Proof.algebraic, trivial, Cert.Ffn2Proof.algebraic, trivial, Cert.Ffn3Proof.algebraic,
  trivial, Cert.ProjProof.algebraic, trivial, Cert.QkvProof.algebraic, trivial, Cert.OutAbProof.algebraic, trivial, Cert.OutNaProof.algebraic,
  trivial, Cert.FinalProof.algebraic, trivial, Cert.ModsProof.algebraic, trivial, Cert.RouterProof.algebraic⟩

end Cert.Proof

end
